-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Suppress2 (m : (ℓ : Loc Cert.Suppress2.nD Cert.Suppress2.τ Cert.Suppress2.sig) → Buf (Elt Bits) ℓ) : Prop :=
  True

def Pre_Suppress2Ideal (m : (ℓ : Loc Cert.Suppress2Ideal.nD Cert.Suppress2Ideal.τ Cert.Suppress2Ideal.sig) → Buf (Elt Ideal) ℓ) : Prop :=
  True

def Pre_Kept2Ideal (m : (ℓ : Loc Cert.Kept2Ideal.nD Cert.Kept2Ideal.τ Cert.Kept2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Suppress2 [hSuppress2 : Cert.Suppress2.Facts] : Prop :=
  ∀ (m : (ℓ : Loc Cert.Suppress2.nD Cert.Suppress2.τ Cert.Suppress2.sig) → Buf (Elt Bits) ℓ) (g : Dev Cert.Suppress2.nD → PrngReg), Pre_Suppress2 m →
    θ_run (Cert.Suppress2.defs (F := Bits)) (onTc (τ := Cert.Suppress2.τ) (Cert.Suppress2.main (F := Bits))) ⟨m, fun _ => 0, g⟩ (fun r => (∀ c : Dev Cert.Suppress2.nD,
      r.2.mem ((c.tc : Thread Cert.Suppress2.nD Cert.Suppress2.τ).loc Cert.Suppress2.main_arg0) = m ((c.tc : Thread Cert.Suppress2.nD Cert.Suppress2.τ).loc Cert.Suppress2.main_arg0)
      ∧ r.2.mem ((c.tc : Thread Cert.Suppress2.nD Cert.Suppress2.τ).loc Cert.Suppress2.main_arg1) = m ((c.tc : Thread Cert.Suppress2.nD Cert.Suppress2.τ).loc Cert.Suppress2.main_arg1))
      ∧ r.2.sem = fun _ => 0)

def quiescent_Suppress2Ideal [hSuppress2Ideal : Cert.Suppress2Ideal.Facts] : Prop :=
  ∀ (m : (ℓ : Loc Cert.Suppress2Ideal.nD Cert.Suppress2Ideal.τ Cert.Suppress2Ideal.sig) → Buf (Elt Ideal) ℓ) (g : Dev Cert.Suppress2Ideal.nD → PrngReg), Pre_Suppress2Ideal m →
    θ_run (Cert.Suppress2Ideal.defs (F := Ideal)) (onTc (τ := Cert.Suppress2Ideal.τ) (Cert.Suppress2Ideal.main (F := Ideal))) ⟨m, fun _ => 0, g⟩ (fun r => (∀ c : Dev Cert.Suppress2Ideal.nD,
      r.2.mem ((c.tc : Thread Cert.Suppress2Ideal.nD Cert.Suppress2Ideal.τ).loc Cert.Suppress2Ideal.main_arg0) = m ((c.tc : Thread Cert.Suppress2Ideal.nD Cert.Suppress2Ideal.τ).loc Cert.Suppress2Ideal.main_arg0)
      ∧ r.2.mem ((c.tc : Thread Cert.Suppress2Ideal.nD Cert.Suppress2Ideal.τ).loc Cert.Suppress2Ideal.main_arg1) = m ((c.tc : Thread Cert.Suppress2Ideal.nD Cert.Suppress2Ideal.τ).loc Cert.Suppress2Ideal.main_arg1))
      ∧ r.2.sem = fun _ => 0)

def quiescent_Kept2Ideal [hKept2Ideal : Cert.Kept2Ideal.Facts] : Prop :=
  ∀ (m : (ℓ : Loc Cert.Kept2Ideal.nD Cert.Kept2Ideal.τ Cert.Kept2Ideal.sig) → Buf (Elt Ideal) ℓ) (g : Dev Cert.Kept2Ideal.nD → PrngReg), Pre_Kept2Ideal m →
    θ_run (Cert.Kept2Ideal.defs (F := Ideal)) (onTc (τ := Cert.Kept2Ideal.τ) (Cert.Kept2Ideal.main (F := Ideal))) ⟨m, fun _ => 0, g⟩ (fun r => (∀ c : Dev Cert.Kept2Ideal.nD,
      r.2.mem ((c.tc : Thread Cert.Kept2Ideal.nD Cert.Kept2Ideal.τ).loc Cert.Kept2Ideal.main_arg0) = m ((c.tc : Thread Cert.Kept2Ideal.nD Cert.Kept2Ideal.τ).loc Cert.Kept2Ideal.main_arg0)
      ∧ r.2.mem ((c.tc : Thread Cert.Kept2Ideal.nD Cert.Kept2Ideal.τ).loc Cert.Kept2Ideal.main_arg1) = m ((c.tc : Thread Cert.Kept2Ideal.nD Cert.Kept2Ideal.τ).loc Cert.Kept2Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v825) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Suppress2_Suppress2Ideal : Prop :=
  True

def algebraic_Suppress2Ideal_Kept2Ideal [hSuppress2Ideal : Cert.Suppress2Ideal.Facts] [hKept2Ideal : Cert.Kept2Ideal.Facts] : Prop :=
  ∀ (m : (ℓ : Loc Cert.Suppress2Ideal.nD Cert.Suppress2Ideal.τ Cert.Suppress2Ideal.sig) → Buf (Elt Ideal) ℓ) (g : Dev Cert.Suppress2Ideal.nD → PrngReg)
    (m' : (ℓ : Loc Cert.Kept2Ideal.nD Cert.Kept2Ideal.τ Cert.Kept2Ideal.sig) → Buf (Elt Ideal) ℓ) (g' : Dev Cert.Kept2Ideal.nD → PrngReg), Pre_Suppress2Ideal m →
    (∀ c : Dev Cert.Suppress2Ideal.nD,
      m' ((c.tc : Thread Cert.Kept2Ideal.nD Cert.Kept2Ideal.τ).loc Cert.Kept2Ideal.main_arg0) = m ((c.tc : Thread Cert.Suppress2Ideal.nD Cert.Suppress2Ideal.τ).loc Cert.Suppress2Ideal.main_arg0)
      ∧ m' ((c.tc : Thread Cert.Kept2Ideal.nD Cert.Kept2Ideal.τ).loc Cert.Kept2Ideal.main_arg1) = m ((c.tc : Thread Cert.Suppress2Ideal.nD Cert.Suppress2Ideal.τ).loc Cert.Suppress2Ideal.main_arg1)) →
    ∃ (v0 : (c : Dev Cert.Suppress2Ideal.nD) → Buf (Elt Ideal) ((c.tc : Thread Cert.Suppress2Ideal.nD Cert.Suppress2Ideal.τ).loc Cert.Suppress2Ideal.main_v16)),
      θ_run (Cert.Suppress2Ideal.defs (F := Ideal)) (onTc (τ := Cert.Suppress2Ideal.τ) (Cert.Suppress2Ideal.main (F := Ideal))) ⟨m, fun _ => 0, g⟩ (fun r => ∀ c : Dev Cert.Suppress2Ideal.nD,
          r.2.mem ((c.tc : Thread Cert.Suppress2Ideal.nD Cert.Suppress2Ideal.τ).loc Cert.Suppress2Ideal.main_v16) = v0 c
          ∧ r.2.mem ((c.tc : Thread Cert.Suppress2Ideal.nD Cert.Suppress2Ideal.τ).loc Cert.Suppress2Ideal.main_arg0) = m ((c.tc : Thread Cert.Suppress2Ideal.nD Cert.Suppress2Ideal.τ).loc Cert.Suppress2Ideal.main_arg0)
          ∧ r.2.mem ((c.tc : Thread Cert.Suppress2Ideal.nD Cert.Suppress2Ideal.τ).loc Cert.Suppress2Ideal.main_arg1) = m ((c.tc : Thread Cert.Suppress2Ideal.nD Cert.Suppress2Ideal.τ).loc Cert.Suppress2Ideal.main_arg1))
      ∧ θ_run (Cert.Kept2Ideal.defs (F := Ideal)) (onTc (τ := Cert.Kept2Ideal.τ) (Cert.Kept2Ideal.main (F := Ideal))) ⟨m', fun _ => 0, g'⟩ (fun r => ∀ c : Dev Cert.Kept2Ideal.nD,
          r.2.mem ((c.tc : Thread Cert.Kept2Ideal.nD Cert.Kept2Ideal.τ).loc Cert.Kept2Ideal.main_v95) = v0 c
          ∧ r.2.mem ((c.tc : Thread Cert.Kept2Ideal.nD Cert.Kept2Ideal.τ).loc Cert.Kept2Ideal.main_arg0) = m' ((c.tc : Thread Cert.Kept2Ideal.nD Cert.Kept2Ideal.τ).loc Cert.Kept2Ideal.main_arg0)
          ∧ r.2.mem ((c.tc : Thread Cert.Kept2Ideal.nD Cert.Kept2Ideal.τ).loc Cert.Kept2Ideal.main_arg1) = m' ((c.tc : Thread Cert.Kept2Ideal.nD Cert.Kept2Ideal.τ).loc Cert.Kept2Ideal.main_arg1))

def Claim : Prop :=
  ∃ (hKernel : Cert.Kernel.Facts) (hKernelIdeal : Cert.KernelIdeal.Facts) (hReferenceIdeal : Cert.ReferenceIdeal.Facts) (hSuppress2 : Cert.Suppress2.Facts) (hSuppress2Ideal : Cert.Suppress2Ideal.Facts) (hKept2Ideal : Cert.Kept2Ideal.Facts),
    quiescent_Kernel (hKernel := hKernel)
    ∧ quiescent_KernelIdeal (hKernelIdeal := hKernelIdeal)
    ∧ quiescent_ReferenceIdeal (hReferenceIdeal := hReferenceIdeal)
    ∧ quiescent_Suppress2 (hSuppress2 := hSuppress2)
    ∧ quiescent_Suppress2Ideal (hSuppress2Ideal := hSuppress2Ideal)
    ∧ quiescent_Kept2Ideal (hKept2Ideal := hKept2Ideal)
    ∧ preserves_Kernel_KernelIdeal
    ∧ algebraic_KernelIdeal_ReferenceIdeal (hKernelIdeal := hKernelIdeal) (hReferenceIdeal := hReferenceIdeal)
    ∧ preserves_Suppress2_Suppress2Ideal
    ∧ algebraic_Suppress2Ideal_Kept2Ideal (hSuppress2Ideal := hSuppress2Ideal) (hKept2Ideal := hKept2Ideal)
-- ==== Kernel.lean ====
abbrev S4x256x80x80 : Shape := ⟨4, ![4, 256, 80, 80]⟩
abbrev S4x512x40x40 : Shape := ⟨4, ![4, 512, 40, 40]⟩
abbrev S4x1024x20x20 : Shape := ⟨4, ![4, 1024, 20, 20]⟩
abbrev S4x32x128 : Shape := ⟨3, ![4, 32, 128]⟩
abbrev S84x256 : Shape := ⟨2, ![84, 256]⟩
abbrev S84x512 : Shape := ⟨2, ![84, 512]⟩
abbrev S84x1024 : Shape := ⟨2, ![84, 1024]⟩
abbrev S3x84 : Shape := ⟨2, ![3, 84]⟩
abbrev S3x100x4116 : Shape := ⟨3, ![3, 100, 4116]⟩
abbrev S3x100 : Shape := ⟨2, ![3, 100]⟩
abbrev S3x100x100 : Shape := ⟨3, ![3, 100, 100]⟩
abbrev S3x1x100 : Shape := ⟨3, ![3, 1, 100]⟩
abbrev S3x1 : Shape := ⟨2, ![3, 1]⟩
abbrev S4x80x80x256 : Shape := ⟨4, ![4, 80, 80, 256]⟩
abbrev S4x80x20480 : Shape := ⟨3, ![4, 80, 20480]⟩
abbrev S_ : Shape := ⟨0, ![]⟩
abbrev S256x84 : Shape := ⟨2, ![256, 84]⟩
abbrev S1x84 : Shape := ⟨2, ![1, 84]⟩
abbrev S84 : Shape := ⟨1, ![84]⟩
abbrev S4x176x588 : Shape := ⟨3, ![4, 176, 588]⟩
abbrev S1x32x128 : Shape := ⟨3, ![1, 32, 128]⟩
abbrev S1x80x20480 : Shape := ⟨3, ![1, 80, 20480]⟩
abbrev S1x176x588 : Shape := ⟨3, ![1, 176, 588]⟩
abbrev S176x20480 : Shape := ⟨2, ![176, 20480]⟩
abbrev S176x1792 : Shape := ⟨2, ![176, 1792]⟩
abbrev S176x32 : Shape := ⟨2, ![176, 32]⟩
abbrev S32x128 : Shape := ⟨2, ![32, 128]⟩
abbrev S176x128 : Shape := ⟨2, ![176, 128]⟩
abbrev S176x1 : Shape := ⟨2, ![176, 1]⟩
abbrev S176x80 : Shape := ⟨2, ![176, 80]⟩
abbrev S80x20480 : Shape := ⟨2, ![80, 20480]⟩
abbrev S7x20480 : Shape := ⟨2, ![7, 20480]⟩
abbrev S7x80x256 : Shape := ⟨3, ![7, 80, 256]⟩
abbrev S80x7x256 : Shape := ⟨3, ![80, 7, 256]⟩
abbrev S80x1792 : Shape := ⟨2, ![80, 1792]⟩
abbrev S7x80 : Shape := ⟨2, ![7, 80]⟩
abbrev S7x1792 : Shape := ⟨2, ![7, 1792]⟩
abbrev S176x256 : Shape := ⟨2, ![176, 256]⟩
abbrev S176x84 : Shape := ⟨2, ![176, 84]⟩
abbrev S1x176x84 : Shape := ⟨3, ![1, 176, 84]⟩
abbrev S4x175x588 : Shape := ⟨3, ![4, 175, 588]⟩
abbrev S4x25x7x7x84 : Shape := ⟨5, ![4, 25, 7, 7, 84]⟩
abbrev S100x4116 : Shape := ⟨2, ![100, 4116]⟩
abbrev S4x25x1 : Shape := ⟨3, ![4, 25, 1]⟩
abbrev S4x25 : Shape := ⟨2, ![4, 25]⟩
abbrev S100 : Shape := ⟨1, ![100]⟩
abbrev S4x40x40x512 : Shape := ⟨4, ![4, 40, 40, 512]⟩
abbrev S4x40x20480 : Shape := ⟨3, ![4, 40, 20480]⟩
abbrev S512x84 : Shape := ⟨2, ![512, 84]⟩
abbrev S1x40x20480 : Shape := ⟨3, ![1, 40, 20480]⟩
abbrev S176x3584 : Shape := ⟨2, ![176, 3584]⟩
abbrev S176x40 : Shape := ⟨2, ![176, 40]⟩
abbrev S40x20480 : Shape := ⟨2, ![40, 20480]⟩
abbrev S7x40x512 : Shape := ⟨3, ![7, 40, 512]⟩
abbrev S40x7x512 : Shape := ⟨3, ![40, 7, 512]⟩
abbrev S40x3584 : Shape := ⟨2, ![40, 3584]⟩
abbrev S7x40 : Shape := ⟨2, ![7, 40]⟩
abbrev S7x3584 : Shape := ⟨2, ![7, 3584]⟩
abbrev S176x512 : Shape := ⟨2, ![176, 512]⟩
abbrev S4x20x20x1024 : Shape := ⟨4, ![4, 20, 20, 1024]⟩
abbrev S4x20x20480 : Shape := ⟨3, ![4, 20, 20480]⟩
abbrev S4x24x20480 : Shape := ⟨3, ![4, 24, 20480]⟩
abbrev S1024x84 : Shape := ⟨2, ![1024, 84]⟩
abbrev S1x24x20480 : Shape := ⟨3, ![1, 24, 20480]⟩
abbrev S176x7168 : Shape := ⟨2, ![176, 7168]⟩
abbrev S176x24 : Shape := ⟨2, ![176, 24]⟩
abbrev S24x20480 : Shape := ⟨2, ![24, 20480]⟩
abbrev S7x20x1024 : Shape := ⟨3, ![7, 20, 1024]⟩
abbrev S20x7x1024 : Shape := ⟨3, ![20, 7, 1024]⟩
abbrev S20x7168 : Shape := ⟨2, ![20, 7168]⟩
abbrev S7x20 : Shape := ⟨2, ![7, 20]⟩
abbrev S7x7168 : Shape := ⟨2, ![7, 7168]⟩
abbrev S176x1024 : Shape := ⟨2, ![176, 1024]⟩
abbrev S1x100x4116 : Shape := ⟨3, ![1, 100, 4116]⟩
abbrev S3x104x4120 : Shape := ⟨3, ![3, 104, 4120]⟩
abbrev S3x100x84x7x7 : Shape := ⟨5, ![3, 100, 84, 7, 7]⟩
abbrev S3x100x7x7x84 : Shape := ⟨5, ![3, 100, 7, 7, 84]⟩
abbrev S3x4116x100 : Shape := ⟨3, ![3, 4116, 100]⟩
abbrev S3x4120x104 : Shape := ⟨3, ![3, 4120, 104]⟩
abbrev S3x104 : Shape := ⟨2, ![3, 104]⟩
abbrev S3x1x104 : Shape := ⟨3, ![3, 1, 104]⟩
abbrev S3x104x104 : Shape := ⟨3, ![3, 104, 104]⟩
abbrev S3x100x1 : Shape := ⟨3, ![3, 100, 1]⟩
abbrev S3x104x8 : Shape := ⟨3, ![3, 104, 8]⟩
abbrev S3x8 : Shape := ⟨2, ![3, 8]⟩
abbrev S3x1x8 : Shape := ⟨3, ![3, 1, 8]⟩
abbrev S1x100 : Shape := ⟨2, ![1, 100]⟩
abbrev S3x104x1 : Shape := ⟨3, ![3, 104, 1]⟩
abbrev S1x104x4120 : Shape := ⟨3, ![1, 104, 4120]⟩
abbrev S1x4120x104 : Shape := ⟨3, ![1, 4120, 104]⟩
abbrev S1x1x104 : Shape := ⟨3, ![1, 1, 104]⟩
abbrev S1x104x104 : Shape := ⟨3, ![1, 104, 104]⟩
abbrev S1x104x8 : Shape := ⟨3, ![1, 104, 8]⟩
abbrev S1x1x8 : Shape := ⟨3, ![1, 1, 8]⟩
abbrev S104x4120 : Shape := ⟨2, ![104, 4120]⟩
abbrev S4120x104 : Shape := ⟨2, ![4120, 104]⟩
abbrev S104x104 : Shape := ⟨2, ![104, 104]⟩
abbrev S1x104 : Shape := ⟨2, ![1, 104]⟩
abbrev S104x8 : Shape := ⟨2, ![104, 8]⟩
abbrev S1x8 : Shape := ⟨2, ![1, 8]⟩
abbrev S3x4x25x1 : Shape := ⟨4, ![3, 4, 25, 1]⟩
abbrev S3x4x85x1 : Shape := ⟨4, ![3, 4, 85, 1]⟩
abbrev S1 : Shape := ⟨1, ![1]⟩

abbrev nBuf : Space → Nat
  | .hbm => 126
  | .vmem => 48
  | .smem => 0
  | _ => 0

abbrev bufTy : (tb : Table) → Fin (tcTables nBuf tb) → BufTy
  | .hbm, ⟨0, _⟩ => ⟨S4x256x80x80, .f32⟩
  | .hbm, ⟨1, _⟩ => ⟨S4x512x40x40, .f32⟩
  | .hbm, ⟨2, _⟩ => ⟨S4x1024x20x20, .f32⟩
  | .hbm, ⟨3, _⟩ => ⟨S4x32x128, .f32⟩
  | .hbm, ⟨4, _⟩ => ⟨S4x32x128, .f32⟩
  | .hbm, ⟨5, _⟩ => ⟨S4x32x128, .f32⟩
  | .hbm, ⟨6, _⟩ => ⟨S84x256, .f32⟩
  | .hbm, ⟨7, _⟩ => ⟨S84x512, .f32⟩
  | .hbm, ⟨8, _⟩ => ⟨S84x1024, .f32⟩
  | .hbm, ⟨9, _⟩ => ⟨S3x84, .f32⟩
  | .hbm, ⟨10, _⟩ => ⟨S3x100x4116, .f32⟩
  | .hbm, ⟨11, _⟩ => ⟨S3x100, .f32⟩
  | .hbm, ⟨12, _⟩ => ⟨S3x100x100, .f32⟩
  | .hbm, ⟨13, _⟩ => ⟨S3x100, .f32⟩
  | .hbm, ⟨14, _⟩ => ⟨S3x1x100, .f32⟩
  | .hbm, ⟨15, _⟩ => ⟨S3x1, .f32⟩
  | .hbm, ⟨16, _⟩ => ⟨S4x256x80x80, .bf16⟩
  | .hbm, ⟨17, _⟩ => ⟨S4x80x80x256, .bf16⟩
  | .hbm, ⟨18, _⟩ => ⟨S4x80x20480, .bf16⟩
  | .hbm, ⟨19, _⟩ => ⟨S_, .i32⟩
  | .hbm, ⟨20, _⟩ => ⟨S_, .bf16⟩
  | .hbm, ⟨21, _⟩ => ⟨S4x80x20480, .bf16⟩
  | .hbm, ⟨22, _⟩ => ⟨S256x84, .f32⟩
  | .hbm, ⟨23, _⟩ => ⟨S256x84, .bf16⟩
  | .hbm, ⟨24, _⟩ => ⟨S1x84, .f32⟩
  | .hbm, ⟨25, _⟩ => ⟨S84, .f32⟩
  | .hbm, ⟨26, _⟩ => ⟨S1x84, .f32⟩
  | .hbm, ⟨27, _⟩ => ⟨S4x176x588, .f32⟩
  | .hbm, ⟨28, _⟩ => ⟨S4x175x588, .f32⟩
  | .hbm, ⟨29, _⟩ => ⟨S4x25x7x7x84, .f32⟩
  | .hbm, ⟨30, _⟩ => ⟨S4x25x7x7x84, .f32⟩
  | .hbm, ⟨31, _⟩ => ⟨S100x4116, .f32⟩
  | .hbm, ⟨32, _⟩ => ⟨S4x25x1, .f32⟩
  | .hbm, ⟨33, _⟩ => ⟨S4x25, .f32⟩
  | .hbm, ⟨34, _⟩ => ⟨S100, .f32⟩
  | .hbm, ⟨35, _⟩ => ⟨S4x512x40x40, .bf16⟩
  | .hbm, ⟨36, _⟩ => ⟨S4x40x40x512, .bf16⟩
  | .hbm, ⟨37, _⟩ => ⟨S4x40x20480, .bf16⟩
  | .hbm, ⟨38, _⟩ => ⟨S_, .i32⟩
  | .hbm, ⟨39, _⟩ => ⟨S_, .bf16⟩
  | .hbm, ⟨40, _⟩ => ⟨S4x40x20480, .bf16⟩
  | .hbm, ⟨41, _⟩ => ⟨S512x84, .f32⟩
  | .hbm, ⟨42, _⟩ => ⟨S512x84, .bf16⟩
  | .hbm, ⟨43, _⟩ => ⟨S1x84, .f32⟩
  | .hbm, ⟨44, _⟩ => ⟨S84, .f32⟩
  | .hbm, ⟨45, _⟩ => ⟨S1x84, .f32⟩
  | .hbm, ⟨46, _⟩ => ⟨S4x176x588, .f32⟩
  | .hbm, ⟨47, _⟩ => ⟨S4x175x588, .f32⟩
  | .hbm, ⟨48, _⟩ => ⟨S4x25x7x7x84, .f32⟩
  | .hbm, ⟨49, _⟩ => ⟨S4x25x7x7x84, .f32⟩
  | .hbm, ⟨50, _⟩ => ⟨S100x4116, .f32⟩
  | .hbm, ⟨51, _⟩ => ⟨S4x25x1, .f32⟩
  | .hbm, ⟨52, _⟩ => ⟨S4x25, .f32⟩
  | .hbm, ⟨53, _⟩ => ⟨S100, .f32⟩
  | .hbm, ⟨54, _⟩ => ⟨S4x1024x20x20, .bf16⟩
  | .hbm, ⟨55, _⟩ => ⟨S4x20x20x1024, .bf16⟩
  | .hbm, ⟨56, _⟩ => ⟨S4x20x20480, .bf16⟩
  | .hbm, ⟨57, _⟩ => ⟨S_, .i32⟩
  | .hbm, ⟨58, _⟩ => ⟨S_, .bf16⟩
  | .hbm, ⟨59, _⟩ => ⟨S4x24x20480, .bf16⟩
  | .hbm, ⟨60, _⟩ => ⟨S1024x84, .f32⟩
  | .hbm, ⟨61, _⟩ => ⟨S1024x84, .bf16⟩
  | .hbm, ⟨62, _⟩ => ⟨S1x84, .f32⟩
  | .hbm, ⟨63, _⟩ => ⟨S84, .f32⟩
  | .hbm, ⟨64, _⟩ => ⟨S1x84, .f32⟩
  | .hbm, ⟨65, _⟩ => ⟨S4x176x588, .f32⟩
  | .hbm, ⟨66, _⟩ => ⟨S4x175x588, .f32⟩
  | .hbm, ⟨67, _⟩ => ⟨S4x25x7x7x84, .f32⟩
  | .hbm, ⟨68, _⟩ => ⟨S4x25x7x7x84, .f32⟩
  | .hbm, ⟨69, _⟩ => ⟨S100x4116, .f32⟩
  | .hbm, ⟨70, _⟩ => ⟨S4x25x1, .f32⟩
  | .hbm, ⟨71, _⟩ => ⟨S4x25, .f32⟩
  | .hbm, ⟨72, _⟩ => ⟨S100, .f32⟩
  | .hbm, ⟨73, _⟩ => ⟨S1x100x4116, .f32⟩
  | .hbm, ⟨74, _⟩ => ⟨S1x100x4116, .f32⟩
  | .hbm, ⟨75, _⟩ => ⟨S1x100x4116, .f32⟩
  | .hbm, ⟨76, _⟩ => ⟨S3x100x4116, .f32⟩
  | .hbm, ⟨77, _⟩ => ⟨S_, .i32⟩
  | .hbm, ⟨78, _⟩ => ⟨S_, .f32⟩
  | .hbm, ⟨79, _⟩ => ⟨S3x104x4120, .f32⟩
  | .hbm, ⟨80, _⟩ => ⟨S3x100x84x7x7, .f32⟩
  | .hbm, ⟨81, _⟩ => ⟨S3x100x7x7x84, .f32⟩
  | .hbm, ⟨82, _⟩ => ⟨S3x100x4116, .f32⟩
  | .hbm, ⟨83, _⟩ => ⟨S3x4116x100, .f32⟩
  | .hbm, ⟨84, _⟩ => ⟨S_, .i32⟩
  | .hbm, ⟨85, _⟩ => ⟨S_, .f32⟩
  | .hbm, ⟨86, _⟩ => ⟨S3x4120x104, .f32⟩
  | .hbm, ⟨87, _⟩ => ⟨S_, .i32⟩
  | .hbm, ⟨88, _⟩ => ⟨S_, .f32⟩
  | .hbm, ⟨89, _⟩ => ⟨S3x104, .f32⟩
  | .hbm, ⟨90, _⟩ => ⟨S3x1x104, .f32⟩
  | .hbm, ⟨91, _⟩ => ⟨S3x100x100, .f32⟩
  | .hbm, ⟨92, _⟩ => ⟨S_, .i32⟩
  | .hbm, ⟨93, _⟩ => ⟨S_, .f32⟩
  | .hbm, ⟨94, _⟩ => ⟨S3x104x104, .f32⟩
  | .hbm, ⟨95, _⟩ => ⟨S_, .i32⟩
  | .hbm, ⟨96, _⟩ => ⟨S_, .f32⟩
  | .hbm, ⟨97, _⟩ => ⟨S3x104, .f32⟩
  | .hbm, ⟨98, _⟩ => ⟨S3x1x104, .f32⟩
  | .hbm, ⟨99, _⟩ => ⟨S3x100x1, .f32⟩
  | .hbm, ⟨100, _⟩ => ⟨S_, .i32⟩
  | .hbm, ⟨101, _⟩ => ⟨S_, .f32⟩
  | .hbm, ⟨102, _⟩ => ⟨S3x104x8, .f32⟩
  | .hbm, ⟨103, _⟩ => ⟨S_, .i32⟩
  | .hbm, ⟨104, _⟩ => ⟨S_, .f32⟩
  | .hbm, ⟨105, _⟩ => ⟨S3x8, .f32⟩
  | .hbm, ⟨106, _⟩ => ⟨S3x1x8, .f32⟩
  | .hbm, ⟨107, _⟩ => ⟨S1x100, .f32⟩
  | .hbm, ⟨108, _⟩ => ⟨S1x100, .f32⟩
  | .hbm, ⟨109, _⟩ => ⟨S1x100, .f32⟩
  | .hbm, ⟨110, _⟩ => ⟨S3x100, .f32⟩
  | .hbm, ⟨111, _⟩ => ⟨S_, .i32⟩
  | .hbm, ⟨112, _⟩ => ⟨S_, .f32⟩
  | .hbm, ⟨113, _⟩ => ⟨S3x104, .f32⟩
  | .hbm, ⟨114, _⟩ => ⟨S3x104x1, .f32⟩
  | .hbm, ⟨115, _⟩ => ⟨S_, .i32⟩
  | .hbm, ⟨116, _⟩ => ⟨S_, .f32⟩
  | .hbm, ⟨117, _⟩ => ⟨S3x104x8, .f32⟩
  | .hbm, ⟨118, _⟩ => ⟨S3x104x8, .f32⟩
  | .hbm, ⟨119, _⟩ => ⟨S3x100x1, .f32⟩
  | .hbm, ⟨120, _⟩ => ⟨S3x4x25x1, .f32⟩
  | .hbm, ⟨121, _⟩ => ⟨S_, .f32⟩
  | .hbm, ⟨122, _⟩ => ⟨S3x4x85x1, .f32⟩
  | .hbm, ⟨123, _⟩ => ⟨S_, .i32⟩
  | .hbm, ⟨124, _⟩ => ⟨S1, .i32⟩
  | .hbm, ⟨125, _⟩ => ⟨S3x4x85x1, .f32⟩
  | .local _ .vmem, ⟨0, _⟩ => ⟨S1x32x128, .f32⟩
  | .local _ .vmem, ⟨1, _⟩ => ⟨S1x32x128, .f32⟩
  | .local _ .vmem, ⟨2, _⟩ => ⟨S1x80x20480, .bf16⟩
  | .local _ .vmem, ⟨3, _⟩ => ⟨S1x80x20480, .bf16⟩
  | .local _ .vmem, ⟨4, _⟩ => ⟨S256x84, .bf16⟩
  | .local _ .vmem, ⟨5, _⟩ => ⟨S1x84, .f32⟩
  | .local _ .vmem, ⟨6, _⟩ => ⟨S1x176x588, .f32⟩
  | .local _ .vmem, ⟨7, _⟩ => ⟨S1x176x588, .f32⟩
  | .local _ .vmem, ⟨8, _⟩ => ⟨S176x20480, .bf16⟩
  | .local _ .vmem, ⟨9, _⟩ => ⟨S176x1792, .f32⟩
  | .local _ .vmem, ⟨10, _⟩ => ⟨S1x32x128, .f32⟩
  | .local _ .vmem, ⟨11, _⟩ => ⟨S1x32x128, .f32⟩
  | .local _ .vmem, ⟨12, _⟩ => ⟨S1x40x20480, .bf16⟩
  | .local _ .vmem, ⟨13, _⟩ => ⟨S1x40x20480, .bf16⟩
  | .local _ .vmem, ⟨14, _⟩ => ⟨S512x84, .bf16⟩
  | .local _ .vmem, ⟨15, _⟩ => ⟨S1x84, .f32⟩
  | .local _ .vmem, ⟨16, _⟩ => ⟨S1x176x588, .f32⟩
  | .local _ .vmem, ⟨17, _⟩ => ⟨S1x176x588, .f32⟩
  | .local _ .vmem, ⟨18, _⟩ => ⟨S176x20480, .bf16⟩
  | .local _ .vmem, ⟨19, _⟩ => ⟨S176x3584, .f32⟩
  | .local _ .vmem, ⟨20, _⟩ => ⟨S1x32x128, .f32⟩
  | .local _ .vmem, ⟨21, _⟩ => ⟨S1x32x128, .f32⟩
  | .local _ .vmem, ⟨22, _⟩ => ⟨S1x24x20480, .bf16⟩
  | .local _ .vmem, ⟨23, _⟩ => ⟨S1x24x20480, .bf16⟩
  | .local _ .vmem, ⟨24, _⟩ => ⟨S1024x84, .bf16⟩
  | .local _ .vmem, ⟨25, _⟩ => ⟨S1x84, .f32⟩
  | .local _ .vmem, ⟨26, _⟩ => ⟨S1x176x588, .f32⟩
  | .local _ .vmem, ⟨27, _⟩ => ⟨S1x176x588, .f32⟩
  | .local _ .vmem, ⟨28, _⟩ => ⟨S176x20480, .bf16⟩
  | .local _ .vmem, ⟨29, _⟩ => ⟨S176x7168, .f32⟩
  | .local _ .vmem, ⟨30, _⟩ => ⟨S1x104x4120, .f32⟩
  | .local _ .vmem, ⟨31, _⟩ => ⟨S1x104x4120, .f32⟩
  | .local _ .vmem, ⟨32, _⟩ => ⟨S1x4120x104, .f32⟩
  | .local _ .vmem, ⟨33, _⟩ => ⟨S1x4120x104, .f32⟩
  | .local _ .vmem, ⟨34, _⟩ => ⟨S1x1x104, .f32⟩
  | .local _ .vmem, ⟨35, _⟩ => ⟨S1x1x104, .f32⟩
  | .local _ .vmem, ⟨36, _⟩ => ⟨S1x104x104, .f32⟩
  | .local _ .vmem, ⟨37, _⟩ => ⟨S1x104x104, .f32⟩
  | .local _ .vmem, ⟨38, _⟩ => ⟨S1x1x104, .f32⟩
  | .local _ .vmem, ⟨39, _⟩ => ⟨S1x1x104, .f32⟩
  | .local _ .vmem, ⟨40, _⟩ => ⟨S1x104x8, .f32⟩
  | .local _ .vmem, ⟨41, _⟩ => ⟨S1x104x8, .f32⟩
  | .local _ .vmem, ⟨42, _⟩ => ⟨S1x1x8, .f32⟩
  | .local _ .vmem, ⟨43, _⟩ => ⟨S1x1x8, .f32⟩
  | .local _ .vmem, ⟨44, _⟩ => ⟨S1x104x8, .f32⟩
  | .local _ .vmem, ⟨45, _⟩ => ⟨S1x104x8, .f32⟩
  | .local _ .vmem, ⟨46, _⟩ => ⟨S1x104x8, .f32⟩
  | .local _ .vmem, ⟨47, _⟩ => ⟨S1x104x8, .f32⟩
  | _, _ => ⟨S4x256x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_v0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_0 : Ref sig .tc := ⟨.hbm, 38, rfl⟩
abbrev main_call1_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_1 : Ref sig .tc := ⟨.hbm, 57, rfl⟩
abbrev main_call2_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_2 : Ref sig .tc := ⟨.hbm, 77, rfl⟩
abbrev main_call3_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_3 : Ref sig .tc := ⟨.hbm, 84, rfl⟩
abbrev main_call4_v0 : Ref sig .tc := ⟨.hbm, 85, rfl⟩
abbrev main_v60 : Ref sig .tc := ⟨.hbm, 86, rfl⟩
abbrev main_c_4 : Ref sig .tc := ⟨.hbm, 87, rfl⟩
abbrev main_call5_v0 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_5 : Ref sig .tc := ⟨.hbm, 92, rfl⟩
abbrev main_call6_v0 : Ref sig .tc := ⟨.hbm, 93, rfl⟩
abbrev main_v64 : Ref sig .tc := ⟨.hbm, 94, rfl⟩
abbrev main_c_6 : Ref sig .tc := ⟨.hbm, 95, rfl⟩
abbrev main_call7_v0 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_7 : Ref sig .tc := ⟨.hbm, 100, rfl⟩
abbrev main_call8_v0 : Ref sig .tc := ⟨.hbm, 101, rfl⟩
abbrev main_v68 : Ref sig .tc := ⟨.hbm, 102, rfl⟩
abbrev main_c_8 : Ref sig .tc := ⟨.hbm, 103, rfl⟩
abbrev main_call9_v0 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_9 : Ref sig .tc := ⟨.hbm, 111, rfl⟩
abbrev main_call10_v0 : Ref sig .tc := ⟨.hbm, 112, rfl⟩
abbrev main_v75 : Ref sig .tc := ⟨.hbm, 113, rfl⟩
abbrev main_v76 : Ref sig .tc := ⟨.hbm, 114, rfl⟩
abbrev main_c_10 : Ref sig .tc := ⟨.hbm, 115, rfl⟩
abbrev main_call11_v0 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst : Ref sig .tc := ⟨.hbm, 121, rfl⟩
abbrev main_v81 : Ref sig .tc := ⟨.hbm, 122, rfl⟩
abbrev main_c_11 : Ref sig .tc := ⟨.hbm, 123, rfl⟩
abbrev main_v82 : Ref sig .tc := ⟨.hbm, 124, rfl⟩
abbrev main_v83 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc3_stg7_0 : Ref sig .tc := ⟨.vmem, 44, rfl⟩
abbrev cc3_stg7_1 : Ref sig .tc := ⟨.vmem, 45, rfl⟩
abbrev cc3_stg8_0 : Ref sig .tc := ⟨.vmem, 46, rfl⟩
abbrev cc3_stg8_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35
abbrev cc3_sem6_0 : DmaSem sig := 36
abbrev cc3_sem6_1 : DmaSem sig := 37
abbrev cc3_sem7_0 : DmaSem sig := 38
abbrev cc3_sem7_1 : DmaSem sig := 39
abbrev cc3_sem8_0 : DmaSem sig := 40
abbrev cc3_sem8_1 : DmaSem sig := 41

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x80x20480 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x84 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x84 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x176x588 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x40x20480 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x84 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x84 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x176x588 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x32x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x24x20480 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x84 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x84 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x176x588 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![3], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x104x4120 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x4120x104 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x104 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x104x104 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x104 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x104x8 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x1x8 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x104x8 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x104x8 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]
-- ==== ReferenceIdeal.lean ====
abbrev S4x256x80x80 : Shape := ⟨4, ![4, 256, 80, 80]⟩
abbrev S4x512x40x40 : Shape := ⟨4, ![4, 512, 40, 40]⟩
abbrev S4x1024x20x20 : Shape := ⟨4, ![4, 1024, 20, 20]⟩
abbrev S4x32x128 : Shape := ⟨3, ![4, 32, 128]⟩
abbrev S84x256 : Shape := ⟨2, ![84, 256]⟩
abbrev S84x512 : Shape := ⟨2, ![84, 512]⟩
abbrev S84x1024 : Shape := ⟨2, ![84, 1024]⟩
abbrev S3x84 : Shape := ⟨2, ![3, 84]⟩
abbrev S3x100x4116 : Shape := ⟨3, ![3, 100, 4116]⟩
abbrev S3x100 : Shape := ⟨2, ![3, 100]⟩
abbrev S3x100x100 : Shape := ⟨3, ![3, 100, 100]⟩
abbrev S3x1x100 : Shape := ⟨3, ![3, 1, 100]⟩
abbrev S3x1 : Shape := ⟨2, ![3, 1]⟩
abbrev S4x25x4 : Shape := ⟨3, ![4, 25, 4]⟩
abbrev S4x25x1 : Shape := ⟨3, ![4, 25, 1]⟩
abbrev S4x25 : Shape := ⟨2, ![4, 25]⟩
abbrev S1x84 : Shape := ⟨2, ![1, 84]⟩
abbrev S84 : Shape := ⟨1, ![84]⟩
abbrev S1x100x4116 : Shape := ⟨3, ![1, 100, 4116]⟩
abbrev S100x4116 : Shape := ⟨2, ![100, 4116]⟩
abbrev S1x100 : Shape := ⟨2, ![1, 100]⟩
abbrev S100 : Shape := ⟨1, ![100]⟩
abbrev S1x100x100 : Shape := ⟨3, ![1, 100, 100]⟩
abbrev S100x100 : Shape := ⟨2, ![100, 100]⟩
abbrev S1x1x100 : Shape := ⟨3, ![1, 1, 100]⟩
abbrev S1x1 : Shape := ⟨2, ![1, 1]⟩
abbrev S1 : Shape := ⟨1, ![1]⟩
abbrev S_ : Shape := ⟨0, ![]⟩
abbrev S7 : Shape := ⟨1, ![7]⟩
abbrev S7x1 : Shape := ⟨2, ![7, 1]⟩
abbrev S2 : Shape := ⟨1, ![2]⟩
abbrev S1x2 : Shape := ⟨2, ![1, 2]⟩
abbrev S4x25x1x1 : Shape := ⟨4, ![4, 25, 1, 1]⟩
abbrev S1x1x7x1 : Shape := ⟨4, ![1, 1, 7, 1]⟩
abbrev S4x25x7x1 : Shape := ⟨4, ![4, 25, 7, 1]⟩
abbrev S1x1x1x2 : Shape := ⟨4, ![1, 1, 1, 2]⟩
abbrev S4x25x1x2 : Shape := ⟨4, ![4, 25, 1, 2]⟩
abbrev S4x25x7x2 : Shape := ⟨4, ![4, 25, 7, 2]⟩
abbrev S4x25x14 : Shape := ⟨3, ![4, 25, 14]⟩
abbrev S4x25x14x1 : Shape := ⟨4, ![4, 25, 14, 1]⟩
abbrev S4x25x1x14 : Shape := ⟨4, ![4, 25, 1, 14]⟩
abbrev S4x25x14x14 : Shape := ⟨4, ![4, 25, 14, 14]⟩
abbrev S4x25x14x14x1 : Shape := ⟨5, ![4, 25, 14, 14, 1]⟩
abbrev S4x25x14x1x1 : Shape := ⟨5, ![4, 25, 14, 1, 1]⟩
abbrev S4x25x1x14x1 : Shape := ⟨5, ![4, 25, 1, 14, 1]⟩
abbrev S4x80x80x256 : Shape := ⟨4, ![4, 80, 80, 256]⟩
abbrev S4 : Shape := ⟨1, ![4]⟩
abbrev S4x1x1x1 : Shape := ⟨4, ![4, 1, 1, 1]⟩
abbrev S4x25x14x14x3 : Shape := ⟨5, ![4, 25, 14, 14, 3]⟩
abbrev S4x25x14x14x256 : Shape := ⟨5, ![4, 25, 14, 14, 256]⟩
abbrev S4x25x7x2x7x2x256 : Shape := ⟨7, ![4, 25, 7, 2, 7, 2, 256]⟩
abbrev S4x25x7x7x256 : Shape := ⟨5, ![4, 25, 7, 7, 256]⟩
abbrev S84x4x25x7x7 : Shape := ⟨5, ![84, 4, 25, 7, 7]⟩
abbrev S4x25x84x7x7 : Shape := ⟨5, ![4, 25, 84, 7, 7]⟩
abbrev S1x1x84x1x1 : Shape := ⟨5, ![1, 1, 84, 1, 1]⟩
abbrev S4x25x4116 : Shape := ⟨3, ![4, 25, 4116]⟩
abbrev S4116x100 : Shape := ⟨2, ![4116, 100]⟩
abbrev S4x25x100 : Shape := ⟨3, ![4, 25, 100]⟩
abbrev S100x1 : Shape := ⟨2, ![100, 1]⟩
abbrev S1x1x1 : Shape := ⟨3, ![1, 1, 1]⟩
abbrev S4x85x1 : Shape := ⟨3, ![4, 85, 1]⟩
abbrev S4x40x40x512 : Shape := ⟨4, ![4, 40, 40, 512]⟩
abbrev S4x25x14x14x512 : Shape := ⟨5, ![4, 25, 14, 14, 512]⟩
abbrev S4x25x7x2x7x2x512 : Shape := ⟨7, ![4, 25, 7, 2, 7, 2, 512]⟩
abbrev S4x25x7x7x512 : Shape := ⟨5, ![4, 25, 7, 7, 512]⟩
abbrev S4x20x20x1024 : Shape := ⟨4, ![4, 20, 20, 1024]⟩
abbrev S4x25x14x14x1024 : Shape := ⟨5, ![4, 25, 14, 14, 1024]⟩
abbrev S4x25x7x2x7x2x1024 : Shape := ⟨7, ![4, 25, 7, 2, 7, 2, 1024]⟩
abbrev S4x25x7x7x1024 : Shape := ⟨5, ![4, 25, 7, 7, 1024]⟩
abbrev S1x4x85x1 : Shape := ⟨4, ![1, 4, 85, 1]⟩
abbrev S3x4x85x1 : Shape := ⟨4, ![3, 4, 85, 1]⟩

abbrev nBuf : Space → Nat
  | .hbm => 1052
  | .vmem => 0
  | .smem => 0
  | _ => 0

abbrev hbmTy0_0 (i : Nat) : BufTy := match i % 128 with
  | 0 => ⟨S4x256x80x80, .f32⟩
  | 1 => ⟨S4x512x40x40, .f32⟩
  | 2 => ⟨S4x1024x20x20, .f32⟩
  | 3 => ⟨S4x32x128, .f32⟩
  | 4 => ⟨S4x32x128, .f32⟩
  | 5 => ⟨S4x32x128, .f32⟩
  | 6 => ⟨S84x256, .f32⟩
  | 7 => ⟨S84x512, .f32⟩
  | 8 => ⟨S84x1024, .f32⟩
  | 9 => ⟨S3x84, .f32⟩
  | 10 => ⟨S3x100x4116, .f32⟩
  | 11 => ⟨S3x100, .f32⟩
  | 12 => ⟨S3x100x100, .f32⟩
  | 13 => ⟨S3x100, .f32⟩
  | 14 => ⟨S3x1x100, .f32⟩
  | 15 => ⟨S3x1, .f32⟩
  | 16 => ⟨S4x25x4, .f32⟩
  | 17 => ⟨S4x25x1, .f32⟩
  | 18 => ⟨S4x25, .f32⟩
  | 19 => ⟨S1x84, .f32⟩
  | 20 => ⟨S84, .f32⟩
  | 21 => ⟨S1x100x4116, .f32⟩
  | 22 => ⟨S100x4116, .f32⟩
  | 23 => ⟨S1x100, .f32⟩
  | 24 => ⟨S100, .f32⟩
  | 25 => ⟨S1x100x100, .f32⟩
  | 26 => ⟨S100x100, .f32⟩
  | 27 => ⟨S1x100, .f32⟩
  | 28 => ⟨S100, .f32⟩
  | 29 => ⟨S1x1x100, .f32⟩
  | 30 => ⟨S1x100, .f32⟩
  | 31 => ⟨S1x1, .f32⟩
  | 32 => ⟨S1, .f32⟩
  | 33 => ⟨S4x25x1, .f32⟩
  | 34 => ⟨S4x25, .f32⟩
  | 35 => ⟨S4x25x1, .f32⟩
  | 36 => ⟨S4x25, .f32⟩
  | 37 => ⟨S4x25x1, .f32⟩
  | 38 => ⟨S4x25, .f32⟩
  | 39 => ⟨S4x25x1, .f32⟩
  | 40 => ⟨S4x25, .f32⟩
  | 41 => ⟨S4x25, .f32⟩
  | 42 => ⟨S_, .f32⟩
  | 43 => ⟨S4x25, .f32⟩
  | 44 => ⟨S4x25, .f32⟩
  | 45 => ⟨S_, .f32⟩
  | 46 => ⟨S4x25, .f32⟩
  | 47 => ⟨S4x25, .f32⟩
  | 48 => ⟨S4x25, .f32⟩
  | 49 => ⟨S_, .f32⟩
  | 50 => ⟨S4x25, .f32⟩
  | 51 => ⟨S4x25, .f32⟩
  | 52 => ⟨S_, .f32⟩
  | 53 => ⟨S4x25, .f32⟩
  | 54 => ⟨S4x25, .f32⟩
  | 55 => ⟨S7, .f32⟩
  | 56 => ⟨S7x1, .f32⟩
  | 57 => ⟨S2, .f32⟩
  | 58 => ⟨S1x2, .f32⟩
  | 59 => ⟨S4x25x1x1, .f32⟩
  | 60 => ⟨S4x25x1x1, .f32⟩
  | 61 => ⟨S1x1x7x1, .f32⟩
  | 62 => ⟨S4x25x7x1, .f32⟩
  | 63 => ⟨S4x25x7x1, .f32⟩
  | 64 => ⟨S4x25x7x1, .f32⟩
  | 65 => ⟨S4x25x7x1, .f32⟩
  | 66 => ⟨S4x25x7x1, .f32⟩
  | 67 => ⟨S_, .f32⟩
  | 68 => ⟨S1x2, .f32⟩
  | 69 => ⟨S1x2, .f32⟩
  | 70 => ⟨S1x1x1x2, .f32⟩
  | 71 => ⟨S4x25x1x2, .f32⟩
  | 72 => ⟨S4x25x1x2, .f32⟩
  | 73 => ⟨S4x25x1x2, .f32⟩
  | 74 => ⟨S_, .f32⟩
  | 75 => ⟨S4x25x1x2, .f32⟩
  | 76 => ⟨S4x25x1x2, .f32⟩
  | 77 => ⟨S4x25x7x2, .f32⟩
  | 78 => ⟨S4x25x7x2, .f32⟩
  | 79 => ⟨S4x25x7x2, .f32⟩
  | 80 => ⟨S4x25x14, .f32⟩
  | 81 => ⟨S4x25x1x1, .f32⟩
  | 82 => ⟨S4x25x1x1, .f32⟩
  | 83 => ⟨S1x1x7x1, .f32⟩
  | 84 => ⟨S4x25x7x1, .f32⟩
  | 85 => ⟨S4x25x7x1, .f32⟩
  | 86 => ⟨S4x25x7x1, .f32⟩
  | 87 => ⟨S4x25x7x1, .f32⟩
  | 88 => ⟨S4x25x7x1, .f32⟩
  | 89 => ⟨S_, .f32⟩
  | 90 => ⟨S1x2, .f32⟩
  | 91 => ⟨S1x2, .f32⟩
  | 92 => ⟨S1x1x1x2, .f32⟩
  | 93 => ⟨S4x25x1x2, .f32⟩
  | 94 => ⟨S4x25x1x2, .f32⟩
  | 95 => ⟨S4x25x1x2, .f32⟩
  | 96 => ⟨S_, .f32⟩
  | 97 => ⟨S4x25x1x2, .f32⟩
  | 98 => ⟨S4x25x1x2, .f32⟩
  | 99 => ⟨S4x25x7x2, .f32⟩
  | 100 => ⟨S4x25x7x2, .f32⟩
  | 101 => ⟨S4x25x7x2, .f32⟩
  | 102 => ⟨S4x25x14, .f32⟩
  | 103 => ⟨S_, .f32⟩
  | 104 => ⟨S4x25x14, .f32⟩
  | 105 => ⟨S4x25x14, .i1⟩
  | 106 => ⟨S_, .f32⟩
  | 107 => ⟨S4x25x14, .f32⟩
  | 108 => ⟨S4x25x14, .i1⟩
  | 109 => ⟨S4x25x14, .i1⟩
  | 110 => ⟨S4x25x14x1, .i1⟩
  | 111 => ⟨S_, .f32⟩
  | 112 => ⟨S4x25x14, .f32⟩
  | 113 => ⟨S4x25x14, .i1⟩
  | 114 => ⟨S_, .f32⟩
  | 115 => ⟨S4x25x14, .f32⟩
  | 116 => ⟨S4x25x14, .i1⟩
  | 117 => ⟨S4x25x14, .i1⟩
  | 118 => ⟨S4x25x1x14, .i1⟩
  | 119 => ⟨S4x25x14x14, .i1⟩
  | 120 => ⟨S4x25x14x14, .i1⟩
  | 121 => ⟨S4x25x14x14, .i1⟩
  | 122 => ⟨S4x25x14x14x1, .i1⟩
  | 123 => ⟨S_, .f32⟩
  | 124 => ⟨S_, .f32⟩
  | 125 => ⟨S_, .f32⟩
  | 126 => ⟨S4x25x14, .f32⟩
  | 127 => ⟨S4x25x14, .f32⟩
  | _ => ⟨S4x256x80x80, .f32⟩

abbrev hbmTy0_1 (i : Nat) : BufTy := match i % 128 with
  | 0 => ⟨S_, .f32⟩
  | 1 => ⟨S4x25x14, .f32⟩
  | 2 => ⟨S4x25x14, .f32⟩
  | 3 => ⟨S_, .f32⟩
  | 4 => ⟨S_, .f32⟩
  | 5 => ⟨S_, .f32⟩
  | 6 => ⟨S4x25x14, .f32⟩
  | 7 => ⟨S4x25x14, .f32⟩
  | 8 => ⟨S_, .f32⟩
  | 9 => ⟨S4x25x14, .f32⟩
  | 10 => ⟨S4x25x14, .f32⟩
  | 11 => ⟨S4x25x14, .f32⟩
  | 12 => ⟨S4x25x14, .f32⟩
  | 13 => ⟨S4x25x14, .i32⟩
  | 14 => ⟨S4x25x14, .i32⟩
  | 15 => ⟨S_, .i32⟩
  | 16 => ⟨S4x25x14, .i32⟩
  | 17 => ⟨S4x25x14, .i32⟩
  | 18 => ⟨S_, .i32⟩
  | 19 => ⟨S4x25x14, .i32⟩
  | 20 => ⟨S4x25x14, .i32⟩
  | 21 => ⟨S_, .i32⟩
  | 22 => ⟨S4x25x14, .i32⟩
  | 23 => ⟨S4x25x14, .i32⟩
  | 24 => ⟨S_, .i32⟩
  | 25 => ⟨S4x25x14, .i32⟩
  | 26 => ⟨S4x25x14, .i32⟩
  | 27 => ⟨S4x25x14, .f32⟩
  | 28 => ⟨S4x25x14x1x1, .f32⟩
  | 29 => ⟨S4x25x14, .f32⟩
  | 30 => ⟨S4x25x1x14x1, .f32⟩
  | 31 => ⟨S4x80x80x256, .f32⟩
  | 32 => ⟨S4, .i32⟩
  | 33 => ⟨S4x1x1x1, .i32⟩
  | 34 => ⟨S4x25x14x1, .i32⟩
  | 35 => ⟨S4x25x1x14, .i32⟩
  | 36 => ⟨S_, .i32⟩
  | 37 => ⟨S4x1x1x1, .i32⟩
  | 38 => ⟨S4x1x1x1, .i1⟩
  | 39 => ⟨S_, .i32⟩
  | 40 => ⟨S4x1x1x1, .i32⟩
  | 41 => ⟨S4x1x1x1, .i32⟩
  | 42 => ⟨S4x1x1x1, .i32⟩
  | 43 => ⟨S_, .i32⟩
  | 44 => ⟨S4x25x14x1, .i32⟩
  | 45 => ⟨S4x25x14x1, .i1⟩
  | 46 => ⟨S_, .i32⟩
  | 47 => ⟨S4x25x14x1, .i32⟩
  | 48 => ⟨S4x25x14x1, .i32⟩
  | 49 => ⟨S4x25x14x1, .i32⟩
  | 50 => ⟨S_, .i32⟩
  | 51 => ⟨S4x25x1x14, .i32⟩
  | 52 => ⟨S4x25x1x14, .i1⟩
  | 53 => ⟨S_, .i32⟩
  | 54 => ⟨S4x25x1x14, .i32⟩
  | 55 => ⟨S4x25x1x14, .i32⟩
  | 56 => ⟨S4x25x1x14, .i32⟩
  | 57 => ⟨S4x25x14x14, .i32⟩
  | 58 => ⟨S4x25x14x14, .i32⟩
  | 59 => ⟨S4x25x14x14, .i32⟩
  | 60 => ⟨S4x25x14x14x1, .i32⟩
  | 61 => ⟨S4x25x14x14x1, .i32⟩
  | 62 => ⟨S4x25x14x14x1, .i32⟩
  | 63 => ⟨S4x25x14x14x3, .i32⟩
  | 64 => ⟨S4x25x14x14x256, .f32⟩
  | 65 => ⟨S_, .f32⟩
  | 66 => ⟨S4x25x14x1x1, .f32⟩
  | 67 => ⟨S4x25x14x1x1, .f32⟩
  | 68 => ⟨S4x25x14x14x256, .f32⟩
  | 69 => ⟨S4x25x14x14x256, .f32⟩
  | 70 => ⟨S_, .f32⟩
  | 71 => ⟨S4x25x1x14x1, .f32⟩
  | 72 => ⟨S4x25x1x14x1, .f32⟩
  | 73 => ⟨S4x25x14x14x256, .f32⟩
  | 74 => ⟨S4x25x14x14x256, .f32⟩
  | 75 => ⟨S4x25x14x1, .i32⟩
  | 76 => ⟨S4x25x1x14, .i32⟩
  | 77 => ⟨S_, .i32⟩
  | 78 => ⟨S4x1x1x1, .i32⟩
  | 79 => ⟨S4x1x1x1, .i1⟩
  | 80 => ⟨S_, .i32⟩
  | 81 => ⟨S4x1x1x1, .i32⟩
  | 82 => ⟨S4x1x1x1, .i32⟩
  | 83 => ⟨S4x1x1x1, .i32⟩
  | 84 => ⟨S_, .i32⟩
  | 85 => ⟨S4x25x14x1, .i32⟩
  | 86 => ⟨S4x25x14x1, .i1⟩
  | 87 => ⟨S_, .i32⟩
  | 88 => ⟨S4x25x14x1, .i32⟩
  | 89 => ⟨S4x25x14x1, .i32⟩
  | 90 => ⟨S4x25x14x1, .i32⟩
  | 91 => ⟨S_, .i32⟩
  | 92 => ⟨S4x25x1x14, .i32⟩
  | 93 => ⟨S4x25x1x14, .i1⟩
  | 94 => ⟨S_, .i32⟩
  | 95 => ⟨S4x25x1x14, .i32⟩
  | 96 => ⟨S4x25x1x14, .i32⟩
  | 97 => ⟨S4x25x1x14, .i32⟩
  | 98 => ⟨S4x25x14x14, .i32⟩
  | 99 => ⟨S4x25x14x14, .i32⟩
  | 100 => ⟨S4x25x14x14, .i32⟩
  | 101 => ⟨S4x25x14x14x1, .i32⟩
  | 102 => ⟨S4x25x14x14x1, .i32⟩
  | 103 => ⟨S4x25x14x14x1, .i32⟩
  | 104 => ⟨S4x25x14x14x3, .i32⟩
  | 105 => ⟨S4x25x14x14x256, .f32⟩
  | 106 => ⟨S4x25x14x14x256, .f32⟩
  | 107 => ⟨S4x25x14x14x256, .f32⟩
  | 108 => ⟨S_, .f32⟩
  | 109 => ⟨S4x25x1x14x1, .f32⟩
  | 110 => ⟨S4x25x1x14x1, .f32⟩
  | 111 => ⟨S4x25x14x14x256, .f32⟩
  | 112 => ⟨S4x25x14x14x256, .f32⟩
  | 113 => ⟨S4x25x14x14x256, .f32⟩
  | 114 => ⟨S4x25x14x1, .i32⟩
  | 115 => ⟨S4x25x1x14, .i32⟩
  | 116 => ⟨S_, .i32⟩
  | 117 => ⟨S4x1x1x1, .i32⟩
  | 118 => ⟨S4x1x1x1, .i1⟩
  | 119 => ⟨S_, .i32⟩
  | 120 => ⟨S4x1x1x1, .i32⟩
  | 121 => ⟨S4x1x1x1, .i32⟩
  | 122 => ⟨S4x1x1x1, .i32⟩
  | 123 => ⟨S_, .i32⟩
  | 124 => ⟨S4x25x14x1, .i32⟩
  | 125 => ⟨S4x25x14x1, .i1⟩
  | 126 => ⟨S_, .i32⟩
  | 127 => ⟨S4x25x14x1, .i32⟩
  | _ => ⟨S4x256x80x80, .f32⟩

abbrev hbmTy0_2 (i : Nat) : BufTy := match i % 128 with
  | 0 => ⟨S4x25x14x1, .i32⟩
  | 1 => ⟨S4x25x14x1, .i32⟩
  | 2 => ⟨S_, .i32⟩
  | 3 => ⟨S4x25x1x14, .i32⟩
  | 4 => ⟨S4x25x1x14, .i1⟩
  | 5 => ⟨S_, .i32⟩
  | 6 => ⟨S4x25x1x14, .i32⟩
  | 7 => ⟨S4x25x1x14, .i32⟩
  | 8 => ⟨S4x25x1x14, .i32⟩
  | 9 => ⟨S4x25x14x14, .i32⟩
  | 10 => ⟨S4x25x14x14, .i32⟩
  | 11 => ⟨S4x25x14x14, .i32⟩
  | 12 => ⟨S4x25x14x14x1, .i32⟩
  | 13 => ⟨S4x25x14x14x1, .i32⟩
  | 14 => ⟨S4x25x14x14x1, .i32⟩
  | 15 => ⟨S4x25x14x14x3, .i32⟩
  | 16 => ⟨S4x25x14x14x256, .f32⟩
  | 17 => ⟨S_, .f32⟩
  | 18 => ⟨S4x25x14x1x1, .f32⟩
  | 19 => ⟨S4x25x14x1x1, .f32⟩
  | 20 => ⟨S4x25x14x14x256, .f32⟩
  | 21 => ⟨S4x25x14x14x256, .f32⟩
  | 22 => ⟨S4x25x14x14x256, .f32⟩
  | 23 => ⟨S4x25x14x14x256, .f32⟩
  | 24 => ⟨S4x25x14x14x256, .f32⟩
  | 25 => ⟨S4x25x14x1, .i32⟩
  | 26 => ⟨S4x25x1x14, .i32⟩
  | 27 => ⟨S_, .i32⟩
  | 28 => ⟨S4x1x1x1, .i32⟩
  | 29 => ⟨S4x1x1x1, .i1⟩
  | 30 => ⟨S_, .i32⟩
  | 31 => ⟨S4x1x1x1, .i32⟩
  | 32 => ⟨S4x1x1x1, .i32⟩
  | 33 => ⟨S4x1x1x1, .i32⟩
  | 34 => ⟨S_, .i32⟩
  | 35 => ⟨S4x25x14x1, .i32⟩
  | 36 => ⟨S4x25x14x1, .i1⟩
  | 37 => ⟨S_, .i32⟩
  | 38 => ⟨S4x25x14x1, .i32⟩
  | 39 => ⟨S4x25x14x1, .i32⟩
  | 40 => ⟨S4x25x14x1, .i32⟩
  | 41 => ⟨S_, .i32⟩
  | 42 => ⟨S4x25x1x14, .i32⟩
  | 43 => ⟨S4x25x1x14, .i1⟩
  | 44 => ⟨S_, .i32⟩
  | 45 => ⟨S4x25x1x14, .i32⟩
  | 46 => ⟨S4x25x1x14, .i32⟩
  | 47 => ⟨S4x25x1x14, .i32⟩
  | 48 => ⟨S4x25x14x14, .i32⟩
  | 49 => ⟨S4x25x14x14, .i32⟩
  | 50 => ⟨S4x25x14x14, .i32⟩
  | 51 => ⟨S4x25x14x14x1, .i32⟩
  | 52 => ⟨S4x25x14x14x1, .i32⟩
  | 53 => ⟨S4x25x14x14x1, .i32⟩
  | 54 => ⟨S4x25x14x14x3, .i32⟩
  | 55 => ⟨S4x25x14x14x256, .f32⟩
  | 56 => ⟨S4x25x14x14x256, .f32⟩
  | 57 => ⟨S4x25x14x14x256, .f32⟩
  | 58 => ⟨S4x25x14x14x256, .f32⟩
  | 59 => ⟨S4x25x14x14x256, .f32⟩
  | 60 => ⟨S4x25x14x14x256, .f32⟩
  | 61 => ⟨S_, .f32⟩
  | 62 => ⟨S_, .f32⟩
  | 63 => ⟨S4x25x14x14x256, .i1⟩
  | 64 => ⟨S4x25x14x14x256, .f32⟩
  | 65 => ⟨S4x25x14x14x256, .f32⟩
  | 66 => ⟨S4x25x7x2x7x2x256, .f32⟩
  | 67 => ⟨S_, .f32⟩
  | 68 => ⟨S4x25x7x7x256, .f32⟩
  | 69 => ⟨S_, .f32⟩
  | 70 => ⟨S4x25x7x7x256, .f32⟩
  | 71 => ⟨S4x25x7x7x256, .f32⟩
  | 72 => ⟨S84x4x25x7x7, .f32⟩
  | 73 => ⟨S4x25x84x7x7, .f32⟩
  | 74 => ⟨S1x1x84x1x1, .f32⟩
  | 75 => ⟨S4x25x84x7x7, .f32⟩
  | 76 => ⟨S4x25x84x7x7, .f32⟩
  | 77 => ⟨S4x25x4116, .f32⟩
  | 78 => ⟨S4116x100, .f32⟩
  | 79 => ⟨S4x25x100, .f32⟩
  | 80 => ⟨S1x1x100, .f32⟩
  | 81 => ⟨S4x25x100, .f32⟩
  | 82 => ⟨S4x25x100, .f32⟩
  | 83 => ⟨S_, .f32⟩
  | 84 => ⟨S4x25x100, .f32⟩
  | 85 => ⟨S4x25x100, .f32⟩
  | 86 => ⟨S100x100, .f32⟩
  | 87 => ⟨S4x25x100, .f32⟩
  | 88 => ⟨S1x1x100, .f32⟩
  | 89 => ⟨S4x25x100, .f32⟩
  | 90 => ⟨S4x25x100, .f32⟩
  | 91 => ⟨S_, .f32⟩
  | 92 => ⟨S4x25x100, .f32⟩
  | 93 => ⟨S4x25x100, .f32⟩
  | 94 => ⟨S100x1, .f32⟩
  | 95 => ⟨S4x25x1, .f32⟩
  | 96 => ⟨S1x1x1, .f32⟩
  | 97 => ⟨S4x25x1, .f32⟩
  | 98 => ⟨S4x25x1, .f32⟩
  | 99 => ⟨S4x25x1, .f32⟩
  | 100 => ⟨S4x25x1, .f32⟩
  | 101 => ⟨S_, .i32⟩
  | 102 => ⟨S_, .f32⟩
  | 103 => ⟨S4x85x1, .f32⟩
  | 104 => ⟨S4x25x4, .f32⟩
  | 105 => ⟨S4x25x1, .f32⟩
  | 106 => ⟨S4x25, .f32⟩
  | 107 => ⟨S1x84, .f32⟩
  | 108 => ⟨S84, .f32⟩
  | 109 => ⟨S1x100x4116, .f32⟩
  | 110 => ⟨S100x4116, .f32⟩
  | 111 => ⟨S1x100, .f32⟩
  | 112 => ⟨S100, .f32⟩
  | 113 => ⟨S1x100x100, .f32⟩
  | 114 => ⟨S100x100, .f32⟩
  | 115 => ⟨S1x100, .f32⟩
  | 116 => ⟨S100, .f32⟩
  | 117 => ⟨S1x1x100, .f32⟩
  | 118 => ⟨S1x100, .f32⟩
  | 119 => ⟨S1x1, .f32⟩
  | 120 => ⟨S1, .f32⟩
  | 121 => ⟨S4x25x1, .f32⟩
  | 122 => ⟨S4x25, .f32⟩
  | 123 => ⟨S4x25x1, .f32⟩
  | 124 => ⟨S4x25, .f32⟩
  | 125 => ⟨S4x25x1, .f32⟩
  | 126 => ⟨S4x25, .f32⟩
  | 127 => ⟨S4x25x1, .f32⟩
  | _ => ⟨S4x256x80x80, .f32⟩

abbrev hbmTy0_3 (i : Nat) : BufTy := match i % 128 with
  | 0 => ⟨S4x25, .f32⟩
  | 1 => ⟨S4x25, .f32⟩
  | 2 => ⟨S_, .f32⟩
  | 3 => ⟨S4x25, .f32⟩
  | 4 => ⟨S4x25, .f32⟩
  | 5 => ⟨S_, .f32⟩
  | 6 => ⟨S4x25, .f32⟩
  | 7 => ⟨S4x25, .f32⟩
  | 8 => ⟨S4x25, .f32⟩
  | 9 => ⟨S_, .f32⟩
  | 10 => ⟨S4x25, .f32⟩
  | 11 => ⟨S4x25, .f32⟩
  | 12 => ⟨S_, .f32⟩
  | 13 => ⟨S4x25, .f32⟩
  | 14 => ⟨S4x25, .f32⟩
  | 15 => ⟨S7, .f32⟩
  | 16 => ⟨S7x1, .f32⟩
  | 17 => ⟨S2, .f32⟩
  | 18 => ⟨S1x2, .f32⟩
  | 19 => ⟨S4x25x1x1, .f32⟩
  | 20 => ⟨S4x25x1x1, .f32⟩
  | 21 => ⟨S1x1x7x1, .f32⟩
  | 22 => ⟨S4x25x7x1, .f32⟩
  | 23 => ⟨S4x25x7x1, .f32⟩
  | 24 => ⟨S4x25x7x1, .f32⟩
  | 25 => ⟨S4x25x7x1, .f32⟩
  | 26 => ⟨S4x25x7x1, .f32⟩
  | 27 => ⟨S_, .f32⟩
  | 28 => ⟨S1x2, .f32⟩
  | 29 => ⟨S1x2, .f32⟩
  | 30 => ⟨S1x1x1x2, .f32⟩
  | 31 => ⟨S4x25x1x2, .f32⟩
  | 32 => ⟨S4x25x1x2, .f32⟩
  | 33 => ⟨S4x25x1x2, .f32⟩
  | 34 => ⟨S_, .f32⟩
  | 35 => ⟨S4x25x1x2, .f32⟩
  | 36 => ⟨S4x25x1x2, .f32⟩
  | 37 => ⟨S4x25x7x2, .f32⟩
  | 38 => ⟨S4x25x7x2, .f32⟩
  | 39 => ⟨S4x25x7x2, .f32⟩
  | 40 => ⟨S4x25x14, .f32⟩
  | 41 => ⟨S4x25x1x1, .f32⟩
  | 42 => ⟨S4x25x1x1, .f32⟩
  | 43 => ⟨S1x1x7x1, .f32⟩
  | 44 => ⟨S4x25x7x1, .f32⟩
  | 45 => ⟨S4x25x7x1, .f32⟩
  | 46 => ⟨S4x25x7x1, .f32⟩
  | 47 => ⟨S4x25x7x1, .f32⟩
  | 48 => ⟨S4x25x7x1, .f32⟩
  | 49 => ⟨S_, .f32⟩
  | 50 => ⟨S1x2, .f32⟩
  | 51 => ⟨S1x2, .f32⟩
  | 52 => ⟨S1x1x1x2, .f32⟩
  | 53 => ⟨S4x25x1x2, .f32⟩
  | 54 => ⟨S4x25x1x2, .f32⟩
  | 55 => ⟨S4x25x1x2, .f32⟩
  | 56 => ⟨S_, .f32⟩
  | 57 => ⟨S4x25x1x2, .f32⟩
  | 58 => ⟨S4x25x1x2, .f32⟩
  | 59 => ⟨S4x25x7x2, .f32⟩
  | 60 => ⟨S4x25x7x2, .f32⟩
  | 61 => ⟨S4x25x7x2, .f32⟩
  | 62 => ⟨S4x25x14, .f32⟩
  | 63 => ⟨S_, .f32⟩
  | 64 => ⟨S4x25x14, .f32⟩
  | 65 => ⟨S4x25x14, .i1⟩
  | 66 => ⟨S_, .f32⟩
  | 67 => ⟨S4x25x14, .f32⟩
  | 68 => ⟨S4x25x14, .i1⟩
  | 69 => ⟨S4x25x14, .i1⟩
  | 70 => ⟨S4x25x14x1, .i1⟩
  | 71 => ⟨S_, .f32⟩
  | 72 => ⟨S4x25x14, .f32⟩
  | 73 => ⟨S4x25x14, .i1⟩
  | 74 => ⟨S_, .f32⟩
  | 75 => ⟨S4x25x14, .f32⟩
  | 76 => ⟨S4x25x14, .i1⟩
  | 77 => ⟨S4x25x14, .i1⟩
  | 78 => ⟨S4x25x1x14, .i1⟩
  | 79 => ⟨S4x25x14x14, .i1⟩
  | 80 => ⟨S4x25x14x14, .i1⟩
  | 81 => ⟨S4x25x14x14, .i1⟩
  | 82 => ⟨S4x25x14x14x1, .i1⟩
  | 83 => ⟨S_, .f32⟩
  | 84 => ⟨S_, .f32⟩
  | 85 => ⟨S_, .f32⟩
  | 86 => ⟨S4x25x14, .f32⟩
  | 87 => ⟨S4x25x14, .f32⟩
  | 88 => ⟨S_, .f32⟩
  | 89 => ⟨S4x25x14, .f32⟩
  | 90 => ⟨S4x25x14, .f32⟩
  | 91 => ⟨S_, .f32⟩
  | 92 => ⟨S_, .f32⟩
  | 93 => ⟨S_, .f32⟩
  | 94 => ⟨S4x25x14, .f32⟩
  | 95 => ⟨S4x25x14, .f32⟩
  | 96 => ⟨S_, .f32⟩
  | 97 => ⟨S4x25x14, .f32⟩
  | 98 => ⟨S4x25x14, .f32⟩
  | 99 => ⟨S4x25x14, .f32⟩
  | 100 => ⟨S4x25x14, .f32⟩
  | 101 => ⟨S4x25x14, .i32⟩
  | 102 => ⟨S4x25x14, .i32⟩
  | 103 => ⟨S_, .i32⟩
  | 104 => ⟨S4x25x14, .i32⟩
  | 105 => ⟨S4x25x14, .i32⟩
  | 106 => ⟨S_, .i32⟩
  | 107 => ⟨S4x25x14, .i32⟩
  | 108 => ⟨S4x25x14, .i32⟩
  | 109 => ⟨S_, .i32⟩
  | 110 => ⟨S4x25x14, .i32⟩
  | 111 => ⟨S4x25x14, .i32⟩
  | 112 => ⟨S_, .i32⟩
  | 113 => ⟨S4x25x14, .i32⟩
  | 114 => ⟨S4x25x14, .i32⟩
  | 115 => ⟨S4x25x14, .f32⟩
  | 116 => ⟨S4x25x14x1x1, .f32⟩
  | 117 => ⟨S4x25x14, .f32⟩
  | 118 => ⟨S4x25x1x14x1, .f32⟩
  | 119 => ⟨S4x40x40x512, .f32⟩
  | 120 => ⟨S4, .i32⟩
  | 121 => ⟨S4x1x1x1, .i32⟩
  | 122 => ⟨S4x25x14x1, .i32⟩
  | 123 => ⟨S4x25x1x14, .i32⟩
  | 124 => ⟨S_, .i32⟩
  | 125 => ⟨S4x1x1x1, .i32⟩
  | 126 => ⟨S4x1x1x1, .i1⟩
  | 127 => ⟨S_, .i32⟩
  | _ => ⟨S4x256x80x80, .f32⟩

abbrev hbmTy0_4 (i : Nat) : BufTy := match i % 128 with
  | 0 => ⟨S4x1x1x1, .i32⟩
  | 1 => ⟨S4x1x1x1, .i32⟩
  | 2 => ⟨S4x1x1x1, .i32⟩
  | 3 => ⟨S_, .i32⟩
  | 4 => ⟨S4x25x14x1, .i32⟩
  | 5 => ⟨S4x25x14x1, .i1⟩
  | 6 => ⟨S_, .i32⟩
  | 7 => ⟨S4x25x14x1, .i32⟩
  | 8 => ⟨S4x25x14x1, .i32⟩
  | 9 => ⟨S4x25x14x1, .i32⟩
  | 10 => ⟨S_, .i32⟩
  | 11 => ⟨S4x25x1x14, .i32⟩
  | 12 => ⟨S4x25x1x14, .i1⟩
  | 13 => ⟨S_, .i32⟩
  | 14 => ⟨S4x25x1x14, .i32⟩
  | 15 => ⟨S4x25x1x14, .i32⟩
  | 16 => ⟨S4x25x1x14, .i32⟩
  | 17 => ⟨S4x25x14x14, .i32⟩
  | 18 => ⟨S4x25x14x14, .i32⟩
  | 19 => ⟨S4x25x14x14, .i32⟩
  | 20 => ⟨S4x25x14x14x1, .i32⟩
  | 21 => ⟨S4x25x14x14x1, .i32⟩
  | 22 => ⟨S4x25x14x14x1, .i32⟩
  | 23 => ⟨S4x25x14x14x3, .i32⟩
  | 24 => ⟨S4x25x14x14x512, .f32⟩
  | 25 => ⟨S_, .f32⟩
  | 26 => ⟨S4x25x14x1x1, .f32⟩
  | 27 => ⟨S4x25x14x1x1, .f32⟩
  | 28 => ⟨S4x25x14x14x512, .f32⟩
  | 29 => ⟨S4x25x14x14x512, .f32⟩
  | 30 => ⟨S_, .f32⟩
  | 31 => ⟨S4x25x1x14x1, .f32⟩
  | 32 => ⟨S4x25x1x14x1, .f32⟩
  | 33 => ⟨S4x25x14x14x512, .f32⟩
  | 34 => ⟨S4x25x14x14x512, .f32⟩
  | 35 => ⟨S4x25x14x1, .i32⟩
  | 36 => ⟨S4x25x1x14, .i32⟩
  | 37 => ⟨S_, .i32⟩
  | 38 => ⟨S4x1x1x1, .i32⟩
  | 39 => ⟨S4x1x1x1, .i1⟩
  | 40 => ⟨S_, .i32⟩
  | 41 => ⟨S4x1x1x1, .i32⟩
  | 42 => ⟨S4x1x1x1, .i32⟩
  | 43 => ⟨S4x1x1x1, .i32⟩
  | 44 => ⟨S_, .i32⟩
  | 45 => ⟨S4x25x14x1, .i32⟩
  | 46 => ⟨S4x25x14x1, .i1⟩
  | 47 => ⟨S_, .i32⟩
  | 48 => ⟨S4x25x14x1, .i32⟩
  | 49 => ⟨S4x25x14x1, .i32⟩
  | 50 => ⟨S4x25x14x1, .i32⟩
  | 51 => ⟨S_, .i32⟩
  | 52 => ⟨S4x25x1x14, .i32⟩
  | 53 => ⟨S4x25x1x14, .i1⟩
  | 54 => ⟨S_, .i32⟩
  | 55 => ⟨S4x25x1x14, .i32⟩
  | 56 => ⟨S4x25x1x14, .i32⟩
  | 57 => ⟨S4x25x1x14, .i32⟩
  | 58 => ⟨S4x25x14x14, .i32⟩
  | 59 => ⟨S4x25x14x14, .i32⟩
  | 60 => ⟨S4x25x14x14, .i32⟩
  | 61 => ⟨S4x25x14x14x1, .i32⟩
  | 62 => ⟨S4x25x14x14x1, .i32⟩
  | 63 => ⟨S4x25x14x14x1, .i32⟩
  | 64 => ⟨S4x25x14x14x3, .i32⟩
  | 65 => ⟨S4x25x14x14x512, .f32⟩
  | 66 => ⟨S4x25x14x14x512, .f32⟩
  | 67 => ⟨S4x25x14x14x512, .f32⟩
  | 68 => ⟨S_, .f32⟩
  | 69 => ⟨S4x25x1x14x1, .f32⟩
  | 70 => ⟨S4x25x1x14x1, .f32⟩
  | 71 => ⟨S4x25x14x14x512, .f32⟩
  | 72 => ⟨S4x25x14x14x512, .f32⟩
  | 73 => ⟨S4x25x14x14x512, .f32⟩
  | 74 => ⟨S4x25x14x1, .i32⟩
  | 75 => ⟨S4x25x1x14, .i32⟩
  | 76 => ⟨S_, .i32⟩
  | 77 => ⟨S4x1x1x1, .i32⟩
  | 78 => ⟨S4x1x1x1, .i1⟩
  | 79 => ⟨S_, .i32⟩
  | 80 => ⟨S4x1x1x1, .i32⟩
  | 81 => ⟨S4x1x1x1, .i32⟩
  | 82 => ⟨S4x1x1x1, .i32⟩
  | 83 => ⟨S_, .i32⟩
  | 84 => ⟨S4x25x14x1, .i32⟩
  | 85 => ⟨S4x25x14x1, .i1⟩
  | 86 => ⟨S_, .i32⟩
  | 87 => ⟨S4x25x14x1, .i32⟩
  | 88 => ⟨S4x25x14x1, .i32⟩
  | 89 => ⟨S4x25x14x1, .i32⟩
  | 90 => ⟨S_, .i32⟩
  | 91 => ⟨S4x25x1x14, .i32⟩
  | 92 => ⟨S4x25x1x14, .i1⟩
  | 93 => ⟨S_, .i32⟩
  | 94 => ⟨S4x25x1x14, .i32⟩
  | 95 => ⟨S4x25x1x14, .i32⟩
  | 96 => ⟨S4x25x1x14, .i32⟩
  | 97 => ⟨S4x25x14x14, .i32⟩
  | 98 => ⟨S4x25x14x14, .i32⟩
  | 99 => ⟨S4x25x14x14, .i32⟩
  | 100 => ⟨S4x25x14x14x1, .i32⟩
  | 101 => ⟨S4x25x14x14x1, .i32⟩
  | 102 => ⟨S4x25x14x14x1, .i32⟩
  | 103 => ⟨S4x25x14x14x3, .i32⟩
  | 104 => ⟨S4x25x14x14x512, .f32⟩
  | 105 => ⟨S_, .f32⟩
  | 106 => ⟨S4x25x14x1x1, .f32⟩
  | 107 => ⟨S4x25x14x1x1, .f32⟩
  | 108 => ⟨S4x25x14x14x512, .f32⟩
  | 109 => ⟨S4x25x14x14x512, .f32⟩
  | 110 => ⟨S4x25x14x14x512, .f32⟩
  | 111 => ⟨S4x25x14x14x512, .f32⟩
  | 112 => ⟨S4x25x14x14x512, .f32⟩
  | 113 => ⟨S4x25x14x1, .i32⟩
  | 114 => ⟨S4x25x1x14, .i32⟩
  | 115 => ⟨S_, .i32⟩
  | 116 => ⟨S4x1x1x1, .i32⟩
  | 117 => ⟨S4x1x1x1, .i1⟩
  | 118 => ⟨S_, .i32⟩
  | 119 => ⟨S4x1x1x1, .i32⟩
  | 120 => ⟨S4x1x1x1, .i32⟩
  | 121 => ⟨S4x1x1x1, .i32⟩
  | 122 => ⟨S_, .i32⟩
  | 123 => ⟨S4x25x14x1, .i32⟩
  | 124 => ⟨S4x25x14x1, .i1⟩
  | 125 => ⟨S_, .i32⟩
  | 126 => ⟨S4x25x14x1, .i32⟩
  | 127 => ⟨S4x25x14x1, .i32⟩
  | _ => ⟨S4x256x80x80, .f32⟩

abbrev hbmTy0_5 (i : Nat) : BufTy := match i % 128 with
  | 0 => ⟨S4x25x14x1, .i32⟩
  | 1 => ⟨S_, .i32⟩
  | 2 => ⟨S4x25x1x14, .i32⟩
  | 3 => ⟨S4x25x1x14, .i1⟩
  | 4 => ⟨S_, .i32⟩
  | 5 => ⟨S4x25x1x14, .i32⟩
  | 6 => ⟨S4x25x1x14, .i32⟩
  | 7 => ⟨S4x25x1x14, .i32⟩
  | 8 => ⟨S4x25x14x14, .i32⟩
  | 9 => ⟨S4x25x14x14, .i32⟩
  | 10 => ⟨S4x25x14x14, .i32⟩
  | 11 => ⟨S4x25x14x14x1, .i32⟩
  | 12 => ⟨S4x25x14x14x1, .i32⟩
  | 13 => ⟨S4x25x14x14x1, .i32⟩
  | 14 => ⟨S4x25x14x14x3, .i32⟩
  | 15 => ⟨S4x25x14x14x512, .f32⟩
  | 16 => ⟨S4x25x14x14x512, .f32⟩
  | 17 => ⟨S4x25x14x14x512, .f32⟩
  | 18 => ⟨S4x25x14x14x512, .f32⟩
  | 19 => ⟨S4x25x14x14x512, .f32⟩
  | 20 => ⟨S4x25x14x14x512, .f32⟩
  | 21 => ⟨S_, .f32⟩
  | 22 => ⟨S_, .f32⟩
  | 23 => ⟨S4x25x14x14x512, .i1⟩
  | 24 => ⟨S4x25x14x14x512, .f32⟩
  | 25 => ⟨S4x25x14x14x512, .f32⟩
  | 26 => ⟨S4x25x7x2x7x2x512, .f32⟩
  | 27 => ⟨S_, .f32⟩
  | 28 => ⟨S4x25x7x7x512, .f32⟩
  | 29 => ⟨S_, .f32⟩
  | 30 => ⟨S4x25x7x7x512, .f32⟩
  | 31 => ⟨S4x25x7x7x512, .f32⟩
  | 32 => ⟨S84x4x25x7x7, .f32⟩
  | 33 => ⟨S4x25x84x7x7, .f32⟩
  | 34 => ⟨S1x1x84x1x1, .f32⟩
  | 35 => ⟨S4x25x84x7x7, .f32⟩
  | 36 => ⟨S4x25x84x7x7, .f32⟩
  | 37 => ⟨S4x25x4116, .f32⟩
  | 38 => ⟨S4116x100, .f32⟩
  | 39 => ⟨S4x25x100, .f32⟩
  | 40 => ⟨S1x1x100, .f32⟩
  | 41 => ⟨S4x25x100, .f32⟩
  | 42 => ⟨S4x25x100, .f32⟩
  | 43 => ⟨S_, .f32⟩
  | 44 => ⟨S4x25x100, .f32⟩
  | 45 => ⟨S4x25x100, .f32⟩
  | 46 => ⟨S100x100, .f32⟩
  | 47 => ⟨S4x25x100, .f32⟩
  | 48 => ⟨S1x1x100, .f32⟩
  | 49 => ⟨S4x25x100, .f32⟩
  | 50 => ⟨S4x25x100, .f32⟩
  | 51 => ⟨S_, .f32⟩
  | 52 => ⟨S4x25x100, .f32⟩
  | 53 => ⟨S4x25x100, .f32⟩
  | 54 => ⟨S100x1, .f32⟩
  | 55 => ⟨S4x25x1, .f32⟩
  | 56 => ⟨S1x1x1, .f32⟩
  | 57 => ⟨S4x25x1, .f32⟩
  | 58 => ⟨S4x25x1, .f32⟩
  | 59 => ⟨S4x25x1, .f32⟩
  | 60 => ⟨S4x25x1, .f32⟩
  | 61 => ⟨S_, .i32⟩
  | 62 => ⟨S_, .f32⟩
  | 63 => ⟨S4x85x1, .f32⟩
  | 64 => ⟨S4x25x4, .f32⟩
  | 65 => ⟨S4x25x1, .f32⟩
  | 66 => ⟨S4x25, .f32⟩
  | 67 => ⟨S1x84, .f32⟩
  | 68 => ⟨S84, .f32⟩
  | 69 => ⟨S1x100x4116, .f32⟩
  | 70 => ⟨S100x4116, .f32⟩
  | 71 => ⟨S1x100, .f32⟩
  | 72 => ⟨S100, .f32⟩
  | 73 => ⟨S1x100x100, .f32⟩
  | 74 => ⟨S100x100, .f32⟩
  | 75 => ⟨S1x100, .f32⟩
  | 76 => ⟨S100, .f32⟩
  | 77 => ⟨S1x1x100, .f32⟩
  | 78 => ⟨S1x100, .f32⟩
  | 79 => ⟨S1x1, .f32⟩
  | 80 => ⟨S1, .f32⟩
  | 81 => ⟨S4x25x1, .f32⟩
  | 82 => ⟨S4x25, .f32⟩
  | 83 => ⟨S4x25x1, .f32⟩
  | 84 => ⟨S4x25, .f32⟩
  | 85 => ⟨S4x25x1, .f32⟩
  | 86 => ⟨S4x25, .f32⟩
  | 87 => ⟨S4x25x1, .f32⟩
  | 88 => ⟨S4x25, .f32⟩
  | 89 => ⟨S4x25, .f32⟩
  | 90 => ⟨S_, .f32⟩
  | 91 => ⟨S4x25, .f32⟩
  | 92 => ⟨S4x25, .f32⟩
  | 93 => ⟨S_, .f32⟩
  | 94 => ⟨S4x25, .f32⟩
  | 95 => ⟨S4x25, .f32⟩
  | 96 => ⟨S4x25, .f32⟩
  | 97 => ⟨S_, .f32⟩
  | 98 => ⟨S4x25, .f32⟩
  | 99 => ⟨S4x25, .f32⟩
  | 100 => ⟨S_, .f32⟩
  | 101 => ⟨S4x25, .f32⟩
  | 102 => ⟨S4x25, .f32⟩
  | 103 => ⟨S7, .f32⟩
  | 104 => ⟨S7x1, .f32⟩
  | 105 => ⟨S2, .f32⟩
  | 106 => ⟨S1x2, .f32⟩
  | 107 => ⟨S4x25x1x1, .f32⟩
  | 108 => ⟨S4x25x1x1, .f32⟩
  | 109 => ⟨S1x1x7x1, .f32⟩
  | 110 => ⟨S4x25x7x1, .f32⟩
  | 111 => ⟨S4x25x7x1, .f32⟩
  | 112 => ⟨S4x25x7x1, .f32⟩
  | 113 => ⟨S4x25x7x1, .f32⟩
  | 114 => ⟨S4x25x7x1, .f32⟩
  | 115 => ⟨S_, .f32⟩
  | 116 => ⟨S1x2, .f32⟩
  | 117 => ⟨S1x2, .f32⟩
  | 118 => ⟨S1x1x1x2, .f32⟩
  | 119 => ⟨S4x25x1x2, .f32⟩
  | 120 => ⟨S4x25x1x2, .f32⟩
  | 121 => ⟨S4x25x1x2, .f32⟩
  | 122 => ⟨S_, .f32⟩
  | 123 => ⟨S4x25x1x2, .f32⟩
  | 124 => ⟨S4x25x1x2, .f32⟩
  | 125 => ⟨S4x25x7x2, .f32⟩
  | 126 => ⟨S4x25x7x2, .f32⟩
  | 127 => ⟨S4x25x7x2, .f32⟩
  | _ => ⟨S4x256x80x80, .f32⟩

abbrev hbmTy0_6 (i : Nat) : BufTy := match i % 128 with
  | 0 => ⟨S4x25x14, .f32⟩
  | 1 => ⟨S4x25x1x1, .f32⟩
  | 2 => ⟨S4x25x1x1, .f32⟩
  | 3 => ⟨S1x1x7x1, .f32⟩
  | 4 => ⟨S4x25x7x1, .f32⟩
  | 5 => ⟨S4x25x7x1, .f32⟩
  | 6 => ⟨S4x25x7x1, .f32⟩
  | 7 => ⟨S4x25x7x1, .f32⟩
  | 8 => ⟨S4x25x7x1, .f32⟩
  | 9 => ⟨S_, .f32⟩
  | 10 => ⟨S1x2, .f32⟩
  | 11 => ⟨S1x2, .f32⟩
  | 12 => ⟨S1x1x1x2, .f32⟩
  | 13 => ⟨S4x25x1x2, .f32⟩
  | 14 => ⟨S4x25x1x2, .f32⟩
  | 15 => ⟨S4x25x1x2, .f32⟩
  | 16 => ⟨S_, .f32⟩
  | 17 => ⟨S4x25x1x2, .f32⟩
  | 18 => ⟨S4x25x1x2, .f32⟩
  | 19 => ⟨S4x25x7x2, .f32⟩
  | 20 => ⟨S4x25x7x2, .f32⟩
  | 21 => ⟨S4x25x7x2, .f32⟩
  | 22 => ⟨S4x25x14, .f32⟩
  | 23 => ⟨S_, .f32⟩
  | 24 => ⟨S4x25x14, .f32⟩
  | 25 => ⟨S4x25x14, .i1⟩
  | 26 => ⟨S_, .f32⟩
  | 27 => ⟨S4x25x14, .f32⟩
  | 28 => ⟨S4x25x14, .i1⟩
  | 29 => ⟨S4x25x14, .i1⟩
  | 30 => ⟨S4x25x14x1, .i1⟩
  | 31 => ⟨S_, .f32⟩
  | 32 => ⟨S4x25x14, .f32⟩
  | 33 => ⟨S4x25x14, .i1⟩
  | 34 => ⟨S_, .f32⟩
  | 35 => ⟨S4x25x14, .f32⟩
  | 36 => ⟨S4x25x14, .i1⟩
  | 37 => ⟨S4x25x14, .i1⟩
  | 38 => ⟨S4x25x1x14, .i1⟩
  | 39 => ⟨S4x25x14x14, .i1⟩
  | 40 => ⟨S4x25x14x14, .i1⟩
  | 41 => ⟨S4x25x14x14, .i1⟩
  | 42 => ⟨S4x25x14x14x1, .i1⟩
  | 43 => ⟨S_, .f32⟩
  | 44 => ⟨S_, .f32⟩
  | 45 => ⟨S_, .f32⟩
  | 46 => ⟨S4x25x14, .f32⟩
  | 47 => ⟨S4x25x14, .f32⟩
  | 48 => ⟨S_, .f32⟩
  | 49 => ⟨S4x25x14, .f32⟩
  | 50 => ⟨S4x25x14, .f32⟩
  | 51 => ⟨S_, .f32⟩
  | 52 => ⟨S_, .f32⟩
  | 53 => ⟨S_, .f32⟩
  | 54 => ⟨S4x25x14, .f32⟩
  | 55 => ⟨S4x25x14, .f32⟩
  | 56 => ⟨S_, .f32⟩
  | 57 => ⟨S4x25x14, .f32⟩
  | 58 => ⟨S4x25x14, .f32⟩
  | 59 => ⟨S4x25x14, .f32⟩
  | 60 => ⟨S4x25x14, .f32⟩
  | 61 => ⟨S4x25x14, .i32⟩
  | 62 => ⟨S4x25x14, .i32⟩
  | 63 => ⟨S_, .i32⟩
  | 64 => ⟨S4x25x14, .i32⟩
  | 65 => ⟨S4x25x14, .i32⟩
  | 66 => ⟨S_, .i32⟩
  | 67 => ⟨S4x25x14, .i32⟩
  | 68 => ⟨S4x25x14, .i32⟩
  | 69 => ⟨S_, .i32⟩
  | 70 => ⟨S4x25x14, .i32⟩
  | 71 => ⟨S4x25x14, .i32⟩
  | 72 => ⟨S_, .i32⟩
  | 73 => ⟨S4x25x14, .i32⟩
  | 74 => ⟨S4x25x14, .i32⟩
  | 75 => ⟨S4x25x14, .f32⟩
  | 76 => ⟨S4x25x14x1x1, .f32⟩
  | 77 => ⟨S4x25x14, .f32⟩
  | 78 => ⟨S4x25x1x14x1, .f32⟩
  | 79 => ⟨S4x20x20x1024, .f32⟩
  | 80 => ⟨S4, .i32⟩
  | 81 => ⟨S4x1x1x1, .i32⟩
  | 82 => ⟨S4x25x14x1, .i32⟩
  | 83 => ⟨S4x25x1x14, .i32⟩
  | 84 => ⟨S_, .i32⟩
  | 85 => ⟨S4x1x1x1, .i32⟩
  | 86 => ⟨S4x1x1x1, .i1⟩
  | 87 => ⟨S_, .i32⟩
  | 88 => ⟨S4x1x1x1, .i32⟩
  | 89 => ⟨S4x1x1x1, .i32⟩
  | 90 => ⟨S4x1x1x1, .i32⟩
  | 91 => ⟨S_, .i32⟩
  | 92 => ⟨S4x25x14x1, .i32⟩
  | 93 => ⟨S4x25x14x1, .i1⟩
  | 94 => ⟨S_, .i32⟩
  | 95 => ⟨S4x25x14x1, .i32⟩
  | 96 => ⟨S4x25x14x1, .i32⟩
  | 97 => ⟨S4x25x14x1, .i32⟩
  | 98 => ⟨S_, .i32⟩
  | 99 => ⟨S4x25x1x14, .i32⟩
  | 100 => ⟨S4x25x1x14, .i1⟩
  | 101 => ⟨S_, .i32⟩
  | 102 => ⟨S4x25x1x14, .i32⟩
  | 103 => ⟨S4x25x1x14, .i32⟩
  | 104 => ⟨S4x25x1x14, .i32⟩
  | 105 => ⟨S4x25x14x14, .i32⟩
  | 106 => ⟨S4x25x14x14, .i32⟩
  | 107 => ⟨S4x25x14x14, .i32⟩
  | 108 => ⟨S4x25x14x14x1, .i32⟩
  | 109 => ⟨S4x25x14x14x1, .i32⟩
  | 110 => ⟨S4x25x14x14x1, .i32⟩
  | 111 => ⟨S4x25x14x14x3, .i32⟩
  | 112 => ⟨S4x25x14x14x1024, .f32⟩
  | 113 => ⟨S_, .f32⟩
  | 114 => ⟨S4x25x14x1x1, .f32⟩
  | 115 => ⟨S4x25x14x1x1, .f32⟩
  | 116 => ⟨S4x25x14x14x1024, .f32⟩
  | 117 => ⟨S4x25x14x14x1024, .f32⟩
  | 118 => ⟨S_, .f32⟩
  | 119 => ⟨S4x25x1x14x1, .f32⟩
  | 120 => ⟨S4x25x1x14x1, .f32⟩
  | 121 => ⟨S4x25x14x14x1024, .f32⟩
  | 122 => ⟨S4x25x14x14x1024, .f32⟩
  | 123 => ⟨S4x25x14x1, .i32⟩
  | 124 => ⟨S4x25x1x14, .i32⟩
  | 125 => ⟨S_, .i32⟩
  | 126 => ⟨S4x1x1x1, .i32⟩
  | 127 => ⟨S4x1x1x1, .i1⟩
  | _ => ⟨S4x256x80x80, .f32⟩

abbrev hbmTy0_7 (i : Nat) : BufTy := match i % 128 with
  | 0 => ⟨S_, .i32⟩
  | 1 => ⟨S4x1x1x1, .i32⟩
  | 2 => ⟨S4x1x1x1, .i32⟩
  | 3 => ⟨S4x1x1x1, .i32⟩
  | 4 => ⟨S_, .i32⟩
  | 5 => ⟨S4x25x14x1, .i32⟩
  | 6 => ⟨S4x25x14x1, .i1⟩
  | 7 => ⟨S_, .i32⟩
  | 8 => ⟨S4x25x14x1, .i32⟩
  | 9 => ⟨S4x25x14x1, .i32⟩
  | 10 => ⟨S4x25x14x1, .i32⟩
  | 11 => ⟨S_, .i32⟩
  | 12 => ⟨S4x25x1x14, .i32⟩
  | 13 => ⟨S4x25x1x14, .i1⟩
  | 14 => ⟨S_, .i32⟩
  | 15 => ⟨S4x25x1x14, .i32⟩
  | 16 => ⟨S4x25x1x14, .i32⟩
  | 17 => ⟨S4x25x1x14, .i32⟩
  | 18 => ⟨S4x25x14x14, .i32⟩
  | 19 => ⟨S4x25x14x14, .i32⟩
  | 20 => ⟨S4x25x14x14, .i32⟩
  | 21 => ⟨S4x25x14x14x1, .i32⟩
  | 22 => ⟨S4x25x14x14x1, .i32⟩
  | 23 => ⟨S4x25x14x14x1, .i32⟩
  | 24 => ⟨S4x25x14x14x3, .i32⟩
  | 25 => ⟨S4x25x14x14x1024, .f32⟩
  | 26 => ⟨S4x25x14x14x1024, .f32⟩
  | 27 => ⟨S4x25x14x14x1024, .f32⟩
  | 28 => ⟨S_, .f32⟩
  | 29 => ⟨S4x25x1x14x1, .f32⟩
  | 30 => ⟨S4x25x1x14x1, .f32⟩
  | 31 => ⟨S4x25x14x14x1024, .f32⟩
  | 32 => ⟨S4x25x14x14x1024, .f32⟩
  | 33 => ⟨S4x25x14x14x1024, .f32⟩
  | 34 => ⟨S4x25x14x1, .i32⟩
  | 35 => ⟨S4x25x1x14, .i32⟩
  | 36 => ⟨S_, .i32⟩
  | 37 => ⟨S4x1x1x1, .i32⟩
  | 38 => ⟨S4x1x1x1, .i1⟩
  | 39 => ⟨S_, .i32⟩
  | 40 => ⟨S4x1x1x1, .i32⟩
  | 41 => ⟨S4x1x1x1, .i32⟩
  | 42 => ⟨S4x1x1x1, .i32⟩
  | 43 => ⟨S_, .i32⟩
  | 44 => ⟨S4x25x14x1, .i32⟩
  | 45 => ⟨S4x25x14x1, .i1⟩
  | 46 => ⟨S_, .i32⟩
  | 47 => ⟨S4x25x14x1, .i32⟩
  | 48 => ⟨S4x25x14x1, .i32⟩
  | 49 => ⟨S4x25x14x1, .i32⟩
  | 50 => ⟨S_, .i32⟩
  | 51 => ⟨S4x25x1x14, .i32⟩
  | 52 => ⟨S4x25x1x14, .i1⟩
  | 53 => ⟨S_, .i32⟩
  | 54 => ⟨S4x25x1x14, .i32⟩
  | 55 => ⟨S4x25x1x14, .i32⟩
  | 56 => ⟨S4x25x1x14, .i32⟩
  | 57 => ⟨S4x25x14x14, .i32⟩
  | 58 => ⟨S4x25x14x14, .i32⟩
  | 59 => ⟨S4x25x14x14, .i32⟩
  | 60 => ⟨S4x25x14x14x1, .i32⟩
  | 61 => ⟨S4x25x14x14x1, .i32⟩
  | 62 => ⟨S4x25x14x14x1, .i32⟩
  | 63 => ⟨S4x25x14x14x3, .i32⟩
  | 64 => ⟨S4x25x14x14x1024, .f32⟩
  | 65 => ⟨S_, .f32⟩
  | 66 => ⟨S4x25x14x1x1, .f32⟩
  | 67 => ⟨S4x25x14x1x1, .f32⟩
  | 68 => ⟨S4x25x14x14x1024, .f32⟩
  | 69 => ⟨S4x25x14x14x1024, .f32⟩
  | 70 => ⟨S4x25x14x14x1024, .f32⟩
  | 71 => ⟨S4x25x14x14x1024, .f32⟩
  | 72 => ⟨S4x25x14x14x1024, .f32⟩
  | 73 => ⟨S4x25x14x1, .i32⟩
  | 74 => ⟨S4x25x1x14, .i32⟩
  | 75 => ⟨S_, .i32⟩
  | 76 => ⟨S4x1x1x1, .i32⟩
  | 77 => ⟨S4x1x1x1, .i1⟩
  | 78 => ⟨S_, .i32⟩
  | 79 => ⟨S4x1x1x1, .i32⟩
  | 80 => ⟨S4x1x1x1, .i32⟩
  | 81 => ⟨S4x1x1x1, .i32⟩
  | 82 => ⟨S_, .i32⟩
  | 83 => ⟨S4x25x14x1, .i32⟩
  | 84 => ⟨S4x25x14x1, .i1⟩
  | 85 => ⟨S_, .i32⟩
  | 86 => ⟨S4x25x14x1, .i32⟩
  | 87 => ⟨S4x25x14x1, .i32⟩
  | 88 => ⟨S4x25x14x1, .i32⟩
  | 89 => ⟨S_, .i32⟩
  | 90 => ⟨S4x25x1x14, .i32⟩
  | 91 => ⟨S4x25x1x14, .i1⟩
  | 92 => ⟨S_, .i32⟩
  | 93 => ⟨S4x25x1x14, .i32⟩
  | 94 => ⟨S4x25x1x14, .i32⟩
  | 95 => ⟨S4x25x1x14, .i32⟩
  | 96 => ⟨S4x25x14x14, .i32⟩
  | 97 => ⟨S4x25x14x14, .i32⟩
  | 98 => ⟨S4x25x14x14, .i32⟩
  | 99 => ⟨S4x25x14x14x1, .i32⟩
  | 100 => ⟨S4x25x14x14x1, .i32⟩
  | 101 => ⟨S4x25x14x14x1, .i32⟩
  | 102 => ⟨S4x25x14x14x3, .i32⟩
  | 103 => ⟨S4x25x14x14x1024, .f32⟩
  | 104 => ⟨S4x25x14x14x1024, .f32⟩
  | 105 => ⟨S4x25x14x14x1024, .f32⟩
  | 106 => ⟨S4x25x14x14x1024, .f32⟩
  | 107 => ⟨S4x25x14x14x1024, .f32⟩
  | 108 => ⟨S4x25x14x14x1024, .f32⟩
  | 109 => ⟨S_, .f32⟩
  | 110 => ⟨S_, .f32⟩
  | 111 => ⟨S4x25x14x14x1024, .i1⟩
  | 112 => ⟨S4x25x14x14x1024, .f32⟩
  | 113 => ⟨S4x25x14x14x1024, .f32⟩
  | 114 => ⟨S4x25x7x2x7x2x1024, .f32⟩
  | 115 => ⟨S_, .f32⟩
  | 116 => ⟨S4x25x7x7x1024, .f32⟩
  | 117 => ⟨S_, .f32⟩
  | 118 => ⟨S4x25x7x7x1024, .f32⟩
  | 119 => ⟨S4x25x7x7x1024, .f32⟩
  | 120 => ⟨S84x4x25x7x7, .f32⟩
  | 121 => ⟨S4x25x84x7x7, .f32⟩
  | 122 => ⟨S1x1x84x1x1, .f32⟩
  | 123 => ⟨S4x25x84x7x7, .f32⟩
  | 124 => ⟨S4x25x84x7x7, .f32⟩
  | 125 => ⟨S4x25x4116, .f32⟩
  | 126 => ⟨S4116x100, .f32⟩
  | 127 => ⟨S4x25x100, .f32⟩
  | _ => ⟨S4x256x80x80, .f32⟩

abbrev hbmTy0_8 (i : Nat) : BufTy := match i % 128 with
  | 0 => ⟨S1x1x100, .f32⟩
  | 1 => ⟨S4x25x100, .f32⟩
  | 2 => ⟨S4x25x100, .f32⟩
  | 3 => ⟨S_, .f32⟩
  | 4 => ⟨S4x25x100, .f32⟩
  | 5 => ⟨S4x25x100, .f32⟩
  | 6 => ⟨S100x100, .f32⟩
  | 7 => ⟨S4x25x100, .f32⟩
  | 8 => ⟨S1x1x100, .f32⟩
  | 9 => ⟨S4x25x100, .f32⟩
  | 10 => ⟨S4x25x100, .f32⟩
  | 11 => ⟨S_, .f32⟩
  | 12 => ⟨S4x25x100, .f32⟩
  | 13 => ⟨S4x25x100, .f32⟩
  | 14 => ⟨S100x1, .f32⟩
  | 15 => ⟨S4x25x1, .f32⟩
  | 16 => ⟨S1x1x1, .f32⟩
  | 17 => ⟨S4x25x1, .f32⟩
  | 18 => ⟨S4x25x1, .f32⟩
  | 19 => ⟨S4x25x1, .f32⟩
  | 20 => ⟨S4x25x1, .f32⟩
  | 21 => ⟨S_, .i32⟩
  | 22 => ⟨S_, .f32⟩
  | 23 => ⟨S4x85x1, .f32⟩
  | 24 => ⟨S1x4x85x1, .f32⟩
  | 25 => ⟨S1x4x85x1, .f32⟩
  | 26 => ⟨S1x4x85x1, .f32⟩
  | 27 => ⟨S3x4x85x1, .f32⟩
  | _ => ⟨S4x256x80x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S4x256x80x80, .f32⟩

abbrev bufTy : (tb : Table) → Fin (tcTables nBuf tb) → BufTy
  | .hbm, ⟨i, _⟩ => hbmTy i
  | _, _ => ⟨S4x256x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_cst_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_1 : Ref sig .tc := ⟨.hbm, 49, rfl⟩
abbrev main_v31 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_3 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_4 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_5 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_6 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_7 : Ref sig .tc := ⟨.hbm, 103, rfl⟩
abbrev main_v79 : Ref sig .tc := ⟨.hbm, 104, rfl⟩
abbrev main_v80 : Ref sig .tc := ⟨.hbm, 105, rfl⟩
abbrev main_cst_8 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_9 : Ref sig .tc := ⟨.hbm, 111, rfl⟩
abbrev main_v85 : Ref sig .tc := ⟨.hbm, 112, rfl⟩
abbrev main_v86 : Ref sig .tc := ⟨.hbm, 113, rfl⟩
abbrev main_cst_10 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_11 : Ref sig .tc := ⟨.hbm, 123, rfl⟩
abbrev main_cst_12 : Ref sig .tc := ⟨.hbm, 124, rfl⟩
abbrev main_call0_v0 : Ref sig .tc := ⟨.hbm, 125, rfl⟩
abbrev main_call0_v1 : Ref sig .tc := ⟨.hbm, 126, rfl⟩
abbrev main_call0_v2 : Ref sig .tc := ⟨.hbm, 127, rfl⟩
abbrev main_call0_v3 : Ref sig .tc := ⟨.hbm, 128, rfl⟩
abbrev main_call0_v4 : Ref sig .tc := ⟨.hbm, 129, rfl⟩
abbrev main_v95 : Ref sig .tc := ⟨.hbm, 130, rfl⟩
abbrev main_cst_13 : Ref sig .tc := ⟨.hbm, 131, rfl⟩
abbrev main_cst_14 : Ref sig .tc := ⟨.hbm, 132, rfl⟩
abbrev main_call1_v0 : Ref sig .tc := ⟨.hbm, 133, rfl⟩
abbrev main_call1_v1 : Ref sig .tc := ⟨.hbm, 134, rfl⟩
abbrev main_call1_v2 : Ref sig .tc := ⟨.hbm, 135, rfl⟩
abbrev main_call1_v3 : Ref sig .tc := ⟨.hbm, 136, rfl⟩
abbrev main_call1_v4 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_c : Ref sig .tc := ⟨.hbm, 143, rfl⟩
abbrev main_v101 : Ref sig .tc := ⟨.hbm, 144, rfl⟩
abbrev main_v102 : Ref sig .tc := ⟨.hbm, 145, rfl⟩
abbrev main_c_15 : Ref sig .tc := ⟨.hbm, 146, rfl⟩
abbrev main_v103 : Ref sig .tc := ⟨.hbm, 147, rfl⟩
abbrev main_v104 : Ref sig .tc := ⟨.hbm, 148, rfl⟩
abbrev main_c_16 : Ref sig .tc := ⟨.hbm, 149, rfl⟩
abbrev main_v105 : Ref sig .tc := ⟨.hbm, 150, rfl⟩
abbrev main_v106 : Ref sig .tc := ⟨.hbm, 151, rfl⟩
abbrev main_c_17 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_c_18 : Ref sig .tc := ⟨.hbm, 164, rfl⟩
abbrev main_v118 : Ref sig .tc := ⟨.hbm, 165, rfl⟩
abbrev main_v119 : Ref sig .tc := ⟨.hbm, 166, rfl⟩
abbrev main_c_19 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_c_20 : Ref sig .tc := ⟨.hbm, 171, rfl⟩
abbrev main_v123 : Ref sig .tc := ⟨.hbm, 172, rfl⟩
abbrev main_v124 : Ref sig .tc := ⟨.hbm, 173, rfl⟩
abbrev main_c_21 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_c_22 : Ref sig .tc := ⟨.hbm, 178, rfl⟩
abbrev main_v128 : Ref sig .tc := ⟨.hbm, 179, rfl⟩
abbrev main_v129 : Ref sig .tc := ⟨.hbm, 180, rfl⟩
abbrev main_c_23 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_cst_24 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_25 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_c_26 : Ref sig .tc := ⟨.hbm, 205, rfl⟩
abbrev main_v151 : Ref sig .tc := ⟨.hbm, 206, rfl⟩
abbrev main_v152 : Ref sig .tc := ⟨.hbm, 207, rfl⟩
abbrev main_c_27 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_c_28 : Ref sig .tc := ⟨.hbm, 212, rfl⟩
abbrev main_v156 : Ref sig .tc := ⟨.hbm, 213, rfl⟩
abbrev main_v157 : Ref sig .tc := ⟨.hbm, 214, rfl⟩
abbrev main_c_29 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_c_30 : Ref sig .tc := ⟨.hbm, 219, rfl⟩
abbrev main_v161 : Ref sig .tc := ⟨.hbm, 220, rfl⟩
abbrev main_v162 : Ref sig .tc := ⟨.hbm, 221, rfl⟩
abbrev main_c_31 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_cst_32 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_c_33 : Ref sig .tc := ⟨.hbm, 244, rfl⟩
abbrev main_v183 : Ref sig .tc := ⟨.hbm, 245, rfl⟩
abbrev main_v184 : Ref sig .tc := ⟨.hbm, 246, rfl⟩
abbrev main_c_34 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_c_35 : Ref sig .tc := ⟨.hbm, 251, rfl⟩
abbrev main_v188 : Ref sig .tc := ⟨.hbm, 252, rfl⟩
abbrev main_v189 : Ref sig .tc := ⟨.hbm, 253, rfl⟩
abbrev main_c_36 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_c_37 : Ref sig .tc := ⟨.hbm, 258, rfl⟩
abbrev main_v193 : Ref sig .tc := ⟨.hbm, 259, rfl⟩
abbrev main_v194 : Ref sig .tc := ⟨.hbm, 260, rfl⟩
abbrev main_c_38 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_cst_39 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_c_40 : Ref sig .tc := ⟨.hbm, 283, rfl⟩
abbrev main_v215 : Ref sig .tc := ⟨.hbm, 284, rfl⟩
abbrev main_v216 : Ref sig .tc := ⟨.hbm, 285, rfl⟩
abbrev main_c_41 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_c_42 : Ref sig .tc := ⟨.hbm, 290, rfl⟩
abbrev main_v220 : Ref sig .tc := ⟨.hbm, 291, rfl⟩
abbrev main_v221 : Ref sig .tc := ⟨.hbm, 292, rfl⟩
abbrev main_c_43 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_c_44 : Ref sig .tc := ⟨.hbm, 297, rfl⟩
abbrev main_v225 : Ref sig .tc := ⟨.hbm, 298, rfl⟩
abbrev main_v226 : Ref sig .tc := ⟨.hbm, 299, rfl⟩
abbrev main_c_45 : Ref sig .tc := ⟨.hbm, 300, rfl⟩
abbrev main_v227 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_cst_46 : Ref sig .tc := ⟨.hbm, 317, rfl⟩
abbrev main_call2_v0 : Ref sig .tc := ⟨.hbm, 318, rfl⟩
abbrev main_call2_v1 : Ref sig .tc := ⟨.hbm, 319, rfl⟩
abbrev main_call2_v2 : Ref sig .tc := ⟨.hbm, 320, rfl⟩
abbrev main_v243 : Ref sig .tc := ⟨.hbm, 321, rfl⟩
abbrev main_v244 : Ref sig .tc := ⟨.hbm, 322, rfl⟩
abbrev main_cst_47 : Ref sig .tc := ⟨.hbm, 323, rfl⟩
abbrev main_v245 : Ref sig .tc := ⟨.hbm, 324, rfl⟩
abbrev main_cst_48 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_call3_cst : Ref sig .tc := ⟨.hbm, 339, rfl⟩
abbrev main_call3_v0 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_v262 : Ref sig .tc := ⟨.hbm, 344, rfl⟩
abbrev main_v263 : Ref sig .tc := ⟨.hbm, 345, rfl⟩
abbrev main_v264 : Ref sig .tc := ⟨.hbm, 346, rfl⟩
abbrev main_call4_cst : Ref sig .tc := ⟨.hbm, 347, rfl⟩
abbrev main_call4_v0 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_c_49 : Ref sig .tc := ⟨.hbm, 357, rfl⟩
abbrev main_call5_v0 : Ref sig .tc := ⟨.hbm, 358, rfl⟩
abbrev main_v273 : Ref sig .tc := ⟨.hbm, 359, rfl⟩
abbrev main_v274 : Ref sig .tc := ⟨.hbm, 360, rfl⟩
abbrev main_v275 : Ref sig .tc := ⟨.hbm, 361, rfl⟩
abbrev main_v276 : Ref sig .tc := ⟨.hbm, 362, rfl⟩
abbrev main_v277 : Ref sig .tc := ⟨.hbm, 363, rfl⟩
abbrev main_v278 : Ref sig .tc := ⟨.hbm, 364, rfl⟩
abbrev main_v279 : Ref sig .tc := ⟨.hbm, 365, rfl⟩
abbrev main_v280 : Ref sig .tc := ⟨.hbm, 366, rfl⟩
abbrev main_v281 : Ref sig .tc := ⟨.hbm, 367, rfl⟩
abbrev main_v282 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_v291 : Ref sig .tc := ⟨.hbm, 377, rfl⟩
abbrev main_v292 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_v296 : Ref sig .tc := ⟨.hbm, 382, rfl⟩
abbrev main_v297 : Ref sig .tc := ⟨.hbm, 383, rfl⟩
abbrev main_v298 : Ref sig .tc := ⟨.hbm, 384, rfl⟩
abbrev main_v299 : Ref sig .tc := ⟨.hbm, 385, rfl⟩
abbrev main_cst_50 : Ref sig .tc := ⟨.hbm, 386, rfl⟩
abbrev main_v300 : Ref sig .tc := ⟨.hbm, 387, rfl⟩
abbrev main_v301 : Ref sig .tc := ⟨.hbm, 388, rfl⟩
abbrev main_cst_51 : Ref sig .tc := ⟨.hbm, 389, rfl⟩
abbrev main_v302 : Ref sig .tc := ⟨.hbm, 390, rfl⟩
abbrev main_v303 : Ref sig .tc := ⟨.hbm, 391, rfl⟩
abbrev main_v304 : Ref sig .tc := ⟨.hbm, 392, rfl⟩
abbrev main_cst_52 : Ref sig .tc := ⟨.hbm, 393, rfl⟩
abbrev main_v305 : Ref sig .tc := ⟨.hbm, 394, rfl⟩
abbrev main_v306 : Ref sig .tc := ⟨.hbm, 395, rfl⟩
abbrev main_cst_53 : Ref sig .tc := ⟨.hbm, 396, rfl⟩
abbrev main_v307 : Ref sig .tc := ⟨.hbm, 397, rfl⟩
abbrev main_v308 : Ref sig .tc := ⟨.hbm, 398, rfl⟩
abbrev main_v309 : Ref sig .tc := ⟨.hbm, 399, rfl⟩
abbrev main_v310 : Ref sig .tc := ⟨.hbm, 400, rfl⟩
abbrev main_v311 : Ref sig .tc := ⟨.hbm, 401, rfl⟩
abbrev main_v312 : Ref sig .tc := ⟨.hbm, 402, rfl⟩
abbrev main_v313 : Ref sig .tc := ⟨.hbm, 403, rfl⟩
abbrev main_v314 : Ref sig .tc := ⟨.hbm, 404, rfl⟩
abbrev main_v315 : Ref sig .tc := ⟨.hbm, 405, rfl⟩
abbrev main_v316 : Ref sig .tc := ⟨.hbm, 406, rfl⟩
abbrev main_v317 : Ref sig .tc := ⟨.hbm, 407, rfl⟩
abbrev main_v318 : Ref sig .tc := ⟨.hbm, 408, rfl⟩
abbrev main_v319 : Ref sig .tc := ⟨.hbm, 409, rfl⟩
abbrev main_v320 : Ref sig .tc := ⟨.hbm, 410, rfl⟩
abbrev main_cst_54 : Ref sig .tc := ⟨.hbm, 411, rfl⟩
abbrev main_v321 : Ref sig .tc := ⟨.hbm, 412, rfl⟩
abbrev main_v322 : Ref sig .tc := ⟨.hbm, 413, rfl⟩
abbrev main_v323 : Ref sig .tc := ⟨.hbm, 414, rfl⟩
abbrev main_v324 : Ref sig .tc := ⟨.hbm, 415, rfl⟩
abbrev main_v325 : Ref sig .tc := ⟨.hbm, 416, rfl⟩
abbrev main_v326 : Ref sig .tc := ⟨.hbm, 417, rfl⟩
abbrev main_cst_55 : Ref sig .tc := ⟨.hbm, 418, rfl⟩
abbrev main_v327 : Ref sig .tc := ⟨.hbm, 419, rfl⟩
abbrev main_v328 : Ref sig .tc := ⟨.hbm, 420, rfl⟩
abbrev main_v329 : Ref sig .tc := ⟨.hbm, 421, rfl⟩
abbrev main_v330 : Ref sig .tc := ⟨.hbm, 422, rfl⟩
abbrev main_v331 : Ref sig .tc := ⟨.hbm, 423, rfl⟩
abbrev main_v332 : Ref sig .tc := ⟨.hbm, 424, rfl⟩
abbrev main_v333 : Ref sig .tc := ⟨.hbm, 425, rfl⟩
abbrev main_v334 : Ref sig .tc := ⟨.hbm, 426, rfl⟩
abbrev main_v335 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_v339 : Ref sig .tc := ⟨.hbm, 431, rfl⟩
abbrev main_v340 : Ref sig .tc := ⟨.hbm, 432, rfl⟩
abbrev main_cst_56 : Ref sig .tc := ⟨.hbm, 433, rfl⟩
abbrev main_v341 : Ref sig .tc := ⟨.hbm, 434, rfl⟩
abbrev main_v342 : Ref sig .tc := ⟨.hbm, 435, rfl⟩
abbrev main_v343 : Ref sig .tc := ⟨.hbm, 436, rfl⟩
abbrev main_v344 : Ref sig .tc := ⟨.hbm, 437, rfl⟩
abbrev main_v345 : Ref sig .tc := ⟨.hbm, 438, rfl⟩
abbrev main_v346 : Ref sig .tc := ⟨.hbm, 439, rfl⟩
abbrev main_cst_57 : Ref sig .tc := ⟨.hbm, 440, rfl⟩
abbrev main_v347 : Ref sig .tc := ⟨.hbm, 441, rfl⟩
abbrev main_v348 : Ref sig .tc := ⟨.hbm, 442, rfl⟩
abbrev main_v349 : Ref sig .tc := ⟨.hbm, 443, rfl⟩
abbrev main_v350 : Ref sig .tc := ⟨.hbm, 444, rfl⟩
abbrev main_v351 : Ref sig .tc := ⟨.hbm, 445, rfl⟩
abbrev main_v352 : Ref sig .tc := ⟨.hbm, 446, rfl⟩
abbrev main_cst_58 : Ref sig .tc := ⟨.hbm, 447, rfl⟩
abbrev main_v353 : Ref sig .tc := ⟨.hbm, 448, rfl⟩
abbrev main_v354 : Ref sig .tc := ⟨.hbm, 449, rfl⟩
abbrev main_cst_59 : Ref sig .tc := ⟨.hbm, 450, rfl⟩
abbrev main_v355 : Ref sig .tc := ⟨.hbm, 451, rfl⟩
abbrev main_v356 : Ref sig .tc := ⟨.hbm, 452, rfl⟩
abbrev main_v357 : Ref sig .tc := ⟨.hbm, 453, rfl⟩
abbrev main_v358 : Ref sig .tc := ⟨.hbm, 454, rfl⟩
abbrev main_cst_60 : Ref sig .tc := ⟨.hbm, 455, rfl⟩
abbrev main_v359 : Ref sig .tc := ⟨.hbm, 456, rfl⟩
abbrev main_v360 : Ref sig .tc := ⟨.hbm, 457, rfl⟩
abbrev main_cst_61 : Ref sig .tc := ⟨.hbm, 458, rfl⟩
abbrev main_v361 : Ref sig .tc := ⟨.hbm, 459, rfl⟩
abbrev main_v362 : Ref sig .tc := ⟨.hbm, 460, rfl⟩
abbrev main_v363 : Ref sig .tc := ⟨.hbm, 461, rfl⟩
abbrev main_v364 : Ref sig .tc := ⟨.hbm, 462, rfl⟩
abbrev main_v365 : Ref sig .tc := ⟨.hbm, 463, rfl⟩
abbrev main_v366 : Ref sig .tc := ⟨.hbm, 464, rfl⟩
abbrev main_v367 : Ref sig .tc := ⟨.hbm, 465, rfl⟩
abbrev main_v368 : Ref sig .tc := ⟨.hbm, 466, rfl⟩
abbrev main_cst_62 : Ref sig .tc := ⟨.hbm, 467, rfl⟩
abbrev main_cst_63 : Ref sig .tc := ⟨.hbm, 468, rfl⟩
abbrev main_call6_v0 : Ref sig .tc := ⟨.hbm, 469, rfl⟩
abbrev main_call6_v1 : Ref sig .tc := ⟨.hbm, 470, rfl⟩
abbrev main_call6_v2 : Ref sig .tc := ⟨.hbm, 471, rfl⟩
abbrev main_call6_v3 : Ref sig .tc := ⟨.hbm, 472, rfl⟩
abbrev main_call6_v4 : Ref sig .tc := ⟨.hbm, 473, rfl⟩
abbrev main_v369 : Ref sig .tc := ⟨.hbm, 474, rfl⟩
abbrev main_cst_64 : Ref sig .tc := ⟨.hbm, 475, rfl⟩
abbrev main_cst_65 : Ref sig .tc := ⟨.hbm, 476, rfl⟩
abbrev main_call7_v0 : Ref sig .tc := ⟨.hbm, 477, rfl⟩
abbrev main_call7_v1 : Ref sig .tc := ⟨.hbm, 478, rfl⟩
abbrev main_call7_v2 : Ref sig .tc := ⟨.hbm, 479, rfl⟩
abbrev main_call7_v3 : Ref sig .tc := ⟨.hbm, 480, rfl⟩
abbrev main_call7_v4 : Ref sig .tc := ⟨.hbm, 481, rfl⟩
abbrev main_v370 : Ref sig .tc := ⟨.hbm, 482, rfl⟩
abbrev main_v371 : Ref sig .tc := ⟨.hbm, 483, rfl⟩
abbrev main_v372 : Ref sig .tc := ⟨.hbm, 484, rfl⟩
abbrev main_v373 : Ref sig .tc := ⟨.hbm, 485, rfl⟩
abbrev main_v374 : Ref sig .tc := ⟨.hbm, 486, rfl⟩
abbrev main_c_66 : Ref sig .tc := ⟨.hbm, 487, rfl⟩
abbrev main_v375 : Ref sig .tc := ⟨.hbm, 488, rfl⟩
abbrev main_v376 : Ref sig .tc := ⟨.hbm, 489, rfl⟩
abbrev main_c_67 : Ref sig .tc := ⟨.hbm, 490, rfl⟩
abbrev main_v377 : Ref sig .tc := ⟨.hbm, 491, rfl⟩
abbrev main_v378 : Ref sig .tc := ⟨.hbm, 492, rfl⟩
abbrev main_c_68 : Ref sig .tc := ⟨.hbm, 493, rfl⟩
abbrev main_v379 : Ref sig .tc := ⟨.hbm, 494, rfl⟩
abbrev main_v380 : Ref sig .tc := ⟨.hbm, 495, rfl⟩
abbrev main_c_69 : Ref sig .tc := ⟨.hbm, 496, rfl⟩
abbrev main_v381 : Ref sig .tc := ⟨.hbm, 497, rfl⟩
abbrev main_v382 : Ref sig .tc := ⟨.hbm, 498, rfl⟩
abbrev main_v383 : Ref sig .tc := ⟨.hbm, 499, rfl⟩
abbrev main_v384 : Ref sig .tc := ⟨.hbm, 500, rfl⟩
abbrev main_v385 : Ref sig .tc := ⟨.hbm, 501, rfl⟩
abbrev main_v386 : Ref sig .tc := ⟨.hbm, 502, rfl⟩
abbrev main_v387 : Ref sig .tc := ⟨.hbm, 503, rfl⟩
abbrev main_v388 : Ref sig .tc := ⟨.hbm, 504, rfl⟩
abbrev main_v389 : Ref sig .tc := ⟨.hbm, 505, rfl⟩
abbrev main_v390 : Ref sig .tc := ⟨.hbm, 506, rfl⟩
abbrev main_v391 : Ref sig .tc := ⟨.hbm, 507, rfl⟩
abbrev main_c_70 : Ref sig .tc := ⟨.hbm, 508, rfl⟩
abbrev main_v392 : Ref sig .tc := ⟨.hbm, 509, rfl⟩
abbrev main_v393 : Ref sig .tc := ⟨.hbm, 510, rfl⟩
abbrev main_c_71 : Ref sig .tc := ⟨.hbm, 511, rfl⟩
abbrev main_v394 : Ref sig .tc := ⟨.hbm, 512, rfl⟩
abbrev main_v395 : Ref sig .tc := ⟨.hbm, 513, rfl⟩
abbrev main_v396 : Ref sig .tc := ⟨.hbm, 514, rfl⟩
abbrev main_c_72 : Ref sig .tc := ⟨.hbm, 515, rfl⟩
abbrev main_v397 : Ref sig .tc := ⟨.hbm, 516, rfl⟩
abbrev main_v398 : Ref sig .tc := ⟨.hbm, 517, rfl⟩
abbrev main_c_73 : Ref sig .tc := ⟨.hbm, 518, rfl⟩
abbrev main_v399 : Ref sig .tc := ⟨.hbm, 519, rfl⟩
abbrev main_v400 : Ref sig .tc := ⟨.hbm, 520, rfl⟩
abbrev main_v401 : Ref sig .tc := ⟨.hbm, 521, rfl⟩
abbrev main_c_74 : Ref sig .tc := ⟨.hbm, 522, rfl⟩
abbrev main_v402 : Ref sig .tc := ⟨.hbm, 523, rfl⟩
abbrev main_v403 : Ref sig .tc := ⟨.hbm, 524, rfl⟩
abbrev main_c_75 : Ref sig .tc := ⟨.hbm, 525, rfl⟩
abbrev main_v404 : Ref sig .tc := ⟨.hbm, 526, rfl⟩
abbrev main_v405 : Ref sig .tc := ⟨.hbm, 527, rfl⟩
abbrev main_v406 : Ref sig .tc := ⟨.hbm, 528, rfl⟩
abbrev main_v407 : Ref sig .tc := ⟨.hbm, 529, rfl⟩
abbrev main_v408 : Ref sig .tc := ⟨.hbm, 530, rfl⟩
abbrev main_v409 : Ref sig .tc := ⟨.hbm, 531, rfl⟩
abbrev main_v410 : Ref sig .tc := ⟨.hbm, 532, rfl⟩
abbrev main_v411 : Ref sig .tc := ⟨.hbm, 533, rfl⟩
abbrev main_v412 : Ref sig .tc := ⟨.hbm, 534, rfl⟩
abbrev main_v413 : Ref sig .tc := ⟨.hbm, 535, rfl⟩
abbrev main_v414 : Ref sig .tc := ⟨.hbm, 536, rfl⟩
abbrev main_cst_76 : Ref sig .tc := ⟨.hbm, 537, rfl⟩
abbrev main_v415 : Ref sig .tc := ⟨.hbm, 538, rfl⟩
abbrev main_v416 : Ref sig .tc := ⟨.hbm, 539, rfl⟩
abbrev main_v417 : Ref sig .tc := ⟨.hbm, 540, rfl⟩
abbrev main_v418 : Ref sig .tc := ⟨.hbm, 541, rfl⟩
abbrev main_cst_77 : Ref sig .tc := ⟨.hbm, 542, rfl⟩
abbrev main_v419 : Ref sig .tc := ⟨.hbm, 543, rfl⟩
abbrev main_v420 : Ref sig .tc := ⟨.hbm, 544, rfl⟩
abbrev main_v421 : Ref sig .tc := ⟨.hbm, 545, rfl⟩
abbrev main_v422 : Ref sig .tc := ⟨.hbm, 546, rfl⟩
abbrev main_v423 : Ref sig .tc := ⟨.hbm, 547, rfl⟩
abbrev main_v424 : Ref sig .tc := ⟨.hbm, 548, rfl⟩
abbrev main_c_78 : Ref sig .tc := ⟨.hbm, 549, rfl⟩
abbrev main_v425 : Ref sig .tc := ⟨.hbm, 550, rfl⟩
abbrev main_v426 : Ref sig .tc := ⟨.hbm, 551, rfl⟩
abbrev main_c_79 : Ref sig .tc := ⟨.hbm, 552, rfl⟩
abbrev main_v427 : Ref sig .tc := ⟨.hbm, 553, rfl⟩
abbrev main_v428 : Ref sig .tc := ⟨.hbm, 554, rfl⟩
abbrev main_v429 : Ref sig .tc := ⟨.hbm, 555, rfl⟩
abbrev main_c_80 : Ref sig .tc := ⟨.hbm, 556, rfl⟩
abbrev main_v430 : Ref sig .tc := ⟨.hbm, 557, rfl⟩
abbrev main_v431 : Ref sig .tc := ⟨.hbm, 558, rfl⟩
abbrev main_c_81 : Ref sig .tc := ⟨.hbm, 559, rfl⟩
abbrev main_v432 : Ref sig .tc := ⟨.hbm, 560, rfl⟩
abbrev main_v433 : Ref sig .tc := ⟨.hbm, 561, rfl⟩
abbrev main_v434 : Ref sig .tc := ⟨.hbm, 562, rfl⟩
abbrev main_c_82 : Ref sig .tc := ⟨.hbm, 563, rfl⟩
abbrev main_v435 : Ref sig .tc := ⟨.hbm, 564, rfl⟩
abbrev main_v436 : Ref sig .tc := ⟨.hbm, 565, rfl⟩
abbrev main_c_83 : Ref sig .tc := ⟨.hbm, 566, rfl⟩
abbrev main_v437 : Ref sig .tc := ⟨.hbm, 567, rfl⟩
abbrev main_v438 : Ref sig .tc := ⟨.hbm, 568, rfl⟩
abbrev main_v439 : Ref sig .tc := ⟨.hbm, 569, rfl⟩
abbrev main_v440 : Ref sig .tc := ⟨.hbm, 570, rfl⟩
abbrev main_v441 : Ref sig .tc := ⟨.hbm, 571, rfl⟩
abbrev main_v442 : Ref sig .tc := ⟨.hbm, 572, rfl⟩
abbrev main_v443 : Ref sig .tc := ⟨.hbm, 573, rfl⟩
abbrev main_v444 : Ref sig .tc := ⟨.hbm, 574, rfl⟩
abbrev main_v445 : Ref sig .tc := ⟨.hbm, 575, rfl⟩
abbrev main_v446 : Ref sig .tc := ⟨.hbm, 576, rfl⟩
abbrev main_v447 : Ref sig .tc := ⟨.hbm, 577, rfl⟩
abbrev main_v448 : Ref sig .tc := ⟨.hbm, 578, rfl⟩
abbrev main_v449 : Ref sig .tc := ⟨.hbm, 579, rfl⟩
abbrev main_cst_84 : Ref sig .tc := ⟨.hbm, 580, rfl⟩
abbrev main_v450 : Ref sig .tc := ⟨.hbm, 581, rfl⟩
abbrev main_v451 : Ref sig .tc := ⟨.hbm, 582, rfl⟩
abbrev main_v452 : Ref sig .tc := ⟨.hbm, 583, rfl⟩
abbrev main_v453 : Ref sig .tc := ⟨.hbm, 584, rfl⟩
abbrev main_v454 : Ref sig .tc := ⟨.hbm, 585, rfl⟩
abbrev main_v455 : Ref sig .tc := ⟨.hbm, 586, rfl⟩
abbrev main_v456 : Ref sig .tc := ⟨.hbm, 587, rfl⟩
abbrev main_c_85 : Ref sig .tc := ⟨.hbm, 588, rfl⟩
abbrev main_v457 : Ref sig .tc := ⟨.hbm, 589, rfl⟩
abbrev main_v458 : Ref sig .tc := ⟨.hbm, 590, rfl⟩
abbrev main_c_86 : Ref sig .tc := ⟨.hbm, 591, rfl⟩
abbrev main_v459 : Ref sig .tc := ⟨.hbm, 592, rfl⟩
abbrev main_v460 : Ref sig .tc := ⟨.hbm, 593, rfl⟩
abbrev main_v461 : Ref sig .tc := ⟨.hbm, 594, rfl⟩
abbrev main_c_87 : Ref sig .tc := ⟨.hbm, 595, rfl⟩
abbrev main_v462 : Ref sig .tc := ⟨.hbm, 596, rfl⟩
abbrev main_v463 : Ref sig .tc := ⟨.hbm, 597, rfl⟩
abbrev main_c_88 : Ref sig .tc := ⟨.hbm, 598, rfl⟩
abbrev main_v464 : Ref sig .tc := ⟨.hbm, 599, rfl⟩
abbrev main_v465 : Ref sig .tc := ⟨.hbm, 600, rfl⟩
abbrev main_v466 : Ref sig .tc := ⟨.hbm, 601, rfl⟩
abbrev main_c_89 : Ref sig .tc := ⟨.hbm, 602, rfl⟩
abbrev main_v467 : Ref sig .tc := ⟨.hbm, 603, rfl⟩
abbrev main_v468 : Ref sig .tc := ⟨.hbm, 604, rfl⟩
abbrev main_c_90 : Ref sig .tc := ⟨.hbm, 605, rfl⟩
abbrev main_v469 : Ref sig .tc := ⟨.hbm, 606, rfl⟩
abbrev main_v470 : Ref sig .tc := ⟨.hbm, 607, rfl⟩
abbrev main_v471 : Ref sig .tc := ⟨.hbm, 608, rfl⟩
abbrev main_v472 : Ref sig .tc := ⟨.hbm, 609, rfl⟩
abbrev main_v473 : Ref sig .tc := ⟨.hbm, 610, rfl⟩
abbrev main_v474 : Ref sig .tc := ⟨.hbm, 611, rfl⟩
abbrev main_v475 : Ref sig .tc := ⟨.hbm, 612, rfl⟩
abbrev main_v476 : Ref sig .tc := ⟨.hbm, 613, rfl⟩
abbrev main_v477 : Ref sig .tc := ⟨.hbm, 614, rfl⟩
abbrev main_v478 : Ref sig .tc := ⟨.hbm, 615, rfl⟩
abbrev main_v479 : Ref sig .tc := ⟨.hbm, 616, rfl⟩
abbrev main_cst_91 : Ref sig .tc := ⟨.hbm, 617, rfl⟩
abbrev main_v480 : Ref sig .tc := ⟨.hbm, 618, rfl⟩
abbrev main_v481 : Ref sig .tc := ⟨.hbm, 619, rfl⟩
abbrev main_v482 : Ref sig .tc := ⟨.hbm, 620, rfl⟩
abbrev main_v483 : Ref sig .tc := ⟨.hbm, 621, rfl⟩
abbrev main_v484 : Ref sig .tc := ⟨.hbm, 622, rfl⟩
abbrev main_v485 : Ref sig .tc := ⟨.hbm, 623, rfl⟩
abbrev main_v486 : Ref sig .tc := ⟨.hbm, 624, rfl⟩
abbrev main_v487 : Ref sig .tc := ⟨.hbm, 625, rfl⟩
abbrev main_v488 : Ref sig .tc := ⟨.hbm, 626, rfl⟩
abbrev main_c_92 : Ref sig .tc := ⟨.hbm, 627, rfl⟩
abbrev main_v489 : Ref sig .tc := ⟨.hbm, 628, rfl⟩
abbrev main_v490 : Ref sig .tc := ⟨.hbm, 629, rfl⟩
abbrev main_c_93 : Ref sig .tc := ⟨.hbm, 630, rfl⟩
abbrev main_v491 : Ref sig .tc := ⟨.hbm, 631, rfl⟩
abbrev main_v492 : Ref sig .tc := ⟨.hbm, 632, rfl⟩
abbrev main_v493 : Ref sig .tc := ⟨.hbm, 633, rfl⟩
abbrev main_c_94 : Ref sig .tc := ⟨.hbm, 634, rfl⟩
abbrev main_v494 : Ref sig .tc := ⟨.hbm, 635, rfl⟩
abbrev main_v495 : Ref sig .tc := ⟨.hbm, 636, rfl⟩
abbrev main_c_95 : Ref sig .tc := ⟨.hbm, 637, rfl⟩
abbrev main_v496 : Ref sig .tc := ⟨.hbm, 638, rfl⟩
abbrev main_v497 : Ref sig .tc := ⟨.hbm, 639, rfl⟩
abbrev main_v498 : Ref sig .tc := ⟨.hbm, 640, rfl⟩
abbrev main_c_96 : Ref sig .tc := ⟨.hbm, 641, rfl⟩
abbrev main_v499 : Ref sig .tc := ⟨.hbm, 642, rfl⟩
abbrev main_v500 : Ref sig .tc := ⟨.hbm, 643, rfl⟩
abbrev main_c_97 : Ref sig .tc := ⟨.hbm, 644, rfl⟩
abbrev main_v501 : Ref sig .tc := ⟨.hbm, 645, rfl⟩
abbrev main_v502 : Ref sig .tc := ⟨.hbm, 646, rfl⟩
abbrev main_v503 : Ref sig .tc := ⟨.hbm, 647, rfl⟩
abbrev main_v504 : Ref sig .tc := ⟨.hbm, 648, rfl⟩
abbrev main_v505 : Ref sig .tc := ⟨.hbm, 649, rfl⟩
abbrev main_v506 : Ref sig .tc := ⟨.hbm, 650, rfl⟩
abbrev main_v507 : Ref sig .tc := ⟨.hbm, 651, rfl⟩
abbrev main_v508 : Ref sig .tc := ⟨.hbm, 652, rfl⟩
abbrev main_v509 : Ref sig .tc := ⟨.hbm, 653, rfl⟩
abbrev main_v510 : Ref sig .tc := ⟨.hbm, 654, rfl⟩
abbrev main_v511 : Ref sig .tc := ⟨.hbm, 655, rfl⟩
abbrev main_v512 : Ref sig .tc := ⟨.hbm, 656, rfl⟩
abbrev main_v513 : Ref sig .tc := ⟨.hbm, 657, rfl⟩
abbrev main_v514 : Ref sig .tc := ⟨.hbm, 658, rfl⟩
abbrev main_v515 : Ref sig .tc := ⟨.hbm, 659, rfl⟩
abbrev main_v516 : Ref sig .tc := ⟨.hbm, 660, rfl⟩
abbrev main_cst_98 : Ref sig .tc := ⟨.hbm, 661, rfl⟩
abbrev main_call8_v0 : Ref sig .tc := ⟨.hbm, 662, rfl⟩
abbrev main_call8_v1 : Ref sig .tc := ⟨.hbm, 663, rfl⟩
abbrev main_call8_v2 : Ref sig .tc := ⟨.hbm, 664, rfl⟩
abbrev main_v517 : Ref sig .tc := ⟨.hbm, 665, rfl⟩
abbrev main_v518 : Ref sig .tc := ⟨.hbm, 666, rfl⟩
abbrev main_cst_99 : Ref sig .tc := ⟨.hbm, 667, rfl⟩
abbrev main_v519 : Ref sig .tc := ⟨.hbm, 668, rfl⟩
abbrev main_cst_100 : Ref sig .tc := ⟨.hbm, 669, rfl⟩
abbrev main_v520 : Ref sig .tc := ⟨.hbm, 670, rfl⟩
abbrev main_v521 : Ref sig .tc := ⟨.hbm, 671, rfl⟩
abbrev main_v522 : Ref sig .tc := ⟨.hbm, 672, rfl⟩
abbrev main_v523 : Ref sig .tc := ⟨.hbm, 673, rfl⟩
abbrev main_v524 : Ref sig .tc := ⟨.hbm, 674, rfl⟩
abbrev main_v525 : Ref sig .tc := ⟨.hbm, 675, rfl⟩
abbrev main_v526 : Ref sig .tc := ⟨.hbm, 676, rfl⟩
abbrev main_v527 : Ref sig .tc := ⟨.hbm, 677, rfl⟩
abbrev main_v528 : Ref sig .tc := ⟨.hbm, 678, rfl⟩
abbrev main_v529 : Ref sig .tc := ⟨.hbm, 679, rfl⟩
abbrev main_v530 : Ref sig .tc := ⟨.hbm, 680, rfl⟩
abbrev main_v531 : Ref sig .tc := ⟨.hbm, 681, rfl⟩
abbrev main_v532 : Ref sig .tc := ⟨.hbm, 682, rfl⟩
abbrev main_call9_cst : Ref sig .tc := ⟨.hbm, 683, rfl⟩
abbrev main_call9_v0 : Ref sig .tc := ⟨.hbm, 684, rfl⟩
abbrev main_v533 : Ref sig .tc := ⟨.hbm, 685, rfl⟩
abbrev main_v534 : Ref sig .tc := ⟨.hbm, 686, rfl⟩
abbrev main_v535 : Ref sig .tc := ⟨.hbm, 687, rfl⟩
abbrev main_v536 : Ref sig .tc := ⟨.hbm, 688, rfl⟩
abbrev main_v537 : Ref sig .tc := ⟨.hbm, 689, rfl⟩
abbrev main_v538 : Ref sig .tc := ⟨.hbm, 690, rfl⟩
abbrev main_call10_cst : Ref sig .tc := ⟨.hbm, 691, rfl⟩
abbrev main_call10_v0 : Ref sig .tc := ⟨.hbm, 692, rfl⟩
abbrev main_v539 : Ref sig .tc := ⟨.hbm, 693, rfl⟩
abbrev main_v540 : Ref sig .tc := ⟨.hbm, 694, rfl⟩
abbrev main_v541 : Ref sig .tc := ⟨.hbm, 695, rfl⟩
abbrev main_v542 : Ref sig .tc := ⟨.hbm, 696, rfl⟩
abbrev main_v543 : Ref sig .tc := ⟨.hbm, 697, rfl⟩
abbrev main_v544 : Ref sig .tc := ⟨.hbm, 698, rfl⟩
abbrev main_v545 : Ref sig .tc := ⟨.hbm, 699, rfl⟩
abbrev main_v546 : Ref sig .tc := ⟨.hbm, 700, rfl⟩
abbrev main_c_101 : Ref sig .tc := ⟨.hbm, 701, rfl⟩
abbrev main_call11_v0 : Ref sig .tc := ⟨.hbm, 702, rfl⟩
abbrev main_v547 : Ref sig .tc := ⟨.hbm, 703, rfl⟩
abbrev main_v548 : Ref sig .tc := ⟨.hbm, 704, rfl⟩
abbrev main_v549 : Ref sig .tc := ⟨.hbm, 705, rfl⟩
abbrev main_v550 : Ref sig .tc := ⟨.hbm, 706, rfl⟩
abbrev main_v551 : Ref sig .tc := ⟨.hbm, 707, rfl⟩
abbrev main_v552 : Ref sig .tc := ⟨.hbm, 708, rfl⟩
abbrev main_v553 : Ref sig .tc := ⟨.hbm, 709, rfl⟩
abbrev main_v554 : Ref sig .tc := ⟨.hbm, 710, rfl⟩
abbrev main_v555 : Ref sig .tc := ⟨.hbm, 711, rfl⟩
abbrev main_v556 : Ref sig .tc := ⟨.hbm, 712, rfl⟩
abbrev main_v557 : Ref sig .tc := ⟨.hbm, 713, rfl⟩
abbrev main_v558 : Ref sig .tc := ⟨.hbm, 714, rfl⟩
abbrev main_v559 : Ref sig .tc := ⟨.hbm, 715, rfl⟩
abbrev main_v560 : Ref sig .tc := ⟨.hbm, 716, rfl⟩
abbrev main_v561 : Ref sig .tc := ⟨.hbm, 717, rfl⟩
abbrev main_v562 : Ref sig .tc := ⟨.hbm, 718, rfl⟩
abbrev main_v563 : Ref sig .tc := ⟨.hbm, 719, rfl⟩
abbrev main_v564 : Ref sig .tc := ⟨.hbm, 720, rfl⟩
abbrev main_v565 : Ref sig .tc := ⟨.hbm, 721, rfl⟩
abbrev main_v566 : Ref sig .tc := ⟨.hbm, 722, rfl⟩
abbrev main_v567 : Ref sig .tc := ⟨.hbm, 723, rfl⟩
abbrev main_v568 : Ref sig .tc := ⟨.hbm, 724, rfl⟩
abbrev main_v569 : Ref sig .tc := ⟨.hbm, 725, rfl⟩
abbrev main_v570 : Ref sig .tc := ⟨.hbm, 726, rfl⟩
abbrev main_v571 : Ref sig .tc := ⟨.hbm, 727, rfl⟩
abbrev main_v572 : Ref sig .tc := ⟨.hbm, 728, rfl⟩
abbrev main_v573 : Ref sig .tc := ⟨.hbm, 729, rfl⟩
abbrev main_cst_102 : Ref sig .tc := ⟨.hbm, 730, rfl⟩
abbrev main_v574 : Ref sig .tc := ⟨.hbm, 731, rfl⟩
abbrev main_v575 : Ref sig .tc := ⟨.hbm, 732, rfl⟩
abbrev main_cst_103 : Ref sig .tc := ⟨.hbm, 733, rfl⟩
abbrev main_v576 : Ref sig .tc := ⟨.hbm, 734, rfl⟩
abbrev main_v577 : Ref sig .tc := ⟨.hbm, 735, rfl⟩
abbrev main_v578 : Ref sig .tc := ⟨.hbm, 736, rfl⟩
abbrev main_cst_104 : Ref sig .tc := ⟨.hbm, 737, rfl⟩
abbrev main_v579 : Ref sig .tc := ⟨.hbm, 738, rfl⟩
abbrev main_v580 : Ref sig .tc := ⟨.hbm, 739, rfl⟩
abbrev main_cst_105 : Ref sig .tc := ⟨.hbm, 740, rfl⟩
abbrev main_v581 : Ref sig .tc := ⟨.hbm, 741, rfl⟩
abbrev main_v582 : Ref sig .tc := ⟨.hbm, 742, rfl⟩
abbrev main_v583 : Ref sig .tc := ⟨.hbm, 743, rfl⟩
abbrev main_v584 : Ref sig .tc := ⟨.hbm, 744, rfl⟩
abbrev main_v585 : Ref sig .tc := ⟨.hbm, 745, rfl⟩
abbrev main_v586 : Ref sig .tc := ⟨.hbm, 746, rfl⟩
abbrev main_v587 : Ref sig .tc := ⟨.hbm, 747, rfl⟩
abbrev main_v588 : Ref sig .tc := ⟨.hbm, 748, rfl⟩
abbrev main_v589 : Ref sig .tc := ⟨.hbm, 749, rfl⟩
abbrev main_v590 : Ref sig .tc := ⟨.hbm, 750, rfl⟩
abbrev main_v591 : Ref sig .tc := ⟨.hbm, 751, rfl⟩
abbrev main_v592 : Ref sig .tc := ⟨.hbm, 752, rfl⟩
abbrev main_v593 : Ref sig .tc := ⟨.hbm, 753, rfl⟩
abbrev main_v594 : Ref sig .tc := ⟨.hbm, 754, rfl⟩
abbrev main_cst_106 : Ref sig .tc := ⟨.hbm, 755, rfl⟩
abbrev main_v595 : Ref sig .tc := ⟨.hbm, 756, rfl⟩
abbrev main_v596 : Ref sig .tc := ⟨.hbm, 757, rfl⟩
abbrev main_v597 : Ref sig .tc := ⟨.hbm, 758, rfl⟩
abbrev main_v598 : Ref sig .tc := ⟨.hbm, 759, rfl⟩
abbrev main_v599 : Ref sig .tc := ⟨.hbm, 760, rfl⟩
abbrev main_v600 : Ref sig .tc := ⟨.hbm, 761, rfl⟩
abbrev main_cst_107 : Ref sig .tc := ⟨.hbm, 762, rfl⟩
abbrev main_v601 : Ref sig .tc := ⟨.hbm, 763, rfl⟩
abbrev main_v602 : Ref sig .tc := ⟨.hbm, 764, rfl⟩
abbrev main_v603 : Ref sig .tc := ⟨.hbm, 765, rfl⟩
abbrev main_v604 : Ref sig .tc := ⟨.hbm, 766, rfl⟩
abbrev main_v605 : Ref sig .tc := ⟨.hbm, 767, rfl⟩
abbrev main_v606 : Ref sig .tc := ⟨.hbm, 768, rfl⟩
abbrev main_v607 : Ref sig .tc := ⟨.hbm, 769, rfl⟩
abbrev main_v608 : Ref sig .tc := ⟨.hbm, 770, rfl⟩
abbrev main_v609 : Ref sig .tc := ⟨.hbm, 771, rfl⟩
abbrev main_v610 : Ref sig .tc := ⟨.hbm, 772, rfl⟩
abbrev main_v611 : Ref sig .tc := ⟨.hbm, 773, rfl⟩
abbrev main_v612 : Ref sig .tc := ⟨.hbm, 774, rfl⟩
abbrev main_v613 : Ref sig .tc := ⟨.hbm, 775, rfl⟩
abbrev main_v614 : Ref sig .tc := ⟨.hbm, 776, rfl⟩
abbrev main_cst_108 : Ref sig .tc := ⟨.hbm, 777, rfl⟩
abbrev main_v615 : Ref sig .tc := ⟨.hbm, 778, rfl⟩
abbrev main_v616 : Ref sig .tc := ⟨.hbm, 779, rfl⟩
abbrev main_v617 : Ref sig .tc := ⟨.hbm, 780, rfl⟩
abbrev main_v618 : Ref sig .tc := ⟨.hbm, 781, rfl⟩
abbrev main_v619 : Ref sig .tc := ⟨.hbm, 782, rfl⟩
abbrev main_v620 : Ref sig .tc := ⟨.hbm, 783, rfl⟩
abbrev main_cst_109 : Ref sig .tc := ⟨.hbm, 784, rfl⟩
abbrev main_v621 : Ref sig .tc := ⟨.hbm, 785, rfl⟩
abbrev main_v622 : Ref sig .tc := ⟨.hbm, 786, rfl⟩
abbrev main_v623 : Ref sig .tc := ⟨.hbm, 787, rfl⟩
abbrev main_v624 : Ref sig .tc := ⟨.hbm, 788, rfl⟩
abbrev main_v625 : Ref sig .tc := ⟨.hbm, 789, rfl⟩
abbrev main_v626 : Ref sig .tc := ⟨.hbm, 790, rfl⟩
abbrev main_cst_110 : Ref sig .tc := ⟨.hbm, 791, rfl⟩
abbrev main_v627 : Ref sig .tc := ⟨.hbm, 792, rfl⟩
abbrev main_v628 : Ref sig .tc := ⟨.hbm, 793, rfl⟩
abbrev main_cst_111 : Ref sig .tc := ⟨.hbm, 794, rfl⟩
abbrev main_v629 : Ref sig .tc := ⟨.hbm, 795, rfl⟩
abbrev main_v630 : Ref sig .tc := ⟨.hbm, 796, rfl⟩
abbrev main_v631 : Ref sig .tc := ⟨.hbm, 797, rfl⟩
abbrev main_v632 : Ref sig .tc := ⟨.hbm, 798, rfl⟩
abbrev main_cst_112 : Ref sig .tc := ⟨.hbm, 799, rfl⟩
abbrev main_v633 : Ref sig .tc := ⟨.hbm, 800, rfl⟩
abbrev main_v634 : Ref sig .tc := ⟨.hbm, 801, rfl⟩
abbrev main_cst_113 : Ref sig .tc := ⟨.hbm, 802, rfl⟩
abbrev main_v635 : Ref sig .tc := ⟨.hbm, 803, rfl⟩
abbrev main_v636 : Ref sig .tc := ⟨.hbm, 804, rfl⟩
abbrev main_v637 : Ref sig .tc := ⟨.hbm, 805, rfl⟩
abbrev main_v638 : Ref sig .tc := ⟨.hbm, 806, rfl⟩
abbrev main_v639 : Ref sig .tc := ⟨.hbm, 807, rfl⟩
abbrev main_v640 : Ref sig .tc := ⟨.hbm, 808, rfl⟩
abbrev main_v641 : Ref sig .tc := ⟨.hbm, 809, rfl⟩
abbrev main_v642 : Ref sig .tc := ⟨.hbm, 810, rfl⟩
abbrev main_cst_114 : Ref sig .tc := ⟨.hbm, 811, rfl⟩
abbrev main_cst_115 : Ref sig .tc := ⟨.hbm, 812, rfl⟩
abbrev main_call12_v0 : Ref sig .tc := ⟨.hbm, 813, rfl⟩
abbrev main_call12_v1 : Ref sig .tc := ⟨.hbm, 814, rfl⟩
abbrev main_call12_v2 : Ref sig .tc := ⟨.hbm, 815, rfl⟩
abbrev main_call12_v3 : Ref sig .tc := ⟨.hbm, 816, rfl⟩
abbrev main_call12_v4 : Ref sig .tc := ⟨.hbm, 817, rfl⟩
abbrev main_v643 : Ref sig .tc := ⟨.hbm, 818, rfl⟩
abbrev main_cst_116 : Ref sig .tc := ⟨.hbm, 819, rfl⟩
abbrev main_cst_117 : Ref sig .tc := ⟨.hbm, 820, rfl⟩
abbrev main_call13_v0 : Ref sig .tc := ⟨.hbm, 821, rfl⟩
abbrev main_call13_v1 : Ref sig .tc := ⟨.hbm, 822, rfl⟩
abbrev main_call13_v2 : Ref sig .tc := ⟨.hbm, 823, rfl⟩
abbrev main_call13_v3 : Ref sig .tc := ⟨.hbm, 824, rfl⟩
abbrev main_call13_v4 : Ref sig .tc := ⟨.hbm, 825, rfl⟩
abbrev main_v644 : Ref sig .tc := ⟨.hbm, 826, rfl⟩
abbrev main_v645 : Ref sig .tc := ⟨.hbm, 827, rfl⟩
abbrev main_v646 : Ref sig .tc := ⟨.hbm, 828, rfl⟩
abbrev main_v647 : Ref sig .tc := ⟨.hbm, 829, rfl⟩
abbrev main_v648 : Ref sig .tc := ⟨.hbm, 830, rfl⟩
abbrev main_c_118 : Ref sig .tc := ⟨.hbm, 831, rfl⟩
abbrev main_v649 : Ref sig .tc := ⟨.hbm, 832, rfl⟩
abbrev main_v650 : Ref sig .tc := ⟨.hbm, 833, rfl⟩
abbrev main_c_119 : Ref sig .tc := ⟨.hbm, 834, rfl⟩
abbrev main_v651 : Ref sig .tc := ⟨.hbm, 835, rfl⟩
abbrev main_v652 : Ref sig .tc := ⟨.hbm, 836, rfl⟩
abbrev main_c_120 : Ref sig .tc := ⟨.hbm, 837, rfl⟩
abbrev main_v653 : Ref sig .tc := ⟨.hbm, 838, rfl⟩
abbrev main_v654 : Ref sig .tc := ⟨.hbm, 839, rfl⟩
abbrev main_c_121 : Ref sig .tc := ⟨.hbm, 840, rfl⟩
abbrev main_v655 : Ref sig .tc := ⟨.hbm, 841, rfl⟩
abbrev main_v656 : Ref sig .tc := ⟨.hbm, 842, rfl⟩
abbrev main_v657 : Ref sig .tc := ⟨.hbm, 843, rfl⟩
abbrev main_v658 : Ref sig .tc := ⟨.hbm, 844, rfl⟩
abbrev main_v659 : Ref sig .tc := ⟨.hbm, 845, rfl⟩
abbrev main_v660 : Ref sig .tc := ⟨.hbm, 846, rfl⟩
abbrev main_v661 : Ref sig .tc := ⟨.hbm, 847, rfl⟩
abbrev main_v662 : Ref sig .tc := ⟨.hbm, 848, rfl⟩
abbrev main_v663 : Ref sig .tc := ⟨.hbm, 849, rfl⟩
abbrev main_v664 : Ref sig .tc := ⟨.hbm, 850, rfl⟩
abbrev main_v665 : Ref sig .tc := ⟨.hbm, 851, rfl⟩
abbrev main_c_122 : Ref sig .tc := ⟨.hbm, 852, rfl⟩
abbrev main_v666 : Ref sig .tc := ⟨.hbm, 853, rfl⟩
abbrev main_v667 : Ref sig .tc := ⟨.hbm, 854, rfl⟩
abbrev main_c_123 : Ref sig .tc := ⟨.hbm, 855, rfl⟩
abbrev main_v668 : Ref sig .tc := ⟨.hbm, 856, rfl⟩
abbrev main_v669 : Ref sig .tc := ⟨.hbm, 857, rfl⟩
abbrev main_v670 : Ref sig .tc := ⟨.hbm, 858, rfl⟩
abbrev main_c_124 : Ref sig .tc := ⟨.hbm, 859, rfl⟩
abbrev main_v671 : Ref sig .tc := ⟨.hbm, 860, rfl⟩
abbrev main_v672 : Ref sig .tc := ⟨.hbm, 861, rfl⟩
abbrev main_c_125 : Ref sig .tc := ⟨.hbm, 862, rfl⟩
abbrev main_v673 : Ref sig .tc := ⟨.hbm, 863, rfl⟩
abbrev main_v674 : Ref sig .tc := ⟨.hbm, 864, rfl⟩
abbrev main_v675 : Ref sig .tc := ⟨.hbm, 865, rfl⟩
abbrev main_c_126 : Ref sig .tc := ⟨.hbm, 866, rfl⟩
abbrev main_v676 : Ref sig .tc := ⟨.hbm, 867, rfl⟩
abbrev main_v677 : Ref sig .tc := ⟨.hbm, 868, rfl⟩
abbrev main_c_127 : Ref sig .tc := ⟨.hbm, 869, rfl⟩
abbrev main_v678 : Ref sig .tc := ⟨.hbm, 870, rfl⟩
abbrev main_v679 : Ref sig .tc := ⟨.hbm, 871, rfl⟩
abbrev main_v680 : Ref sig .tc := ⟨.hbm, 872, rfl⟩
abbrev main_v681 : Ref sig .tc := ⟨.hbm, 873, rfl⟩
abbrev main_v682 : Ref sig .tc := ⟨.hbm, 874, rfl⟩
abbrev main_v683 : Ref sig .tc := ⟨.hbm, 875, rfl⟩
abbrev main_v684 : Ref sig .tc := ⟨.hbm, 876, rfl⟩
abbrev main_v685 : Ref sig .tc := ⟨.hbm, 877, rfl⟩
abbrev main_v686 : Ref sig .tc := ⟨.hbm, 878, rfl⟩
abbrev main_v687 : Ref sig .tc := ⟨.hbm, 879, rfl⟩
abbrev main_v688 : Ref sig .tc := ⟨.hbm, 880, rfl⟩
abbrev main_cst_128 : Ref sig .tc := ⟨.hbm, 881, rfl⟩
abbrev main_v689 : Ref sig .tc := ⟨.hbm, 882, rfl⟩
abbrev main_v690 : Ref sig .tc := ⟨.hbm, 883, rfl⟩
abbrev main_v691 : Ref sig .tc := ⟨.hbm, 884, rfl⟩
abbrev main_v692 : Ref sig .tc := ⟨.hbm, 885, rfl⟩
abbrev main_cst_129 : Ref sig .tc := ⟨.hbm, 886, rfl⟩
abbrev main_v693 : Ref sig .tc := ⟨.hbm, 887, rfl⟩
abbrev main_v694 : Ref sig .tc := ⟨.hbm, 888, rfl⟩
abbrev main_v695 : Ref sig .tc := ⟨.hbm, 889, rfl⟩
abbrev main_v696 : Ref sig .tc := ⟨.hbm, 890, rfl⟩
abbrev main_v697 : Ref sig .tc := ⟨.hbm, 891, rfl⟩
abbrev main_v698 : Ref sig .tc := ⟨.hbm, 892, rfl⟩
abbrev main_c_130 : Ref sig .tc := ⟨.hbm, 893, rfl⟩
abbrev main_v699 : Ref sig .tc := ⟨.hbm, 894, rfl⟩
abbrev main_v700 : Ref sig .tc := ⟨.hbm, 895, rfl⟩
abbrev main_c_131 : Ref sig .tc := ⟨.hbm, 896, rfl⟩
abbrev main_v701 : Ref sig .tc := ⟨.hbm, 897, rfl⟩
abbrev main_v702 : Ref sig .tc := ⟨.hbm, 898, rfl⟩
abbrev main_v703 : Ref sig .tc := ⟨.hbm, 899, rfl⟩
abbrev main_c_132 : Ref sig .tc := ⟨.hbm, 900, rfl⟩
abbrev main_v704 : Ref sig .tc := ⟨.hbm, 901, rfl⟩
abbrev main_v705 : Ref sig .tc := ⟨.hbm, 902, rfl⟩
abbrev main_c_133 : Ref sig .tc := ⟨.hbm, 903, rfl⟩
abbrev main_v706 : Ref sig .tc := ⟨.hbm, 904, rfl⟩
abbrev main_v707 : Ref sig .tc := ⟨.hbm, 905, rfl⟩
abbrev main_v708 : Ref sig .tc := ⟨.hbm, 906, rfl⟩
abbrev main_c_134 : Ref sig .tc := ⟨.hbm, 907, rfl⟩
abbrev main_v709 : Ref sig .tc := ⟨.hbm, 908, rfl⟩
abbrev main_v710 : Ref sig .tc := ⟨.hbm, 909, rfl⟩
abbrev main_c_135 : Ref sig .tc := ⟨.hbm, 910, rfl⟩
abbrev main_v711 : Ref sig .tc := ⟨.hbm, 911, rfl⟩
abbrev main_v712 : Ref sig .tc := ⟨.hbm, 912, rfl⟩
abbrev main_v713 : Ref sig .tc := ⟨.hbm, 913, rfl⟩
abbrev main_v714 : Ref sig .tc := ⟨.hbm, 914, rfl⟩
abbrev main_v715 : Ref sig .tc := ⟨.hbm, 915, rfl⟩
abbrev main_v716 : Ref sig .tc := ⟨.hbm, 916, rfl⟩
abbrev main_v717 : Ref sig .tc := ⟨.hbm, 917, rfl⟩
abbrev main_v718 : Ref sig .tc := ⟨.hbm, 918, rfl⟩
abbrev main_v719 : Ref sig .tc := ⟨.hbm, 919, rfl⟩
abbrev main_v720 : Ref sig .tc := ⟨.hbm, 920, rfl⟩
abbrev main_v721 : Ref sig .tc := ⟨.hbm, 921, rfl⟩
abbrev main_v722 : Ref sig .tc := ⟨.hbm, 922, rfl⟩
abbrev main_v723 : Ref sig .tc := ⟨.hbm, 923, rfl⟩
abbrev main_cst_136 : Ref sig .tc := ⟨.hbm, 924, rfl⟩
abbrev main_v724 : Ref sig .tc := ⟨.hbm, 925, rfl⟩
abbrev main_v725 : Ref sig .tc := ⟨.hbm, 926, rfl⟩
abbrev main_v726 : Ref sig .tc := ⟨.hbm, 927, rfl⟩
abbrev main_v727 : Ref sig .tc := ⟨.hbm, 928, rfl⟩
abbrev main_v728 : Ref sig .tc := ⟨.hbm, 929, rfl⟩
abbrev main_v729 : Ref sig .tc := ⟨.hbm, 930, rfl⟩
abbrev main_v730 : Ref sig .tc := ⟨.hbm, 931, rfl⟩
abbrev main_c_137 : Ref sig .tc := ⟨.hbm, 932, rfl⟩
abbrev main_v731 : Ref sig .tc := ⟨.hbm, 933, rfl⟩
abbrev main_v732 : Ref sig .tc := ⟨.hbm, 934, rfl⟩
abbrev main_c_138 : Ref sig .tc := ⟨.hbm, 935, rfl⟩
abbrev main_v733 : Ref sig .tc := ⟨.hbm, 936, rfl⟩
abbrev main_v734 : Ref sig .tc := ⟨.hbm, 937, rfl⟩
abbrev main_v735 : Ref sig .tc := ⟨.hbm, 938, rfl⟩
abbrev main_c_139 : Ref sig .tc := ⟨.hbm, 939, rfl⟩
abbrev main_v736 : Ref sig .tc := ⟨.hbm, 940, rfl⟩
abbrev main_v737 : Ref sig .tc := ⟨.hbm, 941, rfl⟩
abbrev main_c_140 : Ref sig .tc := ⟨.hbm, 942, rfl⟩
abbrev main_v738 : Ref sig .tc := ⟨.hbm, 943, rfl⟩
abbrev main_v739 : Ref sig .tc := ⟨.hbm, 944, rfl⟩
abbrev main_v740 : Ref sig .tc := ⟨.hbm, 945, rfl⟩
abbrev main_c_141 : Ref sig .tc := ⟨.hbm, 946, rfl⟩
abbrev main_v741 : Ref sig .tc := ⟨.hbm, 947, rfl⟩
abbrev main_v742 : Ref sig .tc := ⟨.hbm, 948, rfl⟩
abbrev main_c_142 : Ref sig .tc := ⟨.hbm, 949, rfl⟩
abbrev main_v743 : Ref sig .tc := ⟨.hbm, 950, rfl⟩
abbrev main_v744 : Ref sig .tc := ⟨.hbm, 951, rfl⟩
abbrev main_v745 : Ref sig .tc := ⟨.hbm, 952, rfl⟩
abbrev main_v746 : Ref sig .tc := ⟨.hbm, 953, rfl⟩
abbrev main_v747 : Ref sig .tc := ⟨.hbm, 954, rfl⟩
abbrev main_v748 : Ref sig .tc := ⟨.hbm, 955, rfl⟩
abbrev main_v749 : Ref sig .tc := ⟨.hbm, 956, rfl⟩
abbrev main_v750 : Ref sig .tc := ⟨.hbm, 957, rfl⟩
abbrev main_v751 : Ref sig .tc := ⟨.hbm, 958, rfl⟩
abbrev main_v752 : Ref sig .tc := ⟨.hbm, 959, rfl⟩
abbrev main_v753 : Ref sig .tc := ⟨.hbm, 960, rfl⟩
abbrev main_cst_143 : Ref sig .tc := ⟨.hbm, 961, rfl⟩
abbrev main_v754 : Ref sig .tc := ⟨.hbm, 962, rfl⟩
abbrev main_v755 : Ref sig .tc := ⟨.hbm, 963, rfl⟩
abbrev main_v756 : Ref sig .tc := ⟨.hbm, 964, rfl⟩
abbrev main_v757 : Ref sig .tc := ⟨.hbm, 965, rfl⟩
abbrev main_v758 : Ref sig .tc := ⟨.hbm, 966, rfl⟩
abbrev main_v759 : Ref sig .tc := ⟨.hbm, 967, rfl⟩
abbrev main_v760 : Ref sig .tc := ⟨.hbm, 968, rfl⟩
abbrev main_v761 : Ref sig .tc := ⟨.hbm, 969, rfl⟩
abbrev main_v762 : Ref sig .tc := ⟨.hbm, 970, rfl⟩
abbrev main_c_144 : Ref sig .tc := ⟨.hbm, 971, rfl⟩
abbrev main_v763 : Ref sig .tc := ⟨.hbm, 972, rfl⟩
abbrev main_v764 : Ref sig .tc := ⟨.hbm, 973, rfl⟩
abbrev main_c_145 : Ref sig .tc := ⟨.hbm, 974, rfl⟩
abbrev main_v765 : Ref sig .tc := ⟨.hbm, 975, rfl⟩
abbrev main_v766 : Ref sig .tc := ⟨.hbm, 976, rfl⟩
abbrev main_v767 : Ref sig .tc := ⟨.hbm, 977, rfl⟩
abbrev main_c_146 : Ref sig .tc := ⟨.hbm, 978, rfl⟩
abbrev main_v768 : Ref sig .tc := ⟨.hbm, 979, rfl⟩
abbrev main_v769 : Ref sig .tc := ⟨.hbm, 980, rfl⟩
abbrev main_c_147 : Ref sig .tc := ⟨.hbm, 981, rfl⟩
abbrev main_v770 : Ref sig .tc := ⟨.hbm, 982, rfl⟩
abbrev main_v771 : Ref sig .tc := ⟨.hbm, 983, rfl⟩
abbrev main_v772 : Ref sig .tc := ⟨.hbm, 984, rfl⟩
abbrev main_c_148 : Ref sig .tc := ⟨.hbm, 985, rfl⟩
abbrev main_v773 : Ref sig .tc := ⟨.hbm, 986, rfl⟩
abbrev main_v774 : Ref sig .tc := ⟨.hbm, 987, rfl⟩
abbrev main_c_149 : Ref sig .tc := ⟨.hbm, 988, rfl⟩
abbrev main_v775 : Ref sig .tc := ⟨.hbm, 989, rfl⟩
abbrev main_v776 : Ref sig .tc := ⟨.hbm, 990, rfl⟩
abbrev main_v777 : Ref sig .tc := ⟨.hbm, 991, rfl⟩
abbrev main_v778 : Ref sig .tc := ⟨.hbm, 992, rfl⟩
abbrev main_v779 : Ref sig .tc := ⟨.hbm, 993, rfl⟩
abbrev main_v780 : Ref sig .tc := ⟨.hbm, 994, rfl⟩
abbrev main_v781 : Ref sig .tc := ⟨.hbm, 995, rfl⟩
abbrev main_v782 : Ref sig .tc := ⟨.hbm, 996, rfl⟩
abbrev main_v783 : Ref sig .tc := ⟨.hbm, 997, rfl⟩
abbrev main_v784 : Ref sig .tc := ⟨.hbm, 998, rfl⟩
abbrev main_v785 : Ref sig .tc := ⟨.hbm, 999, rfl⟩
abbrev main_v786 : Ref sig .tc := ⟨.hbm, 1000, rfl⟩
abbrev main_v787 : Ref sig .tc := ⟨.hbm, 1001, rfl⟩
abbrev main_v788 : Ref sig .tc := ⟨.hbm, 1002, rfl⟩
abbrev main_v789 : Ref sig .tc := ⟨.hbm, 1003, rfl⟩
abbrev main_v790 : Ref sig .tc := ⟨.hbm, 1004, rfl⟩
abbrev main_cst_150 : Ref sig .tc := ⟨.hbm, 1005, rfl⟩
abbrev main_call14_v0 : Ref sig .tc := ⟨.hbm, 1006, rfl⟩
abbrev main_call14_v1 : Ref sig .tc := ⟨.hbm, 1007, rfl⟩
abbrev main_call14_v2 : Ref sig .tc := ⟨.hbm, 1008, rfl⟩
abbrev main_v791 : Ref sig .tc := ⟨.hbm, 1009, rfl⟩
abbrev main_v792 : Ref sig .tc := ⟨.hbm, 1010, rfl⟩
abbrev main_cst_151 : Ref sig .tc := ⟨.hbm, 1011, rfl⟩
abbrev main_v793 : Ref sig .tc := ⟨.hbm, 1012, rfl⟩
abbrev main_cst_152 : Ref sig .tc := ⟨.hbm, 1013, rfl⟩
abbrev main_v794 : Ref sig .tc := ⟨.hbm, 1014, rfl⟩
abbrev main_v795 : Ref sig .tc := ⟨.hbm, 1015, rfl⟩
abbrev main_v796 : Ref sig .tc := ⟨.hbm, 1016, rfl⟩
abbrev main_v797 : Ref sig .tc := ⟨.hbm, 1017, rfl⟩
abbrev main_v798 : Ref sig .tc := ⟨.hbm, 1018, rfl⟩
abbrev main_v799 : Ref sig .tc := ⟨.hbm, 1019, rfl⟩
abbrev main_v800 : Ref sig .tc := ⟨.hbm, 1020, rfl⟩
abbrev main_v801 : Ref sig .tc := ⟨.hbm, 1021, rfl⟩
abbrev main_v802 : Ref sig .tc := ⟨.hbm, 1022, rfl⟩
abbrev main_v803 : Ref sig .tc := ⟨.hbm, 1023, rfl⟩
abbrev main_v804 : Ref sig .tc := ⟨.hbm, 1024, rfl⟩
abbrev main_v805 : Ref sig .tc := ⟨.hbm, 1025, rfl⟩
abbrev main_v806 : Ref sig .tc := ⟨.hbm, 1026, rfl⟩
abbrev main_call15_cst : Ref sig .tc := ⟨.hbm, 1027, rfl⟩
abbrev main_call15_v0 : Ref sig .tc := ⟨.hbm, 1028, rfl⟩
abbrev main_v807 : Ref sig .tc := ⟨.hbm, 1029, rfl⟩
abbrev main_v808 : Ref sig .tc := ⟨.hbm, 1030, rfl⟩
abbrev main_v809 : Ref sig .tc := ⟨.hbm, 1031, rfl⟩
abbrev main_v810 : Ref sig .tc := ⟨.hbm, 1032, rfl⟩
abbrev main_v811 : Ref sig .tc := ⟨.hbm, 1033, rfl⟩
abbrev main_v812 : Ref sig .tc := ⟨.hbm, 1034, rfl⟩
abbrev main_call16_cst : Ref sig .tc := ⟨.hbm, 1035, rfl⟩
abbrev main_call16_v0 : Ref sig .tc := ⟨.hbm, 1036, rfl⟩
abbrev main_v813 : Ref sig .tc := ⟨.hbm, 1037, rfl⟩
abbrev main_v814 : Ref sig .tc := ⟨.hbm, 1038, rfl⟩
abbrev main_v815 : Ref sig .tc := ⟨.hbm, 1039, rfl⟩
abbrev main_v816 : Ref sig .tc := ⟨.hbm, 1040, rfl⟩
abbrev main_v817 : Ref sig .tc := ⟨.hbm, 1041, rfl⟩
abbrev main_v818 : Ref sig .tc := ⟨.hbm, 1042, rfl⟩
abbrev main_v819 : Ref sig .tc := ⟨.hbm, 1043, rfl⟩
abbrev main_v820 : Ref sig .tc := ⟨.hbm, 1044, rfl⟩
abbrev main_c_153 : Ref sig .tc := ⟨.hbm, 1045, rfl⟩
abbrev main_call17_v0 : Ref sig .tc := ⟨.hbm, 1046, rfl⟩
abbrev main_v821 : Ref sig .tc := ⟨.hbm, 1047, rfl⟩
abbrev main_v822 : Ref sig .tc := ⟨.hbm, 1048, rfl⟩
abbrev main_v823 : Ref sig .tc := ⟨.hbm, 1049, rfl⟩
abbrev main_v824 : Ref sig .tc := ⟨.hbm, 1050, rfl⟩
abbrev main_v825 : Ref sig .tc := ⟨.hbm, 1051, rfl⟩

abbrev nD : Nat := 1
abbrev τ : Topo := Topo.v7x

variable {F : FTy → Type} [FloatOps F]
-- ==== Suppress2.lean ====
abbrev S4x3x20x20x85 : Shape := ⟨5, ![4, 3, 20, 20, 85]⟩
abbrev S3x3x2 : Shape := ⟨3, ![3, 3, 2]⟩
abbrev S4x85x3x20x20 : Shape := ⟨5, ![4, 85, 3, 20, 20]⟩
abbrev S4x85x1200 : Shape := ⟨3, ![4, 85, 1200]⟩
abbrev S_ : Shape := ⟨0, ![]⟩
abbrev S4x85x2048 : Shape := ⟨3, ![4, 85, 2048]⟩
abbrev S4x85x16x128 : Shape := ⟨4, ![4, 85, 16, 128]⟩
abbrev S1x3x1 : Shape := ⟨3, ![1, 3, 1]⟩
abbrev S3 : Shape := ⟨1, ![3]⟩
abbrev S3x400 : Shape := ⟨2, ![3, 400]⟩
abbrev S1200 : Shape := ⟨1, ![1200]⟩
abbrev S2048 : Shape := ⟨1, ![2048]⟩
abbrev S16x128 : Shape := ⟨2, ![16, 128]⟩
abbrev S4x32x128 : Shape := ⟨3, ![4, 32, 128]⟩
abbrev S1x85x16x128 : Shape := ⟨4, ![1, 85, 16, 128]⟩
abbrev S1x32x128 : Shape := ⟨3, ![1, 32, 128]⟩
abbrev S1x1x16x128 : Shape := ⟨4, ![1, 1, 16, 128]⟩
abbrev S1x128 : Shape := ⟨2, ![1, 128]⟩
abbrev S128 : Shape := ⟨1, ![128]⟩
abbrev S1 : Shape := ⟨1, ![1]⟩
abbrev S1x1 : Shape := ⟨2, ![1, 1]⟩
abbrev S1x1x128 : Shape := ⟨3, ![1, 1, 128]⟩

abbrev nBuf : Space → Nat
  | .hbm => 25
  | .vmem => 7
  | .smem => 0
  | _ => 0

abbrev bufTy : (tb : Table) → Fin (tcTables nBuf tb) → BufTy
  | .hbm, ⟨0, _⟩ => ⟨S4x3x20x20x85, .f32⟩
  | .hbm, ⟨1, _⟩ => ⟨S3x3x2, .f32⟩
  | .hbm, ⟨2, _⟩ => ⟨S4x85x3x20x20, .f32⟩
  | .hbm, ⟨3, _⟩ => ⟨S4x85x1200, .f32⟩
  | .hbm, ⟨4, _⟩ => ⟨S_, .f32⟩
  | .hbm, ⟨5, _⟩ => ⟨S_, .f32⟩
  | .hbm, ⟨6, _⟩ => ⟨S4x85x2048, .f32⟩
  | .hbm, ⟨7, _⟩ => ⟨S4x85x16x128, .f32⟩
  | .hbm, ⟨8, _⟩ => ⟨S1x3x1, .f32⟩
  | .hbm, ⟨9, _⟩ => ⟨S3, .f32⟩
  | .hbm, ⟨10, _⟩ => ⟨S3x400, .f32⟩
  | .hbm, ⟨11, _⟩ => ⟨S1200, .f32⟩
  | .hbm, ⟨12, _⟩ => ⟨S_, .f32⟩
  | .hbm, ⟨13, _⟩ => ⟨S_, .f32⟩
  | .hbm, ⟨14, _⟩ => ⟨S2048, .f32⟩
  | .hbm, ⟨15, _⟩ => ⟨S16x128, .f32⟩
  | .hbm, ⟨16, _⟩ => ⟨S1x3x1, .f32⟩
  | .hbm, ⟨17, _⟩ => ⟨S3, .f32⟩
  | .hbm, ⟨18, _⟩ => ⟨S3x400, .f32⟩
  | .hbm, ⟨19, _⟩ => ⟨S1200, .f32⟩
  | .hbm, ⟨20, _⟩ => ⟨S_, .f32⟩
  | .hbm, ⟨21, _⟩ => ⟨S_, .f32⟩
  | .hbm, ⟨22, _⟩ => ⟨S2048, .f32⟩
  | .hbm, ⟨23, _⟩ => ⟨S16x128, .f32⟩
  | .hbm, ⟨24, _⟩ => ⟨S4x32x128, .f32⟩
  | .local _ .vmem, ⟨0, _⟩ => ⟨S1x85x16x128, .f32⟩
  | .local _ .vmem, ⟨1, _⟩ => ⟨S1x85x16x128, .f32⟩
  | .local _ .vmem, ⟨2, _⟩ => ⟨S16x128, .f32⟩
  | .local _ .vmem, ⟨3, _⟩ => ⟨S16x128, .f32⟩
  | .local _ .vmem, ⟨4, _⟩ => ⟨S1x32x128, .f32⟩
  | .local _ .vmem, ⟨5, _⟩ => ⟨S1x32x128, .f32⟩
  | .local _ .vmem, ⟨6, _⟩ => ⟨S16x128, .f32⟩
  | _, _ => ⟨S4x3x20x20x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_call2_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_297 : BitVec 32 := 0#32
  let c25_i32_298 : BitVec 32 := 25#32
  let v772 : BitVec 32 := Scalar.addi c0_i32_297 c25_i32_298
  let c1_i32_299 : BitVec 32 := 1#32
  ⟨c0_i32_297, v772, c1_i32_299⟩
def k0_off1 (k0_t1 : Fin k0_t1_loop.trips) : Fin 3 → Nat :=
  let c0_345 : Index := 0#32
  let c0_i32_297 : BitVec 32 := 0#32
  let c1_i32_299 : BitVec 32 := 1#32
  let arg6 : BitVec 32 := Scf.iv c0_i32_297 c1_i32_299 k0_t1
  let v906 : Index := Scalar.indexCast arg6
  let c0_346 : Index := 0#32
  ![0, v906.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x85x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kept2Ideal.lean ====
abbrev S4x3x20x20x85 : Shape := ⟨5, ![4, 3, 20, 20, 85]⟩
abbrev S3x3x2 : Shape := ⟨3, ![3, 3, 2]⟩
abbrev S1x3x2 : Shape := ⟨3, ![1, 3, 2]⟩
abbrev S3x2 : Shape := ⟨2, ![3, 2]⟩
abbrev S20 : Shape := ⟨1, ![20]⟩
abbrev S20x20 : Shape := ⟨2, ![20, 20]⟩
abbrev S20x20x1 : Shape := ⟨3, ![20, 20, 1]⟩
abbrev S20x20x2 : Shape := ⟨3, ![20, 20, 2]⟩
abbrev S1x1x20x20x2 : Shape := ⟨5, ![1, 1, 20, 20, 2]⟩
abbrev S_ : Shape := ⟨0, ![]⟩
abbrev S4x3x20x20x2 : Shape := ⟨5, ![4, 3, 20, 20, 2]⟩
abbrev S1x3x1x1x2 : Shape := ⟨5, ![1, 3, 1, 1, 2]⟩
abbrev S4x3x20x20x81 : Shape := ⟨5, ![4, 3, 20, 20, 81]⟩
abbrev S4x1200x85 : Shape := ⟨3, ![4, 1200, 85]⟩
abbrev S4x1200x1 : Shape := ⟨3, ![4, 1200, 1]⟩
abbrev S4x1200 : Shape := ⟨2, ![4, 1200]⟩
abbrev S4x1200x4 : Shape := ⟨3, ![4, 1200, 4]⟩
abbrev S4x1200x80 : Shape := ⟨3, ![4, 1200, 80]⟩
abbrev S25x4x5 : Shape := ⟨3, ![25, 4, 5]⟩
abbrev S4 : Shape := ⟨1, ![4]⟩
abbrev S4x1 : Shape := ⟨2, ![4, 1]⟩
abbrev S4x2 : Shape := ⟨2, ![4, 2]⟩
abbrev S4x4 : Shape := ⟨2, ![4, 4]⟩
abbrev S4x1x4 : Shape := ⟨3, ![4, 1, 4]⟩
abbrev S4x1x1 : Shape := ⟨3, ![4, 1, 1]⟩
abbrev S1200 : Shape := ⟨1, ![1200]⟩
abbrev S1x1200 : Shape := ⟨2, ![1, 1200]⟩
abbrev S4x5 : Shape := ⟨2, ![4, 5]⟩
abbrev S1x4x5 : Shape := ⟨3, ![1, 4, 5]⟩
abbrev S4x25x5 : Shape := ⟨3, ![4, 25, 5]⟩
abbrev S4x32x128 : Shape := ⟨3, ![4, 32, 128]⟩

abbrev nBuf : Space → Nat
  | .hbm => 302
  | .vmem => 0
  | .smem => 0
  | _ => 0

abbrev hbmTy0_0 (i : Nat) : BufTy := match i % 128 with
  | 0 => ⟨S4x3x20x20x85, .f32⟩
  | 1 => ⟨S3x3x2, .f32⟩
  | 2 => ⟨S1x3x2, .f32⟩
  | 3 => ⟨S3x2, .f32⟩
  | 4 => ⟨S20, .f32⟩
  | 5 => ⟨S20, .f32⟩
  | 6 => ⟨S20x20, .f32⟩
  | 7 => ⟨S20x20, .f32⟩
  | 8 => ⟨S20x20x1, .f32⟩
  | 9 => ⟨S20x20x1, .f32⟩
  | 10 => ⟨S20x20x2, .f32⟩
  | 11 => ⟨S1x1x20x20x2, .f32⟩
  | 12 => ⟨S_, .f32⟩
  | 13 => ⟨S1x1x20x20x2, .f32⟩
  | 14 => ⟨S1x1x20x20x2, .f32⟩
  | 15 => ⟨S4x3x20x20x85, .f32⟩
  | 16 => ⟨S4x3x20x20x85, .f32⟩
  | 17 => ⟨S_, .f32⟩
  | 18 => ⟨S4x3x20x20x85, .f32⟩
  | 19 => ⟨S4x3x20x20x85, .f32⟩
  | 20 => ⟨S_, .f32⟩
  | 21 => ⟨S4x3x20x20x85, .f32⟩
  | 22 => ⟨S4x3x20x20x85, .f32⟩
  | 23 => ⟨S4x3x20x20x2, .f32⟩
  | 24 => ⟨S_, .f32⟩
  | 25 => ⟨S4x3x20x20x2, .f32⟩
  | 26 => ⟨S4x3x20x20x2, .f32⟩
  | 27 => ⟨S4x3x20x20x2, .f32⟩
  | 28 => ⟨S4x3x20x20x2, .f32⟩
  | 29 => ⟨S4x3x20x20x2, .f32⟩
  | 30 => ⟨S_, .f32⟩
  | 31 => ⟨S4x3x20x20x2, .f32⟩
  | 32 => ⟨S4x3x20x20x2, .f32⟩
  | 33 => ⟨S4x3x20x20x2, .f32⟩
  | 34 => ⟨S1x3x1x1x2, .f32⟩
  | 35 => ⟨S4x3x20x20x2, .f32⟩
  | 36 => ⟨S4x3x20x20x2, .f32⟩
  | 37 => ⟨S4x3x20x20x81, .f32⟩
  | 38 => ⟨S4x3x20x20x85, .f32⟩
  | 39 => ⟨S4x1200x85, .f32⟩
  | 40 => ⟨S4x1200x1, .f32⟩
  | 41 => ⟨S4x1200, .f32⟩
  | 42 => ⟨S4x1200x1, .f32⟩
  | 43 => ⟨S4x1200, .f32⟩
  | 44 => ⟨S_, .f32⟩
  | 45 => ⟨S4x1200, .f32⟩
  | 46 => ⟨S4x1200, .f32⟩
  | 47 => ⟨S4x1200, .f32⟩
  | 48 => ⟨S4x1200x1, .f32⟩
  | 49 => ⟨S4x1200, .f32⟩
  | 50 => ⟨S4x1200x1, .f32⟩
  | 51 => ⟨S4x1200, .f32⟩
  | 52 => ⟨S_, .f32⟩
  | 53 => ⟨S4x1200, .f32⟩
  | 54 => ⟨S4x1200, .f32⟩
  | 55 => ⟨S4x1200, .f32⟩
  | 56 => ⟨S4x1200x1, .f32⟩
  | 57 => ⟨S4x1200, .f32⟩
  | 58 => ⟨S4x1200x1, .f32⟩
  | 59 => ⟨S4x1200, .f32⟩
  | 60 => ⟨S_, .f32⟩
  | 61 => ⟨S4x1200, .f32⟩
  | 62 => ⟨S4x1200, .f32⟩
  | 63 => ⟨S4x1200, .f32⟩
  | 64 => ⟨S4x1200x1, .f32⟩
  | 65 => ⟨S4x1200, .f32⟩
  | 66 => ⟨S4x1200x1, .f32⟩
  | 67 => ⟨S4x1200, .f32⟩
  | 68 => ⟨S_, .f32⟩
  | 69 => ⟨S4x1200, .f32⟩
  | 70 => ⟨S4x1200, .f32⟩
  | 71 => ⟨S4x1200, .f32⟩
  | 72 => ⟨S4x1200x1, .f32⟩
  | 73 => ⟨S4x1200x1, .f32⟩
  | 74 => ⟨S4x1200x1, .f32⟩
  | 75 => ⟨S4x1200x1, .f32⟩
  | 76 => ⟨S4x1200x4, .f32⟩
  | 77 => ⟨S4x1200x1, .f32⟩
  | 78 => ⟨S4x1200, .f32⟩
  | 79 => ⟨S4x1200x80, .f32⟩
  | 80 => ⟨S4x1200x1, .f32⟩
  | 81 => ⟨S4x1200x80, .f32⟩
  | 82 => ⟨S4x1200x80, .f32⟩
  | 83 => ⟨S_, .f32⟩
  | 84 => ⟨S4x1200, .f32⟩
  | 85 => ⟨S4x1200x80, .i32⟩
  | 86 => ⟨S_, .f32⟩
  | 87 => ⟨S4x1200, .f32⟩
  | 88 => ⟨S4x1200x1, .f32⟩
  | 89 => ⟨S4x1200x80, .f32⟩
  | 90 => ⟨S4x1200x80, .i1⟩
  | 91 => ⟨S_, .i32⟩
  | 92 => ⟨S_, .i32⟩
  | 93 => ⟨S4x1200x80, .i32⟩
  | 94 => ⟨S4x1200x80, .i32⟩
  | 95 => ⟨S_, .i32⟩
  | 96 => ⟨S4x1200, .i32⟩
  | 97 => ⟨S4x1200, .f32⟩
  | 98 => ⟨S_, .f32⟩
  | 99 => ⟨S4x1200, .f32⟩
  | 100 => ⟨S4x1200, .i1⟩
  | 101 => ⟨S_, .f32⟩
  | 102 => ⟨S4x1200, .f32⟩
  | 103 => ⟨S4x1200, .i1⟩
  | 104 => ⟨S4x1200, .i1⟩
  | 105 => ⟨S_, .f32⟩
  | 106 => ⟨S4x1200, .f32⟩
  | 107 => ⟨S4x1200, .f32⟩
  | 108 => ⟨S4x1200x1, .f32⟩
  | 109 => ⟨S4x1200x4, .f32⟩
  | 110 => ⟨S4x1200x4, .f32⟩
  | 111 => ⟨S_, .f32⟩
  | 112 => ⟨S_, .f32⟩
  | 113 => ⟨S4x1200, .f32⟩
  | 114 => ⟨S4x1200, .f32⟩
  | 115 => ⟨S_, .f32⟩
  | 116 => ⟨S25x4x5, .f32⟩
  | 117 => ⟨S_, .i32⟩
  | 118 => ⟨S4x1200x4, .f32⟩
  | 119 => ⟨S4x1200x4, .f32⟩
  | 120 => ⟨S_, .i32⟩
  | 121 => ⟨S4x1200, .f32⟩
  | 122 => ⟨S25x4x5, .f32⟩
  | 123 => ⟨S_, .i32⟩
  | 124 => ⟨S_, .i1⟩
  | 125 => ⟨S4x1200, .i32⟩
  | 126 => ⟨S_, .f32⟩
  | 127 => ⟨S4, .f32⟩
  | _ => ⟨S4x3x20x20x85, .f32⟩

abbrev hbmTy0_1 (i : Nat) : BufTy := match i % 128 with
  | 0 => ⟨S4x1, .f32⟩
  | 1 => ⟨S4x1200, .f32⟩
  | 2 => ⟨S4x1200, .i1⟩
  | 3 => ⟨S_, .i32⟩
  | 4 => ⟨S_, .i32⟩
  | 5 => ⟨S4x1200, .i32⟩
  | 6 => ⟨S4x1200, .i32⟩
  | 7 => ⟨S_, .i32⟩
  | 8 => ⟨S4, .i32⟩
  | 9 => ⟨S4, .i32⟩
  | 10 => ⟨S_, .i32⟩
  | 11 => ⟨S4, .i32⟩
  | 12 => ⟨S4, .i1⟩
  | 13 => ⟨S_, .i32⟩
  | 14 => ⟨S4, .i32⟩
  | 15 => ⟨S4, .i32⟩
  | 16 => ⟨S4, .i32⟩
  | 17 => ⟨S_, .i32⟩
  | 18 => ⟨S4, .i32⟩
  | 19 => ⟨S4, .i1⟩
  | 20 => ⟨S_, .i32⟩
  | 21 => ⟨S4, .i32⟩
  | 22 => ⟨S4, .i32⟩
  | 23 => ⟨S4, .i32⟩
  | 24 => ⟨S4x1, .i32⟩
  | 25 => ⟨S4x1, .i32⟩
  | 26 => ⟨S4x2, .i32⟩
  | 27 => ⟨S4, .f32⟩
  | 28 => ⟨S_, .f32⟩
  | 29 => ⟨S4, .f32⟩
  | 30 => ⟨S4, .i1⟩
  | 31 => ⟨S4x1, .i1⟩
  | 32 => ⟨S4, .i32⟩
  | 33 => ⟨S_, .i32⟩
  | 34 => ⟨S4, .i32⟩
  | 35 => ⟨S4, .i1⟩
  | 36 => ⟨S_, .i32⟩
  | 37 => ⟨S4, .i32⟩
  | 38 => ⟨S4, .i32⟩
  | 39 => ⟨S4, .i32⟩
  | 40 => ⟨S_, .i32⟩
  | 41 => ⟨S4, .i32⟩
  | 42 => ⟨S4, .i1⟩
  | 43 => ⟨S_, .i32⟩
  | 44 => ⟨S4, .i32⟩
  | 45 => ⟨S4, .i32⟩
  | 46 => ⟨S4, .i32⟩
  | 47 => ⟨S4x1, .i32⟩
  | 48 => ⟨S4x1, .i32⟩
  | 49 => ⟨S4x2, .i32⟩
  | 50 => ⟨S4x4, .f32⟩
  | 51 => ⟨S_, .f32⟩
  | 52 => ⟨S_, .f32⟩
  | 53 => ⟨S4x4, .i1⟩
  | 54 => ⟨S4x4, .f32⟩
  | 55 => ⟨S4x4, .f32⟩
  | 56 => ⟨S4, .i32⟩
  | 57 => ⟨S_, .i32⟩
  | 58 => ⟨S4, .i32⟩
  | 59 => ⟨S4, .i1⟩
  | 60 => ⟨S_, .i32⟩
  | 61 => ⟨S4, .i32⟩
  | 62 => ⟨S4, .i32⟩
  | 63 => ⟨S4, .i32⟩
  | 64 => ⟨S_, .i32⟩
  | 65 => ⟨S4, .i32⟩
  | 66 => ⟨S4, .i1⟩
  | 67 => ⟨S_, .i32⟩
  | 68 => ⟨S4, .i32⟩
  | 69 => ⟨S4, .i32⟩
  | 70 => ⟨S4, .i32⟩
  | 71 => ⟨S4x1, .i32⟩
  | 72 => ⟨S4x1, .i32⟩
  | 73 => ⟨S4x2, .i32⟩
  | 74 => ⟨S4x4, .f32⟩
  | 75 => ⟨S4x1x4, .f32⟩
  | 76 => ⟨S4x1x1, .f32⟩
  | 77 => ⟨S4x1, .f32⟩
  | 78 => ⟨S4x1200x1, .f32⟩
  | 79 => ⟨S4x1200, .f32⟩
  | 80 => ⟨S4x1200, .f32⟩
  | 81 => ⟨S4x1200, .f32⟩
  | 82 => ⟨S4x1x1, .f32⟩
  | 83 => ⟨S4x1, .f32⟩
  | 84 => ⟨S4x1200x1, .f32⟩
  | 85 => ⟨S4x1200, .f32⟩
  | 86 => ⟨S4x1200, .f32⟩
  | 87 => ⟨S4x1200, .f32⟩
  | 88 => ⟨S4x1x1, .f32⟩
  | 89 => ⟨S4x1, .f32⟩
  | 90 => ⟨S4x1200x1, .f32⟩
  | 91 => ⟨S4x1200, .f32⟩
  | 92 => ⟨S4x1200, .f32⟩
  | 93 => ⟨S4x1200, .f32⟩
  | 94 => ⟨S4x1x1, .f32⟩
  | 95 => ⟨S4x1, .f32⟩
  | 96 => ⟨S4x1200x1, .f32⟩
  | 97 => ⟨S4x1200, .f32⟩
  | 98 => ⟨S4x1200, .f32⟩
  | 99 => ⟨S4x1200, .f32⟩
  | 100 => ⟨S4x1200, .f32⟩
  | 101 => ⟨S_, .f32⟩
  | 102 => ⟨S4x1200, .f32⟩
  | 103 => ⟨S4x1200, .f32⟩
  | 104 => ⟨S4x1200, .f32⟩
  | 105 => ⟨S_, .f32⟩
  | 106 => ⟨S4x1200, .f32⟩
  | 107 => ⟨S4x1200, .f32⟩
  | 108 => ⟨S4x1200, .f32⟩
  | 109 => ⟨S4x1x1, .f32⟩
  | 110 => ⟨S4x1, .f32⟩
  | 111 => ⟨S4x1x1, .f32⟩
  | 112 => ⟨S4x1, .f32⟩
  | 113 => ⟨S4x1, .f32⟩
  | 114 => ⟨S4x1x1, .f32⟩
  | 115 => ⟨S4x1, .f32⟩
  | 116 => ⟨S4x1x1, .f32⟩
  | 117 => ⟨S4x1, .f32⟩
  | 118 => ⟨S4x1, .f32⟩
  | 119 => ⟨S4x1, .f32⟩
  | 120 => ⟨S4x1200x1, .f32⟩
  | 121 => ⟨S4x1200, .f32⟩
  | 122 => ⟨S4x1200x1, .f32⟩
  | 123 => ⟨S4x1200, .f32⟩
  | 124 => ⟨S4x1200, .f32⟩
  | 125 => ⟨S4x1200x1, .f32⟩
  | 126 => ⟨S4x1200, .f32⟩
  | 127 => ⟨S4x1200x1, .f32⟩
  | _ => ⟨S4x3x20x20x85, .f32⟩

abbrev hbmTy0_2 (i : Nat) : BufTy := match i % 128 with
  | 0 => ⟨S4x1200, .f32⟩
  | 1 => ⟨S4x1200, .f32⟩
  | 2 => ⟨S4x1200, .f32⟩
  | 3 => ⟨S4x1200, .f32⟩
  | 4 => ⟨S4x1200, .f32⟩
  | 5 => ⟨S4x1200, .f32⟩
  | 6 => ⟨S_, .f32⟩
  | 7 => ⟨S4x1200, .f32⟩
  | 8 => ⟨S4x1200, .f32⟩
  | 9 => ⟨S4x1200, .f32⟩
  | 10 => ⟨S_, .f32⟩
  | 11 => ⟨S4x1200, .f32⟩
  | 12 => ⟨S4x1200, .i1⟩
  | 13 => ⟨S_, .f32⟩
  | 14 => ⟨S_, .f32⟩
  | 15 => ⟨S4x1200, .f32⟩
  | 16 => ⟨S4x1200, .f32⟩
  | 17 => ⟨S1200, .i32⟩
  | 18 => ⟨S1x1200, .i32⟩
  | 19 => ⟨S4x1, .i32⟩
  | 20 => ⟨S4x1200, .i32⟩
  | 21 => ⟨S4x1200, .i32⟩
  | 22 => ⟨S4x1200, .i1⟩
  | 23 => ⟨S_, .f32⟩
  | 24 => ⟨S_, .f32⟩
  | 25 => ⟨S4x1200, .f32⟩
  | 26 => ⟨S4x1200, .f32⟩
  | 27 => ⟨S4x1, .i1⟩
  | 28 => ⟨S_, .f32⟩
  | 29 => ⟨S_, .f32⟩
  | 30 => ⟨S4x1200, .i1⟩
  | 31 => ⟨S4x1200, .f32⟩
  | 32 => ⟨S4x1200, .f32⟩
  | 33 => ⟨S4, .f32⟩
  | 34 => ⟨S4x1, .f32⟩
  | 35 => ⟨S4x5, .f32⟩
  | 36 => ⟨S1x4x5, .f32⟩
  | 37 => ⟨S_, .i32⟩
  | 38 => ⟨S_, .i32⟩
  | 39 => ⟨S25x4x5, .f32⟩
  | 40 => ⟨S_, .i32⟩
  | 41 => ⟨S_, .i32⟩
  | 42 => ⟨S4x25x5, .f32⟩
  | 43 => ⟨S_, .i32⟩
  | 44 => ⟨S_, .f32⟩
  | 45 => ⟨S4x32x128, .f32⟩
  | _ => ⟨S4x3x20x20x85, .f32⟩

abbrev hbmTy (i : Nat) : BufTy := match i / 128 with
  | 0 => hbmTy0_0 i
  | 1 => hbmTy0_1 i
  | 2 => hbmTy0_2 i
  | _ => ⟨S4x3x20x20x85, .f32⟩

abbrev bufTy : (tb : Table) → Fin (tcTables nBuf tb) → BufTy
  | .hbm, ⟨i, _⟩ => hbmTy i
  | _, _ => ⟨S4x3x20x20x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_4 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_6 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_7 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_cst_8 : Ref sig .tc := ⟨.hbm, 83, rfl⟩
abbrev main_v72 : Ref sig .tc := ⟨.hbm, 84, rfl⟩
abbrev main_v73 : Ref sig .tc := ⟨.hbm, 85, rfl⟩
abbrev main_cst_9 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_c : Ref sig .tc := ⟨.hbm, 91, rfl⟩
abbrev main_call0_v0 : Ref sig .tc := ⟨.hbm, 92, rfl⟩
abbrev main_call0_v1 : Ref sig .tc := ⟨.hbm, 93, rfl⟩
abbrev main_v78 : Ref sig .tc := ⟨.hbm, 94, rfl⟩
abbrev main_c_10 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_13 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_14 : Ref sig .tc := ⟨.hbm, 111, rfl⟩
abbrev main_call1_v0 : Ref sig .tc := ⟨.hbm, 112, rfl⟩
abbrev main_call1_v1 : Ref sig .tc := ⟨.hbm, 113, rfl⟩
abbrev main_v91 : Ref sig .tc := ⟨.hbm, 114, rfl⟩
abbrev main_cst_15 : Ref sig .tc := ⟨.hbm, 115, rfl⟩
abbrev main_v92 : Ref sig .tc := ⟨.hbm, 116, rfl⟩
abbrev main_c_16 : Ref sig .tc := ⟨.hbm, 117, rfl⟩
abbrev main_v93_0 : Ref sig .tc := ⟨.hbm, 118, rfl⟩
abbrev main_v93_1 : Ref sig .tc := ⟨.hbm, 119, rfl⟩
abbrev main_v93_2 : Ref sig .tc := ⟨.hbm, 120, rfl⟩
abbrev main_v93_3 : Ref sig .tc := ⟨.hbm, 121, rfl⟩
abbrev main_v93_4 : Ref sig .tc := ⟨.hbm, 122, rfl⟩
abbrev main_while0c_c_22 : Ref sig .tc := ⟨.hbm, 123, rfl⟩
abbrev main_while0c_v96 : Ref sig .tc := ⟨.hbm, 124, rfl⟩
abbrev main_while0b_v96 : Ref sig .tc := ⟨.hbm, 125, rfl⟩
abbrev main_while0b_cst_22 : Ref sig .tc := ⟨.hbm, 126, rfl⟩
abbrev main_while0b_v97 : Ref sig .tc := ⟨.hbm, 127, rfl⟩
abbrev main_while0b_v98 : Ref sig .tc := ⟨.hbm, 128, rfl⟩
abbrev main_while0b_v99 : Ref sig .tc := ⟨.hbm, 129, rfl⟩
abbrev main_while0b_v100 : Ref sig .tc := ⟨.hbm, 130, rfl⟩
abbrev main_while0b_c_23 : Ref sig .tc := ⟨.hbm, 131, rfl⟩
abbrev main_while0b_call2_v0 : Ref sig .tc := ⟨.hbm, 132, rfl⟩
abbrev main_while0b_call2_v1 : Ref sig .tc := ⟨.hbm, 133, rfl⟩
abbrev main_while0b_v101 : Ref sig .tc := ⟨.hbm, 134, rfl⟩
abbrev main_while0b_c_24 : Ref sig .tc := ⟨.hbm, 135, rfl⟩
abbrev main_while0b_v102 : Ref sig .tc := ⟨.hbm, 136, rfl⟩
abbrev main_while0b_v103 : Ref sig .tc := ⟨.hbm, 137, rfl⟩
abbrev main_while0b_c_25 : Ref sig .tc := ⟨.hbm, 138, rfl⟩
abbrev main_while0b_v104 : Ref sig .tc := ⟨.hbm, 139, rfl⟩
abbrev main_while0b_v105 : Ref sig .tc := ⟨.hbm, 140, rfl⟩
abbrev main_while0b_c_26 : Ref sig .tc := ⟨.hbm, 141, rfl⟩
abbrev main_while0b_v106 : Ref sig .tc := ⟨.hbm, 142, rfl⟩
abbrev main_while0b_v107 : Ref sig .tc := ⟨.hbm, 143, rfl⟩
abbrev main_while0b_v108 : Ref sig .tc := ⟨.hbm, 144, rfl⟩
abbrev main_while0b_c_27 : Ref sig .tc := ⟨.hbm, 145, rfl⟩
abbrev main_while0b_v109 : Ref sig .tc := ⟨.hbm, 146, rfl⟩
abbrev main_while0b_v110 : Ref sig .tc := ⟨.hbm, 147, rfl⟩
abbrev main_while0b_c_28 : Ref sig .tc := ⟨.hbm, 148, rfl⟩
abbrev main_while0b_v111 : Ref sig .tc := ⟨.hbm, 149, rfl⟩
abbrev main_while0b_v112 : Ref sig .tc := ⟨.hbm, 150, rfl⟩
abbrev main_while0b_v113 : Ref sig .tc := ⟨.hbm, 151, rfl⟩
abbrev main_while0b_v114 : Ref sig .tc := ⟨.hbm, 152, rfl⟩
abbrev main_while0b_v115 : Ref sig .tc := ⟨.hbm, 153, rfl⟩
abbrev main_while0b_v116 : Ref sig .tc := ⟨.hbm, 154, rfl⟩
abbrev main_while0b_v117 : Ref sig .tc := ⟨.hbm, 155, rfl⟩
abbrev main_while0b_cst_29 : Ref sig .tc := ⟨.hbm, 156, rfl⟩
abbrev main_while0b_v118 : Ref sig .tc := ⟨.hbm, 157, rfl⟩
abbrev main_while0b_v119 : Ref sig .tc := ⟨.hbm, 158, rfl⟩
abbrev main_while0b_v120 : Ref sig .tc := ⟨.hbm, 159, rfl⟩
abbrev main_while0b_v121 : Ref sig .tc := ⟨.hbm, 160, rfl⟩
abbrev main_while0b_c_30 : Ref sig .tc := ⟨.hbm, 161, rfl⟩
abbrev main_while0b_v122 : Ref sig .tc := ⟨.hbm, 162, rfl⟩
abbrev main_while0b_v123 : Ref sig .tc := ⟨.hbm, 163, rfl⟩
abbrev main_while0b_c_31 : Ref sig .tc := ⟨.hbm, 164, rfl⟩
abbrev main_while0b_v124 : Ref sig .tc := ⟨.hbm, 165, rfl⟩
abbrev main_while0b_v125 : Ref sig .tc := ⟨.hbm, 166, rfl⟩
abbrev main_while0b_v126 : Ref sig .tc := ⟨.hbm, 167, rfl⟩
abbrev main_while0b_c_32 : Ref sig .tc := ⟨.hbm, 168, rfl⟩
abbrev main_while0b_v127 : Ref sig .tc := ⟨.hbm, 169, rfl⟩
abbrev main_while0b_v128 : Ref sig .tc := ⟨.hbm, 170, rfl⟩
abbrev main_while0b_c_33 : Ref sig .tc := ⟨.hbm, 171, rfl⟩
abbrev main_while0b_v129 : Ref sig .tc := ⟨.hbm, 172, rfl⟩
abbrev main_while0b_v130 : Ref sig .tc := ⟨.hbm, 173, rfl⟩
abbrev main_while0b_v131 : Ref sig .tc := ⟨.hbm, 174, rfl⟩
abbrev main_while0b_v132 : Ref sig .tc := ⟨.hbm, 175, rfl⟩
abbrev main_while0b_v133 : Ref sig .tc := ⟨.hbm, 176, rfl⟩
abbrev main_while0b_v134 : Ref sig .tc := ⟨.hbm, 177, rfl⟩
abbrev main_while0b_v135 : Ref sig .tc := ⟨.hbm, 178, rfl⟩
abbrev main_while0b_cst_34 : Ref sig .tc := ⟨.hbm, 179, rfl⟩
abbrev main_while0b_call3_v0 : Ref sig .tc := ⟨.hbm, 180, rfl⟩
abbrev main_while0b_call3_v1 : Ref sig .tc := ⟨.hbm, 181, rfl⟩
abbrev main_while0b_call3_v2 : Ref sig .tc := ⟨.hbm, 182, rfl⟩
abbrev main_while0b_v136 : Ref sig .tc := ⟨.hbm, 183, rfl⟩
abbrev main_while0b_v137 : Ref sig .tc := ⟨.hbm, 184, rfl⟩
abbrev main_while0b_c_35 : Ref sig .tc := ⟨.hbm, 185, rfl⟩
abbrev main_while0b_v138 : Ref sig .tc := ⟨.hbm, 186, rfl⟩
abbrev main_while0b_v139 : Ref sig .tc := ⟨.hbm, 187, rfl⟩
abbrev main_while0b_c_36 : Ref sig .tc := ⟨.hbm, 188, rfl⟩
abbrev main_while0b_v140 : Ref sig .tc := ⟨.hbm, 189, rfl⟩
abbrev main_while0b_v141 : Ref sig .tc := ⟨.hbm, 190, rfl⟩
abbrev main_while0b_v142 : Ref sig .tc := ⟨.hbm, 191, rfl⟩
abbrev main_while0b_c_37 : Ref sig .tc := ⟨.hbm, 192, rfl⟩
abbrev main_while0b_v143 : Ref sig .tc := ⟨.hbm, 193, rfl⟩
abbrev main_while0b_v144 : Ref sig .tc := ⟨.hbm, 194, rfl⟩
abbrev main_while0b_c_38 : Ref sig .tc := ⟨.hbm, 195, rfl⟩
abbrev main_while0b_v145 : Ref sig .tc := ⟨.hbm, 196, rfl⟩
abbrev main_while0b_v146 : Ref sig .tc := ⟨.hbm, 197, rfl⟩
abbrev main_while0b_v147 : Ref sig .tc := ⟨.hbm, 198, rfl⟩
abbrev main_while0b_v148 : Ref sig .tc := ⟨.hbm, 199, rfl⟩
abbrev main_while0b_v149 : Ref sig .tc := ⟨.hbm, 200, rfl⟩
abbrev main_while0b_v150 : Ref sig .tc := ⟨.hbm, 201, rfl⟩
abbrev main_while0b_v151 : Ref sig .tc := ⟨.hbm, 202, rfl⟩
abbrev main_while0b_v152 : Ref sig .tc := ⟨.hbm, 203, rfl⟩
abbrev main_while0b_v153 : Ref sig .tc := ⟨.hbm, 204, rfl⟩
abbrev main_while0b_v154 : Ref sig .tc := ⟨.hbm, 205, rfl⟩
abbrev main_while0b_v155 : Ref sig .tc := ⟨.hbm, 206, rfl⟩
abbrev main_while0b_v156 : Ref sig .tc := ⟨.hbm, 207, rfl⟩
abbrev main_while0b_v157 : Ref sig .tc := ⟨.hbm, 208, rfl⟩
abbrev main_while0b_v158 : Ref sig .tc := ⟨.hbm, 209, rfl⟩
abbrev main_while0b_v159 : Ref sig .tc := ⟨.hbm, 210, rfl⟩
abbrev main_while0b_v160 : Ref sig .tc := ⟨.hbm, 211, rfl⟩
abbrev main_while0b_v161 : Ref sig .tc := ⟨.hbm, 212, rfl⟩
abbrev main_while0b_v162 : Ref sig .tc := ⟨.hbm, 213, rfl⟩
abbrev main_while0b_v163 : Ref sig .tc := ⟨.hbm, 214, rfl⟩
abbrev main_while0b_v164 : Ref sig .tc := ⟨.hbm, 215, rfl⟩
abbrev main_while0b_v165 : Ref sig .tc := ⟨.hbm, 216, rfl⟩
abbrev main_while0b_v166 : Ref sig .tc := ⟨.hbm, 217, rfl⟩
abbrev main_while0b_v167 : Ref sig .tc := ⟨.hbm, 218, rfl⟩
abbrev main_while0b_v168 : Ref sig .tc := ⟨.hbm, 219, rfl⟩
abbrev main_while0b_v169 : Ref sig .tc := ⟨.hbm, 220, rfl⟩
abbrev main_while0b_v170 : Ref sig .tc := ⟨.hbm, 221, rfl⟩
abbrev main_while0b_v171 : Ref sig .tc := ⟨.hbm, 222, rfl⟩
abbrev main_while0b_v172 : Ref sig .tc := ⟨.hbm, 223, rfl⟩
abbrev main_while0b_v173 : Ref sig .tc := ⟨.hbm, 224, rfl⟩
abbrev main_while0b_v174 : Ref sig .tc := ⟨.hbm, 225, rfl⟩
abbrev main_while0b_v175 : Ref sig .tc := ⟨.hbm, 226, rfl⟩
abbrev main_while0b_v176 : Ref sig .tc := ⟨.hbm, 227, rfl⟩
abbrev main_while0b_v177 : Ref sig .tc := ⟨.hbm, 228, rfl⟩
abbrev main_while0b_cst_39 : Ref sig .tc := ⟨.hbm, 229, rfl⟩
abbrev main_while0b_v178 : Ref sig .tc := ⟨.hbm, 230, rfl⟩
abbrev main_while0b_v179 : Ref sig .tc := ⟨.hbm, 231, rfl⟩
abbrev main_while0b_v180 : Ref sig .tc := ⟨.hbm, 232, rfl⟩
abbrev main_while0b_cst_40 : Ref sig .tc := ⟨.hbm, 233, rfl⟩
abbrev main_while0b_v181 : Ref sig .tc := ⟨.hbm, 234, rfl⟩
abbrev main_while0b_v182 : Ref sig .tc := ⟨.hbm, 235, rfl⟩
abbrev main_while0b_v183 : Ref sig .tc := ⟨.hbm, 236, rfl⟩
abbrev main_while0b_v184 : Ref sig .tc := ⟨.hbm, 237, rfl⟩
abbrev main_while0b_v185 : Ref sig .tc := ⟨.hbm, 238, rfl⟩
abbrev main_while0b_v186 : Ref sig .tc := ⟨.hbm, 239, rfl⟩
abbrev main_while0b_v187 : Ref sig .tc := ⟨.hbm, 240, rfl⟩
abbrev main_while0b_v188 : Ref sig .tc := ⟨.hbm, 241, rfl⟩
abbrev main_while0b_v189 : Ref sig .tc := ⟨.hbm, 242, rfl⟩
abbrev main_while0b_v190 : Ref sig .tc := ⟨.hbm, 243, rfl⟩
abbrev main_while0b_v191 : Ref sig .tc := ⟨.hbm, 244, rfl⟩
abbrev main_while0b_v192 : Ref sig .tc := ⟨.hbm, 245, rfl⟩
abbrev main_while0b_v193 : Ref sig .tc := ⟨.hbm, 246, rfl⟩
abbrev main_while0b_v194 : Ref sig .tc := ⟨.hbm, 247, rfl⟩
abbrev main_while0b_v195 : Ref sig .tc := ⟨.hbm, 248, rfl⟩
abbrev main_while0b_v196 : Ref sig .tc := ⟨.hbm, 249, rfl⟩
abbrev main_while0b_v197 : Ref sig .tc := ⟨.hbm, 250, rfl⟩
abbrev main_while0b_v198 : Ref sig .tc := ⟨.hbm, 251, rfl⟩
abbrev main_while0b_v199 : Ref sig .tc := ⟨.hbm, 252, rfl⟩
abbrev main_while0b_v200 : Ref sig .tc := ⟨.hbm, 253, rfl⟩
abbrev main_while0b_v201 : Ref sig .tc := ⟨.hbm, 254, rfl⟩
abbrev main_while0b_v202 : Ref sig .tc := ⟨.hbm, 255, rfl⟩
abbrev main_while0b_v203 : Ref sig .tc := ⟨.hbm, 256, rfl⟩
abbrev main_while0b_v204 : Ref sig .tc := ⟨.hbm, 257, rfl⟩
abbrev main_while0b_v205 : Ref sig .tc := ⟨.hbm, 258, rfl⟩
abbrev main_while0b_v206 : Ref sig .tc := ⟨.hbm, 259, rfl⟩
abbrev main_while0b_v207 : Ref sig .tc := ⟨.hbm, 260, rfl⟩
abbrev main_while0b_v208 : Ref sig .tc := ⟨.hbm, 261, rfl⟩
abbrev main_while0b_cst_41 : Ref sig .tc := ⟨.hbm, 262, rfl⟩
abbrev main_while0b_v209 : Ref sig .tc := ⟨.hbm, 263, rfl⟩
abbrev main_while0b_v210 : Ref sig .tc := ⟨.hbm, 264, rfl⟩
abbrev main_while0b_v211 : Ref sig .tc := ⟨.hbm, 265, rfl⟩
abbrev main_while0b_cst_42 : Ref sig .tc := ⟨.hbm, 266, rfl⟩
abbrev main_while0b_v212 : Ref sig .tc := ⟨.hbm, 267, rfl⟩
abbrev main_while0b_v213 : Ref sig .tc := ⟨.hbm, 268, rfl⟩
abbrev main_while0b_cst_43 : Ref sig .tc := ⟨.hbm, 269, rfl⟩
abbrev main_while0b_call4_v0 : Ref sig .tc := ⟨.hbm, 270, rfl⟩
abbrev main_while0b_call4_v1 : Ref sig .tc := ⟨.hbm, 271, rfl⟩
abbrev main_while0b_v214 : Ref sig .tc := ⟨.hbm, 272, rfl⟩
abbrev main_while0b_v215 : Ref sig .tc := ⟨.hbm, 273, rfl⟩
abbrev main_while0b_v216 : Ref sig .tc := ⟨.hbm, 274, rfl⟩
abbrev main_while0b_v217 : Ref sig .tc := ⟨.hbm, 275, rfl⟩
abbrev main_while0b_v218 : Ref sig .tc := ⟨.hbm, 276, rfl⟩
abbrev main_while0b_v219 : Ref sig .tc := ⟨.hbm, 277, rfl⟩
abbrev main_while0b_v220 : Ref sig .tc := ⟨.hbm, 278, rfl⟩
abbrev main_while0b_cst_44 : Ref sig .tc := ⟨.hbm, 279, rfl⟩
abbrev main_while0b_call5_v0 : Ref sig .tc := ⟨.hbm, 280, rfl⟩
abbrev main_while0b_call5_v1 : Ref sig .tc := ⟨.hbm, 281, rfl⟩
abbrev main_while0b_v221 : Ref sig .tc := ⟨.hbm, 282, rfl⟩
abbrev main_while0b_v222 : Ref sig .tc := ⟨.hbm, 283, rfl⟩
abbrev main_while0b_cst_45 : Ref sig .tc := ⟨.hbm, 284, rfl⟩
abbrev main_while0b_call6_v0 : Ref sig .tc := ⟨.hbm, 285, rfl⟩
abbrev main_while0b_call6_v1 : Ref sig .tc := ⟨.hbm, 286, rfl⟩
abbrev main_while0b_call6_v2 : Ref sig .tc := ⟨.hbm, 287, rfl⟩
abbrev main_while0b_v223 : Ref sig .tc := ⟨.hbm, 288, rfl⟩
abbrev main_while0b_v224 : Ref sig .tc := ⟨.hbm, 289, rfl⟩
abbrev main_while0b_v225 : Ref sig .tc := ⟨.hbm, 290, rfl⟩
abbrev main_while0b_v226 : Ref sig .tc := ⟨.hbm, 291, rfl⟩
abbrev main_while0b_call7_v0 : Ref sig .tc := ⟨.hbm, 292, rfl⟩
abbrev main_while0b_call7_c : Ref sig .tc := ⟨.hbm, 293, rfl⟩
abbrev main_while0b_call7_c_0 : Ref sig .tc := ⟨.hbm, 294, rfl⟩
abbrev main_while0b_v227 : Ref sig .tc := ⟨.hbm, 295, rfl⟩
abbrev main_while0b_c_46 : Ref sig .tc := ⟨.hbm, 296, rfl⟩
abbrev main_while0b_v228 : Ref sig .tc := ⟨.hbm, 297, rfl⟩
abbrev main_v94 : Ref sig .tc := ⟨.hbm, 298, rfl⟩
abbrev main_c_17 : Ref sig .tc := ⟨.hbm, 299, rfl⟩
abbrev main_call8_v0 : Ref sig .tc := ⟨.hbm, 300, rfl⟩
abbrev main_v95 : Ref sig .tc := ⟨.hbm, 301, rfl⟩

abbrev nD : Nat := 1
abbrev τ : Topo := Topo.v7x

variable {F : FTy → Type} [FloatOps F]

abbrev main_while0_count : Scf.Loop 32 := ⟨0#32, 25#32, 1#32⟩
-- ==== Proof.Tent.lean ====
/-
Interpolation by tent weights.  For a sample position `s` clipped to `[0, B - 1]`, the weights
`max 0 (1 - |s - x|)` of the integer positions `x` are zero except at the two integers around `s`,
so a sum against them is the linear interpolation between the values at those two.
-/
module

public import Idealize.ShloMosaic.Lib.Pointwise

@[expose] public section
noncomputable section
open Idealize.ShloMosaic
namespace Interp

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-- The position clipped to `[0, B - 1]`. -/
def clip (B : ℕ) (s : EReal) : EReal := min (((B : ℝ) - 1 : ℝ) : EReal) (max 0 s)

/-- A sample counts when it lies between `-1` and `B`. -/
def inside (B : ℕ) (s : EReal) : Prop := (-1 : EReal) ≤ s ∧ s ≤ ((B : ℝ) : EReal)

open Classical in
/-- The tent weight of the integer position `x` for the sample position `s`. -/
def tent (B : ℕ) (s : EReal) (x : ℕ) : EReal :=
  if inside B s then max 0 (1 - max (clip B s - ((x : ℝ) : EReal)) (-(clip B s - ((x : ℝ) : EReal)))) else 0

/-- The integer position at or below a sample. -/
def low (B : ℕ) (s : EReal) : ℕ := ⌊(clip B s).toReal⌋₊
/-- The integer position above a sample, not beyond the last. -/
def high (B : ℕ) (s : EReal) : ℕ := min (low B s + 1) (B - 1)
/-- How far a sample lies above its lower integer position. -/
def frac (B : ℕ) (s : EReal) : ℝ := (clip B s).toReal - low B s

theorem clip_real {B : ℕ} (hB : 1 ≤ B) (s : EReal) :
    ∃ r : ℝ, clip B s = (r : EReal) ∧ 0 ≤ r ∧ r ≤ (B : ℝ) - 1 := by
  have hB' : (0 : ℝ) ≤ (B : ℝ) - 1 := by
    have : (1 : ℝ) ≤ B := by exact_mod_cast hB
    linarith
  unfold clip
  induction s with
  | bot => exact ⟨0, by rw [max_eq_left bot_le, min_eq_right (by exact_mod_cast hB')]; rfl, le_rfl, hB'⟩
  | top => exact ⟨(B : ℝ) - 1, by simp, hB', le_rfl⟩
  | coe a =>
    refine ⟨min ((B : ℝ) - 1) (max 0 a), ?_, le_min hB' (le_max_left _ _), min_le_left _ _⟩
    rw [coe_min, coe_max, EReal.coe_zero]

theorem low_lt {B : ℕ} (hB : 1 ≤ B) (s : EReal) : low B s < B := by
  obtain ⟨r, hr, h0, h1⟩ := clip_real hB s
  unfold low
  rw [hr, EReal.toReal_coe, Nat.floor_lt h0]
  linarith

theorem high_lt {B : ℕ} (hB : 1 ≤ B) (s : EReal) : high B s < B := by
  have := low_lt hB s
  unfold high; omega

theorem clip_eq {B : ℕ} (hB : 1 ≤ B) (s : EReal) : clip B s = ((low B s + frac B s : ℝ) : EReal) := by
  obtain ⟨r, hr, h0, h1⟩ := clip_real hB s
  unfold frac
  rw [hr, EReal.toReal_coe]; congr 1; ring

theorem frac_nonneg {B : ℕ} (hB : 1 ≤ B) (s : EReal) : 0 ≤ frac B s := by
  obtain ⟨r, hr, h0, h1⟩ := clip_real hB s
  unfold frac low
  rw [hr, EReal.toReal_coe]
  linarith [Nat.floor_le h0]

theorem frac_lt {B : ℕ} (hB : 1 ≤ B) (s : EReal) : frac B s < 1 := by
  obtain ⟨r, hr, h0, h1⟩ := clip_real hB s
  unfold frac low
  rw [hr, EReal.toReal_coe]
  linarith [Nat.lt_floor_add_one r]

/-- At the last position there is nothing above. -/
theorem frac_last {B : ℕ} (hB : 1 ≤ B) (s : EReal) (h : low B s = B - 1) : frac B s = 0 := by
  obtain ⟨r, hr, h0, h1⟩ := clip_real hB s
  have hl : ((low B s : ℕ) : ℝ) = (B : ℝ) - 1 := by rw [h, Nat.cast_sub hB]; simp
  have := frac_nonneg hB s
  unfold frac at this ⊢
  rw [hr, EReal.toReal_coe] at this ⊢
  rw [hl] at this ⊢
  linarith

open Classical in
/-- The tent weight as a real number. -/
theorem tent_coe {B : ℕ} (hB : 1 ≤ B) (s : EReal) (x : ℕ) : tent B s x =
    ((if inside B s then max 0 (1 - |(low B s : ℝ) + frac B s - x|) else 0 : ℝ) : EReal) := by
  unfold tent
  split
  · rw [clip_eq hB s, ← EReal.coe_sub, ← EReal.coe_neg, ← coe_max, ← EReal.coe_one, ← EReal.coe_sub,
      ← EReal.coe_zero, ← coe_max]
    rfl
  · simp

/-- A tent weight is a nonnegative real number. -/
theorem tent_real {B : ℕ} (hB : 1 ≤ B) (s : EReal) (x : ℕ) : ∃ r : ℝ, 0 ≤ r ∧ tent B s x = (r : EReal) := by
  refine ⟨_, ?_, tent_coe hB s x⟩
  split
  · exact le_max_left _ _
  · exact le_rfl

theorem tent_nonneg {B : ℕ} (hB : 1 ≤ B) (s : EReal) (x : ℕ) : 0 ≤ tent B s x := by
  obtain ⟨r, h0, h⟩ := tent_real hB s x
  rw [h]; exact_mod_cast h0

/-- The weight of the lower position. -/
theorem tent_low {B : ℕ} (hB : 1 ≤ B) (s : EReal) (hs : inside B s) : tent B s (low B s) = ((1 - frac B s : ℝ) : EReal) := by
  rw [tent_coe hB, if_pos hs]
  have h0 := frac_nonneg hB s
  have h1 := frac_lt hB s
  congr 1
  rw [show (low B s : ℝ) + frac B s - low B s = frac B s by ring, abs_of_nonneg h0, max_eq_right (by linarith)]

/-- The weight of the position after the lower one. -/
theorem tent_succ {B : ℕ} (hB : 1 ≤ B) (s : EReal) (hs : inside B s) : tent B s (low B s + 1) = ((frac B s : ℝ) : EReal) := by
  rw [tent_coe hB, if_pos hs]
  have h0 := frac_nonneg hB s
  have h1 := frac_lt hB s
  congr 1
  rw [Nat.cast_add, Nat.cast_one, show (low B s : ℝ) + frac B s - (low B s + 1) = -(1 - frac B s) by ring, abs_neg,
    abs_of_nonneg (by linarith), max_eq_right (by linarith)]
  ring

/-- Every other position has weight zero. -/
theorem tent_far {B : ℕ} (hB : 1 ≤ B) (s : EReal) (x : ℕ) (h : x ≠ low B s) (h' : x ≠ low B s + 1) : tent B s x = 0 := by
  rw [tent_coe hB, ← EReal.coe_zero]
  have h0 := frac_nonneg hB s
  have h1 := frac_lt hB s
  congr 1
  split
  · apply max_eq_left
    rcases Nat.lt_or_ge x (low B s) with hx | hx
    · have : (x : ℝ) + 1 ≤ low B s := by exact_mod_cast hx
      have := le_abs_self ((low B s : ℝ) + frac B s - x)
      linarith
    · have hx2 : low B s + 2 ≤ x := by omega
      have : (low B s : ℝ) + 2 ≤ x := by exact_mod_cast hx2
      have := neg_abs_le ((low B s : ℝ) + frac B s - x)
      linarith
  · rfl

open Classical in
/-- A sum against the tent weights is the interpolation between the two positions around the sample. -/
theorem sum_tent {B N : ℕ} (hB : 1 ≤ B) (hN : B ≤ N) (s : EReal) (f : ℕ → EReal) :
    ∑ x : Fin N, tent B s x * f x = if inside B s
      then f (low B s) * ((1 - frac B s : ℝ) : EReal) + f (high B s) * ((frac B s : ℝ) : EReal) else 0 := by
  have hl := low_lt hB s
  split
  case isFalse h =>
    refine Finset.sum_eq_zero fun x _ => ?_
    rw [tent, if_neg h, zero_mul]
  case isTrue h =>
    rw [Fin.sum_univ_eq_sum_range (fun x => tent B s x * f x) N]
    by_cases hlast : low B s = B - 1
    · have hf := frac_last hB s hlast
      rw [Finset.sum_eq_single (low B s)]
      · rw [tent_low hB s h, hf]; simp [mul_comm]
      · intro x _ hx
        by_cases hx' : x = low B s + 1
        · rw [hx', tent_succ hB s h, hf]; simp
        · rw [tent_far hB s x hx hx', zero_mul]
      · intro hx; exact absurd (Finset.mem_range.mpr (by omega)) hx
    · have hh : high B s = low B s + 1 := by unfold high; omega
      rw [hh, ← Finset.sum_subset (s₁ := {low B s, low B s + 1})]
      · rw [Finset.sum_pair (by omega), tent_low hB s h, tent_succ hB s h, mul_comm, mul_comm (f (low B s + 1))]
      · intro x hx
        simp only [Finset.mem_insert, Finset.mem_singleton] at hx
        exact Finset.mem_range.mpr (by omega)
      · intro x _ hx
        simp only [Finset.mem_insert, Finset.mem_singleton, not_or] at hx
        rw [tent_far hB s x hx.1 hx.2, zero_mul]

/-- A nonnegative real factor goes into a finite sum. -/
theorem real_mul_sum {ι : Type*} (S : Finset ι) {r : ℝ} (hr : 0 ≤ r) (f : ι → EReal) :
    (r : EReal) * ∑ i ∈ S, f i = ∑ i ∈ S, (r : EReal) * f i := by
  classical
  induction S using Finset.induction_on with
  | empty => simp
  | insert a S ha ih =>
    rw [Finset.sum_insert ha, Finset.sum_insert ha, EReal.left_distrib_of_nonneg_of_ne_top (by exact_mod_cast hr)
      (EReal.coe_ne_top r), ih]

/-- The average of two tent weights, as a kernel accumulates it from zero. -/
def pair (B : ℕ) (s0 s1 : EReal) (x : ℕ) : EReal := (0 + tent B s0 x + tent B s1 x) * ((1 / 2 : ℝ) : EReal)

/-- Summing against the average of two weights averages the two sums. -/
theorem sum_pair {B N : ℕ} (hB : 1 ≤ B) (s0 s1 : EReal) (f : ℕ → EReal) :
    ∑ x : Fin N, pair B s0 s1 x * f x
      = ((1 / 2 : ℝ) : EReal) * (∑ x : Fin N, tent B s0 x * f x + ∑ x : Fin N, tent B s1 x * f x) := by
  rw [← Finset.sum_add_distrib, real_mul_sum _ (by norm_num)]
  refine Finset.sum_congr rfl fun x _ => ?_
  rw [pair, zero_add, mul_comm _ ((1 / 2 : ℝ) : EReal), mul_assoc,
    EReal.right_distrib_of_nonneg (tent_nonneg hB _ _) (tent_nonneg hB _ _)]

open Classical in
/-- The bilinear sample of `f` at `(sy, sx)`: zero when either coordinate is outside. -/
def bilinear (H W : ℕ) (sy sx : EReal) (f : ℕ → ℕ → EReal) : EReal :=
  if inside H sy ∧ inside W sx then
    f (low H sy) (low W sx) * ((1 - frac H sy : ℝ) : EReal) * ((1 - frac W sx : ℝ) : EReal)
    + f (high H sy) (low W sx) * ((frac H sy : ℝ) : EReal) * ((1 - frac W sx : ℝ) : EReal)
    + f (low H sy) (high W sx) * ((1 - frac H sy : ℝ) : EReal) * ((frac W sx : ℝ) : EReal)
    + f (high H sy) (high W sx) * ((frac H sy : ℝ) : EReal) * ((frac W sx : ℝ) : EReal)
  else 0

theorem add_mul_real (a b : EReal) {r : ℝ} (hr : 0 ≤ r) : (a + b) * (r : EReal) = a * r + b * r := by
  rw [mul_comm, EReal.left_distrib_of_nonneg_of_ne_top (by exact_mod_cast hr) (EReal.coe_ne_top r), mul_comm a, mul_comm b]

open Classical in
/-- Tent weights in both directions give the bilinear sample. -/
theorem sum_sum_tent {H W N M : ℕ} (hH : 1 ≤ H) (hW : 1 ≤ W) (hN : H ≤ N) (hM : W ≤ M) (sy sx : EReal) (f : ℕ → ℕ → EReal) :
    ∑ x : Fin M, tent W sx x * (∑ y : Fin N, tent H sy y * f y x) = bilinear H W sy sx f := by
  have h := fun x : ℕ => sum_tent hH hN sy (fun y => f y x)
  simp only [h]
  rw [sum_tent hW hM sx (fun x => if inside H sy
      then f (low H sy) x * ((1 - frac H sy : ℝ) : EReal) + f (high H sy) x * ((frac H sy : ℝ) : EReal) else 0)]
  unfold bilinear
  by_cases h1 : inside H sy <;> by_cases h2 : inside W sx
  · have a := frac_nonneg hW sx
    have b := frac_lt hW sx
    rw [if_pos h2, if_pos h1, if_pos h1, if_pos ⟨h1, h2⟩, add_mul_real _ _ (by linarith), add_mul_real _ _ a, ← add_assoc]
  · rw [if_neg h2, if_neg fun h => h2 h.2]
  · rw [if_pos h2, if_neg h1, if_neg h1, if_neg fun h => h1 h.1]; simp
  · rw [if_neg h2, if_neg fun h => h2 h.2]

/-- Averaged tent weights in both directions give the mean of the four bilinear samples. -/
theorem sum_sum_pair {H W N M : ℕ} (hH : 1 ≤ H) (hW : 1 ≤ W) (hN : H ≤ N) (hM : W ≤ M)
    (y0 y1 x0 x1 : EReal) (f : ℕ → ℕ → EReal) :
    ∑ x : Fin M, pair W x0 x1 x * (∑ y : Fin N, pair H y0 y1 y * f y x)
      = ((1 / 4 : ℝ) : EReal) * (bilinear H W y0 x0 f + bilinear H W y0 x1 f + (bilinear H W y1 x0 f + bilinear H W y1 x1 f)) := by
  have hhalf : (0 : ℝ) ≤ 1 / 2 := by norm_num
  have key : ∀ sx, ∑ x : Fin M, tent W sx x * (∑ y : Fin N, pair H y0 y1 y * f y x)
      = ((1 / 2 : ℝ) : EReal) * (bilinear H W y0 sx f + bilinear H W y1 sx f) := by
    intro sx
    rw [← sum_sum_tent hH hW hN hM, ← sum_sum_tent hH hW hN hM, ← Finset.sum_add_distrib, real_mul_sum _ hhalf]
    refine Finset.sum_congr rfl fun x _ => ?_
    rw [sum_pair hH y0 y1 (fun y => f y x)]
    obtain ⟨t, ht0, ht⟩ := tent_real hW sx x
    rw [ht, mul_left_comm, EReal.left_distrib_of_nonneg_of_ne_top (by exact_mod_cast ht0) (EReal.coe_ne_top t)]
  have hs := sum_pair (N := M) hW x0 x1 (fun x => ∑ y : Fin N, pair H y0 y1 y * f y x)
  rw [hs, key, key, ← EReal.left_distrib_of_nonneg_of_ne_top (by exact_mod_cast hhalf) (EReal.coe_ne_top _), ← mul_assoc,
    ← EReal.coe_mul, show (1 / 2 * (1 / 2) : ℝ) = 1 / 4 by norm_num]
  congr 1
  abel

end Interp
end
end
-- ==== Proof.Weights.lean ====
/-
The scalar facts behind the sampling weights: the constants, the words that select a box row and a
sample position, and the two ways of writing a sample position.
-/
module

public import proofs.«01_k».proof.Proof.Tent
public import Idealize.ShloMosaic.Lib.Pipeline.ValueKit

@[expose] public section
noncomputable section
open Idealize.ShloMosaic
namespace Interp

/-! The constants the programs use. -/

theorem c_quarter : Ideal.ofBits .f32 1048576000#32 = ((1 / 4 : ℝ) : EReal) := by
  simp [Ideal.ofBits, Ideal.ieee, -EReal.coe_mul]; norm_num
theorem c_half : Ideal.ofBits .f32 1056964608#32 = ((1 / 2 : ℝ) : EReal) := by
  simp [Ideal.ofBits, Ideal.ieee, -EReal.coe_mul]; norm_num
theorem c_three : Ideal.ofBits .f32 1061158912#32 = ((3 / 4 : ℝ) : EReal) := by
  simp [Ideal.ofBits, Ideal.ieee, -EReal.coe_mul]; norm_num
theorem c_neg : Ideal.ofBits .f32 3212836864#32 = -1 := by
  simp [Ideal.ofBits, Ideal.ieee, -EReal.coe_mul]; norm_num
theorem c_2 : Ideal.ofBits .f32 1073741824#32 = ((2 : ℝ) : EReal) := by
  simp [Ideal.ofBits, Ideal.ieee, -EReal.coe_mul]; norm_num
theorem c_4 : Ideal.ofBits .f32 1082130432#32 = ((4 : ℝ) : EReal) := by
  simp [Ideal.ofBits, Ideal.ieee, -EReal.coe_mul]; norm_num
theorem c_7 : Ideal.ofBits .f32 1088421888#32 = ((7 : ℝ) : EReal) := by
  simp [Ideal.ofBits, Ideal.ieee, -EReal.coe_mul]; norm_num
theorem c_79 : Ideal.ofBits .f32 1117650944#32 = (((80 : ℕ) : ℝ) - 1 : ℝ) := by
  simp [Ideal.ofBits, Ideal.ieee, -EReal.coe_mul, -EReal.coe_sub]; norm_num
theorem c_80 : Ideal.ofBits .f32 1117782016#32 = (((80 : ℕ) : ℝ) : EReal) := by
  simp [Ideal.ofBits, Ideal.ieee, -EReal.coe_mul]; norm_num
theorem c_39 : Ideal.ofBits .f32 1109131264#32 = (((40 : ℕ) : ℝ) - 1 : ℝ) := by
  simp [Ideal.ofBits, Ideal.ieee, -EReal.coe_mul, -EReal.coe_sub]; norm_num
theorem c_40 : Ideal.ofBits .f32 1109393408#32 = (((40 : ℕ) : ℝ) : EReal) := by
  simp [Ideal.ofBits, Ideal.ieee, -EReal.coe_mul]; norm_num
theorem c_19 : Ideal.ofBits .f32 1100480512#32 = (((20 : ℕ) : ℝ) - 1 : ℝ) := by
  simp [Ideal.ofBits, Ideal.ieee, -EReal.coe_mul, -EReal.coe_sub]; norm_num
theorem c_20 : Ideal.ofBits .f32 1101004800#32 = (((20 : ℕ) : ℝ) : EReal) := by
  simp [Ideal.ofBits, Ideal.ieee, -EReal.coe_mul]; norm_num

/-- A natural number below `2 ^ 31` carried through a word. -/
theorem toInt_nat (n : ℕ) (h : n < 2 ^ 31) : (BitVec.ofNat 32 n).toInt = n := by
  rw [BitVec.toInt_eq_toNat_of_lt] <;> simp [BitVec.toNat_ofNat] <;> omega

theorem sitofp_nat (n : ℕ) (h : n < 2 ^ 31) :
    FloatOps.sitofp (F := Ideal) .f32 (BitVec.ofNat 32 n) = (((n : ℝ)) : EReal) := by
  show (((BitVec.ofNat 32 n).toInt : ℝ) : EReal) = _
  rw [toInt_nat n h]; simp

/-- The row number's box: row `r` of the 176 belongs to box `r / 7`. -/
theorem word_div : ∀ r : Fin 176,
    (Scalar.select
                (IntOp.andi
                  (IntOp.cmpi CmpIPredicate.ne
                    (IntOp.subi (BitVec.setWidth 32 (IntOp.cmpi CmpIPredicate.sgt (BitVec.ofNat 32 ↑r) 0#32))
                      (BitVec.setWidth 32 (IntOp.cmpi CmpIPredicate.slt (BitVec.ofNat 32 ↑r) 0#32)))
                    (Scalar.subi (Scalar.extui (Scalar.cmpi CmpIPredicate.sgt 7#32 0#32))
                      (Scalar.extui (Scalar.cmpi CmpIPredicate.slt 7#32 0#32))))
                  (IntOp.cmpi CmpIPredicate.ne (IntOp.remsi ArithUnit.vector (BitVec.ofNat 32 ↑r) 7#32) 0#32))
                (IntOp.subi (IntOp.divsi ArithUnit.vector (BitVec.ofNat 32 ↑r) 7#32) 1#32)
                (IntOp.divsi ArithUnit.vector (BitVec.ofNat 32 ↑r) 7#32)) = BitVec.ofNat 32 (r / 7) := by
  decide +kernel

/-- The row number's place in its box. -/
theorem word_mod : ∀ r : Fin 176,
    (Scalar.select
        (IntOp.andi
          (IntOp.xori
            (IntOp.cmpi CmpIPredicate.slt
              (IntOp.remsi ArithUnit.vector (BitVec.ofNat 32 ↑r)
                (Scalar.select (Scalar.cmpi CmpIPredicate.eq 7#32 0#32) 1#32 7#32))
              0#32)
            (Scalar.cmpi CmpIPredicate.slt (Scalar.select (Scalar.cmpi CmpIPredicate.eq 7#32 0#32) 1#32 7#32) 0#32))
          (IntOp.cmpi CmpIPredicate.ne
            (IntOp.remsi ArithUnit.vector (BitVec.ofNat 32 ↑r)
              (Scalar.select (Scalar.cmpi CmpIPredicate.eq 7#32 0#32) 1#32 7#32))
            0#32))
        (IntOp.addi
          (IntOp.remsi ArithUnit.vector (BitVec.ofNat 32 ↑r)
            (Scalar.select (Scalar.cmpi CmpIPredicate.eq 7#32 0#32) 1#32 7#32))
          (Scalar.select (Scalar.cmpi CmpIPredicate.eq 7#32 0#32) 1#32 7#32))
        (IntOp.remsi ArithUnit.vector (BitVec.ofNat 32 ↑r)
          (Scalar.select (Scalar.cmpi CmpIPredicate.eq 7#32 0#32) 1#32 7#32))) = BitVec.ofNat 32 (r % 7) := by
  decide +kernel

/-- The row number's place in its box, with the divisor's own test already decided. -/
theorem word_mod' : ∀ r : Fin 176,
    (Scalar.select
      (IntOp.andi
        (IntOp.xori
          (IntOp.cmpi CmpIPredicate.slt (IntOp.remsi ArithUnit.vector (BitVec.ofNat 32 ↑r) 7#32) 0#32)
          (Scalar.cmpi CmpIPredicate.slt 7#32 0#32))
        (IntOp.cmpi CmpIPredicate.ne (IntOp.remsi ArithUnit.vector (BitVec.ofNat 32 ↑r) 7#32) 0#32))
      (IntOp.addi (IntOp.remsi ArithUnit.vector (BitVec.ofNat 32 ↑r) 7#32) 7#32)
      (IntOp.remsi ArithUnit.vector (BitVec.ofNat 32 ↑r) 7#32)) = BitVec.ofNat 32 (r % 7) := by
  decide +kernel

/-- A zero-one weight at one position picks that position's value out of a sum. -/
theorem pick {N : ℕ} (d : Fin N) (hN : N < 2 ^ 31) (f : Fin N → EReal) :
    ∑ x : Fin N, FloatOps.sitofp (F := Ideal) .f32 (BitVec.setWidth 32
      (IntOp.cmpi CmpIPredicate.eq (BitVec.ofNat 32 d) (BitVec.ofNat 32 x))) * f x = f d := by
  rw [Finset.sum_eq_single d]
  · have : FloatOps.sitofp (F := Ideal) .f32 (BitVec.setWidth 32
      (IntOp.cmpi CmpIPredicate.eq (BitVec.ofNat 32 d) (BitVec.ofNat 32 d))) = 1 := by
      show (((BitVec.setWidth 32 (BitVec.ofBool (BitVec.ofNat 32 d.val == BitVec.ofNat 32 d.val))).toInt : ℝ) : EReal) = 1
      simp
    rw [this, one_mul]
  · intro x _ hx
    have hne : (BitVec.ofNat 32 d.val == BitVec.ofNat 32 x.val) = false := by
      rw [beq_eq_false_iff_ne]
      intro h
      have := congrArg BitVec.toNat h
      simp only [BitVec.toNat_ofNat] at this
      rw [Nat.mod_eq_of_lt (by omega), Nat.mod_eq_of_lt (by omega)] at this
      exact hx (Fin.ext this.symm)
    have : FloatOps.sitofp (F := Ideal) .f32 (BitVec.setWidth 32
      (IntOp.cmpi CmpIPredicate.eq (BitVec.ofNat 32 d) (BitVec.ofNat 32 x))) = 0 := by
      show (((BitVec.setWidth 32 (BitVec.ofBool (BitVec.ofNat 32 d.val == BitVec.ofNat 32 x.val))).toInt : ℝ) : EReal) = 0
      rw [hne]; simp
    rw [this, zero_mul]
  · simp

/-- The weight the kernel computes at one position is the tent weight. -/
theorem select_tent (B x : ℕ) (hx : x < 2 ^ 31) (s : EReal) :
    Scalar.select (IntOp.andi (BitVec.ofBool (decide ((-1 : EReal) ≤ s))) (BitVec.ofBool (decide (s ≤ ((B : ℝ) : EReal)))))
      (max 0 (1 - FloatOps.absf (F := Ideal) (φ := .f32)
        (min (((B : ℝ) - 1 : ℝ) : EReal) (max 0 s) - FloatOps.sitofp (F := Ideal) .f32 (BitVec.ofNat 32 x)))) 0
      = tent B s x := by
  classical
  rw [sitofp_nat x hx]
  unfold tent inside clip
  by_cases h1 : (-1 : EReal) ≤ s <;> by_cases h2 : s ≤ ((B : ℝ) : EReal) <;>
    simp only [h1, h2, decide_true, decide_false, and_true, and_false, and_self, if_true, if_false] <;> rfl

/-- The mean of the two weights the kernel computes at one position. -/
theorem select_pair (B x : ℕ) (hx : x < 2 ^ 31) (s0 s1 m1 b b1 h : EReal) (hm : m1 = -1) (hb : b = ((B : ℝ) : EReal))
    (hb1 : b1 = (((B : ℝ) - 1 : ℝ) : EReal)) (hh : h = ((1 / 2 : ℝ) : EReal)) :
    (Scalar.select (IntOp.andi (BitVec.ofBool (decide (m1 ≤ s0))) (BitVec.ofBool (decide (s0 ≤ b))))
        (max 0 (1 - FloatOps.absf (F := Ideal) (φ := .f32)
          (min b1 (max 0 s0) - FloatOps.sitofp (F := Ideal) .f32 (BitVec.ofNat 32 x)))) 0
      + Scalar.select (IntOp.andi (BitVec.ofBool (decide (m1 ≤ s1))) (BitVec.ofBool (decide (s1 ≤ b))))
        (max 0 (1 - FloatOps.absf (F := Ideal) (φ := .f32)
          (min b1 (max 0 s1) - FloatOps.sitofp (F := Ideal) .f32 (BitVec.ofNat 32 x)))) 0) * h
      = pair B s0 s1 x := by
  subst hm hb hb1 hh
  rw [select_tent B x hx s0, select_tent B x hx s1]
  unfold pair
  rw [zero_add]

theorem sum_mul_congr {n : ℕ} (f g h : Fin n → EReal) (c : EReal) (H : ∀ k, f k = g k) :
    ∑ k, f k * h k + c = ∑ k, g k * h k + c := by
  rw [funext H]

/-- The length of one of a box's seven cells along an axis. -/
def step (lo hi : EReal) : EReal := Ideal.div (max (hi - lo) 1) ((7 : ℝ) : EReal)

/-- A sample position: the cell number plus `c` cells from the box's edge. -/
def pos (lo hi : EReal) (p : ℕ) (c : ℝ) : EReal := lo + step lo hi * (((p : ℝ) : EReal) + (c : EReal))

/-- The mean of the four samples of cell `(py, px)` of a box with corners `(lx, ly)` and `(hx, hy)`. -/
def cell (H W : ℕ) (lx ly hx hy : EReal) (py px : ℕ) (f : ℕ → ℕ → EReal) : EReal :=
  ((1 / 4 : ℝ) : EReal) *
    (bilinear H W (pos ly hy py (1 / 4)) (pos lx hx px (1 / 4)) f + bilinear H W (pos ly hy py (1 / 4)) (pos lx hx px (3 / 4)) f
      + (bilinear H W (pos ly hy py (3 / 4)) (pos lx hx px (1 / 4)) f + bilinear H W (pos ly hy py (3 / 4)) (pos lx hx px (3 / 4)) f))

/-- A sample position written with the cell's corner first. -/
theorem pos_corner (lo s : EReal) (p g : ℕ) :
    lo + ((p : ℝ) : EReal) * s + Ideal.div ((((g : ℝ) : EReal) + ((1 / 2 : ℝ) : EReal)) * s) ((2 : ℝ) : EReal)
      = lo + s * (((p : ℝ) : EReal) + (((g : ℝ) / 2 + 1 / 4 : ℝ) : EReal)) := by
  have hg : (0 : ℝ) ≤ (g : ℝ) / 2 + 1 / 4 := by positivity
  rw [EReal.left_distrib_of_nonneg (by exact_mod_cast Nat.cast_nonneg p) (by exact_mod_cast hg), ← add_assoc, mul_comm s ((p : ℝ) : EReal)]
  congr 1
  unfold Ideal.div
  rw [if_neg (by norm_num), ← EReal.coe_add, mul_comm _ s, mul_assoc, ← EReal.coe_inv, ← EReal.coe_mul]
  congr 2
  ring

end Interp
end
-- ==== Proof.Greedy.lean ====
/-
Greedy suppression of overlapping boxes over the extended reals: the first index of the largest score is kept, it and
every box overlapping it are given score -1, and so on.  The same step on a table of rows of 128 lanes.
-/
module

public import proofs.«01_k».proof.Proof.Weights

@[expose] public section
noncomputable section
open Idealize.ShloMosaic
namespace Greedy

theorem c_bot : Ideal.ofBits .f32 4286578688#32 = ⊥ := by simp [Ideal.ofBits, Ideal.ieee]
theorem c_top : Ideal.ofBits .f32 2139095040#32 = ⊤ := by simp [Ideal.ofBits, Ideal.ieee]
theorem c_big : Ideal.ofBits .f32 1315859240#32 = ((1000000000 : ℝ) : EReal) := by
  simp [Ideal.ofBits, Ideal.ieee, -EReal.coe_mul]
  norm_num

/-- `i` is the first index at which `s` is largest. -/
def IsFirst {N : ℕ} (s : Fin N → EReal) (i : Fin N) : Prop := (∀ n, s n ≤ s i) ∧ ∀ n, s n = s i → i ≤ n

theorem exists_first {N : ℕ} [NeZero N] (s : Fin N → EReal) : ∃ i, IsFirst s i := by
  obtain ⟨m, -, hm⟩ := Finset.exists_max_image (Finset.univ : Finset (Fin N)) s ⟨0, Finset.mem_univ _⟩
  obtain ⟨i, hi, hle⟩ := Finset.exists_min_image (Finset.univ.filter fun n => s n = s m) id ⟨m, by simp⟩
  have e : s i = s m := (Finset.mem_filter.1 hi).2
  refine ⟨i, fun n => e ▸ hm n (Finset.mem_univ _), fun n hn => hle n ?_⟩
  exact Finset.mem_filter.2 ⟨Finset.mem_univ _, hn.trans e⟩

/-- The first index at which `s` is largest. -/
def first {N : ℕ} [NeZero N] (s : Fin N → EReal) : Fin N := (exists_first s).choose

theorem first_spec {N : ℕ} [NeZero N] (s : Fin N → EReal) : IsFirst s (first s) := (exists_first s).choose_spec

theorem IsFirst.eq {N : ℕ} {s : Fin N → EReal} {i j : Fin N} (hi : IsFirst s i) (hj : IsFirst s j) : i = j :=
  le_antisymm (hi.2 j (le_antisymm (hi.1 j) (hj.1 i))) (hj.2 i (le_antisymm (hj.1 i) (hi.1 j)))

/-- Boxes by their corners, and the shift that keeps the classes apart. -/
structure Boxes (N : ℕ) where
  x1 : Fin N → EReal
  y1 : Fin N → EReal
  x2 : Fin N → EReal
  y2 : Fin N → EReal
  o : Fin N → EReal

variable {N : ℕ}

/-- The overlap of two shifted boxes. -/
def inter (B : Boxes N) (i n : Fin N) : EReal :=
  max (min (B.x2 n + B.o n) (B.x2 i + B.o i) - max (B.x1 n + B.o n) (B.x1 i + B.o i)) 0 *
    max (min (B.y2 n + B.o n) (B.y2 i + B.o i) - max (B.y1 n + B.o n) (B.y1 i + B.o i)) 0

def area (B : Boxes N) (n : Fin N) : EReal := (B.x2 n - B.x1 n) * (B.y2 n - B.y1 n)

/-- The overlap over the area of the union. -/
def iou (B : Boxes N) (i n : Fin N) : EReal :=
  Ideal.div (inter B i n) (area B i + area B n - inter B i n + Ideal.ofBits .f32 814313567#32)

/-- The scores after box `i` is kept. -/
def next (B : Boxes N) (s : Fin N → EReal) (i n : Fin N) : EReal :=
  if n = i then -1 else if Ideal.ofBits .f32 1060320051#32 < iou B i n then -1 else s n

/-- The scores before choice `k`. -/
def scores [NeZero N] (B : Boxes N) (s : Fin N → EReal) : ℕ → Fin N → EReal
  | 0 => s
  | k + 1 => next B (scores B s k) (first (scores B s k))

/-- What is written for one choice: the corners, and whether the box counts. -/
def entry [NeZero N] (B : Boxes N) (s : Fin N → EReal) (l : Fin 128) : EReal :=
  if 0 < s (first s) then
    (if l.val = 0 then B.x1 (first s) else if l.val = 1 then B.y1 (first s) else if l.val = 2 then B.x2 (first s)
      else if l.val = 3 then B.y2 (first s) else if l.val = 4 then 1 else 0)
  else 0

/-- The table of the 25 choices. -/
def table [NeZero N] (B : Boxes N) (s : Fin N → EReal) (r : Fin 32) (l : Fin 128) : EReal :=
  if r.val < 25 then entry B (scores B s r.val) l else 0

/-- Every score is -1 or positive. -/
def Marked (s : Fin N → EReal) : Prop := ∀ n, s n = -1 ∨ 0 < s n

theorem Marked.next {B : Boxes N} {s : Fin N → EReal} (h : Marked s) (i : Fin N) : Marked (next B s i) := by
  intro n
  unfold Greedy.next
  split_ifs
  · exact .inl rfl
  · exact .inl rfl
  · exact h n

theorem Marked.scores [NeZero N] {B : Boxes N} {s : Fin N → EReal} (h : Marked s) (k : ℕ) : Marked (scores B s k) := by
  induction k with
  | zero => exact h
  | succ k ih => exact ih.next _

theorem neg_lt : (-1 : EReal) < 0 := by
  have : ((-1 : ℝ) : EReal) < ((0 : ℝ) : EReal) := EReal.coe_lt_coe_iff.2 (by norm_num)
  simpa using this

theorem Marked.le {s : Fin N → EReal} (h : Marked s) (n : Fin N) : -1 ≤ s n := by
  rcases h n with h | h
  · exact h.ge
  · exact neg_lt.le.trans h.le

/-- Where no score is positive, the next scores are all -1. -/
theorem next_of_not {B : Boxes N} {s : Fin N → EReal} (h : Marked s) {i : Fin N} (hi : IsFirst s i) (h0 : ¬ 0 < s i)
    (n : Fin N) : next B s i n = -1 := by
  have hn : s n = -1 := (h n).resolve_right fun h' => h0 (h'.trans_le (hi.1 n))
  unfold next
  split_ifs
  · rfl
  · rfl
  · exact hn

/-! ### The step on a table of rows of 128 lanes -/

variable {R : ℕ}

/-- The table `t` holds `s` in its first `N` places and -1 after. -/
def Holds (t : Fin R → Fin 128 → EReal) (s : Fin N → EReal) : Prop :=
  ∀ r l, t r l = if h : 128 * r.val + l.val < N then s ⟨128 * r.val + l.val, h⟩ else -1

/-- The table `t` holds `a` in its first `N` places. -/
def Meets (t : Fin R → Fin 128 → EReal) (a : Fin N → EReal) : Prop :=
  ∀ r l, (h : 128 * r.val + l.val < N) → t r l = a ⟨128 * r.val + l.val, h⟩

/-- The row of place `n`. -/
def row (hN : N ≤ 128 * R) (n : Fin N) : Fin R := ⟨n.val / 128, by omega⟩
/-- The lane of place `n`. -/
def lane (n : Fin N) : Fin 128 := ⟨n.val % 128, by omega⟩

theorem Holds.at (hN : N ≤ 128 * R) {t : Fin R → Fin 128 → EReal} {s : Fin N → EReal} (h : Holds t s) (n : Fin N) :
    t (row hN n) (lane n) = s n := by
  have e : 128 * (row hN n).val + (lane n).val = n.val := by show 128 * (n.val / 128) + n.val % 128 = n.val; omega
  rw [h, dif_pos (by omega)]
  congr 1
  exact Fin.ext e

theorem Meets.at (hN : N ≤ 128 * R) {t : Fin R → Fin 128 → EReal} {s : Fin N → EReal} (h : Meets t s) (n : Fin N) :
    t (row hN n) (lane n) = s n := by
  have e : 128 * (row hN n).val + (lane n).val = n.val := by show 128 * (n.val / 128) + n.val % 128 = n.val; omega
  rw [h _ _ (by omega)]
  congr 1
  exact Fin.ext e

/-- The largest entry of a table. -/
def tmax (t : Fin R → Fin 128 → EReal) : EReal :=
  Finset.univ.fold max ⊥ fun l => Finset.univ.fold max ⊥ fun r => t r l

/-- The smallest place at which the table is at least `m`. -/
def tmin (m : EReal) (p t : Fin R → Fin 128 → EReal) : EReal :=
  Finset.univ.fold min ⊤ fun l => Finset.univ.fold min ⊤ fun r => if m ≤ t r l then p r l else ((1000000000 : ℝ) : EReal)

theorem tmax_eq (hN : N ≤ 128 * R) {t : Fin R → Fin 128 → EReal} {s : Fin N → EReal} (h : Holds t s) (hm : Marked s)
    {i : Fin N} (hi : IsFirst s i) : tmax t = s i := by
  apply le_antisymm
  · refine (Finset.fold_max_le _).2 ⟨bot_le, fun l _ => (Finset.fold_max_le _).2 ⟨bot_le, fun r _ => ?_⟩⟩
    rw [h]
    split_ifs
    · exact hi.1 _
    · exact hm.le i
  · refine (Finset.le_fold_max _).2 (.inr ⟨lane i, Finset.mem_univ _, (Finset.le_fold_max _).2 (.inr ⟨row hN i, Finset.mem_univ _, ?_⟩)⟩)
    exact (h.at hN i).ge

theorem tmin_eq (hN : N ≤ 128 * R) (hb : N ≤ 1000000000) {t : Fin R → Fin 128 → EReal} {s : Fin N → EReal} (h : Holds t s)
    (hm : Marked s) {i : Fin N} (hi : IsFirst s i) (p : Fin R → Fin 128 → EReal)
    (hp : ∀ r l, p r l = ((((128 * r.val + l.val : ℕ) : ℝ)) : EReal)) : tmin (s i) p t = (((i.val : ℕ) : ℝ) : EReal) := by
  apply le_antisymm
  · refine (Finset.fold_min_le _).2 (.inr ⟨lane i, Finset.mem_univ _, (Finset.fold_min_le _).2 (.inr ⟨row hN i, Finset.mem_univ _, ?_⟩)⟩)
    rw [if_pos (h.at hN i).ge, hp]
    have e : 128 * (row hN i).val + (lane i).val = i.val := by show 128 * (i.val / 128) + i.val % 128 = i.val; omega
    rw [e]
  · refine (Finset.le_fold_min _).2 ⟨le_top, fun l _ => (Finset.le_fold_min _).2 ⟨le_top, fun r _ => ?_⟩⟩
    split_ifs with hle
    · rw [hp, EReal.coe_le_coe_iff, Nat.cast_le]
      rw [h] at hle
      split_ifs at hle with hlt
      · exact hi.2 _ (le_antisymm (hi.1 _) hle)
      · omega
    · rw [EReal.coe_le_coe_iff]
      have : (i.val : ℝ) ≤ ((1000000000 : ℕ) : ℝ) := Nat.cast_le.2 (by omega)
      exact this.trans (by norm_num)

/-- The mark of the chosen place. -/
theorem mark_eq (i : Fin N) (r : Fin R) (l : Fin 128) :
    (((((128 * r.val + l.val : ℕ) : ℝ)) : EReal) = (((i.val : ℕ) : ℝ) : EReal)) ↔ 128 * r.val + l.val = i.val := by
  rw [EReal.coe_eq_coe_iff, Nat.cast_inj]

/-- A table summed against the mark of one place. -/
theorem pick_eq (hN : N ≤ 128 * R) {t : Fin R → Fin 128 → EReal} {a : Fin N → EReal} (h : Meets t a) (i : Fin N)
    (o : Fin R → Fin 128 → EReal) (ho : ∀ r l, o r l = if 128 * r.val + l.val = i.val then 1 else 0) :
    (∑ l, ∑ r, o r l * t r l) = a i := by
  rw [Finset.sum_eq_single (lane i), Finset.sum_eq_single (row hN i), ho, if_pos, one_mul, h.at hN]
  · show 128 * (i.val / 128) + i.val % 128 = i.val
    omega
  · intro r _ hr
    rw [ho, if_neg, zero_mul]
    intro e
    apply hr
    apply Fin.ext
    have e' : 128 * r.val + i.val % 128 = i.val := e
    show r.val = i.val / 128
    omega
  · intro h'
    exact absurd (Finset.mem_univ _) h'
  · intro l _ hl
    refine Finset.sum_eq_zero fun r _ => ?_
    rw [ho, if_neg, zero_mul]
    intro e
    apply hl
    apply Fin.ext
    show l.val = i.val % 128
    omega
  · intro h'
    exact absurd (Finset.mem_univ _) h'

/-- The overlap ratio as the table computes it from the chosen box's five numbers. -/
def tiou (x1 y1 x2 y2 o a p1 p2 p3 p4 po pa : EReal) : EReal :=
  let I := max (min (x2 + o) (p3 + po) - max (x1 + o) (p1 + po)) 0 * max (min (y2 + o) (p4 + po) - max (y1 + o) (p2 + po)) 0
  Ideal.div I (pa + a - I + Ideal.ofBits .f32 814313567#32)

/-- One step of the table. -/
theorem holds_next {B : Boxes N} {t x1 y1 x2 y2 o a : Fin R → Fin 128 → EReal} {s : Fin N → EReal} (h : Holds t s) (i : Fin N)
    (h1 : Meets x1 B.x1) (h2 : Meets y1 B.y1) (h3 : Meets x2 B.x2) (h4 : Meets y2 B.y2) (h5 : Meets o B.o)
    (h6 : Meets a (area B)) (t' : Fin R → Fin 128 → EReal)
    (ht : ∀ r l, t' r l = if Ideal.ofBits .f32 1060320051#32 < tiou (x1 r l) (y1 r l) (x2 r l) (y2 r l) (o r l) (a r l)
        (B.x1 i) (B.y1 i) (B.x2 i) (B.y2 i) (B.o i) (area B i) ∨ 128 * r.val + l.val = i.val then -1 else t r l) :
    Holds t' (next B s i) := by
  intro r l
  rw [ht]
  by_cases hlt : 128 * r.val + l.val < N
  · rw [dif_pos hlt, h1 _ _ hlt, h2 _ _ hlt, h3 _ _ hlt, h4 _ _ hlt, h5 _ _ hlt, h6 _ _ hlt, h r l, dif_pos hlt]
    unfold next
    simp only [Fin.ext_iff]
    by_cases he : 128 * r.val + l.val = i.val
    · simp only [he, or_true, if_true]
    · simp only [he, or_false, if_false]
      rfl
  · rw [dif_neg hlt, h r l, dif_neg hlt, ite_self]

/-! ### The first largest of a list of numbers, found one at a time -/

/-- The largest so far and its first place. -/
def run (f : ℕ → EReal) : ℕ → EReal × ℕ
  | 0 => (f 0, 0)
  | k + 1 => if (run f k).1 < f (k + 1) then (f (k + 1), k + 1) else run f k

theorem run_spec (f : ℕ → EReal) (k : ℕ) : (run f k).1 = f (run f k).2 ∧ (run f k).2 ≤ k ∧ (∀ q ≤ k, f q ≤ (run f k).1) ∧
    ∀ q ≤ k, f q = (run f k).1 → (run f k).2 ≤ q := by
  induction k with
  | zero => exact ⟨rfl, le_rfl, fun q hq => by rw [Nat.le_zero.1 hq]; exact le_rfl, fun q _ _ => Nat.zero_le q⟩
  | succ k ih =>
    obtain ⟨h1, h2, h3, h4⟩ := ih
    unfold run
    split_ifs with h
    · refine ⟨rfl, le_rfl, fun q hq => ?_, fun q hq he => ?_⟩
      · rcases Nat.lt_or_ge q (k + 1) with hlt | hge
        · exact (h3 q (by omega)).trans h.le
        · rw [show q = k + 1 by omega]
      · rcases Nat.lt_or_ge q (k + 1) with hlt | hge
        · exact absurd ((show f (k + 1) = f q from he.symm).le.trans (h3 q (by omega))) (not_le.2 h)
        · exact hge
    · refine ⟨h1, by omega, fun q hq => ?_, fun q hq he => ?_⟩
      · rcases Nat.lt_or_ge q (k + 1) with hlt | hge
        · exact h3 q (by omega)
        · rw [show q = k + 1 by omega]
          exact not_lt.1 h
      · rcases Nat.lt_or_ge q (k + 1) with hlt | hge
        · exact h4 q (by omega) he
        · omega

theorem run_congr {f g : ℕ → EReal} {k : ℕ} (h : ∀ q ≤ k, f q = g q) : run f k = run g k := by
  induction k with
  | zero => unfold run; rw [h 0 le_rfl]
  | succ k ih => unfold run; rw [ih fun q hq => h q (by omega), h (k + 1) le_rfl]

/-- The running maximum over `0 … n` is the first largest of the family on `Fin (n + 1)`. -/
theorem run_first {n : ℕ} (f : ℕ → EReal) (c : Fin (n + 1)) (hc : IsFirst (fun q : Fin (n + 1) => f q.val) c) :
    run f n = (f c.val, c.val) := by
  obtain ⟨h1, h2, h3, h4⟩ := run_spec f n
  have hf : IsFirst (fun q : Fin (n + 1) => f q.val) ⟨(run f n).2, by omega⟩ :=
    ⟨fun q => (h3 q.val (by omega)).trans h1.le, fun q hq => h4 q.val (by omega) (hq.trans h1.symm)⟩
  have e := congrArg Fin.val (hf.eq hc)
  refine Prod.ext ?_ e
  rw [h1]
  exact congrArg f e

section Running
variable {F : FTy → Type} [FloatOps F] {s : Shape}

/-- The running maximum of a list of arrays and its place, element by element. -/
def best (cls : ℕ → FVec F s .f32) : ℕ → FVec F s .f32 × IVec s 32
  | 0 => (cls 0, broadcast s 0#32)
  | k + 1 => (select (cmpf .ogt (cls (k + 1)) (best cls k).1) (cls (k + 1)) (best cls k).1,
      select (cmpf .ogt (cls (k + 1)) (best cls k).1) (broadcast s (BitVec.ofNat 32 (k + 1))) (best cls k).2)
end Running

theorem best_eq {s : Shape} (cls : ℕ → FVec Ideal s .f32) (k : ℕ) (j : s.Idx) :
    (best cls k).1 j = (run (fun q => cls q j) k).1 ∧ (best cls k).2 j = BitVec.ofNat 32 (run (fun q => cls q j) k).2 := by
  induction k with
  | zero => exact ⟨rfl, rfl⟩
  | succ k ih =>
    obtain ⟨h1, h2⟩ := ih
    unfold best run
    constructor
    · pointwise []
      rw [h1]
      split_ifs <;> rfl
    · pointwise []
      rw [h1, h2]
      split_ifs <;> rfl

end Greedy
-- ==== Proof.Point.lean ====
/-
The words that number the points of a level: column and row of the point a place of the table stands for.
-/
module

public import proofs.«01_k».proof.Proof.Weights
public import Idealize.ShloMosaic.Lib.Routing.Words

@[expose] public section
noncomputable section
open Idealize.ShloMosaic Idealize.ShloMosaic.Routing
namespace Point

/-- The divisor, with 1 in the place of 0. -/
def dvs (d : BitVec 32) : BitVec 32 := Scalar.select (Scalar.cmpi CmpIPredicate.eq d 0#32) 1#32 d

/-- The remainder with the divisor's sign. -/
def modw (w d : BitVec 32) : BitVec 32 :=
  Scalar.select (IntOp.andi (IntOp.xori (IntOp.cmpi CmpIPredicate.slt (IntOp.remsi ArithUnit.vector w (dvs d)) 0#32)
      (Scalar.cmpi CmpIPredicate.slt (dvs d) 0#32)) (IntOp.cmpi CmpIPredicate.ne (IntOp.remsi ArithUnit.vector w (dvs d)) 0#32))
    (IntOp.addi (IntOp.remsi ArithUnit.vector w (dvs d)) (dvs d)) (IntOp.remsi ArithUnit.vector w (dvs d))

/-- The quotient rounded down. -/
def divw (w d : BitVec 32) : BitVec 32 :=
  Scalar.select (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt d 0#32)) (Scalar.extui (Scalar.cmpi CmpIPredicate.slt d 0#32))))
      (IntOp.cmpi CmpIPredicate.ne (IntOp.remsi ArithUnit.vector w d) 0#32))
    (IntOp.subi (IntOp.divsi ArithUnit.vector w d) 1#32) (IntOp.divsi ArithUnit.vector w d)

theorem slt_zero {n : ℕ} (h : n < 2 ^ 31) : IntOp.cmpi CmpIPredicate.slt (BitVec.ofNat 32 n) 0#32 = 0#1 := by
  show BitVec.ofBool (BitVec.slt _ _) = _
  rw [BitVec.slt_eq_decide, Interp.toInt_nat n h, decide_eq_false]
  · rfl
  · simp

theorem slt_word {m n : ℕ} (h : m < 2 ^ 31) (hn : n < 2 ^ 31) :
    IntOp.cmpi CmpIPredicate.slt (BitVec.ofNat 32 m) (BitVec.ofNat 32 n) = BitVec.ofBool (decide (m < n)) := by
  show BitVec.ofBool (BitVec.slt _ _) = _
  rw [BitVec.slt_eq_decide, Interp.toInt_nat m h, Interp.toInt_nat n hn]
  simp

theorem sgt_zero {n : ℕ} (h : n < 2 ^ 31) : IntOp.cmpi CmpIPredicate.sgt (BitVec.ofNat 32 n) 0#32 = BitVec.ofBool (decide (0 < n)) := by
  show BitVec.ofBool (BitVec.slt _ _) = _
  rw [BitVec.slt_eq_decide, Interp.toInt_nat n h]
  simp

theorem ofNat_ne {d : ℕ} (h0 : 0 < d) (h : d < 2 ^ 31) : (BitVec.ofNat 32 d == 0#32) = false := by
  rw [beq_eq_false_iff_ne]
  intro e
  have := congrArg BitVec.toNat e
  rw [BitVec.toNat_ofNat, Nat.mod_eq_of_lt (by omega)] at this
  simp at this
  omega

theorem dvs_eq {d : ℕ} (h0 : 0 < d) (h : d < 2 ^ 31) : dvs (BitVec.ofNat 32 d) = BitVec.ofNat 32 d := by
  have : Scalar.cmpi CmpIPredicate.eq (BitVec.ofNat 32 d) 0#32 = 0#1 := by
    show BitVec.ofBool (BitVec.ofNat 32 d == 0#32) = _
    rw [ofNat_ne h0 h]
    rfl
  unfold dvs
  rw [this]
  rfl

theorem modw_eq {n d : ℕ} (hn : n < 2 ^ 31) (h0 : 0 < d) (h : d < 2 ^ 31) :
    modw (BitVec.ofNat 32 n) (BitVec.ofNat 32 d) = BitVec.ofNat 32 (n % d) := by
  unfold modw
  have hs : Scalar.cmpi CmpIPredicate.slt (BitVec.ofNat 32 d) 0#32 = 0#1 := slt_zero h
  rw [dvs_eq h0 h, remsi_word ArithUnit.vector hn h0 h, slt_zero (lt_of_le_of_lt (Nat.mod_le n d) hn), hs]
  have : IntOp.andi (IntOp.xori 0#1 0#1) (IntOp.cmpi CmpIPredicate.ne (BitVec.ofNat 32 (n % d)) 0#32) = 0#1 := by
    show 0#1 &&& _ = 0#1
    exact BitVec.zero_and
  rw [this]
  rfl

theorem divw_eq {n d : ℕ} (hn : n < 2 ^ 31) (h0 : 0 < d) (h : d < 2 ^ 31) :
    divw (BitVec.ofNat 32 n) (BitVec.ofNat 32 d) = BitVec.ofNat 32 (n / d) := by
  unfold divw
  have h1 : Scalar.cmpi CmpIPredicate.slt (BitVec.ofNat 32 d) 0#32 = 0#1 := slt_zero h
  have h2 : Scalar.cmpi CmpIPredicate.sgt (BitVec.ofNat 32 d) 0#32 = 1#1 := by
    refine (sgt_zero h).trans ?_
    rw [decide_eq_true h0]
    rfl
  rw [remsi_word ArithUnit.vector hn h0 h, divsi_word ArithUnit.vector hn h0 h, slt_zero hn, sgt_zero hn, h1, h2]
  rcases Nat.eq_zero_or_pos n with rfl | hp
  · rw [Nat.zero_mod]
    have : ∀ w : BitVec 1, IntOp.andi w (IntOp.cmpi CmpIPredicate.ne (BitVec.ofNat 32 0) 0#32) = 0#1 := by decide
    rw [this]
    rfl
  · rw [decide_eq_true hp]
    have : ∀ w : BitVec 1, IntOp.andi (IntOp.cmpi CmpIPredicate.ne
        (IntOp.subi (BitVec.setWidth 32 (BitVec.ofBool true)) (BitVec.setWidth 32 0#1))
        (Scalar.subi (Scalar.extui 1#1 : BitVec 32) (Scalar.extui 0#1))) w = 0#1 := by decide
    rw [this]
    rfl

theorem place {r l : ℕ} (h : 128 * r + l < 2 ^ 31) :
    IntOp.addi (IntOp.muli (BitVec.ofNat 32 r) 128#32) (BitVec.ofNat 32 l) = BitVec.ofNat 32 (128 * r + l) := by
  show BitVec.ofNat 32 r * BitVec.ofNat 32 128 + BitVec.ofNat 32 l = _
  rw [← BitVec.ofNat_mul, ← BitVec.ofNat_add, Nat.mul_comm]

/-- The place's column. -/
theorem col {r l d : ℕ} (h : 128 * r + l < 2 ^ 31) (h0 : 0 < d) (hd : d < 2 ^ 31) :
    FloatOps.sitofp (F := Ideal) .f32 (modw (IntOp.addi (IntOp.muli (BitVec.ofNat 32 r) 128#32) (BitVec.ofNat 32 l)) (BitVec.ofNat 32 d))
      = (((((128 * r + l) % d : ℕ) : ℝ)) : EReal) := by
  rw [place h, modw_eq h h0 hd, Interp.sitofp_nat _ (lt_of_le_of_lt (Nat.mod_le _ d) h)]

/-- The place's row. -/
theorem row {r l d e : ℕ} (h : 128 * r + l < 2 ^ 31) (h0 : 0 < d) (hd : d < 2 ^ 31) (he : 0 < e) (he' : e < 2 ^ 31) :
    FloatOps.sitofp (F := Ideal) .f32 (modw (divw (IntOp.addi (IntOp.muli (BitVec.ofNat 32 r) 128#32) (BitVec.ofNat 32 l)) (BitVec.ofNat 32 d))
      (BitVec.ofNat 32 e)) = (((((128 * r + l) / d % e : ℕ) : ℝ)) : EReal) := by
  have hq : (128 * r + l) / d < 2 ^ 31 := lt_of_le_of_lt (Nat.div_le_self _ d) h
  rw [place h, divw_eq h h0 hd, modw_eq hq he he', Interp.sitofp_nat _ (lt_of_le_of_lt (Nat.mod_le _ e) hq)]

end Point
-- ==== Proof.SupRun2.lean ====
/-
The loop of the suppression call on the 20 x 20 level: what each of the 25 trips stores, as functions of the arrays the
loop starts from.
-/
module

public import proofs.«01_k».proof.Proof.Gen.Suppress2Ideal.Frame
public import proofs.«01_k».proof.Proof.Greedy
public import proofs.«01_k».proof.Proof.Point
public import Idealize.ShloMosaic.Lib.Pipeline.ValueKit
public import Idealize.ShloMosaic.Lib.VecWindow

@[expose] public section
set_option maxRecDepth 16384
noncomputable section
open Idealize.ShloMosaic Idealize.ShloMosaic.TcCoe Idealize.SL.Sem
namespace Cert.Suppress2Ideal.Sup2
open Cert.Suppress2Ideal Cert.Suppress2Ideal.Gen Greedy
variable {F : FTy → Type} [FloatOps F]

/-- Channel `k` of the block. -/
def plane (x0 : Vec F S1x85x16x128 .f32) (k : ℕ) : Vec F S1x1x16x128 .f32 :=
  fun j => x0 (ix4 0 (if h : k < 85 then ⟨k, h⟩ else 0) (j 2) (j 3))

theorem load (arg1 : Memref sig .tc .vmem S1x85x16x128 .f32) (harg1 : arg1.IsWhole) (x0 : Vec F S1x85x16x128 .f32) (k : ℕ)
    (inb : ∀ a, (![0, k, 0, 0] : Fin 4 → ℕ) a + (![1, 1, 16, 128] : Fin 4 → ℕ) a ≤ S1x85x16x128.size a) :
    View.readAt (Elt F) arg1.view (Rect.unit (s := S1x85x16x128) ![0, k, 0, 0] ![1, 1, 16, 128] inb).toLoadRect (harg1.unread x0) = plane x0 k := by
  simp only [View.readAt_eq_ld, harg1.read_unread]
  have hk : k < 85 := by have := inb 1; simpa using this
  funext j
  idx_vars j
  obtain rfl : j0 = 0 := Subsingleton.elim _ _
  obtain rfl : j1 = 0 := Subsingleton.elim _ _
  pointwise [plane]
  simp [hk]

def objOf (x0 : Vec F S1x85x16x128 .f32) : FVec F S16x128 .f32 := k0_pay27 (plane x0 4)
def clsOf (x0 : Vec F S1x85x16x128 .f32) (k : ℕ) : FVec F S16x128 .f32 :=
  mulf (logistic (shapeCast S16x128 (plane x0 (k + 5)) shapeCasts_S1x1x16x128_S16x128)) (objOf x0)

theorem r51 (c : Dev nD) (arg1 : Memref sig .tc .vmem S1x85x16x128 .f32) (harg1 : arg1.IsWhole) (x0 : Vec F S1x85x16x128 .f32) :
    kernelRun0_A.sl.r_51 c arg1 harg1 x0 = (best (clsOf x0) 78).1 := by
  sl_unfold_words
  simp only [load]
  sl_kernel_rfl

theorem r52 (c : Dev nD) (arg1 : Memref sig .tc .vmem S1x85x16x128 .f32) (harg1 : arg1.IsWhole) (x0 : Vec F S1x85x16x128 .f32) :
    kernelRun0_A.sl.r_52 c arg1 harg1 x0 = (best (clsOf x0) 78).2 := by
  sl_unfold_words
  simp only [load]
  sl_kernel_rfl

/-- The scores after one more choice. -/
def stepS (X1 Y1 X2 Y2 O A N sv : FVec F S16x128 .f32) : FVec F S16x128 .f32 :=
  k0_pay10 X1 Y1 X2 Y2 O A sv (k0_pay3 N sv) (k0_pay4 X1 N sv) (k0_pay5 Y1 N sv) (k0_pay6 X2 N sv) (k0_pay7 Y2 N sv)
    (k0_pay8 O N sv)

/-- The row written for one choice. -/
def rowS (X1 Y1 X2 Y2 N sv : FVec F S16x128 .f32) (lane : IVec S1x128 32) : FVec F S1x1x128 .f32 :=
  k0_pay1 (k0_pay12 lane (k0_pay4 X1 N sv) (k0_pay5 Y1 N sv) (k0_pay6 X2 N sv) (k0_pay7 Y2 N sv) (k0_pay9 (k0_pay2 sv)) k0_pay11)

variable (c : Dev nD) (i : grid0.Coords) (arg1 : Memref sig .tc .vmem S1x85x16x128 .f32) (harg1 : arg1.IsWhole)
  (arg2 : Memref sig .tc .vmem S16x128 .f32) (harg2 : arg2.IsWhole) (arg3 : Memref sig .tc .vmem S16x128 .f32) (harg3 : arg3.IsWhole)
  (arg4 : Memref sig .tc .vmem S1x32x128 .f32) (harg4 : arg4.IsWhole) (arg5 : Memref sig .tc .vmem S16x128 .f32) (harg5 : arg5.IsWhole)

theorem trip (X1 Y1 X2 Y2 O A N : FVec F S16x128 .f32) (lane : IVec S1x128 32) (k : Fin k0_t1_loop.trips)
    (f4 : BufTy.Contents (Elt F) arg4.view.ty) (f5 : BufTy.Contents (Elt F) arg5.view.ty) :
    tripL_k0_t1 Variants.none c none i arg1 harg1 arg2 harg2 arg3 harg3 arg4 harg4 arg5 harg5 X1 Y1 X2 Y2 O A N lane k f4 f5
      = ([⟨Rect.unit (s := S1x32x128) (k0_off1 k) S1x1x128.size (k0_off1_inb k),
            rowS X1 Y1 X2 Y2 N (View.readAt (Elt F) arg5.view (Rect.unit (s := S16x128) ![0, 0] S16x128.size inb_S16x128_S16x128_0_0).toLoadRect f5) lane⟩],
         [⟨Rect.unit (s := S16x128) ![0, 0] S16x128.size inb_S16x128_S16x128_0_0,
            stepS X1 Y1 X2 Y2 O A N (View.readAt (Elt F) arg5.view (Rect.unit (s := S16x128) ![0, 0] S16x128.size inb_S16x128_S16x128_0_0).toLoadRect f5)⟩]) := by
  sl_kernel_rfl

/-- The scores before the choice of a given number. -/
def scoreS (X1 Y1 X2 Y2 O A N s0 : FVec F S16x128 .f32) : ℕ → FVec F S16x128 .f32
  | 0 => s0
  | k + 1 => stepS X1 Y1 X2 Y2 O A N (scoreS X1 Y1 X2 Y2 O A N s0 k)

variable (X1 Y1 X2 Y2 O A N s0 : FVec F S16x128 .f32) (lane : IVec S1x128 32)
  (g4 : BufTy.Contents (Elt F) arg4.view.ty) (g5 : BufTy.Contents (Elt F) arg5.view.ty)

theorem scores_at (hs : arg5.view.read (Elt F) g5 = s0) (k : ℕ) (hk : k ≤ 25) :
    arg5.view.read (Elt F) (arg5.view.writes (Elt F) g5
      (pb_k0_t1 Variants.none c none i arg1 harg1 arg2 harg2 arg3 harg3 arg4 harg4 arg5 harg5 X1 Y1 X2 Y2 O A N lane g4 g5 k).2)
      = scoreS X1 Y1 X2 Y2 O A N s0 k := by
  induction k with
  | zero => exact hs
  | succ k ih =>
    have hk' : k < k0_t1_loop.trips := by
      have : k0_t1_loop.trips = 25 := by decide +kernel
      omega
    have h := pb_k0_t1_succ Variants.none c none i arg1 harg1 arg2 harg2 arg3 harg3 arg4 harg4 arg5 harg5 X1 Y1 X2 Y2 O A N lane g4 g5 ⟨k, hk'⟩
    rw [trip] at h
    rw [h]
    dsimp only [List.cons_append, List.nil_append]
    rw [View.read_writes_full, View.readAt_eq_ld, View.ld_unit_zero (by funext a; fin_cases a <;> rfl), ih (by omega)]
    rfl

theorem off1 (k : Fin k0_t1_loop.trips) : k0_off1 k = ![0, k.val, 0] := by
  revert k; decide +kernel

theorem rows_at (hs : arg5.view.read (Elt F) g5 = s0) (T : List (View.Piece (Elt F) S1x32x128 .f32)) (z : Vec F S1x32x128 .f32)
    (hT : View.canon T = z) (k : ℕ) (hk : k ≤ 25) (r : Fin 32) (l : Fin 128) :
    View.canon ((pb_k0_t1 Variants.none c none i arg1 harg1 arg2 harg2 arg3 harg3 arg4 harg4 arg5 harg5 X1 Y1 X2 Y2 O A N lane g4 g5 k).1 ++ T)
      (ix3 0 r l) = if r.val < k then rowS X1 Y1 X2 Y2 N (scoreS X1 Y1 X2 Y2 O A N s0 r.val) lane (ix3 0 0 l) else z (ix3 0 r l) := by
  induction k with
  | zero => exact congrFun hT _
  | succ k ih =>
    have hk' : k < k0_t1_loop.trips := by
      have : k0_t1_loop.trips = 25 := by decide +kernel
      omega
    have h := pb_k0_t1_succ Variants.none c none i arg1 harg1 arg2 harg2 arg3 harg3 arg4 harg4 arg5 harg5 X1 Y1 X2 Y2 O A N lane g4 g5 ⟨k, hk'⟩
    rw [trip] at h
    rw [h]
    dsimp only [List.cons_append, List.nil_append]
    have hv := scores_at c i arg1 harg1 arg2 harg2 arg3 harg3 arg4 harg4 arg5 harg5 X1 Y1 X2 Y2 O A N s0 lane g4 g5 hs k (by omega)
    rw [View.readAt_eq_ld, View.ld_unit_zero (by funext a; fin_cases a <;> rfl), hv]
    by_cases hr : r.val = k
    · have e : (Rect.unit (s := S1x32x128) (k0_off1 ⟨k, hk'⟩) S1x1x128.size (k0_off1_inb ⟨k, hk'⟩)).emb (ix3 0 0 l) = ix3 0 r l := by
        funext a
        apply Fin.ext
        refine (Rect.idx_unit_val _ _ _ _ a).trans ?_
        rw [congrFun (off1 ⟨k, hk'⟩) a]
        fin_cases a
        · rfl
        · show k + 0 = r.val
          omega
        · exact Nat.zero_add l.val
      rw [← e, View.canon_cons_emb, if_pos (by omega), hr]
    · rw [View.canon_cons_of_not_mem, ih (by omega)]
      · simp only [show (r.val < k + 1) = (r.val < k) by simp; omega]
      · intro hm
        obtain ⟨x, hx⟩ := LoadRect.exists_idx_of_mem _ hm
        have := congrArg (fun y : S1x32x128.Idx => (y 1).val) hx
        have h2 : k0_off1 ⟨k, hk'⟩ 1 + (x 1).val = r.val :=
          (Rect.idx_unit_val (s := S1x32x128) (k0_off1 ⟨k, hk'⟩) S1x1x128.size (k0_off1_inb ⟨k, hk'⟩) x 1).symm.trans this
        rw [congrFun (off1 ⟨k, hk'⟩) 1] at h2
        have h3 : (x 1).val < 1 := (x 1).isLt
        simp at h2
        omega
end Cert.Suppress2Ideal.Sup2
-- ==== Proof.SupVal2.lean ====
/-
The suppression call on the 20 x 20 level over the extended reals: each trip is one step of the greedy choice.
-/
module

public import proofs.«01_k».proof.Proof.SupRun2

@[expose] public section
set_option maxRecDepth 16384
noncomputable section
open Idealize.ShloMosaic Idealize.ShloMosaic.TcCoe Idealize.SL.Sem
namespace Cert.Suppress2Ideal.Sup2
open Cert.Suppress2Ideal Cert.Suppress2Ideal.Gen Greedy

/-- An array of 16 rows as a table. -/
def tab (v : FVec Ideal S16x128 .f32) (r : Fin 16) (l : Fin 128) : EReal := v (ix2 r l)

variable {N sv : FVec Ideal S16x128 .f32} {s : Fin 1200 → EReal} {i : Fin 1200}

theorem mx (sv : FVec Ideal S16x128 .f32) : k0_pay2 (F := Ideal) sv (ix2 0 0) = tmax (tab sv) := by
  pointwise [k0_pay2]
  rw [c_bot]
  rfl

theorem oh (hN : ∀ r l, N (ix2 r l) = ((((128 * r.val + l.val : ℕ) : ℝ)) : EReal)) (h : Holds (tab sv) s) (hm : Marked s)
    (hi : IsFirst s i) (r : Fin 16) (l : Fin 128) :
    k0_pay3 N sv (ix2 r l) = if 128 * r.val + l.val = i.val then 1 else 0 := by
  have e : k0_pay3 N sv (ix2 r l) = FloatOps.sitofp (F := Ideal) .f32 (BitVec.setWidth 32 (BitVec.ofBool
      (decide (N (ix2 r l) = tmin (k0_pay2 (F := Ideal) sv (ix2 0 0)) (tab N) (tab sv))))) := by
    pointwise [k0_pay3]
    rw [c_top, c_big]
    rfl
  rw [e, mx, tmax_eq (by norm_num) h hm hi, tmin_eq (by norm_num) (by norm_num) h hm hi (tab N) hN, hN]
  simp only [mark_eq]
  by_cases h : 128 * r.val + l.val = i.val
  · simp only [h, decide_true, if_true]
    show (((1#32).toInt : ℝ) : EReal) = 1
    simp
  · simp only [h, decide_false, if_false]
    show (((0#32).toInt : ℝ) : EReal) = 0
    simp

section
variable (hN : ∀ r l, N (ix2 r l) = ((((128 * r.val + l.val : ℕ) : ℝ)) : EReal)) (h : Holds (tab sv) s) (hm : Marked s)
    (hi : IsFirst s i) {v : FVec Ideal S16x128 .f32} {a : Fin 1200 → EReal} (ha : Meets (tab v) a)
include hN h hm hi ha
theorem p4 : k0_pay4 v N sv (ix2 0 0) = a i := by
  pointwise [k0_pay4]
  exact pick_eq (by norm_num) ha i (fun r l => k0_pay3 N sv (ix2 r l)) (oh hN h hm hi)
theorem p5 : k0_pay5 v N sv (ix2 0 0) = a i := by
  pointwise [k0_pay5]
  exact pick_eq (by norm_num) ha i (fun r l => k0_pay3 N sv (ix2 r l)) (oh hN h hm hi)
theorem p6 : k0_pay6 v N sv (ix2 0 0) = a i := by
  pointwise [k0_pay6]
  exact pick_eq (by norm_num) ha i (fun r l => k0_pay3 N sv (ix2 r l)) (oh hN h hm hi)
theorem p7 : k0_pay7 v N sv (ix2 0 0) = a i := by
  pointwise [k0_pay7]
  exact pick_eq (by norm_num) ha i (fun r l => k0_pay3 N sv (ix2 r l)) (oh hN h hm hi)
theorem p8 : k0_pay8 v N sv (ix2 0 0) = a i := by
  pointwise [k0_pay8]
  exact pick_eq (by norm_num) ha i (fun r l => k0_pay3 N sv (ix2 r l)) (oh hN h hm hi)
end

/-- A mask of two conditions chooses as their disjunction. -/
theorem select_or {a b : Bool} {p : Prop} [Decidable p] (h : (a = true ∨ b = true) ↔ p) (x y : EReal) :
    Scalar.select (IntOp.ori (BitVec.ofBool a) (BitVec.ofBool b)) x y = if p then x else y := by
  cases a <;> cases b <;> simp at h <;> simp [h] <;> rfl

variable {X1 Y1 X2 Y2 O A s0 : FVec Ideal S16x128 .f32} {B : Boxes 1200}
    (hN : ∀ r l, N (ix2 r l) = ((((128 * r.val + l.val : ℕ) : ℝ)) : EReal))
    (h1 : Meets (tab X1) B.x1) (h2 : Meets (tab Y1) B.y1) (h3 : Meets (tab X2) B.x2) (h4 : Meets (tab Y2) B.y2)
    (h5 : Meets (tab O) B.o) (h6 : Meets (tab A) (area B))

include hN h1 h2 h3 h4 h5 h6 in
theorem step_holds (h : Holds (tab sv) s) (hm : Marked s) (hi : IsFirst s i) :
    Holds (tab (stepS X1 Y1 X2 Y2 O A N sv)) (next B s i) := by
  refine holds_next h i h1 h2 h3 h4 h5 h6 _ fun r l => ?_
  show stepS X1 Y1 X2 Y2 O A N sv (ix2 r l) = _
  unfold stepS
  have q1 := p4 hN h hm hi h1
  have q2 := p5 hN h hm hi h2
  have q3 := p6 hN h hm hi h3
  have q4 := p7 hN h hm hi h4
  have q5 := p8 hN h hm hi h5
  have qo := oh hN h hm hi
  have qa := pick_eq (by norm_num) h6 i (fun r l => k0_pay3 N sv (ix2 r l)) qo
  generalize k0_pay4 X1 N sv = P1 at *
  generalize k0_pay5 Y1 N sv = P2 at *
  generalize k0_pay6 X2 N sv = P3 at *
  generalize k0_pay7 Y2 N sv = P4 at *
  generalize k0_pay8 O N sv = P5 at *
  generalize k0_pay3 N sv = H at *
  pointwise [k0_pay10]
  rw [show (∑ x, ∑ y, H (ix2 y x) * A (ix2 y x)) = area B i from qa, q1, q2, q3, q4, q5, Interp.c_neg]
  refine select_or ?_ _ _
  rw [decide_eq_true_eq, decide_eq_true_eq, qo]
  refine or_congr Iff.rfl ?_
  split_ifs with he
  · simp [he]
  · simp [he]

theorem lane_word : ∀ (c : Fin 5) (l : Fin 128), IntOp.cmpi CmpIPredicate.eq (BitVec.ofNat 32 l.val) (BitVec.ofNat 32 c.val)
    = BitVec.ofBool (decide (l.val = c.val)) := by decide +kernel

theorem select_decide {p : Prop} [Decidable p] (x y : EReal) :
    Scalar.select (BitVec.ofBool (decide p)) x y = if p then x else y := by
  by_cases h : p <;> simp [h] <;> rfl

theorem row_eq (h1 : Meets (tab X1) B.x1) (h2 : Meets (tab Y1) B.y1) (h3 : Meets (tab X2) B.x2) (h4 : Meets (tab Y2) B.y2)
    (hN : ∀ r l, N (ix2 r l) = ((((128 * r.val + l.val : ℕ) : ℝ)) : EReal)) (h : Holds (tab sv) s) (hm : Marked s)
    (l : Fin 128) : rowS X1 Y1 X2 Y2 N sv kernelRun0_A.sl.v771 (ix3 0 0 l) = entry B s l := by
  have hi := first_spec s
  unfold rowS
  have q1 := p4 hN h hm hi h1
  have q2 := p5 hN h hm hi h2
  have q3 := p6 hN h hm hi h3
  have q4 := p7 hN h hm hi h4
  have q5 := mx sv
  have w0 : IntOp.cmpi CmpIPredicate.eq (BitVec.ofNat 32 l.val) 0#32 = BitVec.ofBool (decide (l.val = 0)) := lane_word 0 l
  have w1 : IntOp.cmpi CmpIPredicate.eq (BitVec.ofNat 32 l.val) 1#32 = BitVec.ofBool (decide (l.val = 1)) := lane_word 1 l
  have w2 : IntOp.cmpi CmpIPredicate.eq (BitVec.ofNat 32 l.val) 2#32 = BitVec.ofBool (decide (l.val = 2)) := lane_word 2 l
  have w3 : IntOp.cmpi CmpIPredicate.eq (BitVec.ofNat 32 l.val) 3#32 = BitVec.ofBool (decide (l.val = 3)) := lane_word 3 l
  have w4 : IntOp.cmpi CmpIPredicate.eq (BitVec.ofNat 32 l.val) 4#32 = BitVec.ofBool (decide (l.val = 4)) := lane_word 4 l
  generalize k0_pay4 X1 N sv = P1 at *
  generalize k0_pay5 Y1 N sv = P2 at *
  generalize k0_pay6 X2 N sv = P3 at *
  generalize k0_pay7 Y2 N sv = P4 at *
  generalize k0_pay2 (F := Ideal) sv = P5 at *
  sl_unfold_words
  pointwise [k0_pay1, k0_pay12, k0_pay9, k0_pay11]
  rw [q1, q2, q3, q4, q5, tmax_eq (by norm_num) h hm hi, w0, w1, w2, w3, w4]
  simp only [select_decide]
  unfold entry
  by_cases hp : 0 < s (first s)
  · simp only [hp, if_true]
    by_cases e0 : l.val = 0
    · simp [e0]
    by_cases e1 : l.val = 1
    · simp [e1]
    by_cases e2 : l.val = 2
    · simp [e2]
    by_cases e3 : l.val = 3
    · simp [e3]
    by_cases e4 : l.val = 4
    · simp [e4]
    simp [e0, e1, e2, e3, e4]
  · simp [hp]

variable (c : Dev nD) (i : grid0.Coords) (arg1 : Memref sig .tc .vmem S1x85x16x128 .f32) (harg1 : arg1.IsWhole)
  (arg2 : Memref sig .tc .vmem S16x128 .f32) (harg2 : arg2.IsWhole) (arg3 : Memref sig .tc .vmem S16x128 .f32) (harg3 : arg3.IsWhole)
  (arg4 : Memref sig .tc .vmem S1x32x128 .f32) (harg4 : arg4.IsWhole) (arg5 : Memref sig .tc .vmem S16x128 .f32) (harg5 : arg5.IsWhole)
  (x0 : Vec Ideal S1x85x16x128 .f32) (x1 x2 : Vec Ideal S16x128 .f32)

/-- The logistic of channel `k`. -/
def sg (k : ℕ) (r : Fin 16) (l : Fin 128) : EReal := Ideal.logistic (plane x0 k (ix4 0 0 r l))

/-- Half the side of the box, from its channel and the size array. -/
def half (k : ℕ) (w : Vec Ideal S16x128 .f32) (r : Fin 16) (l : Fin 128) : EReal :=
  sg x0 k r l * ((2 : ℝ) : EReal) * (sg x0 k r l * ((2 : ℝ) : EReal)) * w (ix2 r l) * ((1 / 2 : ℝ) : EReal)

def midx (r : Fin 16) (l : Fin 128) : EReal :=
  sg x0 0 r l * ((2 : ℝ) : EReal) + (((((128 * r.val + l.val) % 20 : ℕ) : ℝ)) : EReal) - ((1 / 2 : ℝ) : EReal)
def midy (r : Fin 16) (l : Fin 128) : EReal :=
  sg x0 1 r l * ((2 : ℝ) : EReal) + (((((128 * r.val + l.val) / 20 % 20 : ℕ) : ℝ)) : EReal) - ((1 / 2 : ℝ) : EReal)

theorem r2_at (r : Fin 16) (l : Fin 128) : kernelRun0_A.sl.r_2 (F := Ideal) c arg1 harg1 arg2 harg2 x0 x1 (ix2 r l)
    = midx x0 r l - half x0 2 x1 r l := by
  have hp := Point.col (r := r.val) (l := l.val) (d := 20) (by omega) (by norm_num) (by norm_num)
  sl_unfold_words
  simp only [load]
  simp only [View.readAt_eq_ld, harg2.read_unread, View.ld_unit_zero (S := S16x128) (off := ![0, 0]) (by funext a; fin_cases a <;> rfl) inb_S16x128_S16x128_0_0]
  pointwise [k0_pay14, k0_pay15, k0_pay16, k0_pay17, k0_pay18, k0_pay19, k0_pay20, k0_pay21, k0_pay22, k0_pay23, k0_pay24, k0_pay25, k0_pay26]
  rw [Interp.c_2, Interp.c_half]
  unfold Point.modw Point.dvs at hp
  unfold midx half sg
  rw [hp]

theorem r3_at (r : Fin 16) (l : Fin 128) : kernelRun0_A.sl.r_3 (F := Ideal) c arg1 harg1 arg3 harg3 x0 x2 (ix2 r l)
    = midy x0 r l - half x0 3 x2 r l := by
  have hp := Point.row (r := r.val) (l := l.val) (d := 20) (e := 20) (by omega) (by norm_num) (by norm_num) (by norm_num) (by norm_num)
  sl_unfold_words
  simp only [load]
  simp only [View.readAt_eq_ld, harg3.read_unread, View.ld_unit_zero (S := S16x128) (off := ![0, 0]) (by funext a; fin_cases a <;> rfl) inb_S16x128_S16x128_0_0]
  pointwise [k0_pay14, k0_pay15, k0_pay16, k0_pay17, k0_pay18, k0_pay19, k0_pay20, k0_pay21, k0_pay22, k0_pay23, k0_pay24, k0_pay25, k0_pay26]
  rw [Interp.c_2, Interp.c_half]
  unfold Point.modw Point.dvs Point.divw at hp
  unfold midy half sg
  rw [hp]

theorem r4_at (r : Fin 16) (l : Fin 128) : kernelRun0_A.sl.r_4 (F := Ideal) c arg1 harg1 arg2 harg2 x0 x1 (ix2 r l)
    = midx x0 r l + half x0 2 x1 r l := by
  have hp := Point.col (r := r.val) (l := l.val) (d := 20) (by omega) (by norm_num) (by norm_num)
  sl_unfold_words
  simp only [load]
  simp only [View.readAt_eq_ld, harg2.read_unread, View.ld_unit_zero (S := S16x128) (off := ![0, 0]) (by funext a; fin_cases a <;> rfl) inb_S16x128_S16x128_0_0]
  pointwise [k0_pay14, k0_pay15, k0_pay16, k0_pay17, k0_pay18, k0_pay19, k0_pay20, k0_pay21, k0_pay22, k0_pay23, k0_pay24, k0_pay25, k0_pay26]
  rw [Interp.c_2, Interp.c_half]
  unfold Point.modw Point.dvs at hp
  unfold midx half sg
  rw [hp]

theorem r5_at (r : Fin 16) (l : Fin 128) : kernelRun0_A.sl.r_5 (F := Ideal) c arg1 harg1 arg3 harg3 x0 x2 (ix2 r l)
    = midy x0 r l + half x0 3 x2 r l := by
  have hp := Point.row (r := r.val) (l := l.val) (d := 20) (e := 20) (by omega) (by norm_num) (by norm_num) (by norm_num) (by norm_num)
  sl_unfold_words
  simp only [load]
  simp only [View.readAt_eq_ld, harg3.read_unread, View.ld_unit_zero (S := S16x128) (off := ![0, 0]) (by funext a; fin_cases a <;> rfl) inb_S16x128_S16x128_0_0]
  pointwise [k0_pay14, k0_pay15, k0_pay16, k0_pay17, k0_pay18, k0_pay19, k0_pay20, k0_pay21, k0_pay22, k0_pay23, k0_pay24, k0_pay25, k0_pay26]
  rw [Interp.c_2, Interp.c_half]
  unfold Point.modw Point.dvs Point.divw at hp
  unfold midy half sg
  rw [hp]

/-- The score of class `k`. -/
def cl (k : ℕ) (r : Fin 16) (l : Fin 128) : EReal := sg x0 (k + 5) r l * sg x0 4 r l

theorem clsOf_at (r : Fin 16) (l : Fin 128) : (fun q => clsOf (F := Ideal) x0 q (ix2 r l)) = fun q => cl x0 q r l := by
  funext k
  pointwise [clsOf, objOf, k0_pay27]
  rfl

theorem ofs_at (r : Fin 16) (l : Fin 128) : kernelRun0_A.sl.r_53 (F := Ideal) c arg1 harg1 x0 (ix2 r l)
    = ((((run (fun q => cl x0 q r l) 79).2 : ℕ) : ℝ) : EReal) * Ideal.ofBits .f32 1173356544#32 := by
  have h1 : kernelRun0_A.sl.r_53 (F := Ideal) c arg1 harg1 x0 = mulf (sitofp .f32 (best (clsOf (F := Ideal) x0) 79).2)
      (broadcast S16x128 (Scalar.ofBits .f32 1173356544#32)) := by
    sl_unfold_words
    simp only [load]
    sl_kernel_rfl
  rw [h1]
  pointwise []
  rw [(best_eq _ 79 (ix2 r l)).2, clsOf_at, Interp.sitofp_nat _ (by have := (run_spec (fun q => cl x0 q r l) 79).2.1; omega)]

theorem start_at (r : Fin 16) (l : Fin 128) :
    k0_pay290 (F := Ideal) k0_pay14 (kernelRun0_A.sl.r_6 c arg1 harg1 x0) (kernelRun0_A.sl.r_51 c arg1 harg1 x0) (plane x0 84) (ix2 r l)
    = if 128 * r.val + l.val < 1200 then
        (if ((1 / 4 : ℝ) : EReal) < sg x0 4 r l ∧ ((1 / 4 : ℝ) : EReal) < (run (fun q => cl x0 q r l) 79).1 then
          (run (fun q => cl x0 q r l) 79).1 else -1) else -1 := by
  have e := (best_eq (clsOf (F := Ideal) x0) 79 (ix2 r l)).1
  rw [clsOf_at] at e
  have h6 : kernelRun0_A.sl.r_6 (F := Ideal) c arg1 harg1 x0 = objOf x0 := by
    sl_unfold_words
    simp only [load]
    rfl
  have h : k0_pay290 (F := Ideal) k0_pay14 (objOf x0) (best (clsOf (F := Ideal) x0) 78).1 (plane x0 84)
      = shapeCast S16x128 (select (andi (andi (cmpf .ogt (objOf x0) (broadcast S16x128 (Scalar.ofBits .f32 1048576000#32)))
          (cmpf .ogt (best (clsOf (F := Ideal) x0) 79).1 (broadcast S16x128 (Scalar.ofBits .f32 1048576000#32))))
          (cmpi .slt k0_pay14 (broadcast S16x128 1200#32))) (best (clsOf (F := Ideal) x0) 79).1
        (broadcast S16x128 (Scalar.ofBits .f32 3212836864#32))) shapeCasts_S16x128_S16x128 := by
    sl_kernel_rfl
  rw [r51, h6, h]
  pointwise [k0_pay14, objOf, k0_pay27]
  rw [e, Point.place (by omega), Point.slt_word (by omega) (by norm_num), Interp.c_quarter, Interp.c_neg]
  unfold sg
  generalize Ideal.logistic (plane x0 4 (ix4 0 0 r l)) = a
  generalize (run (fun q => cl x0 q r l) 79).1 = b
  by_cases p1 : ((1 / 4 : ℝ) : EReal) < a <;> by_cases p2 : ((1 / 4 : ℝ) : EReal) < b <;>
    by_cases p3 : 128 * r.val + l.val < 1200 <;> simp only [p1, p2, p3, decide_true, decide_false, and_true, true_and, and_false, false_and, if_true, if_false] <;> rfl

theorem place_at (r : Fin 16) (l : Fin 128) : k0_pay291 (F := Ideal) k0_pay14 (ix2 r l) = ((((128 * r.val + l.val : ℕ) : ℝ)) : EReal) := by
  pointwise [k0_pay291, k0_pay14]
  rw [Point.place (by omega), Interp.sitofp_nat _ (by omega)]

theorem area_at (r : Fin 16) (l : Fin 128) : kernelRun0_A.sl.r_54 (F := Ideal) c arg1 harg1 arg2 harg2 arg3 harg3 x0 x1 x2 (ix2 r l)
    = (kernelRun0_A.sl.r_4 (F := Ideal) c arg1 harg1 arg2 harg2 x0 x1 (ix2 r l) - kernelRun0_A.sl.r_2 (F := Ideal) c arg1 harg1 arg2 harg2 x0 x1 (ix2 r l))
      * (kernelRun0_A.sl.r_5 (F := Ideal) c arg1 harg1 arg3 harg3 x0 x2 (ix2 r l) - kernelRun0_A.sl.r_3 (F := Ideal) c arg1 harg1 arg3 harg3 x0 x2 (ix2 r l)) := by
  rfl

/-- The block the call leaves is the table of the greedy choice. -/
theorem out_table (B : Boxes 1200) (s : Fin 1200 → EReal) (hm : Marked s)
    (h1 : Meets (fun r l => midx x0 r l - half x0 2 x1 r l) B.x1) (h2 : Meets (fun r l => midy x0 r l - half x0 3 x2 r l) B.y1)
    (h3 : Meets (fun r l => midx x0 r l + half x0 2 x1 r l) B.x2) (h4 : Meets (fun r l => midy x0 r l + half x0 3 x2 r l) B.y2)
    (h5 : Meets (fun r l => ((((run (fun q => cl x0 q r l) 79).2 : ℕ) : ℝ) : EReal) * Ideal.ofBits .f32 1173356544#32) B.o)
    (hs : Holds (fun r l => if 128 * r.val + l.val < 1200 then
        (if ((1 / 4 : ℝ) : EReal) < sg x0 4 r l ∧ ((1 / 4 : ℝ) : EReal) < (run (fun q => cl x0 q r l) 79).1 then
          (run (fun q => cl x0 q r l) 79).1 else -1) else -1) s) (r : Fin 32) (l : Fin 128) :
    out0_A_3 c i arg1 harg1 arg2 harg2 arg3 harg3 arg4 harg4 arg5 harg5 x0 x1 x2 (ix3 0 r l) = table B s r l := by
  unfold out0_A_3
  rw [View.read_writes_junk_eq_canon]
  unfold kernelRun0_A
  dsimp only
  have hz : View.canon (kernelRun0_A.sl.H3_1 (F := Ideal)) = k0_pay13 (F := Ideal) := by
    sl_unfold_words
    exact View.canon_unit_zero (S := S1x32x128) (by funext a; fin_cases a <;> rfl) _ _
  have ht : Scf.trips 0#32 (Scalar.addi 0#32 25#32) 1#32 = 25 := by decide +kernel
  rw [ht]
  refine (rows_at c i arg1 harg1 arg2 harg2 arg3 harg3 arg4 harg4 arg5 harg5 _ _ _ _ _ _ _
    (k0_pay290 (F := Ideal) k0_pay14 (kernelRun0_A.sl.r_6 c arg1 harg1 x0) (kernelRun0_A.sl.r_51 c arg1 harg1 x0) (plane x0 84)) _ _ _ ?_ _ _ hz 25 le_rfl r l).trans ?_
  · sl_unfold_words
    simp only [load]
    exact View.read_writes_full _ _ _ _ _
  · have hX1 : Meets (tab (kernelRun0_A.sl.r_2 (F := Ideal) c arg1 harg1 arg2 harg2 x0 x1)) B.x1 :=
      fun r l h => (r2_at c arg1 harg1 arg2 harg2 x0 x1 r l).trans (h1 r l h)
    have hY1 : Meets (tab (kernelRun0_A.sl.r_3 (F := Ideal) c arg1 harg1 arg3 harg3 x0 x2)) B.y1 :=
      fun r l h => (r3_at c arg1 harg1 arg3 harg3 x0 x2 r l).trans (h2 r l h)
    have hX2 : Meets (tab (kernelRun0_A.sl.r_4 (F := Ideal) c arg1 harg1 arg2 harg2 x0 x1)) B.x2 :=
      fun r l h => (r4_at c arg1 harg1 arg2 harg2 x0 x1 r l).trans (h3 r l h)
    have hY2 : Meets (tab (kernelRun0_A.sl.r_5 (F := Ideal) c arg1 harg1 arg3 harg3 x0 x2)) B.y2 :=
      fun r l h => (r5_at c arg1 harg1 arg3 harg3 x0 x2 r l).trans (h4 r l h)
    have hO : Meets (tab (kernelRun0_A.sl.r_53 (F := Ideal) c arg1 harg1 x0)) B.o :=
      fun r l h => (ofs_at c arg1 harg1 x0 r l).trans (h5 r l h)
    have hA : Meets (tab (kernelRun0_A.sl.r_54 (F := Ideal) c arg1 harg1 arg2 harg2 arg3 harg3 x0 x1 x2)) (area B) := fun r l h => by
      refine (area_at c arg1 harg1 arg2 harg2 arg3 harg3 x0 x1 x2 r l).trans ?_
      exact congrArg₂ (· * ·) (congrArg₂ (· - ·) (hX2 r l h) (hX1 r l h)) (congrArg₂ (· - ·) (hY2 r l h) (hY1 r l h))
    have hS : ∀ k, Holds (tab (scoreS (kernelRun0_A.sl.r_2 (F := Ideal) c arg1 harg1 arg2 harg2 x0 x1)
        (kernelRun0_A.sl.r_3 (F := Ideal) c arg1 harg1 arg3 harg3 x0 x2) (kernelRun0_A.sl.r_4 (F := Ideal) c arg1 harg1 arg2 harg2 x0 x1)
        (kernelRun0_A.sl.r_5 (F := Ideal) c arg1 harg1 arg3 harg3 x0 x2) (kernelRun0_A.sl.r_53 (F := Ideal) c arg1 harg1 x0)
        (kernelRun0_A.sl.r_54 (F := Ideal) c arg1 harg1 arg2 harg2 arg3 harg3 x0 x1 x2) (k0_pay291 k0_pay14) (k0_pay290 (F := Ideal) k0_pay14 (kernelRun0_A.sl.r_6 c arg1 harg1 x0)
        (kernelRun0_A.sl.r_51 c arg1 harg1 x0) (plane x0 84)) k)) (scores B s k) := by
      intro k
      induction k with
      | zero => exact fun r l => (start_at c arg1 harg1 x0 r l).trans (hs r l)
      | succ k ih => exact step_holds place_at hX1 hY1 hX2 hY2 hO hA ih (hm.scores k) (first_spec _)
    unfold table
    split_ifs with hr
    · exact row_eq hX1 hY1 hX2 hY2 place_at (hS r.val) (hm.scores r.val) l
    · pointwise [k0_pay13]
end Cert.Suppress2Ideal.Sup2
-- ==== Proof.Decode.lean ====
/-
The boxes and the scores of one level from its raw predictions: what the greedy choice starts from.
-/
module

public import proofs.«01_k».proof.Proof.Greedy

@[expose] public section
noncomputable section
open Idealize.ShloMosaic
namespace Greedy

variable {N : ℕ} (X : Fin N → ℕ → EReal) (W H : Fin N → EReal) (nx ny : ℕ)

/-- The logistic of prediction `k` of point `n`. -/
def gate (n : Fin N) (k : ℕ) : EReal := Ideal.logistic (X n k)

/-- The score of class `q`. -/
def cls (n : Fin N) (q : ℕ) : EReal := gate X n (q + 5) * gate X n 4

/-- The largest class score and its class. -/
def top (n : Fin N) : EReal × ℕ := run (cls X n) 79

/-- A centre coordinate. -/
def mid (n : Fin N) (k : ℕ) (g : ℕ) : EReal := gate X n k * ((2 : ℝ) : EReal) + ((g : ℝ) : EReal) - ((1 / 2 : ℝ) : EReal)

/-- Half a side. -/
def half (n : Fin N) (k : ℕ) (w : EReal) : EReal :=
  gate X n k * ((2 : ℝ) : EReal) * (gate X n k * ((2 : ℝ) : EReal)) * w * ((1 / 2 : ℝ) : EReal)

/-- The boxes of a level. -/
def boxes : Boxes N where
  x1 n := mid X n 0 (n.val % nx) - half X n 2 (W n)
  y1 n := mid X n 1 (n.val / nx % ny) - half X n 3 (H n)
  x2 n := mid X n 0 (n.val % nx) + half X n 2 (W n)
  y2 n := mid X n 1 (n.val / nx % ny) + half X n 3 (H n)
  o n := (((top X n).2 : ℝ) : EReal) * Ideal.ofBits .f32 1173356544#32

/-- The scores the choice starts from. -/
def start (n : Fin N) : EReal :=
  if ((1 / 4 : ℝ) : EReal) < gate X n 4 ∧ ((1 / 4 : ℝ) : EReal) < (top X n).1 then (top X n).1 else -1

theorem start_marked : Marked (start X) := by
  intro n
  unfold start
  split_ifs with h
  · refine .inr (lt_of_le_of_lt ?_ h.2)
    rw [← EReal.coe_zero, EReal.coe_le_coe_iff]
    norm_num
  · exact .inl rfl

end Greedy
-- ==== Proof.Level2.lean ====
/-
The 20 x 20 level's raw predictions and anchor sizes, point by point.
-/
module

public import proofs.«01_k».proof.Proof.Decode

@[expose] public section
noncomputable section
open Idealize.ShloMosaic
namespace Level2

/-- Prediction `k` of point `n` of image `b`. -/
def raw (x : FVec Ideal (⟨5, ![4, 3, 20, 20, 85]⟩ : Shape) .f32) (b : Fin 4) (n : Fin 1200) (k : ℕ) : EReal :=
  x (ix5 b ⟨n.val / 400, by omega⟩ ⟨n.val / 20 % 20, by omega⟩ ⟨n.val % 20, by omega⟩ (if h : k < 85 then ⟨k, h⟩ else 0))

theorem raw_eq (x : FVec Ideal (⟨5, ![4, 3, 20, 20, 85]⟩ : Shape) .f32) (b : Fin 4) (n : Fin 1200) (k : Fin 85) :
    raw x b n k.val = x (ix5 b ⟨n.val / 400, by omega⟩ ⟨n.val / 20 % 20, by omega⟩ ⟨n.val % 20, by omega⟩ k) := by
  unfold raw
  rw [dif_pos k.isLt]

theorem raw_at (x : FVec Ideal (⟨5, ![4, 3, 20, 20, 85]⟩ : Shape) .f32) (b : Fin 4) (n n' : ℕ) (e : n' = n) (h : n < 1200)
    (k : Fin 85) (h1 : n' / 400 < 3) (h2 : n' / 20 % 20 < 20) (h3 : n' % 20 < 20) :
    x (ix5 b ⟨n' / 400, h1⟩ ⟨n' / 20 % 20, h2⟩ ⟨n' % 20, h3⟩ k) = raw x b ⟨n, h⟩ k.val := by
  subst e
  exact (raw_eq x b ⟨n', h⟩ k).symm

/-- A side of the anchor of point `n`. -/
def side (a : FVec Ideal (⟨3, ![3, 3, 2]⟩ : Shape) .f32) (e : Fin 2) (n : Fin 1200) : EReal := a (ix3 2 ⟨n.val / 400, by omega⟩ e)

theorem side_at (a : FVec Ideal (⟨3, ![3, 3, 2]⟩ : Shape) .f32) (e : Fin 2) (n n' : ℕ) (he : n' = n) (h : n < 1200)
    (h1 : n' / 400 < 3) : a (ix3 2 ⟨n' / 400, h1⟩ e) = side a e ⟨n, h⟩ := by
  subst he
  rfl

/-- The table of the boxes kept. -/
def kept (x : FVec Ideal (⟨5, ![4, 3, 20, 20, 85]⟩ : Shape) .f32) (a : FVec Ideal (⟨3, ![3, 3, 2]⟩ : Shape) .f32) (b : Fin 4) :
    Fin 32 → Fin 128 → EReal :=
  Greedy.table (Greedy.boxes (raw x b) (side a 0) (side a 1) 20 20) (Greedy.start (raw x b))

end Level2
-- ==== Proof.SupOut2.lean ====
/-
The array the suppression call of the 20 x 20 level leaves: the table of the boxes kept.
-/
module

public import proofs.«01_k».proof.Proof.SupVal2
public import proofs.«01_k».proof.Proof.Level2
public import proofs.«01_k».proof.Proof.Gen.Suppress2Ideal.Value
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)
namespace Cert.Suppress2Ideal.Sup2
open Cert.Suppress2Ideal Cert.Suppress2Ideal.Gen Greedy

section
variable (U : Valuation τ sig (Elt Ideal))

theorem host_x (b : Fin 4) (k : Fin 85) (r : Fin 16) (l : Fin 128) (h : 128 * r.val + l.val < 1200) :
    (StableHlo.after (List.flatten [hostOps0, hostOps0_1, hostOps0_2, hostOps0_3, hostOps0_4, hostOps0_5, hostOps0_6]) U
      (Proc.devRef .tc main_v3) : FVec Ideal S4x85x16x128 .f32) (ix4 b k r l)
      = Level2.raw (U (Proc.devRef .tc main_arg0)) b ⟨128 * r.val + l.val, h⟩ k.val := by
  simp only [List.flatten_cons, List.flatten_nil, List.append_nil, StableHlo.after_append]
  after_reads_at
  refine (dif_pos (by omega)).trans ?_
  exact Level2.raw_at _ b _ _ (by omega) h k _ _ _

theorem host_w (r : Fin 16) (l : Fin 128) (h : 128 * r.val + l.val < 1200) :
    (StableHlo.after (List.flatten [hostOps0, hostOps0_1, hostOps0_2, hostOps0_3, hostOps0_4, hostOps0_5, hostOps0_6]) U
      (Proc.devRef .tc main_v9) : FVec Ideal S16x128 .f32) (ix2 r l)
      = Level2.side (U (Proc.devRef .tc main_arg1)) 0 ⟨128 * r.val + l.val, h⟩ := by
  simp only [List.flatten_cons, List.flatten_nil, List.append_nil, StableHlo.after_append]
  after_reads_at
  refine (dif_pos (by omega)).trans ?_
  exact Level2.side_at _ 0 _ _ (by omega) h _
theorem host_h (r : Fin 16) (l : Fin 128) (h : 128 * r.val + l.val < 1200) :
    (StableHlo.after (List.flatten [hostOps0, hostOps0_1, hostOps0_2, hostOps0_3, hostOps0_4, hostOps0_5, hostOps0_6]) U
      (Proc.devRef .tc main_v15) : FVec Ideal S16x128 .f32) (ix2 r l)
      = Level2.side (U (Proc.devRef .tc main_arg1)) 1 ⟨128 * r.val + l.val, h⟩ := by
  simp only [List.flatten_cons, List.flatten_nil, List.append_nil, StableHlo.after_append]
  after_reads_at
  refine (dif_pos (by omega)).trans ?_
  exact Level2.side_at _ 1 _ _ (by omega) h _
end

variable (m : (ℓ : Loc nD τ sig) → Buf (Elt Ideal) ℓ) (c : Dev nD)

theorem idx : ∀ t : Fin cfg0.N, win0_0.index t = ![t.val, 0, 0, 0] ∧ win0_1.index t = ![0, 0]
    ∧ win0_2.index t = ![0, 0] ∧ win0_3.index t = ![t.val, 0, 0] :=
  (by decide +kernel : ∀ t : Fin grid0.N, _)

theorem blk_x (t : Fin cfg0.N) (k : Fin 85) (r : Fin 16) (l : Fin 128) :
    (iblk m c 0 t : Vec Ideal S1x85x16x128 .f32) (ix4 0 k r l) = (V m c main_v3 : FVec Ideal S4x85x16x128 .f32) (ix4 t k r l) := by
  blk_ext [iblk, idx t]
theorem blk_w (t : Fin cfg0.N) (r : Fin 16) (l : Fin 128) :
    (iblk m c 1 t : Vec Ideal S16x128 .f32) (ix2 r l) = (V m c main_v9 : FVec Ideal S16x128 .f32) (ix2 r l) := by
  blk_ext [iblk, idx t]
theorem blk_h (t : Fin cfg0.N) (r : Fin 16) (l : Fin 128) :
    (iblk m c 2 t : Vec Ideal S16x128 .f32) (ix2 r l) = (V m c main_v15 : FVec Ideal S16x128 .f32) (ix2 r l) := by
  blk_ext [iblk, idx t]

theorem emb_out (t : Fin cfg0.N) (r : Fin 32) (q : Fin 128) :
    (((View.whole main_v16).slice (win0_3.rect t)).emb (ix3 0 r q) : S4x32x128.Idx) = ix3 t r q := by
  have h := (idx t).2.2.2
  blk_ext [h]

/-- The result array: slab `t` is what grid point `t` stores. -/
def outArr : FVec Ideal S4x32x128 .f32 := fun j => outsAt0 m c (j 0) (ix3 0 (j 1) (j 2))

theorem final : (dats m 0 c).arrAt 3 cfg0.N = outArr m c := by
  refine (dats m 0 c).arrAt_eq_of_covers 3 _ (by decide +kernel) fun t _ y => ?_
  blk_simp
  rw [after0_3]
  idx_vars y
  obtain rfl : y0 = 0 := Subsingleton.elim _ _
  refine Eq.trans (b := outArr m c (ix3 t y1 y2)) rfl (congrArg (outArr m c) (emb_out t y1 y2)).symm

/-- One image's store, when its blocks hold the level's predictions and anchors. -/
theorem store_kept (i) (arg1) (harg1) (arg2) (harg2) (arg3) (harg3)
    (arg4) (harg4) (arg5) (harg5) (x0 : Vec Ideal S1x85x16x128 .f32) (x1 x2 : Vec Ideal S16x128 .f32) (X : Fin 1200 → ℕ → EReal) (W H : Fin 1200 → EReal)
    (hp : ∀ (k : ℕ) (_ : k < 85) (r : Fin 16) (l : Fin 128) (h : 128 * r.val + l.val < 1200),
      plane x0 k (ix4 0 0 r l) = X ⟨128 * r.val + l.val, h⟩ k)
    (hw : ∀ (r : Fin 16) (l : Fin 128) (h : 128 * r.val + l.val < 1200), x1 (ix2 r l) = W ⟨128 * r.val + l.val, h⟩)
    (hh : ∀ (r : Fin 16) (l : Fin 128) (h : 128 * r.val + l.val < 1200), x2 (ix2 r l) = H ⟨128 * r.val + l.val, h⟩)
    (r : Fin 32) (l : Fin 128) :
    out0_A_3 c i arg1 harg1 arg2 harg2 arg3 harg3 arg4 harg4 arg5 harg5 x0 x1 x2 (ix3 0 r l)
      = table (boxes X W H 20 20) (start X) r l := by
  have hx : ∀ (k : ℕ) (_ : k < 85) (r : Fin 16) (l : Fin 128) (h : 128 * r.val + l.val < 1200), sg x0 k r l
      = gate X ⟨128 * r.val + l.val, h⟩ k := fun k hk r l h => congrArg Ideal.logistic (hp k hk r l h)
  have hrun : ∀ (r : Fin 16) (l : Fin 128) (h : 128 * r.val + l.val < 1200), run (fun q => cl x0 q r l) 79
      = top X ⟨128 * r.val + l.val, h⟩ := by
    intro r l h
    unfold top
    refine run_congr fun q hq => ?_
    unfold cl cls
    rw [hx _ (by omega) r l h, hx _ (by norm_num) r l h]
  refine out_table c _ _ _ _ _ _ _ _ _ _ _ _ _ _ _ _ (start_marked _) ?_ ?_ ?_ ?_ ?_ ?_ r l
  · intro r l h
    unfold midx half boxes mid Greedy.half
    beta_reduce
    rw [hx 0 (by norm_num) r l h, hx 2 (by norm_num) r l h, hw r l h]
  · intro r l h
    unfold midy half boxes mid Greedy.half
    beta_reduce
    rw [hx 1 (by norm_num) r l h, hx 3 (by norm_num) r l h, hh r l h]
  · intro r l h
    unfold midx half boxes mid Greedy.half
    beta_reduce
    rw [hx 0 (by norm_num) r l h, hx 2 (by norm_num) r l h, hw r l h]
  · intro r l h
    unfold midy half boxes mid Greedy.half
    beta_reduce
    rw [hx 1 (by norm_num) r l h, hx 3 (by norm_num) r l h, hh r l h]
  · intro r l h
    unfold boxes
    beta_reduce
    rw [hrun r l h]
  · intro r l
    beta_reduce
    by_cases h : 128 * r.val + l.val < 1200
    · rw [if_pos h, dif_pos h]
      unfold start
      rw [hrun r l h, hx 4 (by norm_num) r l h]
    · rw [if_neg h, dif_neg h]

theorem out_at (t : Fin 4) (r : Fin 32) (l : Fin 128) :
    outArr m c (ix3 t r l) = Level2.kept (m ((c : Thread nD τ).loc main_arg0)) (m ((c : Thread nD τ).loc main_arg1)) t r l := by
  show outsAt0 m c t (ix3 0 r l) = _
  unfold outsAt0
  refine store_kept c _ _ _ _ _ _ _ _ _ _ _ _ _ _ (Level2.raw (m ((c : Thread nD τ).loc main_arg0)) t)
    (Level2.side (m ((c : Thread nD τ).loc main_arg1)) 0) (Level2.side (m ((c : Thread nD τ).loc main_arg1)) 1) ?_ ?_ ?_ r l
  · intro k hk r l h
    unfold plane
    rw [dif_pos hk]
    exact (blk_x m c t ⟨k, hk⟩ r l).trans (host_x _ t ⟨k, hk⟩ r l h)
  · exact fun r l h => (blk_w m c t r l).trans (host_w _ r l h)
  · exact fun r l h => (blk_h m c t r l).trans (host_h _ r l h)

end Cert.Suppress2Ideal.Sup2
-- ==== Proof.Spec.lean ====
/-
The arithmetic both programs are compared with: the cells of a box sampled from a plane of features, a convolution
over the features, and three dense layers.
-/
module

public import proofs.«01_k».proof.Proof.Weights

@[expose] public section
noncomputable section
open Idealize.ShloMosaic
namespace Interp

/-- Feature `k` of image `b`, by position: zero off the plane. -/
def plane {H C : ℕ} (F : Fin 4 → Fin C → Fin H → Fin H → EReal) (b : Fin 4) (k : Fin C) : ℕ → ℕ → EReal := fun y x =>
  if h : y < H ∧ x < H then F b k ⟨y, h.1⟩ ⟨x, h.2⟩ else 0

/-- Output `o` of the convolution at cell `(i, j)` of kept box `d` of image `b`. -/
def conv {H C : ℕ} (F : Fin 4 → Fin C → Fin H → Fin H → EReal) (B : Fin 4 → Fin 25 → Fin 4 → EReal) (cw : Fin 84 → Fin C → EReal)
    (cb : Fin 84 → EReal) (b : Fin 4) (d : Fin 25) (o : Fin 84) (i j : ℕ) : EReal :=
  ∑ k : Fin C, cell H H (B b d 0) (B b d 1) (B b d 2) (B b d 3) i j (plane F b k) * cw o k + cb o

/-- Entry `q` of a kept box's vector of 84 · 7 · 7 features. -/
def flat (g : Fin 84 → ℕ → ℕ → EReal) (q : Fin 4116) : EReal := g ⟨q / 49, by omega⟩ (q / 7 % 7) (q % 7)

/-- Three dense layers, the first two followed by `max · 0`, and a factor. -/
def score (h : Fin 4116 → EReal) (w1 : Fin 100 → Fin 4116 → EReal) (b1 : Fin 100 → EReal) (w2 : Fin 100 → Fin 100 → EReal)
    (b2 : Fin 100 → EReal) (w3 : Fin 100 → EReal) (b3 v : EReal) : EReal :=
  ((∑ c2 : Fin 100, max ((∑ c1 : Fin 100, max ((∑ q : Fin 4116, h q * w1 c1 q) + b1 c1) 0 * w2 c2 c1) + b2 c2) 0 * w3 c2) + b3) * v

/-- Interpolation reads its plane on the grid only. -/
theorem bilinear_congr {H W : ℕ} (hH : 0 < H) (hW : 0 < W) (sy sx : EReal) {f g : ℕ → ℕ → EReal}
    (e : ∀ y x, y < H → x < W → f y x = g y x) : bilinear H W sy sx f = bilinear H W sy sx g := by
  unfold bilinear
  rw [e _ _ (low_lt hH sy) (low_lt hW sx), e _ _ (high_lt hH sy) (low_lt hW sx), e _ _ (low_lt hH sy) (high_lt hW sx),
    e _ _ (high_lt hH sy) (high_lt hW sx)]

theorem cell_congr {H W : ℕ} (hH : 0 < H) (hW : 0 < W) (lx ly hx hy : EReal) (p q : ℕ) {f g : ℕ → ℕ → EReal}
    (e : ∀ y x, y < H → x < W → f y x = g y x) : cell H W lx ly hx hy p q f = cell H W lx ly hx hy p q g := by
  unfold cell
  simp only [bilinear_congr hH hW _ _ e]

/-- The convolution from its parts, each known to be the right one. -/
theorem conv_of {H C : ℕ} (hH : 0 < H) (F : Fin 4 → Fin C → Fin H → Fin H → EReal) (B : Fin 4 → Fin 25 → Fin 4 → EReal)
    (cw : Fin 84 → Fin C → EReal) (cb : Fin 84 → EReal) (b : Fin 4) (d : Fin 25) (o : Fin 84) (i j i' j' : ℕ)
    {x1 y1 x2 y2 a : EReal} {f : Fin C → ℕ → ℕ → EReal} {w : Fin C → EReal}
    (h1 : x1 = B b d 0) (h2 : y1 = B b d 1) (h3 : x2 = B b d 2) (h4 : y2 = B b d 3) (hi : i' = i) (hj : j' = j)
    (hf : ∀ (k : Fin C) (y x : Fin H), f k y x = F b k y x) (hw : ∀ k, w k = cw o k) (ha : a = cb o) :
    ∑ k : Fin C, cell H H x1 y1 x2 y2 i' j' (f k) * w k + a = conv F B cw cb b d o i j := by
  subst h1 h2 h3 h4 hi hj ha
  unfold conv
  congr 1
  refine Finset.sum_congr rfl fun k _ => ?_
  rw [hw k, cell_congr hH hH _ _ _ _ _ _ (f := f k) (g := plane F b k)]
  intro y x hy hx
  unfold plane
  rw [dif_pos ⟨hy, hx⟩]
  exact hf k ⟨y, hy⟩ ⟨x, hx⟩

/-- A sum whose terms vanish from `n` on is the sum of the first `n`. -/
theorem sum_pad {n N : ℕ} (hn : n ≤ N) (f : Fin N → EReal) (hz : ∀ k : Fin N, n ≤ k.val → f k = 0) :
    ∑ k, f k = ∑ k : Fin n, f (Fin.castLE hn k) := by
  symm
  refine Finset.sum_of_injOn (Fin.castLE hn) (fun a _ b _ h => Fin.castLE_injective hn h) (fun _ _ => Finset.mem_univ _) ?_ (fun _ _ => rfl)
  intro k _ hk
  refine hz k (Nat.le_of_not_lt fun h => hk ⟨⟨k, h⟩, by simp, Fin.ext rfl⟩)

/-- The two orders of a kept box's features: by cell and then by output, and by output and then by cell. -/
def byCell : Fin 4116 ≃ Fin 4116 where
  toFun k := ⟨k % 84 * 49 + k / 84, by omega⟩
  invFun q := ⟨q % 49 * 84 + q / 49, by omega⟩
  left_inv k := Fin.ext (by dsimp only; omega)
  right_inv q := Fin.ext (by dsimp only; omega)

theorem sum_byCell (f : Fin 4116 → EReal) : ∑ k, f (byCell k) = ∑ q, f q := Equiv.sum_comp byCell f

theorem flat_byCell (g : Fin 84 → ℕ → ℕ → EReal) (k : Fin 4116) :
    flat g (byCell k) = g ⟨k % 84, by omega⟩ (k / 588) (k / 84 % 7) := by
  have e1 : (k.val % 84 * 49 + k.val / 84) / 49 = k.val % 84 := by omega
  have e2 : (k.val % 84 * 49 + k.val / 84) / 7 % 7 = k.val / 588 := by
    have h := Nat.div_div_eq_div_mul k.val 84 7
    have : (k.val % 84 * 49 + k.val / 84) / 7 = k.val % 84 * 7 + k.val / 84 / 7 := by omega
    rw [this, h]; omega
  have e3 : (k.val % 84 * 49 + k.val / 84) % 7 = k.val / 84 % 7 := by omega
  show g ⟨(k.val % 84 * 49 + k.val / 84) / 49, _⟩ ((k.val % 84 * 49 + k.val / 84) / 7 % 7) ((k.val % 84 * 49 + k.val / 84) % 7) = _
  simp only [e1, e2, e3]

end Interp
end
-- ==== Proof.RoiCore.lean ====
/-
Row blocks stored into a buffer over an earlier fill: what the buffer then holds on the rows the blocks cover.
-/
module

public import Idealize.ShloMosaic.Lib.Pipeline.ValueKit
public import Idealize.ShloMosaic.Lib.Pipeline.ReadBack

@[expose] public section
noncomputable section
open Idealize.ShloMosaic
namespace RoiCore

variable {Val : EltTy → Type} {S : Shape} {e : EltTy}

/-- If the last `n` stores are blocks of `G`, the buffer holds `G` wherever one of them lies. -/
theorem canon_take [∀ e, Nonempty (Val e)] (G : S.Idx → Val e) (n : ℕ) (L : List (View.Piece Val S e))
    (h : View.PiecesOf G (L.take n)) (y : S.Idx) (hc : ∃ p ∈ L.take n, y ∈ p.1.set) : View.canon L y = G y := by
  have := View.canon_append_of_piecesOf G (L.drop n) (L.take n) h y hc
  rwa [List.take_append_drop] at this

/-- Rows `7 d` to `7 d + 6` of a buffer of 176 rows. -/
abbrev rows (N : ℕ) (d : Fin 25) : Rect (⟨2, ![176, N]⟩ : Shape) :=
  Rect.unit ![7 * d.val, 0] ![7, N] (fun a => by fin_cases a <;> simp <;> omega)

/-- Every one of the 25 row groups lies within one of the stores. -/
def rowsCov {N : ℕ} (L : List (View.Piece Val (⟨2, ![176, N]⟩ : Shape) e)) : Bool :=
  (List.finRange 25).all fun d => L.any fun p => LoadRect.within p.1 (rows N d).toLoadRect

theorem rowsCov_mem {N : ℕ} (L : List (View.Piece Val (⟨2, ![176, N]⟩ : Shape) e)) (h : rowsCov L = true)
    (r : Fin 176) (hr : r.val < 175) (q : Fin N) : ∃ p ∈ L, (ix2 r q : (⟨2, ![176, N]⟩ : Shape).Idx) ∈ p.1.set := by
  have h1 := List.all_eq_true.1 h ⟨r.val / 7, by omega⟩ (List.mem_finRange _)
  obtain ⟨p, hp, hw⟩ := List.any_eq_true.1 h1
  refine ⟨p, hp, ?_⟩
  have h2 := LoadRect.idx_mem_of_within hw (ix2 ⟨r.val % 7, by omega⟩ q)
  have e : (rows N ⟨r.val / 7, by omega⟩).toLoadRect.idx (ix2 ⟨r.val % 7, by omega⟩ q) = ix2 r q := by
    funext a
    apply Fin.ext
    refine (Rect.idx_unit_val _ _ _ _ a).trans ?_
    fin_cases a
    · show 7 * (r.val / 7) + r.val % 7 = r.val
      omega
    · show 0 + q.val = q.val
      omega
  rwa [e] at h2

/-- Where a block of 84 columns at column offset `o` of a buffer of 588 lies. -/
theorem col_emb {o : ℕ} (inb) (a : Fin 1) (b : Fin 176) (c : Fin 84) (h : o + c.val < 588) :
    (Rect.unit (s := ⟨3, ![1, 176, 588]⟩) ![0, 0, o] ![1, 176, 84] inb).emb (ix3 a b c) = ix3 0 b ⟨o + c.val, h⟩ := by
  funext i
  apply Fin.ext
  refine (Rect.idx_unit_val _ _ _ _ i).trans ?_
  fin_cases i
  · show 0 + a.val = 0
    omega
  · show 0 + b.val = b.val
    omega
  · rfl

/-- Every column group of 84 lies within one of the stores. -/
def colsCov (L : List (View.Piece Val (⟨3, ![1, 176, 588]⟩ : Shape) e)) : Bool :=
  (List.finRange 7).all fun d => L.any fun p => LoadRect.within p.1 (Rect.unit (s := ⟨3, ![1, 176, 588]⟩) ![0, 0, 84 * d.val]
    ![1, 176, 84] (fun a => by fin_cases a <;> simp <;> omega)).toLoadRect

theorem colsCov_mem (L : List (View.Piece Val (⟨3, ![1, 176, 588]⟩ : Shape) e)) (h : colsCov L = true)
    (r : Fin 176) (q : Fin 588) : ∃ p ∈ L, (ix3 0 r q : (⟨3, ![1, 176, 588]⟩ : Shape).Idx) ∈ p.1.set := by
  have h1 := List.all_eq_true.1 h ⟨q.val / 84, by omega⟩ (List.mem_finRange _)
  obtain ⟨p, hp, hw⟩ := List.any_eq_true.1 h1
  refine ⟨p, hp, ?_⟩
  have h2 := LoadRect.idx_mem_of_within hw (ix3 0 r ⟨q.val % 84, by omega⟩)
  have e := col_emb (o := 84 * (q.val / 84)) (fun a => by fin_cases a <;> simp <;> omega) 0 r ⟨q.val % 84, by omega⟩
    (by show 84 * (q.val / 84) + q.val % 84 < 588; omega)
  have e' : (⟨84 * (q.val / 84) + q.val % 84, by omega⟩ : Fin 588) = q := Fin.ext (by show 84 * (q.val / 84) + q.val % 84 = q.val; omega)
  rw [show (ix3 0 r q : (⟨3, ![1, 176, 588]⟩ : Shape).Idx) = ix3 0 r ⟨84 * (q.val / 84) + q.val % 84, by omega⟩ by rw [e'], ← e]
  exact h2

/-- Where a block of seven rows at row offset `o` of a buffer of 176 rows lies. -/
theorem row_emb {o N : ℕ} (inb) (i : Fin 7) (q : Fin N) (h : o + i.val < 176) :
    (Rect.unit (s := ⟨2, ![176, N]⟩) ![o, 0] ![7, N] inb).emb (ix2 i q) = ix2 ⟨o + i.val, h⟩ q := by
  funext a
  apply Fin.ext
  refine (Rect.idx_unit_val _ _ _ _ a).trans ?_
  fin_cases a
  · rfl
  · show 0 + q.val = q.val
    omega

end RoiCore
end
-- ==== Proof.RefCore.lean ====
/-
Lemmas the reference's three levels share: a gather of one row of features, the two integer positions beside a
sample and its fraction, and the sum over a cell's four samples.
-/
module

public import proofs.«01_k».proof.Proof.Spec
public import proofs.«01_k».proof.Proof.RoiCore

@[expose] public section
set_option maxRecDepth 16384
noncomputable section
open Idealize.ShloMosaic Idealize.ShloMosaic.TcCoe Idealize.SL.Sem
namespace Interp

/-- The conditions on a gather of single positions out of four images of `H` rows and columns. -/
abbrev RowWF (H C : ℕ) : Prop :=
  GatherDims.WF ⟨4, ![4, H, H, C]⟩ ⟨5, ![4, 25, 14, 14, 3]⟩ ⟨5, ![4, 25, 14, 14, C]⟩ [4] [0, 1, 2] [] [0, 1, 2] [] 4 ![1, 1, 1, C]

/-- The gather of single positions, its index triples along the last axis. -/
abbrev rowDims (H C : ℕ) (wf : RowWF H C) : GatherDims ⟨4, ![4, H, H, C]⟩ ⟨5, ![4, 25, 14, 14, 3]⟩ ⟨5, ![4, 25, 14, 14, C]⟩ where
  offsetDims := [4]
  collapsedSliceDims := [0, 1, 2]
  operandBatchingDims := []
  startIndicesBatchingDims := []
  startIndexMap := [0, 1, 2]
  indexVectorDim := 4
  sliceSizes := ![1, 1, 1, C]
  wf := wf

/-- Component `c` of a result position's index triple. -/
theorem row_idx {H C : ℕ} (wf : RowWF H C) (b : Fin 4) (d : Fin 25) (s t : Fin 14) (k : Fin C) (c : Fin 3) :
    (rowDims H C wf).siIdx (ix5 b d s t k) c = ix5 b d s t c := by
  funext a
  match a with
  | ⟨0, _⟩ => rfl
  | ⟨1, _⟩ => rfl
  | ⟨2, _⟩ => rfl
  | ⟨3, _⟩ => rfl
  | ⟨4, _⟩ => rfl

/-- A gather whose index triple names image `b`, row `y` and column `x'` reads that position's features. -/
theorem gather_at {H C : ℕ} (wf : RowWF H C) (hH : H < 2 ^ 31)
    (x : (⟨4, ![4, H, H, C]⟩ : Shape).Idx → EReal) (idx : IVec ⟨5, ![4, 25, 14, 14, 3]⟩ 32)
    (b : Fin 4) (d : Fin 25) (s t : Fin 14) (k : Fin C) (y x' : Fin H)
    (h0 : idx (ix5 b d s t 0) = BitVec.ofNat 32 b.val) (h1 : idx (ix5 b d s t 1) = BitVec.ofNat 32 y.val)
    (h2 : idx (ix5 b d s t 2) = BitVec.ofNat 32 x'.val) :
    Host.gather (rowDims H C wf) x idx (ix5 b d s t k) = x (ix4 b y x' k) := by
  have hb := b.isLt
  have hy := y.isLt
  have hx := x'.isLt
  show x ((rowDims H C wf).operandIdx (ix5 b d s t k) idx) = _
  congr 1
  funext a
  match a with
  | ⟨0, _⟩ =>
    apply Fin.ext
    show min (idx ((rowDims H C wf).siIdx (ix5 b d s t k) 0)).toInt.toNat (4 - 1) + 0 + 0 = b.val
    rw [row_idx, h0, toInt_nat _ (by omega)]; simp; omega
  | ⟨1, _⟩ =>
    apply Fin.ext
    show min (idx ((rowDims H C wf).siIdx (ix5 b d s t k) 1)).toInt.toNat (H - 1) + 0 + 0 = y.val
    rw [row_idx, h1, toInt_nat _ (by omega)]; simp; omega
  | ⟨2, _⟩ =>
    apply Fin.ext
    show min (idx ((rowDims H C wf).siIdx (ix5 b d s t k) 2)).toInt.toNat (H - 1) + 0 + 0 = x'.val
    rw [row_idx, h2, toInt_nat _ (by omega)]; simp; omega
  | ⟨3, _⟩ =>
    apply Fin.ext
    show 0 + 0 + k.val = k.val
    omega

/-- The floor of a clipped position is the integer position below it. -/
theorem floor_clip {B : ℕ} (hB : 1 ≤ B) (s : EReal) :
    Ideal.liftRound Int.floor (clip B s) = (((low B s : ℕ) : ℝ) : EReal) := by
  rw [clip_eq hB, Ideal.liftRound_coe]
  have : ⌊((low B s : ℕ) : ℝ) + frac B s⌋ = ((low B s : ℕ) : ℤ) := by
    rw [Int.floor_eq_iff]
    have := frac_nonneg hB s
    have := frac_lt hB s
    constructor <;> push_cast <;> linarith
  rw [this]; push_cast; rfl

/-- A small natural number converted to a 32-bit word. -/
theorem word_of (n : ℕ) (h : n < 2 ^ 31) : FloatOps.fptosi (F := Ideal) (φ := .f32) 32 (((n : ℝ) : EReal)) = BitVec.ofNat 32 n := by
  show Ideal.fptosi 32 _ = _
  unfold Ideal.fptosi
  rw [Ideal.toIntClamped_coe, if_pos (Nat.cast_nonneg n), Int.floor_natCast, min_eq_right (by omega), max_eq_right (by omega)]
  exact BitVec.ofInt_natCast ..

/-- The word of the integer position below a sample. -/
theorem low_word {B : ℕ} (hB : 1 ≤ B) (hB' : B < 2 ^ 31) (s : EReal) :
    FloatOps.fptosi (F := Ideal) (φ := .f32) 32 (Ideal.liftRound Int.floor (clip B s)) = BitVec.ofNat 32 (low B s) := by
  have := low_lt hB s
  rw [floor_clip hB, word_of _ (by omega)]

/-- The word of the integer position above a sample. -/
theorem high_word {B : ℕ} (hB : 1 ≤ B) (hB' : B < 2 ^ 31) (s : EReal) :
    IntOp.minsi (IntOp.addi (BitVec.ofNat 32 (low B s)) 1#32) (BitVec.ofNat 32 (B - 1)) = BitVec.ofNat 32 (high B s) := by
  have hl := low_lt hB s
  have e : IntOp.addi (BitVec.ofNat 32 (low B s)) 1#32 = BitVec.ofNat 32 (low B s + 1) := by
    show BitVec.ofNat 32 (low B s) + BitVec.ofNat 32 1 = _
    rw [← BitVec.ofNat_add]
  rw [e]
  unfold high IntOp.minsi
  simp only [BitVec.slt, toInt_nat (B - 1) (by omega)]
  by_cases hlt : low B s + 1 < 2 ^ 31
  · rw [toInt_nat _ hlt]
    rcases Nat.lt_or_ge (low B s + 1) (B - 1) with h | h
    · rw [min_eq_left (by omega)]; simp; omega
    · rw [min_eq_right (by omega)]; simp; omega
  · omega

/-- How far a sample lies above the integer position below it. -/
theorem frac_real {B : ℕ} (hB : 1 ≤ B) (s : EReal) :
    clip B s - Ideal.liftRound Int.floor (clip B s) = ((frac B s : ℝ) : EReal) := by
  rw [floor_clip hB, clip_eq hB, ← EReal.coe_sub]
  congr 1; ring

/-- A word of a small natural number is not negative, so an index made from it does not wrap. -/
theorem no_wrap (n : ℕ) (h : n < 2 ^ 31) (e : BitVec 32) :
    Scalar.select (IntOp.cmpi CmpIPredicate.slt (BitVec.ofNat 32 n) 0#32) e (BitVec.ofNat 32 n) = BitVec.ofNat 32 n := by
  have : IntOp.cmpi CmpIPredicate.slt (BitVec.ofNat 32 n) 0#32 = 0#1 := by
    show BitVec.ofBool (BitVec.slt (BitVec.ofNat 32 n) 0#32) = 0#1
    have : BitVec.slt (BitVec.ofNat 32 n) 0#32 = false := by
      simp only [BitVec.slt, toInt_nat n h]; simp
    rw [this]; rfl
  rw [this]; rfl

variable {C : ℕ}

/-- The samples of one cell are those whose other coordinates are the cell's. -/
theorem samples_iff (h : (⟨7, ![4, 25, 7, 2, 7, 2, C]⟩ : Shape).ReducesTo [3, 5] ⟨5, ![4, 25, 7, 7, C]⟩)
    (b : Fin 4) (d : Fin 25) (y x : Fin 7) (k : Fin C) (i : (⟨7, ![4, 25, 7, 2, 7, 2, C]⟩ : Shape).Idx) :
    h.drop i = ix5 b d y x k ↔ ∃ p : Fin 2 × Fin 2, ix7 b d y p.1 x p.2 k = i := by
  constructor
  · intro e
    refine ⟨(i 3, i 5), ?_⟩
    funext a
    apply Fin.ext
    match a with
    | ⟨0, _⟩ => exact (congrArg Fin.val (congrFun e (⟨0, (by decide : 0 < 5)⟩))).symm
    | ⟨1, _⟩ => exact (congrArg Fin.val (congrFun e (⟨1, (by decide : 1 < 5)⟩))).symm
    | ⟨2, _⟩ => exact (congrArg Fin.val (congrFun e (⟨2, (by decide : 2 < 5)⟩))).symm
    | ⟨3, _⟩ => rfl
    | ⟨4, _⟩ => exact (congrArg Fin.val (congrFun e (⟨3, (by decide : 3 < 5)⟩))).symm
    | ⟨5, _⟩ => rfl
    | ⟨6, _⟩ => exact (congrArg Fin.val (congrFun e (⟨4, (by decide : 4 < 5)⟩))).symm
  · rintro ⟨p, rfl⟩
    funext a
    apply Fin.ext
    match a with
    | ⟨0, _⟩ => rfl
    | ⟨1, _⟩ => rfl
    | ⟨2, _⟩ => rfl
    | ⟨3, _⟩ => rfl
    | ⟨4, _⟩ => rfl

/-- Different samples of a cell have different indices. -/
theorem samples_inj (b : Fin 4) (d : Fin 25) (y x : Fin 7) (k : Fin C) (p q : Fin 2 × Fin 2)
    (e : (ix7 b d y p.1 x p.2 k : (⟨7, ![4, 25, 7, 2, 7, 2, C]⟩ : Shape).Idx) = ix7 b d y q.1 x q.2 k) : p = q := by
  have h3 : p.1 = q.1 := Fin.ext (congrArg Fin.val (congrFun e (3 : Fin 7)))
  have h5 : p.2 = q.2 := Fin.ext (congrArg Fin.val (congrFun e (5 : Fin 7)))
  exact Prod.ext h3 h5

/-- A sum over the two sample axes of a cell. -/
theorem sum_samples (h : (⟨7, ![4, 25, 7, 2, 7, 2, C]⟩ : Shape).ReducesTo [3, 5] ⟨5, ![4, 25, 7, 7, C]⟩)
    (v : (⟨7, ![4, 25, 7, 2, 7, 2, C]⟩ : Shape).Idx → EReal) (z : EReal) (b : Fin 4) (d : Fin 25) (y x : Fin 7) (k : Fin C) :
    Ideal.hostReduceAdd h v z (ix5 b d y x k) = z + ∑ p : Fin 2 × Fin 2, v (ix7 b d y p.1 x p.2 k) :=
  congrArg (z + ·) (Finset.sum_filter_eq_sum_of_fiber _ (fun p : Fin 2 × Fin 2 => ix7 b d y p.1 x p.2 k)
    (samples_inj b d y x k) (samples_iff h b d y x k) v)

open Classical in
/-- A value replaced by zero where a sample is outside is kept where it is inside. -/
theorem select_inside (H : ℕ) (m b sy sx z v : EReal) (hm : m = -1) (hb : b = ((H : ℝ) : EReal)) (hz : z = 0) :
    Scalar.select (IntOp.ori (IntOp.ori (BitVec.ofBool (decide (sy < m))) (BitVec.ofBool (decide (b < sy))))
        (IntOp.ori (BitVec.ofBool (decide (sx < m))) (BitVec.ofBool (decide (b < sx))))) z v
      = if inside H sy ∧ inside H sx then v else 0 := by
  subst hm hb hz
  unfold inside
  rw [← not_lt, ← not_lt, ← not_lt, ← not_lt]
  by_cases h1 : sy < (-1 : EReal) <;> by_cases h2 : ((H : ℝ) : EReal) < sy <;> by_cases h3 : sx < (-1 : EReal) <;>
    by_cases h4 : ((H : ℝ) : EReal) < sx <;> simp only [h1, h2, h3, h4, decide_true, decide_false, not_true_eq_false, not_false_eq_true,
      and_true, and_false, true_and, false_and, if_true, if_false] <;> rfl

/-- The mean of four samples, each at its own quarter of the cell, is the cell's value. -/
theorem mean_cell (H : ℕ) (lx ly hx hy : EReal) (y x : ℕ) (f : ℕ → ℕ → EReal) (z m : EReal) (hz : z = 0)
    (hm : m = ((4 : ℝ) : EReal)) (v : Fin 2 × Fin 2 → EReal)
    (hv : ∀ p, v p = bilinear H H (pos ly hy y (((p.1.val : ℕ) : ℝ) / 2 + 1 / 4)) (pos lx hx x (((p.2.val : ℕ) : ℝ) / 2 + 1 / 4)) f) :
    Ideal.div (z + ∑ p, v p) m = cell H H lx ly hx hy y x f := by
  subst hz hm
  unfold cell Ideal.div
  rw [if_neg (by norm_num), zero_add, mul_comm, ← EReal.coe_inv, Fintype.sum_prod_type, Fin.sum_univ_two, Fin.sum_univ_two, Fin.sum_univ_two,
    hv, hv, hv, hv]
  have e0 : (((0 : Fin 2).val : ℕ) : ℝ) / 2 + 1 / 4 = 1 / 4 := by norm_num
  have e1 : (((1 : Fin 2).val : ℕ) : ℝ) / 2 + 1 / 4 = 3 / 4 := by norm_num
  simp only [e0, e1]
  norm_num

end Interp
end
-- ==== Proof.First.lean ====
/-
The first index of the maximum as the reference words it, and the reads by rows the reference's steps make.
-/
module

public import proofs.«01_k».proof.Proof.Decode
public import proofs.«01_k».proof.Proof.RefCore
public import Idealize.ShloMosaic.Lib.Pointwise

@[expose] public section
set_option maxRecDepth 16384
noncomputable section
open Idealize.ShloMosaic Interp
namespace Greedy

variable {N : ℕ}

/-- The maximum over a finite set of indices, from the bottom up. -/
theorem fold_max {ι : Type*} [Fintype ι] (f : ι → EReal) (i : ι) (h : ∀ n, f n ≤ f i) :
    (Finset.univ : Finset ι).fold max ⊥ f = f i := by
  apply le_antisymm
  · exact Finset.fold_max_le _ |>.2 ⟨bot_le, fun n _ => h n⟩
  · exact Finset.le_fold_max _ |>.2 (.inr ⟨i, Finset.mem_univ _, le_rfl⟩)

theorem minsi_ofNat {a b : ℕ} (ha : a < 2 ^ 31) (hb : b < 2 ^ 31) :
    IntOp.minsi (BitVec.ofNat 32 a) (BitVec.ofNat 32 b) = BitVec.ofNat 32 (min a b) := by
  unfold IntOp.minsi
  have : (BitVec.ofNat 32 a).sle (BitVec.ofNat 32 b) = decide (a ≤ b) := by
    simp only [BitVec.sle, toInt_nat a ha, toInt_nat b hb, Nat.cast_le]
  have h2 : (BitVec.ofNat 32 a).slt (BitVec.ofNat 32 b) = decide (a < b) := by
    simp only [BitVec.slt, toInt_nat a ha, toInt_nat b hb, Nat.cast_lt]
  simp only [this, h2]
  split_ifs with h <;> congr 1 <;> simp at h <;> omega

/-- The least word of a finite set of small words. -/
theorem fold_minsi {ι : Type*} (s : Finset ι) (g : ι → ℕ) (hg : ∀ n, g n < 2 ^ 31) :
    s.fold IntOp.minsi 2147483647#32 (fun n => BitVec.ofNat 32 (g n)) = BitVec.ofNat 32 (s.fold min 2147483647 g) := by
  classical
  induction s using Finset.induction_on with
  | empty => rfl
  | insert a s ha ih =>
    rw [Finset.fold_insert ha, Finset.fold_insert ha, ih]
    refine minsi_ofNat (hg a) (lt_of_le_of_lt ?_ (by norm_num : 2147483647 < 2 ^ 31))
    exact Finset.fold_min_le _ |>.2 (.inl le_rfl)

/-- The least index among those at which the maximum is reached. -/
theorem fold_first (f : Fin N → EReal) (i : Fin N) (hi : IsFirst f i) (M : EReal) (hM : M = f i) (hN : N < 2 ^ 31) :
    (Finset.univ : Finset (Fin N)).fold IntOp.minsi 2147483647#32
      (fun n => if f n = M then BitVec.ofNat 32 n.val else BitVec.ofNat 32 N) = BitVec.ofNat 32 i.val := by
  have e : (fun n : Fin N => if f n = M then BitVec.ofNat 32 n.val else BitVec.ofNat 32 N)
      = fun n => BitVec.ofNat 32 (if f n = M then n.val else N) := by
    funext n; split_ifs <;> rfl
  rw [e, fold_minsi _ _ (fun n => by split_ifs <;> omega)]
  congr 1
  apply le_antisymm
  · exact Finset.fold_min_le _ |>.2 (.inr ⟨i, Finset.mem_univ _, by rw [if_pos hM.symm]⟩)
  · refine Finset.le_fold_min _ |>.2 ⟨by omega, fun n _ => ?_⟩
    split_ifs with h
    · exact hi.2 n (h.trans hM)
    · exact i.isLt.le

/-- Real shifts cancel in a difference. -/
theorem shift_sub (a b : EReal) (o : ℝ) : (a + (o : EReal)) - (b + (o : EReal)) = a - b := by
  induction a <;> induction b
  all_goals try rfl
  case coe.coe a b =>
    rw [← EReal.coe_add, ← EReal.coe_add, ← EReal.coe_sub, ← EReal.coe_sub]
    congr 1
    ring

theorem select_word {p : Prop} [Decidable p] {α : Type} (x y : α) :
    Scalar.select (BitVec.ofBool (decide p)) x y = if p then x else y := by
  by_cases h : p <;> simp [h] <;> rfl

theorem select_same (a b : ℕ) (ha : a < 2 ^ 31) (hb : b < 2 ^ 31) (x y : EReal) :
    Scalar.select (IntOp.cmpi CmpIPredicate.eq (BitVec.ofNat 32 a) (BitVec.ofNat 32 b)) x y = if a = b then x else y := by
  have : IntOp.cmpi CmpIPredicate.eq (BitVec.ofNat 32 a) (BitVec.ofNat 32 b) = BitVec.ofBool (decide (a = b)) := by
    show BitVec.ofBool (BitVec.ofNat 32 a == BitVec.ofNat 32 b) = _
    congr 1
    by_cases h : a = b
    · simp [h]
    · have : BitVec.ofNat 32 a ≠ BitVec.ofNat 32 b := fun e => h (by
        have := congrArg BitVec.toInt e
        rw [toInt_nat a ha, toInt_nat b hb] at this
        exact_mod_cast this)
      simp [h, this]
  rw [this, select_word]

theorem uitofp_word {p : Prop} [Decidable p] :
    FloatOps.uitofp (F := Ideal) .f32 (BitVec.ofBool (decide p)) = if p then (1 : EReal) else 0 := by
  show (((BitVec.ofBool (decide p)).toNat : ℝ) : EReal) = _
  by_cases h : p <;> simp [h]

/-- The conditions on a gather of single scores out of four rows of `N`. -/
abbrev PairWF (N : ℕ) : Prop := GatherDims.WF ⟨2, ![4, N]⟩ ⟨2, ![4, 2]⟩ ⟨1, ![4]⟩ [] [0, 1] [] [0, 1] [] 1 ![1, 1]

abbrev pairDims (N : ℕ) (wf : PairWF N) : GatherDims ⟨2, ![4, N]⟩ ⟨2, ![4, 2]⟩ ⟨1, ![4]⟩ where
  offsetDims := []
  collapsedSliceDims := [0, 1]
  operandBatchingDims := []
  startIndicesBatchingDims := []
  startIndexMap := [0, 1]
  indexVectorDim := 1
  sliceSizes := ![1, 1]
  wf := wf

/-- The conditions on a gather of single boxes out of four rows of `N`. -/
abbrev BoxWF (N : ℕ) : Prop := GatherDims.WF ⟨3, ![4, N, 4]⟩ ⟨2, ![4, 2]⟩ ⟨2, ![4, 4]⟩ [1] [0, 1] [] [0, 1] [] 1 ![1, 1, 4]

abbrev boxDims (N : ℕ) (wf : BoxWF N) : GatherDims ⟨3, ![4, N, 4]⟩ ⟨2, ![4, 2]⟩ ⟨2, ![4, 4]⟩ where
  offsetDims := [1]
  collapsedSliceDims := [0, 1]
  operandBatchingDims := []
  startIndicesBatchingDims := []
  startIndexMap := [0, 1]
  indexVectorDim := 1
  sliceSizes := ![1, 1, 4]
  wf := wf

theorem pair_idx (wf : PairWF N) (b : Fin 4) (c : Fin 2) : (pairDims N wf).siIdx (ix1 b) c = ix2 b c := by
  funext a
  match a with
  | ⟨0, _⟩ => rfl
  | ⟨1, _⟩ => rfl

theorem box_idx (wf : BoxWF N) (b e : Fin 4) (c : Fin 2) : (boxDims N wf).siIdx (ix2 b e) c = ix2 b c := by
  funext a
  match a with
  | ⟨0, _⟩ => rfl
  | ⟨1, _⟩ => rfl

theorem gather_pair (wf : PairWF N) (hN : N < 2 ^ 31) (x : (⟨2, ![4, N]⟩ : Shape).Idx → EReal) (idx : IVec ⟨2, ![4, 2]⟩ 32)
    (b : Fin 4) (i : Fin N) (h0 : idx (ix2 b 0) = BitVec.ofNat 32 b.val) (h1 : idx (ix2 b 1) = BitVec.ofNat 32 i.val) :
    Host.gather (pairDims N wf) x idx (ix1 b) = x (ix2 b i) := by
  have hb := b.isLt
  have hi := i.isLt
  show x ((pairDims N wf).operandIdx (ix1 b) idx) = _
  congr 1
  funext a
  match a with
  | ⟨0, _⟩ =>
    apply Fin.ext
    show min (idx ((pairDims N wf).siIdx (ix1 b) 0)).toInt.toNat (4 - 1) + 0 + 0 = b.val
    rw [pair_idx, h0, toInt_nat _ (by omega)]; simp; omega
  | ⟨1, _⟩ =>
    apply Fin.ext
    show min (idx ((pairDims N wf).siIdx (ix1 b) 1)).toInt.toNat (N - 1) + 0 + 0 = i.val
    rw [pair_idx, h1, toInt_nat _ (by omega)]; simp; omega

theorem gather_box (wf : BoxWF N) (hN : N < 2 ^ 31) (x : (⟨3, ![4, N, 4]⟩ : Shape).Idx → EReal) (idx : IVec ⟨2, ![4, 2]⟩ 32)
    (b e : Fin 4) (i : Fin N) (h0 : idx (ix2 b 0) = BitVec.ofNat 32 b.val) (h1 : idx (ix2 b 1) = BitVec.ofNat 32 i.val) :
    Host.gather (boxDims N wf) x idx (ix2 b e) = x (ix3 b i e) := by
  have hb := b.isLt
  have hi := i.isLt
  show x ((boxDims N wf).operandIdx (ix2 b e) idx) = _
  congr 1
  funext a
  match a with
  | ⟨0, _⟩ =>
    apply Fin.ext
    show min (idx ((boxDims N wf).siIdx (ix2 b e) 0)).toInt.toNat (4 - 1) + 0 + 0 = b.val
    rw [box_idx, h0, toInt_nat _ (by omega)]; simp; omega
  | ⟨1, _⟩ =>
    apply Fin.ext
    show min (idx ((boxDims N wf).siIdx (ix2 b e) 1)).toInt.toNat (N - 1) + 0 + 0 = i.val
    rw [box_idx, h1, toInt_nat _ (by omega)]; simp; omega
  | ⟨2, _⟩ =>
    apply Fin.ext
    show 0 + 0 + e.val = e.val
    omega

/-- Writing one row of 25 at row `k`. -/
theorem update_at {α : Type} (x : (⟨3, ![25, 4, 5]⟩ : Shape).Idx → α) (u : (⟨3, ![1, 4, 5]⟩ : Shape).Idx → α) (start : Fin 3 → Int) (k : ℕ)
    (hk : k < 25) (h0 : start 0 = k) (h1 : start 1 = 0) (h2 : start 2 = 0)
    (hf : (⟨3, ![25, 4, 5]⟩ : Shape).Slices (fun _ => 0) ⟨3, ![1, 4, 5]⟩) (r : Fin 25) (b : Fin 4) (e : Fin 5) :
    Host.dynamicUpdateSlice x u start hf (ix3 r b e) = if r.val = k then u (ix3 0 b e) else x (ix3 r b e) := by
  have e0 : Host.clampedStart (⟨3, ![25, 4, 5]⟩ : Shape) ⟨3, ![1, 4, 5]⟩ hf.1 start 0 = k :=
    Host.clampedStart_of_le _ _ _ _ h0 (by show k + 1 ≤ 25; omega)
  have e1 : Host.clampedStart (⟨3, ![25, 4, 5]⟩ : Shape) ⟨3, ![1, 4, 5]⟩ hf.1 start 1 = 0 :=
    Host.clampedStart_of_le _ _ _ _ h1 (by show 0 + 4 ≤ 4; omega)
  have e2 : Host.clampedStart (⟨3, ![25, 4, 5]⟩ : Shape) ⟨3, ![1, 4, 5]⟩ hf.1 start 2 = 0 :=
    Host.clampedStart_of_le _ _ _ _ h2 (by show 0 + 5 ≤ 5; omega)
  pointwise
  simp only [e0, e1, e2]
  by_cases h : r.val = k
  · rw [if_pos h, dif_pos (by omega)]
    have z : (⟨r.val - k, by omega⟩ : Fin 1) = 0 := Subsingleton.elim _ _
    rw [z]
    rfl
  · rw [if_neg h, dif_neg (by omega)]

end Greedy
-- ==== Proof.KeptStep2.lean ====
/-
One trip of the reference of the 20 x 20 level: the box it picks, its overlaps, and the scores that remain.
-/
module

public import proofs.«01_k».proof.Proof.First
public import proofs.«01_k».proof.Proof.Level2
public import proofs.«01_k».proof.Proof.Gen.Kept2Ideal.Run
public import Idealize.ShloMosaic.Lib.StableHlo.ReadAt
public import Idealize.ShloMosaic.Lib.Tactic.CleanTypes

@[expose] public section
set_option maxRecDepth 16384
noncomputable section
open Idealize.ShloMosaic Idealize.ShloMosaic.TcCoe Idealize.SL.Sem
namespace Cert.Kept2Ideal.Steps
open Idealize.ShloMosaic.StableHlo Cert.Kept2Ideal Cert.Kept2Ideal.Gen Cert.Kept2Ideal.Value Greedy Interp

variable (V0 : Valuation τ sig (Elt Ideal))

/-- A coordinate of a box, and the same of the shifted box. -/
def bx (b : Fin 4) (n : Fin 1200) (e : Fin 4) : EReal := (V0 (Proc.devRef .tc main_v93_0) : FVec Ideal S4x1200x4 .f32) (ix3 b n e)
def ox (b : Fin 4) (n : Fin 1200) (e : Fin 4) : EReal := (V0 (Proc.devRef .tc main_v93_1) : FVec Ideal S4x1200x4 .f32) (ix3 b n e)

/-- The scores, the boxes and the shifted boxes one trip starts from, of image `b`. -/
structure At (b : Fin 4) (B : Boxes 1200) (s : Fin 1200 → EReal) : Prop where
  sc : ∀ n, (V0 (Proc.devRef .tc main_v93_3) : FVec Ideal S4x1200 .f32) (ix2 b n) = s n
  x1 : ∀ n, bx V0 b n 0 = B.x1 n
  y1 : ∀ n, bx V0 b n 1 = B.y1 n
  x2 : ∀ n, bx V0 b n 2 = B.x2 n
  y2 : ∀ n, bx V0 b n 3 = B.y2 n
  of : ∀ n e, ox V0 b n e
    = bx V0 b n e + B.o n
  re : ∀ n, ∃ o : ℝ, B.o n = (o : EReal)

variable {V0} {b : Fin 4} {B : Boxes 1200} {s : Fin 1200 → EReal} (h : At V0 b B s)
include h

theorem word_eq : (res_main_while0b_v102 (F := Ideal) V0 : IVec S4 32) (ix1 b) = BitVec.ofNat 32 (first s).val := by
  unfold res_main_while0b_v102
  clean_types
  pointwise
  have hs : ∀ x, (V0 (Proc.devRef .tc main_v93_3) : FVec Ideal S4x1200 .f32) (ix2 b x) = s x := h.sc
  simp only [hs, c_bot, fold_max s (first s) (first_spec s).1]
  exact fold_first s (first s) (first_spec s) _ rfl (by norm_num)

theorem v_eq : (res_main_while0b_v119 (F := Ideal) V0 : IVec S4 1) (ix1 b) = BitVec.ofBool (decide (0 < s (first s))) := by
  have hw := word_eq h
  unfold res_main_while0b_v119 res_main_while0b_v103
  clean_types
  pointwise
  refine congrArg (fun t : EReal => BitVec.ofBool (decide (0 < t))) ?_
  refine (gather_pair gather_S4x1200_S4x2_S4_n_01_n_n_01_1_11_wf (by norm_num) _ _ b (first s) ?_ ?_).trans (h.sc _)
  · pointwise
    exact no_wrap _ (by omega) _
  · pointwise
    rw [hw]
    exact no_wrap _ (by omega) _

theorem g_eq (e : Fin 4) : (res_main_while0b_v152 (F := Ideal) V0 : FVec Ideal S4x1x4 .f32) (ix3 b 0 e)
    = bx V0 b (first s) e + B.o (first s) := by
  have hw := word_eq h
  unfold res_main_while0b_v152 res_main_while0b_v137
  clean_types
  pointwise
  refine (gather_box gather_S4x1200x4_S4x2_S4x4_1_01_n_n_01_1_114_wf (by norm_num) _ _ b e (first s) ?_ ?_).trans (h.of _ _)
  · pointwise
    exact no_wrap _ (by omega) _
  · pointwise
    rw [hw]
    exact no_wrap _ (by omega) _

theorem inter_eq (n : Fin 1200) : (res_main_while0b_v183 (F := Ideal) V0 : FVec Ideal S4x1200 .f32) (ix2 b n) = inter B (first s) n := by
  unfold res_main_while0b_v183
  clean_types
  pointwise
  have g := g_eq h
  have o : ∀ n e, (V0 (Proc.devRef .tc main_v93_1) : FVec Ideal S4x1200x4 .f32) (ix3 b n e) = bx V0 b n e + B.o n := h.of
  unfold inter
  rw [g, g, g, g, o, o, o, o, h.x1, h.x1, h.x2, h.x2, h.y1, h.y1, h.y2, h.y2]
  rw [min_comm (B.x2 _ + _), max_comm (B.x1 _ + _), min_comm (B.y2 _ + _), max_comm (B.y1 _ + _)]

theorem score_eq (hm : Marked s) (n : Fin 1200) : (step_main_v93_3 (F := Ideal) V0 : FVec Ideal S4x1200 .f32) (ix2 b n) = next B s (first s) n := by
  have hi := inter_eq h n
  have hv := v_eq h
  have hw := word_eq h
  have g := g_eq h
  have o : ∀ n e, (V0 (Proc.devRef .tc main_v93_1) : FVec Ideal S4x1200x4 .f32) (ix3 b n e) = bx V0 b n e + B.o n := h.of
  have hs := h.sc
  obtain ⟨o1, h1⟩ := h.re (first s)
  obtain ⟨o2, h2⟩ := h.re n
  unfold step_main_v93_3
  simp only [id_eq]
  clean_types
  pointwise
  rw [hi, hv, hw, g, g, g, g, o, o, o, o, h.x1, h.x1, h.x2, h.x2, h.y1, h.y1, h.y2, h.y2, h1, h2, shift_sub, shift_sub, shift_sub, shift_sub,
    hs, c_neg, select_word, select_same _ _ (by omega) (by omega)]
  by_cases hp : 0 < s (first s)
  · rw [if_pos hp]
    unfold next
    by_cases e : n = first s
    · rw [if_pos (congrArg Fin.val e), if_pos e]
    · rw [if_neg (fun e' => e (Fin.ext e')), if_neg e]
      rfl
  · rw [if_neg hp, next_of_not hm (first_spec s) hp]

end Cert.Kept2Ideal.Steps
-- ==== Proof.KeptBox2.lean ====
/-
The boxes the reference of the 20 x 20 level starts from.
-/
module

public import proofs.«01_k».proof.Proof.KeptStep2
public import proofs.«01_k».proof.Proof.Level2
public import proofs.«01_k».proof.Proof.Gen.Kept2Ideal.Run
public import Idealize.ShloMosaic.Lib.StableHlo.ReadAt
public import Idealize.ShloMosaic.Lib.Tactic.CleanTypes

@[expose] public section
set_option maxRecDepth 16384
noncomputable section
open Idealize.ShloMosaic Idealize.ShloMosaic.TcCoe Idealize.SL.Sem
namespace Cert.Kept2Ideal.Steps
open Idealize.ShloMosaic.StableHlo Cert.Kept2Ideal Cert.Kept2Ideal.Gen Cert.Kept2Ideal.Value Greedy Interp

variable (m : (ℓ : Loc nD τ sig) → Buf (Elt Ideal) ℓ) (c : Dev nD)

/-- The predictions and the anchors. -/
abbrev xs : FVec Ideal S4x3x20x20x85 .f32 := launchContents m c (Proc.devRef .tc main_arg0)
abbrev an : FVec Ideal S3x3x2 .f32 := launchContents m c (Proc.devRef .tc main_arg1)

theorem gate_at (x : FVec Ideal S4x3x20x20x85 .f32) (b : Fin 4) (n : Fin 1200) (h1 : n.val / 400 < 3) (h2 : n.val / 20 % 20 < 20)
    (h3 : n.val % 20 < 20) (k : ℕ) (hk : k < 85) :
    Ideal.div 1 (1 + Ideal.exp (-x (ix5 b ⟨n.val / 400, h1⟩ ⟨n.val / 20 % 20, h2⟩ ⟨n.val % 20, h3⟩ ⟨k, hk⟩))) = gate (Level2.raw x b) n k := by
  unfold gate
  rw [show Level2.raw x b n k = _ from Level2.raw_eq x b n ⟨k, hk⟩]
  rfl

/-- A corner coordinate: the centre less or plus half the side, as the reference words it. -/
theorem corner_sub (a w : EReal) (g : ℕ) (hg : g < 2 ^ 31) (v : EReal) : a * Ideal.ofBits FTy.f32 1073741824#32 +
    (FloatOps.sitofp (F := Ideal) FTy.f32 (BitVec.ofNat 32 g) - Ideal.ofBits FTy.f32 1056964608#32) -
      Ideal.div (v * Ideal.ofBits FTy.f32 1073741824#32 * (v * Ideal.ofBits FTy.f32 1073741824#32) * w) (Ideal.ofBits FTy.f32 1073741824#32)
    = a * ((2 : ℝ) : EReal) + ((g : ℝ) : EReal) - ((1 / 2 : ℝ) : EReal) - v * ((2 : ℝ) : EReal) * (v * ((2 : ℝ) : EReal)) * w * ((1 / 2 : ℝ) : EReal) := by
  rw [c_2, c_half, sitofp_nat _ hg, Ideal.div_coe (by norm_num), sub_eq_add_neg ((g : ℝ) : EReal), ← add_assoc, ← sub_eq_add_neg]

theorem corner_add (a w : EReal) (g : ℕ) (hg : g < 2 ^ 31) (v : EReal) : a * Ideal.ofBits FTy.f32 1073741824#32 +
    (FloatOps.sitofp (F := Ideal) FTy.f32 (BitVec.ofNat 32 g) - Ideal.ofBits FTy.f32 1056964608#32) +
      Ideal.div (v * Ideal.ofBits FTy.f32 1073741824#32 * (v * Ideal.ofBits FTy.f32 1073741824#32) * w) (Ideal.ofBits FTy.f32 1073741824#32)
    = a * ((2 : ℝ) : EReal) + ((g : ℝ) : EReal) - ((1 / 2 : ℝ) : EReal) + v * ((2 : ℝ) : EReal) * (v * ((2 : ℝ) : EReal)) * w * ((1 / 2 : ℝ) : EReal) := by
  rw [c_2, c_half, sitofp_nat _ hg, Ideal.div_coe (by norm_num), sub_eq_add_neg ((g : ℝ) : EReal), ← add_assoc, ← sub_eq_add_neg]

/-- The level's boxes. -/
abbrev bs (b : Fin 4) : Boxes 1200 := boxes (Level2.raw (xs m c) b) (Level2.side (an m c) 0) (Level2.side (an m c) 1) 20 20

theorem x1_entry (b : Fin 4) (n : Fin 1200) : (entryContents preI m c (Proc.devRef .tc main_v93_0) : FVec Ideal S4x1200x4 .f32) (ix3 b n 0)
    = (bs m c b).x1 n := by
  simp only [entryContents, afterL_cons, afterL_nil]
  after_reads_at
  simp only [id_eq]
  pointwise
  after_reads_at
  pointwise
  after_reads_at
  pointwise
  after_reads_at
  pointwise
  have g0 := gate_at (xs m c) b n (by omega) (by omega) (by omega) 0 (by norm_num)
  have g2 := gate_at (xs m c) b n (by omega) (by omega) (by omega) 2 (by norm_num)
  exact (congrArg₂ _ (congrArg₂ _ (congrArg₂ _ g0 rfl) rfl) (congrArg₂ _ (congrArg₂ _ (congrArg₂ _ (congrArg₂ _ g2 rfl) (congrArg₂ _ g2 rfl)) rfl) rfl)).trans
    (corner_sub _ _ _ (by omega) _)

theorem y1_entry (b : Fin 4) (n : Fin 1200) : (entryContents preI m c (Proc.devRef .tc main_v93_0) : FVec Ideal S4x1200x4 .f32) (ix3 b n 1)
    = (bs m c b).y1 n := by
  simp only [entryContents, afterL_cons, afterL_nil]
  after_reads_at
  simp only [id_eq]
  pointwise
  after_reads_at
  pointwise
  after_reads_at
  pointwise
  after_reads_at
  pointwise
  have g1 := gate_at (xs m c) b n (by omega) (by omega) (by omega) 1 (by norm_num)
  have g3 := gate_at (xs m c) b n (by omega) (by omega) (by omega) 3 (by norm_num)
  exact (congrArg₂ _ (congrArg₂ _ (congrArg₂ _ g1 rfl) rfl) (congrArg₂ _ (congrArg₂ _ (congrArg₂ _ (congrArg₂ _ g3 rfl) (congrArg₂ _ g3 rfl)) rfl) rfl)).trans
    (corner_sub _ _ _ (by omega) _)

theorem x2_entry (b : Fin 4) (n : Fin 1200) : (entryContents preI m c (Proc.devRef .tc main_v93_0) : FVec Ideal S4x1200x4 .f32) (ix3 b n 2)
    = (bs m c b).x2 n := by
  simp only [entryContents, afterL_cons, afterL_nil]
  after_reads_at
  simp only [id_eq]
  pointwise
  after_reads_at
  pointwise
  after_reads_at
  pointwise
  after_reads_at
  pointwise
  have g0 := gate_at (xs m c) b n (by omega) (by omega) (by omega) 0 (by norm_num)
  have g2 := gate_at (xs m c) b n (by omega) (by omega) (by omega) 2 (by norm_num)
  exact (congrArg₂ _ (congrArg₂ _ (congrArg₂ _ g0 rfl) rfl) (congrArg₂ _ (congrArg₂ _ (congrArg₂ _ (congrArg₂ _ g2 rfl) (congrArg₂ _ g2 rfl)) rfl) rfl)).trans
    (corner_add _ _ _ (by omega) _)

theorem y2_entry (b : Fin 4) (n : Fin 1200) : (entryContents preI m c (Proc.devRef .tc main_v93_0) : FVec Ideal S4x1200x4 .f32) (ix3 b n 3)
    = (bs m c b).y2 n := by
  simp only [entryContents, afterL_cons, afterL_nil]
  after_reads_at
  simp only [id_eq]
  pointwise
  after_reads_at
  pointwise
  after_reads_at
  pointwise
  after_reads_at
  pointwise
  have g1 := gate_at (xs m c) b n (by omega) (by omega) (by omega) 1 (by norm_num)
  have g3 := gate_at (xs m c) b n (by omega) (by omega) (by omega) 3 (by norm_num)
  exact (congrArg₂ _ (congrArg₂ _ (congrArg₂ _ g1 rfl) rfl) (congrArg₂ _ (congrArg₂ _ (congrArg₂ _ (congrArg₂ _ g3 rfl) (congrArg₂ _ g3 rfl)) rfl) rfl)).trans
    (corner_add _ _ _ (by omega) _)

end Cert.Kept2Ideal.Steps
-- ==== Proof.KeptScore2.lean ====
/-
The scores and the shifts the reference of the 20 x 20 level starts from.
-/
module

public import proofs.«01_k».proof.Proof.KeptBox2
public import proofs.«01_k».proof.Proof.Level2
public import proofs.«01_k».proof.Proof.Gen.Kept2Ideal.Run
public import Idealize.ShloMosaic.Lib.StableHlo.ReadAt
public import Idealize.ShloMosaic.Lib.Tactic.CleanTypes

@[expose] public section
set_option maxRecDepth 16384
noncomputable section
open Idealize.ShloMosaic Idealize.ShloMosaic.TcCoe Idealize.SL.Sem
namespace Cert.Kept2Ideal.Steps
open Idealize.ShloMosaic.StableHlo Cert.Kept2Ideal Cert.Kept2Ideal.Gen Cert.Kept2Ideal.Value Greedy Interp

variable (m : (ℓ : Loc nD τ sig) → Buf (Elt Ideal) ℓ) (c : Dev nD)

theorem gate_4 (x : FVec Ideal S4x3x20x20x85 .f32) (b : Fin 4) (n : Fin 1200) (h1 : n.val / 400 < 3) (h2 : n.val / 20 % 20 < 20)
    (h3 : n.val % 20 < 20) :
    Ideal.div 1 (1 + Ideal.exp (-x (ix5 b ⟨n.val / 400, h1⟩ ⟨n.val / 20 % 20, h2⟩ ⟨n.val % 20, h3⟩ 4))) = gate (Level2.raw x b) n 4 :=
  gate_at x b n h1 h2 h3 4 (by norm_num)
theorem cls_at (X : Fin 1200 → ℕ → EReal) (n : Fin 1200) (q : ℕ) : gate X n (q + 5) * gate X n 4 = cls X n q := rfl

theorem n1 (x : ℕ) : (5 + x < 2) = False := by simp; omega
theorem n2 (x : ℕ) : (5 + x - 2 < 2) = False := by simp; omega
theorem v4 : ((4 : Fin 85) : ℕ) = 4 := rfl
theorem n3 (x : ℕ) : 4 + (5 + x - 2 - 2) = x + 5 := by omega

/-- The largest class score, as a maximum over the classes. -/
theorem top_1 (X : Fin 1200 → ℕ → EReal) (n : Fin 1200) : (Finset.univ : Finset (Fin 80)).fold max ⊥ (fun q => cls X n q.val) = (top X n).1 := by
  have hc := first_spec (fun q : Fin 80 => cls X n q.val)
  rw [fold_max _ _ hc.1]
  unfold top
  rw [run_first (n := 79) _ _ hc]

/-- Its class, as the first index of the maximum. -/
theorem top_2 (X : Fin 1200 → ℕ → EReal) (n : Fin 1200) : (Finset.univ : Finset (Fin 80)).fold IntOp.minsi 2147483647#32
    (fun q => if cls X n q.val = (top X n).1 then BitVec.ofNat 32 q.val else BitVec.ofNat 32 80) = BitVec.ofNat 32 (top X n).2 := by
  have hc := first_spec (fun q : Fin 80 => cls X n q.val)
  unfold top
  rw [run_first (n := 79) _ _ hc]
  exact fold_first (fun q : Fin 80 => cls X n q.val) _ hc _ rfl (by norm_num)

theorem top_lt (X : Fin 1200 → ℕ → EReal) (n : Fin 1200) : (top X n).2 < 2 ^ 31 := by
  have hc := first_spec (fun q : Fin 80 => cls X n q.val)
  unfold top
  rw [run_first (n := 79) _ _ hc]
  show (first _).val < _
  omega

theorem select_and {p q : Prop} [Decidable p] [Decidable q] (x y : EReal) :
    Scalar.select (IntOp.andi (BitVec.ofBool (decide p)) (BitVec.ofBool (decide q))) x y = if p ∧ q then x else y := by
  by_cases hp : p <;> by_cases hq : q <;> simp [hp, hq] <;> rfl

theorem sc_entry (b : Fin 4) (n : Fin 1200) : (entryContents preI m c (Proc.devRef .tc main_v93_3) : FVec Ideal S4x1200 .f32) (ix2 b n)
    = start (Level2.raw (xs m c) b) n := by
  simp only [entryContents, afterL_cons, afterL_nil]
  after_reads_at
  simp only [id_eq]
  pointwise
  after_reads_at
  pointwise
  have ga : ∀ (h1 : n.val / 400 < 3) (h2 : n.val / 20 % 20 < 20) (h3 : n.val % 20 < 20) (k : ℕ) (hk : k < 85), _ = _ :=
    fun h1 h2 h3 k hk => gate_at (xs m c) b n h1 h2 h3 k hk
  have g4 := fun h1 h2 h3 => gate_4 (xs m c) b n h1 h2 h3
  unfold xs at ga g4
  simp only [n1, n2, n3, v4, dite_false, ga, g4, cls_at, c_bot, c_quarter, c_neg, top_1, select_and]
  rfl

theorem of_entry (b : Fin 4) (n : Fin 1200) (e : Fin 4) : (entryContents preI m c (Proc.devRef .tc main_v93_1) : FVec Ideal S4x1200x4 .f32) (ix3 b n e)
    = bx (entryContents preI m c) b n e
      + (((top (Level2.raw (xs m c) b) n).2 : ℝ) : EReal) * Ideal.ofBits .f32 1173356544#32 := by
  unfold bx
  simp only [entryContents, afterL_cons, afterL_nil]
  after_reads_at
  simp only [id_eq]
  pointwise
  refine congrArg (fun t : EReal => _ + t) ?_
  after_reads_at
  pointwise
  have ga : ∀ (h1 : n.val / 400 < 3) (h2 : n.val / 20 % 20 < 20) (h3 : n.val % 20 < 20) (k : ℕ) (hk : k < 85), _ = _ :=
    fun h1 h2 h3 k hk => gate_at (xs m c) b n h1 h2 h3 k hk
  have g4 := fun h1 h2 h3 => gate_4 (xs m c) b n h1 h2 h3
  unfold xs at ga g4
  have e80 : ∀ j, id (constantI S_ 32 80#32) j = BitVec.ofNat 32 80 := fun _ => rfl
  simp only [n1, n2, n3, v4, dite_false, ga, g4, cls_at, c_bot, top_1, e80, top_2]
  exact congrArg (fun t : EReal => t * _) (sitofp_nat _ (top_lt _ _))

end Cert.Kept2Ideal.Steps
-- ==== Proof.KeptOut2.lean ====
/-
The array the reference of the 20 x 20 level ends with: the table of the boxes kept.
-/
module

public import proofs.«01_k».proof.Proof.KeptScore2
public import proofs.«01_k».proof.Proof.Level2
public import proofs.«01_k».proof.Proof.Gen.Kept2Ideal.Run
public import Idealize.ShloMosaic.Lib.StableHlo.ReadAt
public import Idealize.ShloMosaic.Lib.Tactic.CleanTypes

@[expose] public section
set_option maxRecDepth 16384
noncomputable section
open Idealize.ShloMosaic Idealize.ShloMosaic.TcCoe Idealize.SL.Sem
namespace Cert.Kept2Ideal.Steps
open Idealize.ShloMosaic.StableHlo Cert.Kept2Ideal Cert.Kept2Ideal.Gen Cert.Kept2Ideal.Value Greedy Interp

section
variable {V0 : Valuation τ sig (Elt Ideal)} {b : Fin 4} {B : Boxes 1200} {s : Fin 1200 → EReal}

/-- The row one trip writes. -/
theorem row_eq (h : At V0 b B s) (k : ℕ) (hk : k < 25)
    (hc : (V0 (Proc.devRef .tc main_v93_2) : IVec S_ 32) = fun _ => BitVec.ofNat 32 k) (r : Fin 25) (e : Fin 5) :
    (step_main_v93_4 (F := Ideal) V0 : FVec Ideal S25x4x5 .f32) (ix3 r b e)
      = if r.val = k then entry B s ⟨e.val, by omega⟩ else (V0 (Proc.devRef .tc main_v93_4) : FVec Ideal S25x4x5 .f32) (ix3 r b e) := by
  have hv := v_eq h
  have hw := word_eq h
  unfold step_main_v93_4
  simp only [id_eq]
  refine (update_at _ _ _ k hk ?_ rfl rfl _ r b e).trans ?_
  · exact (congrArg BitVec.toInt (congrFun hc _)).trans (toInt_nat _ (by omega))
  by_cases hr : r.val = k
  · rw [if_pos hr, if_pos hr]
    clean_types
    pointwise
    rw [hv]
    unfold res_main_while0b_v121
    by_cases he : e.val < 4
    · rw [dif_pos he, select_word]
      unfold entry
      refine if_congr Iff.rfl ?_ rfl
      refine (gather_box gather_S4x1200x4_S4x2_S4x4_1_01_n_n_01_1_114_wf (by norm_num) _ _ b ⟨e.val, he⟩ (first s) ?_ ?_).trans ?_
      · pointwise
        exact no_wrap _ (by omega) _
      · pointwise
        rw [hw]
        exact no_wrap _ (by omega) _
      · match e, he with
        | ⟨0, _⟩, _ => exact h.x1 _
        | ⟨1, _⟩, _ => exact h.y1 _
        | ⟨2, _⟩, _ => exact h.x2 _
        | ⟨3, _⟩, _ => exact h.y2 _
    · rw [dif_neg he, uitofp_word]
      unfold entry
      have e4 : e.val = 4 := by omega
      simp only [e4]
      rfl
  · rw [if_neg hr, if_neg hr]

/-- One trip. -/
theorem At.step (h : At V0 b B s) (hm : Marked s) : At (STEP V0) b B (next B s (first s)) where
  sc n := (congrFun (STEP_main_v93_3 V0) _).trans (score_eq h hm n)
  x1 n := (congrFun (STEP_main_v93_0 V0) _).trans (h.x1 n)
  y1 n := (congrFun (STEP_main_v93_0 V0) _).trans (h.y1 n)
  x2 n := (congrFun (STEP_main_v93_0 V0) _).trans (h.x2 n)
  y2 n := (congrFun (STEP_main_v93_0 V0) _).trans (h.y2 n)
  of n e := (congrFun (STEP_main_v93_1 V0) _).trans ((h.of n e).trans
    (congrArg (· + B.o n) (congrFun (STEP_main_v93_0 V0) (ix3 b n e)).symm))
  re := h.re

/-- The trips before the `k`-th: the scores, the counter, and the rows written. -/
theorem iter (h : At V0 b B s) (hm : Marked s) (hc : (V0 (Proc.devRef .tc main_v93_2) : IVec S_ 32) = fun _ => 0#32) (k : ℕ) (hk : k ≤ 25) :
    At (STEP^[k] V0) b B (scores B s k) ∧ ((STEP^[k] V0) (Proc.devRef .tc main_v93_2) : IVec S_ 32) = (fun _ => BitVec.ofNat 32 k)
      ∧ ∀ (r : Fin 25) (e : Fin 5), r.val < k → ((STEP^[k] V0) (Proc.devRef .tc main_v93_4) : FVec Ideal S25x4x5 .f32) (ix3 r b e)
          = entry B (scores B s r.val) ⟨e.val, by omega⟩ := by
  induction k with
  | zero => exact ⟨h, hc, fun r e hr => absurd hr (by omega)⟩
  | succ k ih =>
    obtain ⟨i1, i2, i3⟩ := ih (by omega)
    rw [Function.iterate_succ_apply']
    refine ⟨i1.step (hm.scores k), ?_, ?_⟩
    · refine (STEP_main_v93_2 _).trans ?_
      unfold step_main_v93_2
      funext j
      refine (congrArg (fun t : BitVec 32 => t + 1#32) (congrFun i2 j)).trans ?_
      exact (BitVec.ofNat_add k 1).symm
    · intro r e hr
      refine (congrFun (STEP_main_v93_4 _) _).trans ((row_eq i1 k (by omega) i2 r e).trans ?_)
      by_cases hrk : r.val = k
      · rw [if_pos hrk, hrk]
      · rw [if_neg hrk]
        exact i3 r e (by omega)

/-- The table after the 25 trips. -/
theorem table_eq (h : At V0 b B s) (hm : Marked s) (hc : (V0 (Proc.devRef .tc main_v93_2) : IVec S_ 32) = fun _ => 0#32)
    (r : Fin 32) (l : Fin 128) : (out_main_v95 (STEP^[25] V0) : FVec Ideal S4x32x128 .f32) (ix3 b r l) = table B s r l := by
  have hi := (iter h hm hc 25 le_rfl).2.2
  unfold out_main_v95
  clean_types
  pointwise
  unfold table
  by_cases hr : r.val < 25
  · rw [if_pos hr]
    by_cases hl : l.val < 5
    · rw [dif_pos ⟨hr, hl⟩]
      exact hi ⟨r.val, hr⟩ ⟨l.val, hl⟩ hr
    · rw [dif_neg (fun h => hl h.2)]
      unfold entry
      rw [if_neg (by omega : ¬ l.val = 0), if_neg (by omega : ¬ l.val = 1), if_neg (by omega : ¬ l.val = 2), if_neg (by omega : ¬ l.val = 3),
        if_neg (by omega : ¬ l.val = 4), ite_self]
      exact (sitofp_nat 0 (by norm_num)).trans (by simp)
  · rw [if_neg hr, dif_neg (fun h => hr h.1)]
    exact (sitofp_nat 0 (by norm_num)).trans (by simp)
end

variable (m : (ℓ : Loc nD τ sig) → Buf (Elt Ideal) ℓ) (c : Dev nD)

theorem big_real : ∃ r : ℝ, Ideal.ofBits .f32 1173356544#32 = (r : EReal) :=
  ⟨7680, by simp [Ideal.ofBits, Ideal.ieee, -EReal.coe_mul]; norm_num⟩

/-- What the loop starts from. -/
theorem at_entry (b : Fin 4) : At (entryContents preI m c) b (bs m c b) (start (Level2.raw (xs m c) b)) where
  sc n := sc_entry m c b n
  x1 n := x1_entry m c b n
  y1 n := y1_entry m c b n
  x2 n := x2_entry m c b n
  y2 n := y2_entry m c b n
  of n e := of_entry m c b n e
  re n := by
    obtain ⟨r, hr⟩ := big_real
    exact ⟨_ * r, (congrArg (fun t : EReal => _ * t) hr).trans (EReal.coe_mul _ _).symm⟩

theorem result_eq (b : Fin 4) (r : Fin 32) (l : Fin 128) :
    (out_main_v95 (STEP^[25] (entryContents preI m c)) : FVec Ideal S4x32x128 .f32) (ix3 b r l)
      = Level2.kept (m ((c : Thread nD τ).loc main_arg0)) (m ((c : Thread nD τ).loc main_arg1)) b r l :=
  table_eq (at_entry m c b) (start_marked _) (ctr_entry m c) r l

end Cert.Kept2Ideal.Steps
-- ==== Proof.KRun.lean ====
/- The kernel's run: every weakly fair execution ends with each unscoped buffer at the contents the last
    boundary of @main gives it, so the result array is that boundary's. -/
module

public import proofs.«01_k».proof.Proof.Gen.KernelIdeal.Frame

@[expose] public section

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxRecDepth 16384 in
set_option backward.isDefEq.respectTransparency.types false in
/-- The result of @main is the last boundary's contents of its buffer. -/
theorem run : θ_run defs (onTc (τ := τ) (main (F := F))) ⟨m, fun _ => 0, ρ⟩ (fun r => ∀ c : Dev nD,
      r.2.mem ((c.tc : Thread nD τ).loc main_v83) = W32 m ρ c (Proc.devRef .tc main_v83)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun s h _ => fun c => h c _ (mem_uc main_v83 (by decide)))

end Cert.KernelIdeal.Run

end
-- ==== Proof.Roi0.lean ====
/-
The sampling call of level 0: the weights it computes, the rows it samples and the values it stores, as sums over
the blocks it loads.
-/
module

public import proofs.«01_k».proof.Proof.Gen.KernelIdeal.Frame
public import proofs.«01_k».proof.Proof.RoiCore
public import proofs.«01_k».proof.Proof.Weights
public import proofs.«01_k».proof.Proof.Tent

@[expose] public section
set_option maxRecDepth 16384
noncomputable section
open Idealize.ShloMosaic Idealize.ShloMosaic.TcCoe Idealize.SL.Sem
open Idealize.ShloMosaic.Pipeline (Dat)
namespace Cert.KernelIdeal.Roi0
open Cert.KernelIdeal Cert.KernelIdeal.Gen Interp

theorem br (x0 : Vec Ideal S1x32x128 .f32) (r : Fin 176) (q : Fin 128) :
    k0_pay3 x0 (ix2 r q) = x0 (ix3 0 ⟨r / 7, by omega⟩ q) := by
  pointwise [k0_pay3]
  all_goals
    simp only [word_div]
    exact pick (N := 32) ⟨r / 7, by omega⟩ (by norm_num) fun x => x0 (ix3 0 x q)

theorem place (r : Fin 176) : k0_pay10 (F := Ideal) (ix2 r 0) = (((r.val % 7 : ℕ) : ℝ) : EReal) := by
  pointwise [k0_pay10]
  all_goals
    rw [word_mod]
    exact sitofp_nat _ (by omega)

theorem lo_y (x0 : Vec Ideal S1x32x128 .f32) (r : Fin 176) :
    k0_pay5 x0 (ix2 r 0) = x0 (ix3 0 ⟨r / 7, by omega⟩ 1) := by
  pointwise [k0_pay5]
  all_goals exact br x0 r _
theorem lo_x (x0 : Vec Ideal S1x32x128 .f32) (r : Fin 176) :
    k0_pay4 x0 (ix2 r 0) = x0 (ix3 0 ⟨r / 7, by omega⟩ 0) := by
  pointwise [k0_pay4]
  all_goals exact br x0 r _
theorem step_y (x0 : Vec Ideal S1x32x128 .f32) (r : Fin 176) :
    k0_pay6 (F := Ideal) x0 (ix2 r 0) = step (x0 (ix3 0 ⟨r / 7, by omega⟩ 1)) (x0 (ix3 0 ⟨r / 7, by omega⟩ 3)) := by
  pointwise [k0_pay6]
  rw [br, lo_y, c_7]; rfl
theorem step_x (x0 : Vec Ideal S1x32x128 .f32) (r : Fin 176) :
    k0_pay8 (k0_pay7 (F := Ideal) x0) (FloatOps.ofBits .f32 1088421888#32) (ix2 r 0) = step (x0 (ix3 0 ⟨r / 7, by omega⟩ 0)) (x0 (ix3 0 ⟨r / 7, by omega⟩ 2)) := by
  pointwise [k0_pay8, k0_pay7]
  rw [br, lo_x, c_7]; rfl

/-- The mean weight of one row of the 176 at one position along an axis whose edges are `lo` and `hi`. -/
theorem wx (x0 : Vec Ideal S1x32x128 .f32) (r : Fin 176) (x : Fin 80) :
    k0_pay20 k0_pay16 (k0_pay18 (k0_pay4 x0) (k0_pay8 (k0_pay7 x0) (FloatOps.ofBits .f32 1088421888#32)) k0_pay16
      (iota Kind.tc S176x1 32 [0] iota_S176x1_d0_w32) 7#32 0#1) (k0_pay19 (k0_pay4 x0) (k0_pay8 (k0_pay7 x0)
        (FloatOps.ofBits .f32 1088421888#32)) (iota Kind.tc S176x1 32 [0] iota_S176x1_d0_w32) 7#32 0#1) (ix2 r x)
      = pair 80 (pos (x0 (ix3 0 ⟨r / 7, by omega⟩ 0)) (x0 (ix3 0 ⟨r / 7, by omega⟩ 2)) (r % 7) (1 / 4))
          (pos (x0 (ix3 0 ⟨r / 7, by omega⟩ 0)) (x0 (ix3 0 ⟨r / 7, by omega⟩ 2)) (r % 7) (3 / 4)) x := by
  pointwise [k0_pay20, k0_pay16, k0_pay18, k0_pay19, k0_pay17]
  rw [select_pair 80 x (by omega) _ _ _ _ _ _ c_neg c_80 c_79 c_half, word_mod' r, sitofp_nat _ (by omega), lo_x, c_quarter, c_three]
  have e := step_x x0 r
  rw [show FloatOps.ofBits (F := Ideal) .f32 1088421888#32 = Ideal.ofBits .f32 1088421888#32 from rfl] at e
  rw [e]
  rfl

theorem wy (x0 : Vec Ideal S1x32x128 .f32) (x1 : Vec Ideal S1x80x20480 .bf16) (r : Fin 176) (q : Fin 20480) :
    k0_pay15 (k0_pay5 x0) (k0_pay6 x0) k0_pay9 k0_pay10 k0_pay11 (k0_pay13 (k0_pay5 x0) (k0_pay6 x0))
      (FloatOps.ofBits .f32 0#32) (k0_pay14 (k0_pay5 x0) (k0_pay6 x0)) x1 (ix2 r q)
      = ∑ y : Fin 80, pair 80 (pos (x0 (ix3 0 ⟨r / 7, by omega⟩ 1)) (x0 (ix3 0 ⟨r / 7, by omega⟩ 3)) (r % 7) (1 / 4))
          (pos (x0 (ix3 0 ⟨r / 7, by omega⟩ 1)) (x0 (ix3 0 ⟨r / 7, by omega⟩ 3)) (r % 7) (3 / 4)) y * x1 (ix3 0 y q) := by
  pointwise [k0_pay15, k0_pay9, k0_pay11, k0_pay13, k0_pay14, k0_pay12]
  refine Finset.sum_congr rfl fun y _ => ?_
  rw [select_pair 80 y (by omega) _ _ _ _ _ _ c_neg c_80 c_79 c_half, place, lo_y, step_y, c_quarter, c_three]
  rfl

/-- One column group of 256 of the sampled rows through the convolution. -/
def colG (L : List (View.Piece (Elt Ideal) S176x1792 .f32)) (cw : Vec Ideal S256x84 .bf16) (cb : Vec Ideal S1x84 .f32) :
    S1x176x588.Idx → EReal := fun y =>
  ∑ k : Fin 256, View.canon L (ix2 (y 1) ⟨(y 2).val / 84 * 256 + k, by have : (y 2).val < 588 := (y 2).isLt; omega⟩)
    * cw (ix2 k ⟨(y 2).val % 84, by omega⟩) + cb (ix2 0 ⟨(y 2).val % 84, by omega⟩)

theorem colG_block (L : List (View.Piece (Elt Ideal) S176x1792 .f32)) (cw : Vec Ideal S256x84 .bf16) (cb : Vec Ideal S1x84 .f32)
    (o : ℕ) (b : Fin 176) (c : Fin 84) (ho : o % 84 = 0) (h : o + c.val < 588) (P : Fin 256 → Fin 1792)
    (hP : ∀ x, (P x).val = o / 84 * 256 + x) :
    ∑ k : Fin 256, View.canon L (ix2 b (P k)) * cw (ix2 k c) + cb (ix2 0 c) = colG L cw cb (ix3 0 b ⟨o + c.val, h⟩) := by
  have e1 : (o + c.val) / 84 = o / 84 := by omega
  have e2 : (⟨(o + c.val) % 84, by omega⟩ : Fin 84) = c := Fin.ext (by show (o + c.val) % 84 = c.val; omega)
  show _ = ∑ k : Fin 256, View.canon L (ix2 b ⟨(o + c.val) / 84 * 256 + k, _⟩) * cw (ix2 k ⟨(o + c.val) % 84, _⟩)
    + cb (ix2 0 ⟨(o + c.val) % 84, _⟩)
  rw [e2]
  refine congrArg (· + _) (Finset.sum_congr rfl fun k _ => ?_)
  rw [show P k = ⟨(o + c.val) / 84 * 256 + k, by omega⟩ from Fin.ext (by rw [hP]; show _ = (o + c.val) / 84 * 256 + k.val; rw [e1])]

/-- The seven column blocks a grid point stores, read at one index: each is one 256-column group of the
    sampled rows through the convolution. -/
theorem out_cols (L : List (View.Piece (Elt Ideal) S176x1792 .f32)) (cw : Vec Ideal S256x84 .bf16) (cb : Vec Ideal S1x84 .f32)
    (r : Fin 176) (q : Fin 588) :
    View.canon (Val := Elt Ideal) (s := S1x176x588) (e := .f32) [⟨Rect.unit ![0, 0, 504] ![1, 176, 84] inb_S1x176x588_S1x176x84_0_0_504,
          k0_pay2 ((View.whole cc0_scratch1).readCov L (Rect.unit ![0, 1536] ![176, 256] inb_S176x1792_S176x256_0_1536).toLoadRect) cw cb⟩,
        ⟨Rect.unit ![0, 0, 420] ![1, 176, 84] inb_S1x176x588_S1x176x84_0_0_420,
          k0_pay1 (k0_pay60 ((View.whole cc0_scratch1).readCov L (Rect.unit ![0, 1280] ![176, 256] inb_S176x1792_S176x256_0_1280).toLoadRect) cw) cb⟩,
        ⟨Rect.unit ![0, 0, 336] ![1, 176, 84] inb_S1x176x588_S1x176x84_0_0_336,
          k0_pay59 ((View.whole cc0_scratch1).readCov L (Rect.unit ![0, 1024] ![176, 256] inb_S176x1792_S176x256_0_1024).toLoadRect) cw cb⟩,
        ⟨Rect.unit ![0, 0, 252] ![1, 176, 84] inb_S1x176x588_S1x176x84_0_0_252,
          k0_pay58 ((View.whole cc0_scratch1).readCov L (Rect.unit ![0, 768] ![176, 256] inb_S176x1792_S176x256_0_768).toLoadRect) cw cb⟩,
        ⟨Rect.unit ![0, 0, 168] ![1, 176, 84] inb_S1x176x588_S1x176x84_0_0_168,
          k0_pay57 (k0_pay56 ((View.whole cc0_scratch1).readCov L (Rect.unit ![0, 512] ![176, 256] inb_S176x1792_S176x256_0_512).toLoadRect) cw cb)⟩,
        ⟨Rect.unit ![0, 0, 84] ![1, 176, 84] inb_S1x176x588_S1x176x84_0_0_84,
          k0_pay55 ((View.whole cc0_scratch1).readCov L (Rect.unit ![0, 256] ![176, 256] inb_S176x1792_S176x256_0_256).toLoadRect) cw cb⟩,
        ⟨Rect.unit ![0, 0, 0] ![1, 176, 84] inb_S1x176x588_S1x176x84_0_0_0,
          k0_pay54 (k0_pay53 ((View.whole cc0_scratch1).readCov L (Rect.unit ![0, 0] ![176, 256] inb_S176x1792_S176x256_0_0).toLoadRect)) cw cb⟩] (ix3 0 r q)
      = ∑ k : Fin 256, View.canon L (ix2 r ⟨q / 84 * 256 + k, by omega⟩) * cw (ix2 k ⟨q % 84, by omega⟩)
          + cb (ix2 0 ⟨q % 84, by omega⟩) := by
  refine RoiCore.canon_take (Val := Elt Ideal) (e := .f32) (colG L cw cb) 7 _ ?_ _ ?_
  · refine ⟨fun x => ?_, fun x => ?_, fun x => ?_, fun x => ?_, fun x => ?_, fun x => ?_, fun x => ?_, trivial⟩
    all_goals
      simp only [View.readCov_eq_canon']
      idx_vars x
      pointwise [k0_pay1, k0_pay2, k0_pay53, k0_pay54, k0_pay55, k0_pay56, k0_pay57, k0_pay58, k0_pay59, k0_pay60]
      rw [RoiCore.col_emb _ _ _ _ (by omega)]
      refine colG_block L cw cb _ _ _ ?_ _ _ ?_
      · decide
      · intro x
        simp
  · refine RoiCore.colsCov_mem _ ?_ r q
    sl_kernel_rfl

/-- The sampled rows: row `r` at column `q` sums the row weights of `r` against one line of the array of
    weighted feature rows. -/
def sampled (w : Vec Ideal S176x80 .bf16) (A : Vec Ideal S176x20480 .bf16) : S176x1792.Idx → EReal := fun y =>
  ∑ x : Fin 80, w (ix2 (y 0) x) * A (ix2 ⟨((y 0).val / 7 * 7 + (y 1).val / 256) % 176, by omega⟩
    ⟨x * 256 + (y 1).val % 256, by omega⟩)

theorem sampled_block (w : Vec Ideal S176x80 .bf16) (A : Vec Ideal S176x20480 .bf16) (o : ℕ) (i : Fin 7) (q : Fin 1792)
    (ho : o % 7 = 0) (h : o + i.val < 176) (h7 : o + 7 ≤ 176) (R : Fin 80 → Fin 176) (R' : Fin 80 → Fin 176) (X : Fin 80 → Fin 80)
    (C : Fin 80 → Fin 20480) (hR : ∀ x, (R x).val = o + i) (hR' : ∀ x, (R' x).val = o + q / 256) (hC : ∀ x, (C x).val = x * 256 + q % 256)
    (hX : ∀ x, (X x).val = x) :
    ∑ x : Fin 80, w (ix2 (R x) (X x)) * A (ix2 (R' x) (C x)) = sampled w A (ix2 ⟨o + i.val, h⟩ q) := by
  refine Finset.sum_congr rfl fun x _ => ?_
  rw [show R x = ⟨o + i.val, h⟩ from Fin.ext (hR x), show X x = x from Fin.ext (hX x)]
  refine congrArg (_ * ·) (congrArg A (congrArg₂ ix2 (Fin.ext ?_) (Fin.ext (hC x))))
  rw [hR' x]
  show _ = ((o + i.val) / 7 * 7 + q.val / 256) % 176
  omega

/-- Seven rows, from row `o`, of the array of weighted feature rows as the call reads them back. -/
def rowsOf (A : Vec Ideal S176x20480 .bf16) (o : ℕ) (inb : ∀ a, (![o, 0] : Fin 2 → ℕ) a + (![7, 20480] : Fin 2 → ℕ) a ≤ S176x20480.size a) :
    Vec Ideal S7x20480 .bf16 :=
  (View.whole cc0_scratch0).readCov (Val := Elt Ideal)
    [⟨Rect.unit (s := S176x20480) ![0, 0] ![176, 20480] inb_S176x20480_S176x20480_0_0, A⟩]
    (Rect.unit (s := S176x20480) ![o, 0] ![7, 20480] inb).toLoadRect

theorem whole_canon (A : Vec Ideal S176x20480 .bf16) :
    View.canon (Val := Elt Ideal) [⟨Rect.unit (s := S176x20480) ![0, 0] ![176, 20480] inb_S176x20480_S176x20480_0_0, A⟩] = A :=
  View.canon_cons_unit_lit (S := S176x20480) _ A [] (by decide)

theorem rowsOf_eq (A : Vec Ideal S176x20480 .bf16) (o : ℕ) (inb) :
    rowsOf A o inb = fun j => A ((Rect.unit (s := S176x20480) ![o, 0] ![7, 20480] inb).toLoadRect.idx j) := by
  refine (View.readCov_eq_canon' (Val := Elt Ideal) _ _ _).trans ?_
  exact congrArg (fun (f : S176x20480.Idx → EReal) => fun j => f ((Rect.unit (s := S176x20480) ![o, 0] ![7, 20480] inb).toLoadRect.idx j)) (whole_canon A)

set_option maxHeartbeats 4000000 in
/-- The 25 row blocks a grid point stores over the zero fill hold the sampled rows. -/
theorem row_blocks (v0 v1 : FVec Ideal S176x80 .f32) (v2 : FVec Ideal S176x1 .f32) (A : Vec Ideal S176x20480 .bf16)
    (r : Fin 176) (hr : r.val < 175) (q : Fin 1792) :
    View.canon (Val := Elt Ideal) (s := S176x1792) (e := .f32) [⟨Rect.unit ![168, 0] ![7, 1792] inb_S176x1792_S7x1792_168_0,
          k0_pay52 (k0_pay20 v0 v1 v2) (rowsOf A 168 inb_S176x20480_S7x20480_168_0)⟩,
        ⟨Rect.unit ![161, 0] ![7, 1792] inb_S176x1792_S7x1792_161_0,
          k0_pay51 (k0_pay20 v0 v1 v2) (rowsOf A 161 inb_S176x20480_S7x20480_161_0)⟩,
        ⟨Rect.unit ![154, 0] ![7, 1792] inb_S176x1792_S7x1792_154_0,
          k0_pay50 (k0_pay20 v0 v1 v2) (rowsOf A 154 inb_S176x20480_S7x20480_154_0)⟩,
        ⟨Rect.unit ![147, 0] ![7, 1792] inb_S176x1792_S7x1792_147_0,
          k0_pay49 (k0_pay20 v0 v1 v2) (k0_pay48 (rowsOf A 147 inb_S176x20480_S7x20480_147_0))⟩,
        ⟨Rect.unit ![140, 0] ![7, 1792] inb_S176x1792_S7x1792_140_0,
          k0_pay47 (k0_pay20 v0 v1 v2) (rowsOf A 140 inb_S176x20480_S7x20480_140_0)⟩,
        ⟨Rect.unit ![133, 0] ![7, 1792] inb_S176x1792_S7x1792_133_0,
          k0_pay46 (k0_pay20 v0 v1 v2) (rowsOf A 133 inb_S176x20480_S7x20480_133_0)⟩,
        ⟨Rect.unit ![126, 0] ![7, 1792] inb_S176x1792_S7x1792_126_0,
          k0_pay45 (k0_pay20 v0 v1 v2) (rowsOf A 126 inb_S176x20480_S7x20480_126_0)⟩,
        ⟨Rect.unit ![119, 0] ![7, 1792] inb_S176x1792_S7x1792_119_0,
          k0_pay44 (k0_pay20 v0 v1 v2) (k0_pay43 (rowsOf A 119 inb_S176x20480_S7x20480_119_0))⟩,
        ⟨Rect.unit ![112, 0] ![7, 1792] inb_S176x1792_S7x1792_112_0,
          k0_pay42 (k0_pay20 v0 v1 v2) (rowsOf A 112 inb_S176x20480_S7x20480_112_0)⟩,
        ⟨Rect.unit ![105, 0] ![7, 1792] inb_S176x1792_S7x1792_105_0,
          k0_pay41 (k0_pay20 v0 v1 v2) (rowsOf A 105 inb_S176x20480_S7x20480_105_0)⟩,
        ⟨Rect.unit ![98, 0] ![7, 1792] inb_S176x1792_S7x1792_98_0,
          k0_pay40 (k0_pay20 v0 v1 v2) (rowsOf A 98 inb_S176x20480_S7x20480_98_0)⟩,
        ⟨Rect.unit ![91, 0] ![7, 1792] inb_S176x1792_S7x1792_91_0,
          k0_pay39 (k0_pay20 v0 v1 v2) (k0_pay38 (rowsOf A 91 inb_S176x20480_S7x20480_91_0))⟩,
        ⟨Rect.unit ![84, 0] ![7, 1792] inb_S176x1792_S7x1792_84_0,
          k0_pay37 (k0_pay20 v0 v1 v2) (rowsOf A 84 inb_S176x20480_S7x20480_84_0)⟩,
        ⟨Rect.unit ![77, 0] ![7, 1792] inb_S176x1792_S7x1792_77_0,
          k0_pay36 (k0_pay20 v0 v1 v2) (rowsOf A 77 inb_S176x20480_S7x20480_77_0)⟩,
        ⟨Rect.unit ![70, 0] ![7, 1792] inb_S176x1792_S7x1792_70_0,
          k0_pay35 (k0_pay20 v0 v1 v2) (rowsOf A 70 inb_S176x20480_S7x20480_70_0)⟩,
        ⟨Rect.unit ![63, 0] ![7, 1792] inb_S176x1792_S7x1792_63_0,
          k0_pay34 (k0_pay20 v0 v1 v2) (k0_pay33 (rowsOf A 63 inb_S176x20480_S7x20480_63_0))⟩,
        ⟨Rect.unit ![56, 0] ![7, 1792] inb_S176x1792_S7x1792_56_0,
          k0_pay32 (k0_pay20 v0 v1 v2) (rowsOf A 56 inb_S176x20480_S7x20480_56_0)⟩,
        ⟨Rect.unit ![49, 0] ![7, 1792] inb_S176x1792_S7x1792_49_0,
          k0_pay31 (k0_pay20 v0 v1 v2) (rowsOf A 49 inb_S176x20480_S7x20480_49_0)⟩,
        ⟨Rect.unit ![42, 0] ![7, 1792] inb_S176x1792_S7x1792_42_0,
          k0_pay30 (k0_pay20 v0 v1 v2) (rowsOf A 42 inb_S176x20480_S7x20480_42_0)⟩,
        ⟨Rect.unit ![35, 0] ![7, 1792] inb_S176x1792_S7x1792_35_0,
          k0_pay29 (k0_pay20 v0 v1 v2) (k0_pay28 (rowsOf A 35 inb_S176x20480_S7x20480_35_0))⟩,
        ⟨Rect.unit ![28, 0] ![7, 1792] inb_S176x1792_S7x1792_28_0,
          k0_pay27 (k0_pay20 v0 v1 v2) (rowsOf A 28 inb_S176x20480_S7x20480_28_0)⟩,
        ⟨Rect.unit ![21, 0] ![7, 1792] inb_S176x1792_S7x1792_21_0,
          k0_pay26 (k0_pay20 v0 v1 v2) (rowsOf A 21 inb_S176x20480_S7x20480_21_0)⟩,
        ⟨Rect.unit ![14, 0] ![7, 1792] inb_S176x1792_S7x1792_14_0,
          k0_pay25 (k0_pay20 v0 v1 v2) (rowsOf A 14 inb_S176x20480_S7x20480_14_0)⟩,
        ⟨Rect.unit ![7, 0] ![7, 1792] inb_S176x1792_S7x1792_7_0,
          k0_pay24 (k0_pay20 v0 v1 v2) (k0_pay23 (rowsOf A 7 inb_S176x20480_S7x20480_7_0))⟩,
        ⟨Rect.unit ![0, 0] ![7, 1792] inb_S176x1792_S7x1792_0_0,
          k0_pay22 v0 v1 v2 (rowsOf A 0 inb_S176x20480_S7x20480_0_0)⟩,
        ⟨Rect.unit ![0, 0] ![176, 1792] inb_S176x1792_S176x1792_0_0, k0_pay21 (F := Ideal)⟩] (ix2 r q)
      = sampled (k0_pay20 v0 v1 v2) A (ix2 r q) := by
  refine RoiCore.canon_take (Val := Elt Ideal) (e := .f32) (sampled (k0_pay20 v0 v1 v2) A) 25 _ ?_ _ ?_
  · simp only [rowsOf_eq]
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    all_goals
      idx_vars x
      pointwise [k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
      rw [RoiCore.row_emb _ _ _ (by omega)]
      refine sampled_block _ _ _ _ _ ?_ _ ?_ _ _ _ _ ?_ ?_ ?_ ?_
      · decide
      · decide
      all_goals
        intro x
        simp
  · refine RoiCore.rowsCov_mem _ ?_ r hr _
    sl_kernel_rfl
/-- A line of the feature block a grid point loads, by position. -/
def line (x1 : Vec Ideal S1x80x20480 .bf16) (k : Fin 256) : ℕ → ℕ → EReal := fun y x =>
  if h : y < 80 ∧ x < 80 then x1 (ix3 0 ⟨y, h.1⟩ ⟨x * 256 + k, by omega⟩) else 0

/-- A sampled row at one column is the mean of a cell's four samples of one feature line. -/
theorem sampled_cell (x0 : Vec Ideal S1x32x128 .f32) (x1 : Vec Ideal S1x80x20480 .bf16) (r : Fin 176) (hr : r.val < 175)
    (p : ℕ) (hp : p < 7) (k : Fin 256) (q : Fin 1792) (hq : q.val = p * 256 + k) :
    sampled (k0_pay20 k0_pay16 (k0_pay18 (k0_pay4 x0) (k0_pay8 (k0_pay7 x0) (FloatOps.ofBits .f32 1088421888#32)) k0_pay16
      (iota Kind.tc S176x1 32 [0] iota_S176x1_d0_w32) 7#32 0#1) (k0_pay19 (k0_pay4 x0) (k0_pay8 (k0_pay7 x0)
        (FloatOps.ofBits .f32 1088421888#32)) (iota Kind.tc S176x1 32 [0] iota_S176x1_d0_w32) 7#32 0#1))
      (k0_pay15 (k0_pay5 x0) (k0_pay6 x0) k0_pay9 k0_pay10 k0_pay11 (k0_pay13 (k0_pay5 x0) (k0_pay6 x0))
        (FloatOps.ofBits .f32 0#32) (k0_pay14 (k0_pay5 x0) (k0_pay6 x0)) x1) (ix2 r q)
      = cell 80 80 (x0 (ix3 0 ⟨r / 7, by omega⟩ 0)) (x0 (ix3 0 ⟨r / 7, by omega⟩ 1)) (x0 (ix3 0 ⟨r / 7, by omega⟩ 2))
          (x0 (ix3 0 ⟨r / 7, by omega⟩ 3)) p (r % 7) (line x1 k) := by
  refine Eq.trans ?_ (sum_sum_pair (N := 80) (M := 80) (by norm_num) (by norm_num) (by norm_num) (by norm_num) _ _ _ _ _)
  unfold sampled
  refine Finset.sum_congr rfl fun x _ => congrArg₂ (· * ·) (wx x0 r x) ?_
  refine (wy x0 x1 _ _).trans ?_
  have e0 : (r.val / 7 * 7 + q.val / 256) % 176 = r.val / 7 * 7 + p := by
    rw [Nat.mod_eq_of_lt] <;> omega
  have e1 : ((r.val / 7 * 7 + q.val / 256) % 176) / 7 = r.val / 7 := by omega
  have e2 : ((r.val / 7 * 7 + q.val / 256) % 176) % 7 = p := by omega
  refine Finset.sum_congr rfl fun y _ => congrArg₂ (· * ·) ?_ ?_
  · show pair 80 (pos (x0 (ix3 0 ⟨((r.val / 7 * 7 + q.val / 256) % 176) / 7, _⟩ 1)) (x0 (ix3 0 ⟨((r.val / 7 * 7 + q.val / 256) % 176) / 7, _⟩ 3))
        (((r.val / 7 * 7 + q.val / 256) % 176) % 7) (1 / 4)) (pos (x0 (ix3 0 ⟨((r.val / 7 * 7 + q.val / 256) % 176) / 7, _⟩ 1)) (x0 (ix3 0 ⟨((r.val / 7 * 7 + q.val / 256) % 176) / 7, _⟩ 3))
        (((r.val / 7 * 7 + q.val / 256) % 176) % 7) (3 / 4)) y = _
    simp only [e1, e2]
  · unfold line
    rw [dif_pos ⟨y.isLt, x.isLt⟩]
    refine congrArg x1 (congrArg (ix3 0 y) (Fin.ext ?_))
    show x.val * 256 + q.val % 256 = x.val * 256 + k.val
    omega

variable (V : (c : Dev nD) → (b : Ref sig .tc) → Vec Ideal b.ty.shape b.ty.elt)

set_option maxHeartbeats 4000000 in
/-- What a grid point stores, at one of the first 175 rows: the cell means of each feature through the convolution. -/
theorem stored (c : Dev nD) (t : Fin cfg0.N) (r : Fin 176) (hr : r.val < 175) (q : Fin 588) :
    outsAt0 V c t (ix3 0 r q)
      = ∑ k : Fin 256, cell 80 80 ((iblk0 V c 0 t : Vec Ideal S1x32x128 .f32) (ix3 0 ⟨r / 7, by omega⟩ 0))
          ((iblk0 V c 0 t : Vec Ideal S1x32x128 .f32) (ix3 0 ⟨r / 7, by omega⟩ 1))
          ((iblk0 V c 0 t : Vec Ideal S1x32x128 .f32) (ix3 0 ⟨r / 7, by omega⟩ 2))
          ((iblk0 V c 0 t : Vec Ideal S1x32x128 .f32) (ix3 0 ⟨r / 7, by omega⟩ 3)) (q / 84) (r % 7) (line (iblk0 V c 1 t) k)
          * (iblk0 V c 2 t : Vec Ideal S256x84 .bf16) (ix2 k ⟨q % 84, by omega⟩)
        + (iblk0 V c 3 t : Vec Ideal S1x84 .f32) (ix2 0 ⟨q % 84, by omega⟩) := by
  unfold outsAt0
  frame_out
  generalize iblk0 V c 0 t = x0
  generalize iblk0 V c 1 t = x1
  generalize iblk0 V c 2 t = x2
  generalize iblk0 V c 3 t = x3
  refine Eq.trans (b := ?b) ?h1 ?h2
  case h1 => exact out_cols _ x2 x3 r q
  refine sum_mul_congr _ _ _ _ ?_
  intro k
  refine Eq.trans (b := ?c) ?g1 ?g2
  case g1 => exact row_blocks _ _ _ _ r hr _
  exact sampled_cell x0 x1 r hr (q.val / 84) (by omega) k _ rfl
end Cert.KernelIdeal.Roi0
end
-- ==== Proof.RoiOut0.lean ====
/-
The array the sampling call of level 0 leaves: at the first 175 rows of each slab, the cell means of each feature
through the convolution.
-/
module

public import proofs.«01_k».proof.Proof.Roi0

@[expose] public section
set_option maxRecDepth 16384
noncomputable section
open Idealize.ShloMosaic Idealize.ShloMosaic.TcCoe Idealize.SL.Sem
open Idealize.ShloMosaic.Pipeline (Dat)
namespace Cert.KernelIdeal.Roi0
open Cert.KernelIdeal Cert.KernelIdeal.Gen Interp

variable (V : (c : Dev nD) → (b : Ref sig .tc) → Vec Ideal b.ty.shape b.ty.elt)

/-- Where the blocks lie: grid point `t` reads slab `t` of the boxes and of the features and writes slab `t`. -/
theorem idx : ∀ t : Fin cfg0.N, win0_0.index t = ![t.val, 0, 0] ∧ win0_1.index t = ![t.val, 0, 0]
    ∧ win0_2.index t = ![0, 0] ∧ win0_3.index t = ![0, 0] ∧ win0_4.index t = ![t.val, 0, 0] :=
  (by decide +kernel : ∀ t : Fin grid0.N, _)

theorem blk_box (c : Dev nD) (t : Fin cfg0.N) (r : Fin 32) (q : Fin 128) :
    (iblk0 V c 0 t : Vec Ideal S1x32x128 .f32) (ix3 0 r q) = (V c main_arg3 : FVec Ideal S4x32x128 .f32) (ix3 t r q) := by
  blk_ext [iblk0, idx t]
theorem blk_feat (c : Dev nD) (t : Fin cfg0.N) (r : Fin 80) (q : Fin 20480) :
    (iblk0 V c 1 t : Vec Ideal S1x80x20480 .bf16) (ix3 0 r q) = (V c main_v3 : FVec Ideal S4x80x20480 .bf16) (ix3 t r q) := by
  blk_ext [iblk0, idx t]
theorem blk_cw (c : Dev nD) (t : Fin cfg0.N) (r : Fin 256) (q : Fin 84) :
    (iblk0 V c 2 t : Vec Ideal S256x84 .bf16) (ix2 r q) = (V c main_v5 : FVec Ideal S256x84 .bf16) (ix2 r q) := by
  blk_ext [iblk0, idx t]
theorem blk_cb (c : Dev nD) (t : Fin cfg0.N) (r : Fin 1) (q : Fin 84) :
    (iblk0 V c 3 t : Vec Ideal S1x84 .f32) (ix2 r q) = (V c main_v8 : FVec Ideal S1x84 .f32) (ix2 r q) := by
  blk_ext [iblk0, idx t]

/-- Block `t` of the result array is its slab `t`. -/
theorem emb_out (t : Fin cfg0.N) (r : Fin 176) (q : Fin 588) :
    (((View.whole main_v9).slice (win0_4.rect t)).emb (ix3 0 r q) : S4x176x588.Idx) = ix3 t r q := by
  have h := (idx t).2.2.2.2
  blk_ext [h]

/-- The result array: slab `t` is what grid point `t` stores. -/
def roiArr (c : Dev nD) : FVec Ideal S4x176x588 .f32 := fun j => outsAt0 V c (j 0) (ix3 0 (j 1) (j 2))

theorem roiArr_ix (c : Dev nD) (t : Fin cfg0.N) (r : Fin 176) (q : Fin 588) :
    roiArr V c (ix3 t r q) = outsAt0 V c t (ix3 0 r q) := rfl

theorem final (c : Dev nD) : (dat0 V c).arrAt 4 cfg0.N = roiArr V c := by
  refine (dat0 V c).arrAt_eq_of_covers 4 _ (by decide +kernel) fun t _ y => ?_
  blk_simp
  rw [after0_4]
  idx_vars y
  obtain rfl : y0 = 0 := Subsingleton.elim _ _
  refine Eq.trans (b := roiArr V c (ix3 t y1 y2)) ?_ (congrArg (roiArr V c) (emb_out t y1 y2)).symm
  exact (roiArr_ix V c t y1 y2).symm

/-- Feature `k` of slab `b` of an array of features laid out by rows, by position. -/
def lineOf (f : FVec Ideal S4x80x20480 .bf16) (b : Fin 4) (k : Fin 256) : ℕ → ℕ → EReal := fun y x =>
  if h : y < 80 ∧ x < 80 then f (ix3 b ⟨y, h.1⟩ ⟨x * 256 + k, by omega⟩) else 0

theorem line_eq (c : Dev nD) (t : Fin cfg0.N) (k : Fin 256) :
    line (iblk0 V c 1 t) k = lineOf (V c main_v3) t k := by
  funext y x
  unfold line lineOf
  split
  · exact blk_feat V c t _ _
  · rfl

theorem stored_at (c : Dev nD) (t : Fin cfg0.N) (r : Fin 176) (hr : r.val < 175) (q : Fin 588) :
    outsAt0 V c t (ix3 0 r q)
      = ∑ k : Fin 256, cell 80 80 ((V c main_arg3 : FVec Ideal S4x32x128 .f32) (ix3 t ⟨r / 7, by omega⟩ 0))
          ((V c main_arg3 : FVec Ideal S4x32x128 .f32) (ix3 t ⟨r / 7, by omega⟩ 1))
          ((V c main_arg3 : FVec Ideal S4x32x128 .f32) (ix3 t ⟨r / 7, by omega⟩ 2))
          ((V c main_arg3 : FVec Ideal S4x32x128 .f32) (ix3 t ⟨r / 7, by omega⟩ 3)) (q / 84) (r % 7) (lineOf (V c main_v3) t k)
          * (V c main_v5 : FVec Ideal S256x84 .bf16) (ix2 k ⟨q % 84, by omega⟩)
        + (V c main_v8 : FVec Ideal S1x84 .f32) (ix2 0 ⟨q % 84, by omega⟩) := by
  refine (stored V c t r hr q).trans ?_
  simp only [blk_box, blk_cw, blk_cb, line_eq]

theorem roiArr_at (c : Dev nD) (b : Fin 4) (r : Fin 176) (hr : r.val < 175) (q : Fin 588) :
    roiArr V c (ix3 b r q)
      = ∑ k : Fin 256, cell 80 80 ((V c main_arg3 : FVec Ideal S4x32x128 .f32) (ix3 b ⟨r / 7, by omega⟩ 0))
          ((V c main_arg3 : FVec Ideal S4x32x128 .f32) (ix3 b ⟨r / 7, by omega⟩ 1))
          ((V c main_arg3 : FVec Ideal S4x32x128 .f32) (ix3 b ⟨r / 7, by omega⟩ 2))
          ((V c main_arg3 : FVec Ideal S4x32x128 .f32) (ix3 b ⟨r / 7, by omega⟩ 3)) (q / 84) (r % 7) (lineOf (V c main_v3) b k)
          * (V c main_v5 : FVec Ideal S256x84 .bf16) (ix2 k ⟨q % 84, by omega⟩)
        + (V c main_v8 : FVec Ideal S1x84 .f32) (ix2 0 ⟨q % 84, by omega⟩) := by
  exact stored_at V c b r hr q

end Cert.KernelIdeal.Roi0
end
-- ==== Proof.Roi1.lean ====
/-
The sampling call of level 1: the weights it computes, the rows it samples and the values it stores, as sums over
the blocks it loads.
-/
module

public import proofs.«01_k».proof.Proof.Gen.KernelIdeal.Frame
public import proofs.«01_k».proof.Proof.RoiCore
public import proofs.«01_k».proof.Proof.Weights
public import proofs.«01_k».proof.Proof.Tent

@[expose] public section
set_option maxRecDepth 16384
noncomputable section
open Idealize.ShloMosaic Idealize.ShloMosaic.TcCoe Idealize.SL.Sem
open Idealize.ShloMosaic.Pipeline (Dat)
namespace Cert.KernelIdeal.Roi1
open Cert.KernelIdeal Cert.KernelIdeal.Gen Interp

theorem br (x0 : Vec Ideal S1x32x128 .f32) (r : Fin 176) (q : Fin 128) :
    k1_pay3 x0 (ix2 r q) = x0 (ix3 0 ⟨r / 7, by omega⟩ q) := by
  pointwise [k1_pay3]
  all_goals
    simp only [word_div]
    exact pick (N := 32) ⟨r / 7, by omega⟩ (by norm_num) fun x => x0 (ix3 0 x q)

theorem place (r : Fin 176) : k1_pay10 (F := Ideal) (ix2 r 0) = (((r.val % 7 : ℕ) : ℝ) : EReal) := by
  pointwise [k1_pay10]
  all_goals
    rw [word_mod]
    exact sitofp_nat _ (by omega)

theorem lo_y (x0 : Vec Ideal S1x32x128 .f32) (r : Fin 176) :
    k1_pay5 x0 (ix2 r 0) = x0 (ix3 0 ⟨r / 7, by omega⟩ 1) := by
  pointwise [k1_pay5]
  all_goals exact br x0 r _
theorem lo_x (x0 : Vec Ideal S1x32x128 .f32) (r : Fin 176) :
    k1_pay4 x0 (ix2 r 0) = x0 (ix3 0 ⟨r / 7, by omega⟩ 0) := by
  pointwise [k1_pay4]
  all_goals exact br x0 r _
theorem step_y (x0 : Vec Ideal S1x32x128 .f32) (r : Fin 176) :
    k1_pay6 (F := Ideal) x0 (ix2 r 0) = step (x0 (ix3 0 ⟨r / 7, by omega⟩ 1)) (x0 (ix3 0 ⟨r / 7, by omega⟩ 3)) := by
  pointwise [k1_pay6]
  rw [br, lo_y, c_7]; rfl
theorem step_x (x0 : Vec Ideal S1x32x128 .f32) (r : Fin 176) :
    k1_pay8 (k1_pay7 (F := Ideal) x0) (FloatOps.ofBits .f32 1088421888#32) (ix2 r 0) = step (x0 (ix3 0 ⟨r / 7, by omega⟩ 0)) (x0 (ix3 0 ⟨r / 7, by omega⟩ 2)) := by
  pointwise [k1_pay8, k1_pay7]
  rw [br, lo_x, c_7]; rfl

/-- The mean weight of one row of the 176 at one position along an axis whose edges are `lo` and `hi`. -/
theorem wx (x0 : Vec Ideal S1x32x128 .f32) (r : Fin 176) (x : Fin 40) :
    k1_pay20 k1_pay16 (k1_pay18 (k1_pay4 x0) (k1_pay8 (k1_pay7 x0) (FloatOps.ofBits .f32 1088421888#32)) k1_pay16
      (iota Kind.tc S176x1 32 [0] iota_S176x1_d0_w32) 7#32 0#1) (k1_pay19 (k1_pay4 x0) (k1_pay8 (k1_pay7 x0)
        (FloatOps.ofBits .f32 1088421888#32)) (iota Kind.tc S176x1 32 [0] iota_S176x1_d0_w32) 7#32 0#1) (ix2 r x)
      = pair 40 (pos (x0 (ix3 0 ⟨r / 7, by omega⟩ 0)) (x0 (ix3 0 ⟨r / 7, by omega⟩ 2)) (r % 7) (1 / 4))
          (pos (x0 (ix3 0 ⟨r / 7, by omega⟩ 0)) (x0 (ix3 0 ⟨r / 7, by omega⟩ 2)) (r % 7) (3 / 4)) x := by
  pointwise [k1_pay20, k1_pay16, k1_pay18, k1_pay19, k1_pay17]
  rw [select_pair 40 x (by omega) _ _ _ _ _ _ c_neg c_40 c_39 c_half, word_mod' r, sitofp_nat _ (by omega), lo_x, c_quarter, c_three]
  have e := step_x x0 r
  rw [show FloatOps.ofBits (F := Ideal) .f32 1088421888#32 = Ideal.ofBits .f32 1088421888#32 from rfl] at e
  rw [e]
  rfl

theorem wy (x0 : Vec Ideal S1x32x128 .f32) (x1 : Vec Ideal S1x40x20480 .bf16) (r : Fin 176) (q : Fin 20480) :
    k1_pay15 (k1_pay5 x0) (k1_pay6 x0) k1_pay9 k1_pay10 k1_pay11 (k1_pay13 (k1_pay5 x0) (k1_pay6 x0))
      (FloatOps.ofBits .f32 0#32) (k1_pay14 (k1_pay5 x0) (k1_pay6 x0)) x1 (ix2 r q)
      = ∑ y : Fin 40, pair 40 (pos (x0 (ix3 0 ⟨r / 7, by omega⟩ 1)) (x0 (ix3 0 ⟨r / 7, by omega⟩ 3)) (r % 7) (1 / 4))
          (pos (x0 (ix3 0 ⟨r / 7, by omega⟩ 1)) (x0 (ix3 0 ⟨r / 7, by omega⟩ 3)) (r % 7) (3 / 4)) y * x1 (ix3 0 y q) := by
  pointwise [k1_pay15, k1_pay9, k1_pay11, k1_pay13, k1_pay14, k1_pay12]
  refine Finset.sum_congr rfl fun y _ => ?_
  rw [select_pair 40 y (by omega) _ _ _ _ _ _ c_neg c_40 c_39 c_half, place, lo_y, step_y, c_quarter, c_three]
  rfl

/-- One column group of 512 of the sampled rows through the convolution. -/
def colG (L : List (View.Piece (Elt Ideal) S176x3584 .f32)) (cw : Vec Ideal S512x84 .bf16) (cb : Vec Ideal S1x84 .f32) :
    S1x176x588.Idx → EReal := fun y =>
  ∑ k : Fin 512, View.canon L (ix2 (y 1) ⟨(y 2).val / 84 * 512 + k, by have : (y 2).val < 588 := (y 2).isLt; omega⟩)
    * cw (ix2 k ⟨(y 2).val % 84, by omega⟩) + cb (ix2 0 ⟨(y 2).val % 84, by omega⟩)

theorem colG_block (L : List (View.Piece (Elt Ideal) S176x3584 .f32)) (cw : Vec Ideal S512x84 .bf16) (cb : Vec Ideal S1x84 .f32)
    (o : ℕ) (b : Fin 176) (c : Fin 84) (ho : o % 84 = 0) (h : o + c.val < 588) (P : Fin 512 → Fin 3584)
    (hP : ∀ x, (P x).val = o / 84 * 512 + x) :
    ∑ k : Fin 512, View.canon L (ix2 b (P k)) * cw (ix2 k c) + cb (ix2 0 c) = colG L cw cb (ix3 0 b ⟨o + c.val, h⟩) := by
  have e1 : (o + c.val) / 84 = o / 84 := by omega
  have e2 : (⟨(o + c.val) % 84, by omega⟩ : Fin 84) = c := Fin.ext (by show (o + c.val) % 84 = c.val; omega)
  show _ = ∑ k : Fin 512, View.canon L (ix2 b ⟨(o + c.val) / 84 * 512 + k, _⟩) * cw (ix2 k ⟨(o + c.val) % 84, _⟩)
    + cb (ix2 0 ⟨(o + c.val) % 84, _⟩)
  rw [e2]
  refine congrArg (· + _) (Finset.sum_congr rfl fun k _ => ?_)
  rw [show P k = ⟨(o + c.val) / 84 * 512 + k, by omega⟩ from Fin.ext (by rw [hP]; show _ = (o + c.val) / 84 * 512 + k.val; rw [e1])]

/-- The seven column blocks a grid point stores, read at one index: each is one 512-column group of the
    sampled rows through the convolution. -/
theorem out_cols (L : List (View.Piece (Elt Ideal) S176x3584 .f32)) (cw : Vec Ideal S512x84 .bf16) (cb : Vec Ideal S1x84 .f32)
    (r : Fin 176) (q : Fin 588) :
    View.canon (Val := Elt Ideal) (s := S1x176x588) (e := .f32) [⟨Rect.unit ![0, 0, 504] ![1, 176, 84] inb_S1x176x588_S1x176x84_0_0_504,
          k1_pay2 ((View.whole cc1_scratch1).readCov L (Rect.unit ![0, 3072] ![176, 512] inb_S176x3584_S176x512_0_3072).toLoadRect) cw cb⟩,
        ⟨Rect.unit ![0, 0, 420] ![1, 176, 84] inb_S1x176x588_S1x176x84_0_0_420,
          k1_pay1 (k1_pay60 ((View.whole cc1_scratch1).readCov L (Rect.unit ![0, 2560] ![176, 512] inb_S176x3584_S176x512_0_2560).toLoadRect) cw) cb⟩,
        ⟨Rect.unit ![0, 0, 336] ![1, 176, 84] inb_S1x176x588_S1x176x84_0_0_336,
          k1_pay59 ((View.whole cc1_scratch1).readCov L (Rect.unit ![0, 2048] ![176, 512] inb_S176x3584_S176x512_0_2048).toLoadRect) cw cb⟩,
        ⟨Rect.unit ![0, 0, 252] ![1, 176, 84] inb_S1x176x588_S1x176x84_0_0_252,
          k1_pay58 ((View.whole cc1_scratch1).readCov L (Rect.unit ![0, 1536] ![176, 512] inb_S176x3584_S176x512_0_1536).toLoadRect) cw cb⟩,
        ⟨Rect.unit ![0, 0, 168] ![1, 176, 84] inb_S1x176x588_S1x176x84_0_0_168,
          k1_pay57 (k1_pay56 ((View.whole cc1_scratch1).readCov L (Rect.unit ![0, 1024] ![176, 512] inb_S176x3584_S176x512_0_1024).toLoadRect) cw cb)⟩,
        ⟨Rect.unit ![0, 0, 84] ![1, 176, 84] inb_S1x176x588_S1x176x84_0_0_84,
          k1_pay55 ((View.whole cc1_scratch1).readCov L (Rect.unit ![0, 512] ![176, 512] inb_S176x3584_S176x512_0_512).toLoadRect) cw cb⟩,
        ⟨Rect.unit ![0, 0, 0] ![1, 176, 84] inb_S1x176x588_S1x176x84_0_0_0,
          k1_pay54 (k1_pay53 ((View.whole cc1_scratch1).readCov L (Rect.unit ![0, 0] ![176, 512] inb_S176x3584_S176x512_0_0).toLoadRect)) cw cb⟩] (ix3 0 r q)
      = ∑ k : Fin 512, View.canon L (ix2 r ⟨q / 84 * 512 + k, by omega⟩) * cw (ix2 k ⟨q % 84, by omega⟩)
          + cb (ix2 0 ⟨q % 84, by omega⟩) := by
  refine RoiCore.canon_take (Val := Elt Ideal) (e := .f32) (colG L cw cb) 7 _ ?_ _ ?_
  · refine ⟨fun x => ?_, fun x => ?_, fun x => ?_, fun x => ?_, fun x => ?_, fun x => ?_, fun x => ?_, trivial⟩
    all_goals
      simp only [View.readCov_eq_canon']
      idx_vars x
      pointwise [k1_pay1, k1_pay2, k1_pay53, k1_pay54, k1_pay55, k1_pay56, k1_pay57, k1_pay58, k1_pay59, k1_pay60]
      rw [RoiCore.col_emb _ _ _ _ (by omega)]
      refine colG_block L cw cb _ _ _ ?_ _ _ ?_
      · decide
      · intro x
        simp
  · refine RoiCore.colsCov_mem _ ?_ r q
    sl_kernel_rfl

/-- The sampled rows: row `r` at column `q` sums the row weights of `r` against one line of the array of
    weighted feature rows. -/
def sampled (w : Vec Ideal S176x40 .bf16) (A : Vec Ideal S176x20480 .bf16) : S176x3584.Idx → EReal := fun y =>
  ∑ x : Fin 40, w (ix2 (y 0) x) * A (ix2 ⟨((y 0).val / 7 * 7 + (y 1).val / 512) % 176, by omega⟩
    ⟨x * 512 + (y 1).val % 512, by omega⟩)

theorem sampled_block (w : Vec Ideal S176x40 .bf16) (A : Vec Ideal S176x20480 .bf16) (o : ℕ) (i : Fin 7) (q : Fin 3584)
    (ho : o % 7 = 0) (h : o + i.val < 176) (h7 : o + 7 ≤ 176) (R : Fin 40 → Fin 176) (R' : Fin 40 → Fin 176) (X : Fin 40 → Fin 40)
    (C : Fin 40 → Fin 20480) (hR : ∀ x, (R x).val = o + i) (hR' : ∀ x, (R' x).val = o + q / 512) (hC : ∀ x, (C x).val = x * 512 + q % 512)
    (hX : ∀ x, (X x).val = x) :
    ∑ x : Fin 40, w (ix2 (R x) (X x)) * A (ix2 (R' x) (C x)) = sampled w A (ix2 ⟨o + i.val, h⟩ q) := by
  refine Finset.sum_congr rfl fun x _ => ?_
  rw [show R x = ⟨o + i.val, h⟩ from Fin.ext (hR x), show X x = x from Fin.ext (hX x)]
  refine congrArg (_ * ·) (congrArg A (congrArg₂ ix2 (Fin.ext ?_) (Fin.ext (hC x))))
  rw [hR' x]
  show _ = ((o + i.val) / 7 * 7 + q.val / 512) % 176
  omega

/-- Seven rows, from row `o`, of the array of weighted feature rows as the call reads them back. -/
def rowsOf (A : Vec Ideal S176x20480 .bf16) (o : ℕ) (inb : ∀ a, (![o, 0] : Fin 2 → ℕ) a + (![7, 20480] : Fin 2 → ℕ) a ≤ S176x20480.size a) :
    Vec Ideal S7x20480 .bf16 :=
  (View.whole cc1_scratch0).readCov (Val := Elt Ideal)
    [⟨Rect.unit (s := S176x20480) ![0, 0] ![176, 20480] inb_S176x20480_S176x20480_0_0, A⟩]
    (Rect.unit (s := S176x20480) ![o, 0] ![7, 20480] inb).toLoadRect

theorem whole_canon (A : Vec Ideal S176x20480 .bf16) :
    View.canon (Val := Elt Ideal) [⟨Rect.unit (s := S176x20480) ![0, 0] ![176, 20480] inb_S176x20480_S176x20480_0_0, A⟩] = A :=
  View.canon_cons_unit_lit (S := S176x20480) _ A [] (by decide)

theorem rowsOf_eq (A : Vec Ideal S176x20480 .bf16) (o : ℕ) (inb) :
    rowsOf A o inb = fun j => A ((Rect.unit (s := S176x20480) ![o, 0] ![7, 20480] inb).toLoadRect.idx j) := by
  refine (View.readCov_eq_canon' (Val := Elt Ideal) _ _ _).trans ?_
  exact congrArg (fun (f : S176x20480.Idx → EReal) => fun j => f ((Rect.unit (s := S176x20480) ![o, 0] ![7, 20480] inb).toLoadRect.idx j)) (whole_canon A)

set_option maxHeartbeats 4000000 in
/-- The 25 row blocks a grid point stores over the zero fill hold the sampled rows. -/
theorem row_blocks (v0 v1 : FVec Ideal S176x40 .f32) (v2 : FVec Ideal S176x1 .f32) (A : Vec Ideal S176x20480 .bf16)
    (r : Fin 176) (hr : r.val < 175) (q : Fin 3584) :
    View.canon (Val := Elt Ideal) (s := S176x3584) (e := .f32) [⟨Rect.unit ![168, 0] ![7, 3584] inb_S176x3584_S7x3584_168_0,
          k1_pay52 (k1_pay20 v0 v1 v2) (rowsOf A 168 inb_S176x20480_S7x20480_168_0)⟩,
        ⟨Rect.unit ![161, 0] ![7, 3584] inb_S176x3584_S7x3584_161_0,
          k1_pay51 (k1_pay20 v0 v1 v2) (rowsOf A 161 inb_S176x20480_S7x20480_161_0)⟩,
        ⟨Rect.unit ![154, 0] ![7, 3584] inb_S176x3584_S7x3584_154_0,
          k1_pay50 (k1_pay20 v0 v1 v2) (rowsOf A 154 inb_S176x20480_S7x20480_154_0)⟩,
        ⟨Rect.unit ![147, 0] ![7, 3584] inb_S176x3584_S7x3584_147_0,
          k1_pay49 (k1_pay20 v0 v1 v2) (k1_pay48 (rowsOf A 147 inb_S176x20480_S7x20480_147_0))⟩,
        ⟨Rect.unit ![140, 0] ![7, 3584] inb_S176x3584_S7x3584_140_0,
          k1_pay47 (k1_pay20 v0 v1 v2) (rowsOf A 140 inb_S176x20480_S7x20480_140_0)⟩,
        ⟨Rect.unit ![133, 0] ![7, 3584] inb_S176x3584_S7x3584_133_0,
          k1_pay46 (k1_pay20 v0 v1 v2) (rowsOf A 133 inb_S176x20480_S7x20480_133_0)⟩,
        ⟨Rect.unit ![126, 0] ![7, 3584] inb_S176x3584_S7x3584_126_0,
          k1_pay45 (k1_pay20 v0 v1 v2) (rowsOf A 126 inb_S176x20480_S7x20480_126_0)⟩,
        ⟨Rect.unit ![119, 0] ![7, 3584] inb_S176x3584_S7x3584_119_0,
          k1_pay44 (k1_pay20 v0 v1 v2) (k1_pay43 (rowsOf A 119 inb_S176x20480_S7x20480_119_0))⟩,
        ⟨Rect.unit ![112, 0] ![7, 3584] inb_S176x3584_S7x3584_112_0,
          k1_pay42 (k1_pay20 v0 v1 v2) (rowsOf A 112 inb_S176x20480_S7x20480_112_0)⟩,
        ⟨Rect.unit ![105, 0] ![7, 3584] inb_S176x3584_S7x3584_105_0,
          k1_pay41 (k1_pay20 v0 v1 v2) (rowsOf A 105 inb_S176x20480_S7x20480_105_0)⟩,
        ⟨Rect.unit ![98, 0] ![7, 3584] inb_S176x3584_S7x3584_98_0,
          k1_pay40 (k1_pay20 v0 v1 v2) (rowsOf A 98 inb_S176x20480_S7x20480_98_0)⟩,
        ⟨Rect.unit ![91, 0] ![7, 3584] inb_S176x3584_S7x3584_91_0,
          k1_pay39 (k1_pay20 v0 v1 v2) (k1_pay38 (rowsOf A 91 inb_S176x20480_S7x20480_91_0))⟩,
        ⟨Rect.unit ![84, 0] ![7, 3584] inb_S176x3584_S7x3584_84_0,
          k1_pay37 (k1_pay20 v0 v1 v2) (rowsOf A 84 inb_S176x20480_S7x20480_84_0)⟩,
        ⟨Rect.unit ![77, 0] ![7, 3584] inb_S176x3584_S7x3584_77_0,
          k1_pay36 (k1_pay20 v0 v1 v2) (rowsOf A 77 inb_S176x20480_S7x20480_77_0)⟩,
        ⟨Rect.unit ![70, 0] ![7, 3584] inb_S176x3584_S7x3584_70_0,
          k1_pay35 (k1_pay20 v0 v1 v2) (rowsOf A 70 inb_S176x20480_S7x20480_70_0)⟩,
        ⟨Rect.unit ![63, 0] ![7, 3584] inb_S176x3584_S7x3584_63_0,
          k1_pay34 (k1_pay20 v0 v1 v2) (k1_pay33 (rowsOf A 63 inb_S176x20480_S7x20480_63_0))⟩,
        ⟨Rect.unit ![56, 0] ![7, 3584] inb_S176x3584_S7x3584_56_0,
          k1_pay32 (k1_pay20 v0 v1 v2) (rowsOf A 56 inb_S176x20480_S7x20480_56_0)⟩,
        ⟨Rect.unit ![49, 0] ![7, 3584] inb_S176x3584_S7x3584_49_0,
          k1_pay31 (k1_pay20 v0 v1 v2) (rowsOf A 49 inb_S176x20480_S7x20480_49_0)⟩,
        ⟨Rect.unit ![42, 0] ![7, 3584] inb_S176x3584_S7x3584_42_0,
          k1_pay30 (k1_pay20 v0 v1 v2) (rowsOf A 42 inb_S176x20480_S7x20480_42_0)⟩,
        ⟨Rect.unit ![35, 0] ![7, 3584] inb_S176x3584_S7x3584_35_0,
          k1_pay29 (k1_pay20 v0 v1 v2) (k1_pay28 (rowsOf A 35 inb_S176x20480_S7x20480_35_0))⟩,
        ⟨Rect.unit ![28, 0] ![7, 3584] inb_S176x3584_S7x3584_28_0,
          k1_pay27 (k1_pay20 v0 v1 v2) (rowsOf A 28 inb_S176x20480_S7x20480_28_0)⟩,
        ⟨Rect.unit ![21, 0] ![7, 3584] inb_S176x3584_S7x3584_21_0,
          k1_pay26 (k1_pay20 v0 v1 v2) (rowsOf A 21 inb_S176x20480_S7x20480_21_0)⟩,
        ⟨Rect.unit ![14, 0] ![7, 3584] inb_S176x3584_S7x3584_14_0,
          k1_pay25 (k1_pay20 v0 v1 v2) (rowsOf A 14 inb_S176x20480_S7x20480_14_0)⟩,
        ⟨Rect.unit ![7, 0] ![7, 3584] inb_S176x3584_S7x3584_7_0,
          k1_pay24 (k1_pay20 v0 v1 v2) (k1_pay23 (rowsOf A 7 inb_S176x20480_S7x20480_7_0))⟩,
        ⟨Rect.unit ![0, 0] ![7, 3584] inb_S176x3584_S7x3584_0_0,
          k1_pay22 v0 v1 v2 (rowsOf A 0 inb_S176x20480_S7x20480_0_0)⟩,
        ⟨Rect.unit ![0, 0] ![176, 3584] inb_S176x3584_S176x3584_0_0, k1_pay21 (F := Ideal)⟩] (ix2 r q)
      = sampled (k1_pay20 v0 v1 v2) A (ix2 r q) := by
  refine RoiCore.canon_take (Val := Elt Ideal) (e := .f32) (sampled (k1_pay20 v0 v1 v2) A) 25 _ ?_ _ ?_
  · simp only [rowsOf_eq]
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    all_goals
      idx_vars x
      pointwise [k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52]
      rw [RoiCore.row_emb _ _ _ (by omega)]
      refine sampled_block _ _ _ _ _ ?_ _ ?_ _ _ _ _ ?_ ?_ ?_ ?_
      · decide
      · decide
      all_goals
        intro x
        simp
  · refine RoiCore.rowsCov_mem _ ?_ r hr _
    sl_kernel_rfl
/-- A line of the feature block a grid point loads, by position. -/
def line (x1 : Vec Ideal S1x40x20480 .bf16) (k : Fin 512) : ℕ → ℕ → EReal := fun y x =>
  if h : y < 40 ∧ x < 40 then x1 (ix3 0 ⟨y, h.1⟩ ⟨x * 512 + k, by omega⟩) else 0

/-- A sampled row at one column is the mean of a cell's four samples of one feature line. -/
theorem sampled_cell (x0 : Vec Ideal S1x32x128 .f32) (x1 : Vec Ideal S1x40x20480 .bf16) (r : Fin 176) (hr : r.val < 175)
    (p : ℕ) (hp : p < 7) (k : Fin 512) (q : Fin 3584) (hq : q.val = p * 512 + k) :
    sampled (k1_pay20 k1_pay16 (k1_pay18 (k1_pay4 x0) (k1_pay8 (k1_pay7 x0) (FloatOps.ofBits .f32 1088421888#32)) k1_pay16
      (iota Kind.tc S176x1 32 [0] iota_S176x1_d0_w32) 7#32 0#1) (k1_pay19 (k1_pay4 x0) (k1_pay8 (k1_pay7 x0)
        (FloatOps.ofBits .f32 1088421888#32)) (iota Kind.tc S176x1 32 [0] iota_S176x1_d0_w32) 7#32 0#1))
      (k1_pay15 (k1_pay5 x0) (k1_pay6 x0) k1_pay9 k1_pay10 k1_pay11 (k1_pay13 (k1_pay5 x0) (k1_pay6 x0))
        (FloatOps.ofBits .f32 0#32) (k1_pay14 (k1_pay5 x0) (k1_pay6 x0)) x1) (ix2 r q)
      = cell 40 40 (x0 (ix3 0 ⟨r / 7, by omega⟩ 0)) (x0 (ix3 0 ⟨r / 7, by omega⟩ 1)) (x0 (ix3 0 ⟨r / 7, by omega⟩ 2))
          (x0 (ix3 0 ⟨r / 7, by omega⟩ 3)) p (r % 7) (line x1 k) := by
  refine Eq.trans ?_ (sum_sum_pair (N := 40) (M := 40) (by norm_num) (by norm_num) (by norm_num) (by norm_num) _ _ _ _ _)
  unfold sampled
  refine Finset.sum_congr rfl fun x _ => congrArg₂ (· * ·) (wx x0 r x) ?_
  refine (wy x0 x1 _ _).trans ?_
  have e0 : (r.val / 7 * 7 + q.val / 512) % 176 = r.val / 7 * 7 + p := by
    rw [Nat.mod_eq_of_lt] <;> omega
  have e1 : ((r.val / 7 * 7 + q.val / 512) % 176) / 7 = r.val / 7 := by omega
  have e2 : ((r.val / 7 * 7 + q.val / 512) % 176) % 7 = p := by omega
  refine Finset.sum_congr rfl fun y _ => congrArg₂ (· * ·) ?_ ?_
  · show pair 40 (pos (x0 (ix3 0 ⟨((r.val / 7 * 7 + q.val / 512) % 176) / 7, _⟩ 1)) (x0 (ix3 0 ⟨((r.val / 7 * 7 + q.val / 512) % 176) / 7, _⟩ 3))
        (((r.val / 7 * 7 + q.val / 512) % 176) % 7) (1 / 4)) (pos (x0 (ix3 0 ⟨((r.val / 7 * 7 + q.val / 512) % 176) / 7, _⟩ 1)) (x0 (ix3 0 ⟨((r.val / 7 * 7 + q.val / 512) % 176) / 7, _⟩ 3))
        (((r.val / 7 * 7 + q.val / 512) % 176) % 7) (3 / 4)) y = _
    simp only [e1, e2]
  · unfold line
    rw [dif_pos ⟨y.isLt, x.isLt⟩]
    refine congrArg x1 (congrArg (ix3 0 y) (Fin.ext ?_))
    show x.val * 512 + q.val % 512 = x.val * 512 + k.val
    omega

variable (V : (c : Dev nD) → (b : Ref sig .tc) → Vec Ideal b.ty.shape b.ty.elt)

set_option maxHeartbeats 4000000 in
/-- What a grid point stores, at one of the first 175 rows: the cell means of each feature through the convolution. -/
theorem stored (c : Dev nD) (t : Fin cfg1.N) (r : Fin 176) (hr : r.val < 175) (q : Fin 588) :
    outsAt1 V c t (ix3 0 r q)
      = ∑ k : Fin 512, cell 40 40 ((iblk1 V c 0 t : Vec Ideal S1x32x128 .f32) (ix3 0 ⟨r / 7, by omega⟩ 0))
          ((iblk1 V c 0 t : Vec Ideal S1x32x128 .f32) (ix3 0 ⟨r / 7, by omega⟩ 1))
          ((iblk1 V c 0 t : Vec Ideal S1x32x128 .f32) (ix3 0 ⟨r / 7, by omega⟩ 2))
          ((iblk1 V c 0 t : Vec Ideal S1x32x128 .f32) (ix3 0 ⟨r / 7, by omega⟩ 3)) (q / 84) (r % 7) (line (iblk1 V c 1 t) k)
          * (iblk1 V c 2 t : Vec Ideal S512x84 .bf16) (ix2 k ⟨q % 84, by omega⟩)
        + (iblk1 V c 3 t : Vec Ideal S1x84 .f32) (ix2 0 ⟨q % 84, by omega⟩) := by
  unfold outsAt1
  frame_out
  generalize iblk1 V c 0 t = x0
  generalize iblk1 V c 1 t = x1
  generalize iblk1 V c 2 t = x2
  generalize iblk1 V c 3 t = x3
  refine Eq.trans (b := ?b) ?h1 ?h2
  case h1 => exact out_cols _ x2 x3 r q
  refine sum_mul_congr _ _ _ _ ?_
  intro k
  refine Eq.trans (b := ?c) ?g1 ?g2
  case g1 => exact row_blocks _ _ _ _ r hr _
  exact sampled_cell x0 x1 r hr (q.val / 84) (by omega) k _ rfl
end Cert.KernelIdeal.Roi1
end
-- ==== Proof.RoiOut1.lean ====
/-
The array the sampling call of level 1 leaves: at the first 175 rows of each slab, the cell means of each feature
through the convolution.
-/
module

public import proofs.«01_k».proof.Proof.Roi1

@[expose] public section
set_option maxRecDepth 16384
noncomputable section
open Idealize.ShloMosaic Idealize.ShloMosaic.TcCoe Idealize.SL.Sem
open Idealize.ShloMosaic.Pipeline (Dat)
namespace Cert.KernelIdeal.Roi1
open Cert.KernelIdeal Cert.KernelIdeal.Gen Interp

variable (V : (c : Dev nD) → (b : Ref sig .tc) → Vec Ideal b.ty.shape b.ty.elt)

/-- Where the blocks lie: grid point `t` reads slab `t` of the boxes and of the features and writes slab `t`. -/
theorem idx : ∀ t : Fin cfg1.N, win1_0.index t = ![t.val, 0, 0] ∧ win1_1.index t = ![t.val, 0, 0]
    ∧ win1_2.index t = ![0, 0] ∧ win1_3.index t = ![0, 0] ∧ win1_4.index t = ![t.val, 0, 0] :=
  (by decide +kernel : ∀ t : Fin grid1.N, _)

theorem blk_box (c : Dev nD) (t : Fin cfg1.N) (r : Fin 32) (q : Fin 128) :
    (iblk1 V c 0 t : Vec Ideal S1x32x128 .f32) (ix3 0 r q) = (V c main_arg4 : FVec Ideal S4x32x128 .f32) (ix3 t r q) := by
  blk_ext [iblk1, idx t]
theorem blk_feat (c : Dev nD) (t : Fin cfg1.N) (r : Fin 40) (q : Fin 20480) :
    (iblk1 V c 1 t : Vec Ideal S1x40x20480 .bf16) (ix3 0 r q) = (V c main_v20 : FVec Ideal S4x40x20480 .bf16) (ix3 t r q) := by
  blk_ext [iblk1, idx t]
theorem blk_cw (c : Dev nD) (t : Fin cfg1.N) (r : Fin 512) (q : Fin 84) :
    (iblk1 V c 2 t : Vec Ideal S512x84 .bf16) (ix2 r q) = (V c main_v22 : FVec Ideal S512x84 .bf16) (ix2 r q) := by
  blk_ext [iblk1, idx t]
theorem blk_cb (c : Dev nD) (t : Fin cfg1.N) (r : Fin 1) (q : Fin 84) :
    (iblk1 V c 3 t : Vec Ideal S1x84 .f32) (ix2 r q) = (V c main_v25 : FVec Ideal S1x84 .f32) (ix2 r q) := by
  blk_ext [iblk1, idx t]

/-- Block `t` of the result array is its slab `t`. -/
theorem emb_out (t : Fin cfg1.N) (r : Fin 176) (q : Fin 588) :
    (((View.whole main_v26).slice (win1_4.rect t)).emb (ix3 0 r q) : S4x176x588.Idx) = ix3 t r q := by
  have h := (idx t).2.2.2.2
  blk_ext [h]

/-- The result array: slab `t` is what grid point `t` stores. -/
def roiArr (c : Dev nD) : FVec Ideal S4x176x588 .f32 := fun j => outsAt1 V c (j 0) (ix3 0 (j 1) (j 2))

theorem roiArr_ix (c : Dev nD) (t : Fin cfg1.N) (r : Fin 176) (q : Fin 588) :
    roiArr V c (ix3 t r q) = outsAt1 V c t (ix3 0 r q) := rfl

theorem final (c : Dev nD) : (dat1 V c).arrAt 4 cfg1.N = roiArr V c := by
  refine (dat1 V c).arrAt_eq_of_covers 4 _ (by decide +kernel) fun t _ y => ?_
  blk_simp
  rw [after1_4]
  idx_vars y
  obtain rfl : y0 = 0 := Subsingleton.elim _ _
  refine Eq.trans (b := roiArr V c (ix3 t y1 y2)) ?_ (congrArg (roiArr V c) (emb_out t y1 y2)).symm
  exact (roiArr_ix V c t y1 y2).symm

/-- Feature `k` of slab `b` of an array of features laid out by rows, by position. -/
def lineOf (f : FVec Ideal S4x40x20480 .bf16) (b : Fin 4) (k : Fin 512) : ℕ → ℕ → EReal := fun y x =>
  if h : y < 40 ∧ x < 40 then f (ix3 b ⟨y, h.1⟩ ⟨x * 512 + k, by omega⟩) else 0

theorem line_eq (c : Dev nD) (t : Fin cfg1.N) (k : Fin 512) :
    line (iblk1 V c 1 t) k = lineOf (V c main_v20) t k := by
  funext y x
  unfold line lineOf
  split
  · exact blk_feat V c t _ _
  · rfl

theorem stored_at (c : Dev nD) (t : Fin cfg1.N) (r : Fin 176) (hr : r.val < 175) (q : Fin 588) :
    outsAt1 V c t (ix3 0 r q)
      = ∑ k : Fin 512, cell 40 40 ((V c main_arg4 : FVec Ideal S4x32x128 .f32) (ix3 t ⟨r / 7, by omega⟩ 0))
          ((V c main_arg4 : FVec Ideal S4x32x128 .f32) (ix3 t ⟨r / 7, by omega⟩ 1))
          ((V c main_arg4 : FVec Ideal S4x32x128 .f32) (ix3 t ⟨r / 7, by omega⟩ 2))
          ((V c main_arg4 : FVec Ideal S4x32x128 .f32) (ix3 t ⟨r / 7, by omega⟩ 3)) (q / 84) (r % 7) (lineOf (V c main_v20) t k)
          * (V c main_v22 : FVec Ideal S512x84 .bf16) (ix2 k ⟨q % 84, by omega⟩)
        + (V c main_v25 : FVec Ideal S1x84 .f32) (ix2 0 ⟨q % 84, by omega⟩) := by
  refine (stored V c t r hr q).trans ?_
  simp only [blk_box, blk_cw, blk_cb, line_eq]

theorem roiArr_at (c : Dev nD) (b : Fin 4) (r : Fin 176) (hr : r.val < 175) (q : Fin 588) :
    roiArr V c (ix3 b r q)
      = ∑ k : Fin 512, cell 40 40 ((V c main_arg4 : FVec Ideal S4x32x128 .f32) (ix3 b ⟨r / 7, by omega⟩ 0))
          ((V c main_arg4 : FVec Ideal S4x32x128 .f32) (ix3 b ⟨r / 7, by omega⟩ 1))
          ((V c main_arg4 : FVec Ideal S4x32x128 .f32) (ix3 b ⟨r / 7, by omega⟩ 2))
          ((V c main_arg4 : FVec Ideal S4x32x128 .f32) (ix3 b ⟨r / 7, by omega⟩ 3)) (q / 84) (r % 7) (lineOf (V c main_v20) b k)
          * (V c main_v22 : FVec Ideal S512x84 .bf16) (ix2 k ⟨q % 84, by omega⟩)
        + (V c main_v25 : FVec Ideal S1x84 .f32) (ix2 0 ⟨q % 84, by omega⟩) := by
  exact stored_at V c b r hr q

end Cert.KernelIdeal.Roi1
end
-- ==== Proof.Roi2.lean ====
/-
The sampling call of level 2: the weights it computes, the rows it samples and the values it stores, as sums over
the blocks it loads.
-/
module

public import proofs.«01_k».proof.Proof.Gen.KernelIdeal.Frame
public import proofs.«01_k».proof.Proof.RoiCore
public import proofs.«01_k».proof.Proof.Weights
public import proofs.«01_k».proof.Proof.Tent

@[expose] public section
set_option maxRecDepth 16384
noncomputable section
open Idealize.ShloMosaic Idealize.ShloMosaic.TcCoe Idealize.SL.Sem
open Idealize.ShloMosaic.Pipeline (Dat)
namespace Cert.KernelIdeal.Roi2
open Cert.KernelIdeal Cert.KernelIdeal.Gen Interp

theorem br (x0 : Vec Ideal S1x32x128 .f32) (r : Fin 176) (q : Fin 128) :
    k2_pay3 x0 (ix2 r q) = x0 (ix3 0 ⟨r / 7, by omega⟩ q) := by
  pointwise [k2_pay3]
  all_goals
    simp only [word_div]
    exact pick (N := 32) ⟨r / 7, by omega⟩ (by norm_num) fun x => x0 (ix3 0 x q)

theorem place (r : Fin 176) : k2_pay10 (F := Ideal) (ix2 r 0) = (((r.val % 7 : ℕ) : ℝ) : EReal) := by
  pointwise [k2_pay10]
  all_goals
    rw [word_mod]
    exact sitofp_nat _ (by omega)

theorem lo_y (x0 : Vec Ideal S1x32x128 .f32) (r : Fin 176) :
    k2_pay5 x0 (ix2 r 0) = x0 (ix3 0 ⟨r / 7, by omega⟩ 1) := by
  pointwise [k2_pay5]
  all_goals exact br x0 r _
theorem lo_x (x0 : Vec Ideal S1x32x128 .f32) (r : Fin 176) :
    k2_pay4 x0 (ix2 r 0) = x0 (ix3 0 ⟨r / 7, by omega⟩ 0) := by
  pointwise [k2_pay4]
  all_goals exact br x0 r _
theorem step_y (x0 : Vec Ideal S1x32x128 .f32) (r : Fin 176) :
    k2_pay6 (F := Ideal) x0 (ix2 r 0) = step (x0 (ix3 0 ⟨r / 7, by omega⟩ 1)) (x0 (ix3 0 ⟨r / 7, by omega⟩ 3)) := by
  pointwise [k2_pay6]
  rw [br, lo_y, c_7]; rfl
theorem step_x (x0 : Vec Ideal S1x32x128 .f32) (r : Fin 176) :
    k2_pay8 (k2_pay7 (F := Ideal) x0) (FloatOps.ofBits .f32 1088421888#32) (ix2 r 0) = step (x0 (ix3 0 ⟨r / 7, by omega⟩ 0)) (x0 (ix3 0 ⟨r / 7, by omega⟩ 2)) := by
  pointwise [k2_pay8, k2_pay7]
  rw [br, lo_x, c_7]; rfl

/-- The mean weight of one row of the 176 at one position along an axis whose edges are `lo` and `hi`. -/
theorem wx (x0 : Vec Ideal S1x32x128 .f32) (r : Fin 176) (x : Fin 24) :
    k2_pay20 k2_pay16 (k2_pay18 (k2_pay4 x0) (k2_pay8 (k2_pay7 x0) (FloatOps.ofBits .f32 1088421888#32)) k2_pay16
      (iota Kind.tc S176x1 32 [0] iota_S176x1_d0_w32) 7#32 0#1) (k2_pay19 (k2_pay4 x0) (k2_pay8 (k2_pay7 x0)
        (FloatOps.ofBits .f32 1088421888#32)) (iota Kind.tc S176x1 32 [0] iota_S176x1_d0_w32) 7#32 0#1) (ix2 r x)
      = pair 20 (pos (x0 (ix3 0 ⟨r / 7, by omega⟩ 0)) (x0 (ix3 0 ⟨r / 7, by omega⟩ 2)) (r % 7) (1 / 4))
          (pos (x0 (ix3 0 ⟨r / 7, by omega⟩ 0)) (x0 (ix3 0 ⟨r / 7, by omega⟩ 2)) (r % 7) (3 / 4)) x := by
  pointwise [k2_pay20, k2_pay16, k2_pay18, k2_pay19, k2_pay17]
  rw [select_pair 20 x (by omega) _ _ _ _ _ _ c_neg c_20 c_19 c_half, word_mod' r, sitofp_nat _ (by omega), lo_x, c_quarter, c_three]
  have e := step_x x0 r
  rw [show FloatOps.ofBits (F := Ideal) .f32 1088421888#32 = Ideal.ofBits .f32 1088421888#32 from rfl] at e
  rw [e]
  rfl

theorem wy (x0 : Vec Ideal S1x32x128 .f32) (x1 : Vec Ideal S1x24x20480 .bf16) (r : Fin 176) (q : Fin 20480) :
    k2_pay15 (k2_pay5 x0) (k2_pay6 x0) k2_pay9 k2_pay10 k2_pay11 (k2_pay13 (k2_pay5 x0) (k2_pay6 x0))
      (FloatOps.ofBits .f32 0#32) (k2_pay14 (k2_pay5 x0) (k2_pay6 x0)) x1 (ix2 r q)
      = ∑ y : Fin 24, pair 20 (pos (x0 (ix3 0 ⟨r / 7, by omega⟩ 1)) (x0 (ix3 0 ⟨r / 7, by omega⟩ 3)) (r % 7) (1 / 4))
          (pos (x0 (ix3 0 ⟨r / 7, by omega⟩ 1)) (x0 (ix3 0 ⟨r / 7, by omega⟩ 3)) (r % 7) (3 / 4)) y * x1 (ix3 0 y q) := by
  pointwise [k2_pay15, k2_pay9, k2_pay11, k2_pay13, k2_pay14, k2_pay12]
  refine Finset.sum_congr rfl fun y _ => ?_
  rw [select_pair 20 y (by omega) _ _ _ _ _ _ c_neg c_20 c_19 c_half, place, lo_y, step_y, c_quarter, c_three]
  rfl

/-- One column group of 1024 of the sampled rows through the convolution. -/
def colG (L : List (View.Piece (Elt Ideal) S176x7168 .f32)) (cw : Vec Ideal S1024x84 .bf16) (cb : Vec Ideal S1x84 .f32) :
    S1x176x588.Idx → EReal := fun y =>
  ∑ k : Fin 1024, View.canon L (ix2 (y 1) ⟨(y 2).val / 84 * 1024 + k, by have : (y 2).val < 588 := (y 2).isLt; omega⟩)
    * cw (ix2 k ⟨(y 2).val % 84, by omega⟩) + cb (ix2 0 ⟨(y 2).val % 84, by omega⟩)

theorem colG_block (L : List (View.Piece (Elt Ideal) S176x7168 .f32)) (cw : Vec Ideal S1024x84 .bf16) (cb : Vec Ideal S1x84 .f32)
    (o : ℕ) (b : Fin 176) (c : Fin 84) (ho : o % 84 = 0) (h : o + c.val < 588) (P : Fin 1024 → Fin 7168)
    (hP : ∀ x, (P x).val = o / 84 * 1024 + x) :
    ∑ k : Fin 1024, View.canon L (ix2 b (P k)) * cw (ix2 k c) + cb (ix2 0 c) = colG L cw cb (ix3 0 b ⟨o + c.val, h⟩) := by
  have e1 : (o + c.val) / 84 = o / 84 := by omega
  have e2 : (⟨(o + c.val) % 84, by omega⟩ : Fin 84) = c := Fin.ext (by show (o + c.val) % 84 = c.val; omega)
  show _ = ∑ k : Fin 1024, View.canon L (ix2 b ⟨(o + c.val) / 84 * 1024 + k, _⟩) * cw (ix2 k ⟨(o + c.val) % 84, _⟩)
    + cb (ix2 0 ⟨(o + c.val) % 84, _⟩)
  rw [e2]
  refine congrArg (· + _) (Finset.sum_congr rfl fun k _ => ?_)
  rw [show P k = ⟨(o + c.val) / 84 * 1024 + k, by omega⟩ from Fin.ext (by rw [hP]; show _ = (o + c.val) / 84 * 1024 + k.val; rw [e1])]

/-- The seven column blocks a grid point stores, read at one index: each is one 1024-column group of the
    sampled rows through the convolution. -/
theorem out_cols (L : List (View.Piece (Elt Ideal) S176x7168 .f32)) (cw : Vec Ideal S1024x84 .bf16) (cb : Vec Ideal S1x84 .f32)
    (r : Fin 176) (q : Fin 588) :
    View.canon (Val := Elt Ideal) (s := S1x176x588) (e := .f32) [⟨Rect.unit ![0, 0, 504] ![1, 176, 84] inb_S1x176x588_S1x176x84_0_0_504,
          k2_pay2 ((View.whole cc2_scratch1).readCov L (Rect.unit ![0, 6144] ![176, 1024] inb_S176x7168_S176x1024_0_6144).toLoadRect) cw cb⟩,
        ⟨Rect.unit ![0, 0, 420] ![1, 176, 84] inb_S1x176x588_S1x176x84_0_0_420,
          k2_pay1 (k2_pay60 ((View.whole cc2_scratch1).readCov L (Rect.unit ![0, 5120] ![176, 1024] inb_S176x7168_S176x1024_0_5120).toLoadRect) cw) cb⟩,
        ⟨Rect.unit ![0, 0, 336] ![1, 176, 84] inb_S1x176x588_S1x176x84_0_0_336,
          k2_pay59 ((View.whole cc2_scratch1).readCov L (Rect.unit ![0, 4096] ![176, 1024] inb_S176x7168_S176x1024_0_4096).toLoadRect) cw cb⟩,
        ⟨Rect.unit ![0, 0, 252] ![1, 176, 84] inb_S1x176x588_S1x176x84_0_0_252,
          k2_pay58 ((View.whole cc2_scratch1).readCov L (Rect.unit ![0, 3072] ![176, 1024] inb_S176x7168_S176x1024_0_3072).toLoadRect) cw cb⟩,
        ⟨Rect.unit ![0, 0, 168] ![1, 176, 84] inb_S1x176x588_S1x176x84_0_0_168,
          k2_pay57 (k2_pay56 ((View.whole cc2_scratch1).readCov L (Rect.unit ![0, 2048] ![176, 1024] inb_S176x7168_S176x1024_0_2048).toLoadRect) cw cb)⟩,
        ⟨Rect.unit ![0, 0, 84] ![1, 176, 84] inb_S1x176x588_S1x176x84_0_0_84,
          k2_pay55 ((View.whole cc2_scratch1).readCov L (Rect.unit ![0, 1024] ![176, 1024] inb_S176x7168_S176x1024_0_1024).toLoadRect) cw cb⟩,
        ⟨Rect.unit ![0, 0, 0] ![1, 176, 84] inb_S1x176x588_S1x176x84_0_0_0,
          k2_pay54 (k2_pay53 ((View.whole cc2_scratch1).readCov L (Rect.unit ![0, 0] ![176, 1024] inb_S176x7168_S176x1024_0_0).toLoadRect)) cw cb⟩] (ix3 0 r q)
      = ∑ k : Fin 1024, View.canon L (ix2 r ⟨q / 84 * 1024 + k, by omega⟩) * cw (ix2 k ⟨q % 84, by omega⟩)
          + cb (ix2 0 ⟨q % 84, by omega⟩) := by
  refine RoiCore.canon_take (Val := Elt Ideal) (e := .f32) (colG L cw cb) 7 _ ?_ _ ?_
  · refine ⟨fun x => ?_, fun x => ?_, fun x => ?_, fun x => ?_, fun x => ?_, fun x => ?_, fun x => ?_, trivial⟩
    all_goals
      simp only [View.readCov_eq_canon']
      idx_vars x
      pointwise [k2_pay1, k2_pay2, k2_pay53, k2_pay54, k2_pay55, k2_pay56, k2_pay57, k2_pay58, k2_pay59, k2_pay60]
      rw [RoiCore.col_emb _ _ _ _ (by omega)]
      refine colG_block L cw cb _ _ _ ?_ _ _ ?_
      · decide
      · intro x
        simp
  · refine RoiCore.colsCov_mem _ ?_ r q
    sl_kernel_rfl

/-- The sampled rows: row `r` at column `q` sums the row weights of `r` against one line of the array of
    weighted feature rows. -/
def sampled (w : Vec Ideal S176x24 .bf16) (A : Vec Ideal S176x20480 .bf16) : S176x7168.Idx → EReal := fun y =>
  ∑ x : Fin 20, w (ix2 (y 0) ⟨x, by omega⟩) * A (ix2 ⟨((y 0).val / 7 * 7 + (y 1).val / 1024) % 176, by omega⟩
    ⟨x * 1024 + (y 1).val % 1024, by omega⟩)

theorem sampled_block (w : Vec Ideal S176x24 .bf16) (A : Vec Ideal S176x20480 .bf16) (o : ℕ) (i : Fin 7) (q : Fin 7168)
    (ho : o % 7 = 0) (h : o + i.val < 176) (h7 : o + 7 ≤ 176) (R : Fin 20 → Fin 176) (R' : Fin 20 → Fin 176) (X : Fin 20 → Fin 24)
    (C : Fin 20 → Fin 20480) (hR : ∀ x, (R x).val = o + i) (hR' : ∀ x, (R' x).val = o + q / 1024) (hC : ∀ x, (C x).val = x * 1024 + q % 1024)
    (hX : ∀ x, (X x).val = x) :
    ∑ x : Fin 20, w (ix2 (R x) (X x)) * A (ix2 (R' x) (C x)) = sampled w A (ix2 ⟨o + i.val, h⟩ q) := by
  refine Finset.sum_congr rfl fun x _ => ?_
  rw [show R x = ⟨o + i.val, h⟩ from Fin.ext (hR x), show X x = ⟨x, by omega⟩ from Fin.ext (hX x)]
  refine congrArg (_ * ·) (congrArg A (congrArg₂ ix2 (Fin.ext ?_) (Fin.ext (hC x))))
  rw [hR' x]
  show _ = ((o + i.val) / 7 * 7 + q.val / 1024) % 176
  omega

/-- Seven rows, from row `o`, of the array of weighted feature rows as the call reads them back. -/
def rowsOf (A : Vec Ideal S176x20480 .bf16) (o : ℕ) (inb : ∀ a, (![o, 0] : Fin 2 → ℕ) a + (![7, 20480] : Fin 2 → ℕ) a ≤ S176x20480.size a) :
    Vec Ideal S7x20480 .bf16 :=
  (View.whole cc2_scratch0).readCov (Val := Elt Ideal)
    [⟨Rect.unit (s := S176x20480) ![0, 0] ![176, 20480] inb_S176x20480_S176x20480_0_0, A⟩]
    (Rect.unit (s := S176x20480) ![o, 0] ![7, 20480] inb).toLoadRect

theorem whole_canon (A : Vec Ideal S176x20480 .bf16) :
    View.canon (Val := Elt Ideal) [⟨Rect.unit (s := S176x20480) ![0, 0] ![176, 20480] inb_S176x20480_S176x20480_0_0, A⟩] = A :=
  View.canon_cons_unit_lit (S := S176x20480) _ A [] (by decide)

theorem rowsOf_eq (A : Vec Ideal S176x20480 .bf16) (o : ℕ) (inb) :
    rowsOf A o inb = fun j => A ((Rect.unit (s := S176x20480) ![o, 0] ![7, 20480] inb).toLoadRect.idx j) := by
  refine (View.readCov_eq_canon' (Val := Elt Ideal) _ _ _).trans ?_
  exact congrArg (fun (f : S176x20480.Idx → EReal) => fun j => f ((Rect.unit (s := S176x20480) ![o, 0] ![7, 20480] inb).toLoadRect.idx j)) (whole_canon A)

set_option maxHeartbeats 4000000 in
/-- The 25 row blocks a grid point stores over the zero fill hold the sampled rows. -/
theorem row_blocks (v0 v1 : FVec Ideal S176x24 .f32) (v2 : FVec Ideal S176x1 .f32) (A : Vec Ideal S176x20480 .bf16)
    (r : Fin 176) (hr : r.val < 175) (q : Fin 7168) :
    View.canon (Val := Elt Ideal) (s := S176x7168) (e := .f32) [⟨Rect.unit ![168, 0] ![7, 7168] inb_S176x7168_S7x7168_168_0,
          k2_pay52 (k2_pay20 v0 v1 v2) (rowsOf A 168 inb_S176x20480_S7x20480_168_0)⟩,
        ⟨Rect.unit ![161, 0] ![7, 7168] inb_S176x7168_S7x7168_161_0,
          k2_pay51 (k2_pay20 v0 v1 v2) (rowsOf A 161 inb_S176x20480_S7x20480_161_0)⟩,
        ⟨Rect.unit ![154, 0] ![7, 7168] inb_S176x7168_S7x7168_154_0,
          k2_pay50 (k2_pay20 v0 v1 v2) (rowsOf A 154 inb_S176x20480_S7x20480_154_0)⟩,
        ⟨Rect.unit ![147, 0] ![7, 7168] inb_S176x7168_S7x7168_147_0,
          k2_pay49 (k2_pay20 v0 v1 v2) (k2_pay48 (rowsOf A 147 inb_S176x20480_S7x20480_147_0))⟩,
        ⟨Rect.unit ![140, 0] ![7, 7168] inb_S176x7168_S7x7168_140_0,
          k2_pay47 (k2_pay20 v0 v1 v2) (rowsOf A 140 inb_S176x20480_S7x20480_140_0)⟩,
        ⟨Rect.unit ![133, 0] ![7, 7168] inb_S176x7168_S7x7168_133_0,
          k2_pay46 (k2_pay20 v0 v1 v2) (rowsOf A 133 inb_S176x20480_S7x20480_133_0)⟩,
        ⟨Rect.unit ![126, 0] ![7, 7168] inb_S176x7168_S7x7168_126_0,
          k2_pay45 (k2_pay20 v0 v1 v2) (rowsOf A 126 inb_S176x20480_S7x20480_126_0)⟩,
        ⟨Rect.unit ![119, 0] ![7, 7168] inb_S176x7168_S7x7168_119_0,
          k2_pay44 (k2_pay20 v0 v1 v2) (k2_pay43 (rowsOf A 119 inb_S176x20480_S7x20480_119_0))⟩,
        ⟨Rect.unit ![112, 0] ![7, 7168] inb_S176x7168_S7x7168_112_0,
          k2_pay42 (k2_pay20 v0 v1 v2) (rowsOf A 112 inb_S176x20480_S7x20480_112_0)⟩,
        ⟨Rect.unit ![105, 0] ![7, 7168] inb_S176x7168_S7x7168_105_0,
          k2_pay41 (k2_pay20 v0 v1 v2) (rowsOf A 105 inb_S176x20480_S7x20480_105_0)⟩,
        ⟨Rect.unit ![98, 0] ![7, 7168] inb_S176x7168_S7x7168_98_0,
          k2_pay40 (k2_pay20 v0 v1 v2) (rowsOf A 98 inb_S176x20480_S7x20480_98_0)⟩,
        ⟨Rect.unit ![91, 0] ![7, 7168] inb_S176x7168_S7x7168_91_0,
          k2_pay39 (k2_pay20 v0 v1 v2) (k2_pay38 (rowsOf A 91 inb_S176x20480_S7x20480_91_0))⟩,
        ⟨Rect.unit ![84, 0] ![7, 7168] inb_S176x7168_S7x7168_84_0,
          k2_pay37 (k2_pay20 v0 v1 v2) (rowsOf A 84 inb_S176x20480_S7x20480_84_0)⟩,
        ⟨Rect.unit ![77, 0] ![7, 7168] inb_S176x7168_S7x7168_77_0,
          k2_pay36 (k2_pay20 v0 v1 v2) (rowsOf A 77 inb_S176x20480_S7x20480_77_0)⟩,
        ⟨Rect.unit ![70, 0] ![7, 7168] inb_S176x7168_S7x7168_70_0,
          k2_pay35 (k2_pay20 v0 v1 v2) (rowsOf A 70 inb_S176x20480_S7x20480_70_0)⟩,
        ⟨Rect.unit ![63, 0] ![7, 7168] inb_S176x7168_S7x7168_63_0,
          k2_pay34 (k2_pay20 v0 v1 v2) (k2_pay33 (rowsOf A 63 inb_S176x20480_S7x20480_63_0))⟩,
        ⟨Rect.unit ![56, 0] ![7, 7168] inb_S176x7168_S7x7168_56_0,
          k2_pay32 (k2_pay20 v0 v1 v2) (rowsOf A 56 inb_S176x20480_S7x20480_56_0)⟩,
        ⟨Rect.unit ![49, 0] ![7, 7168] inb_S176x7168_S7x7168_49_0,
          k2_pay31 (k2_pay20 v0 v1 v2) (rowsOf A 49 inb_S176x20480_S7x20480_49_0)⟩,
        ⟨Rect.unit ![42, 0] ![7, 7168] inb_S176x7168_S7x7168_42_0,
          k2_pay30 (k2_pay20 v0 v1 v2) (rowsOf A 42 inb_S176x20480_S7x20480_42_0)⟩,
        ⟨Rect.unit ![35, 0] ![7, 7168] inb_S176x7168_S7x7168_35_0,
          k2_pay29 (k2_pay20 v0 v1 v2) (k2_pay28 (rowsOf A 35 inb_S176x20480_S7x20480_35_0))⟩,
        ⟨Rect.unit ![28, 0] ![7, 7168] inb_S176x7168_S7x7168_28_0,
          k2_pay27 (k2_pay20 v0 v1 v2) (rowsOf A 28 inb_S176x20480_S7x20480_28_0)⟩,
        ⟨Rect.unit ![21, 0] ![7, 7168] inb_S176x7168_S7x7168_21_0,
          k2_pay26 (k2_pay20 v0 v1 v2) (rowsOf A 21 inb_S176x20480_S7x20480_21_0)⟩,
        ⟨Rect.unit ![14, 0] ![7, 7168] inb_S176x7168_S7x7168_14_0,
          k2_pay25 (k2_pay20 v0 v1 v2) (rowsOf A 14 inb_S176x20480_S7x20480_14_0)⟩,
        ⟨Rect.unit ![7, 0] ![7, 7168] inb_S176x7168_S7x7168_7_0,
          k2_pay24 (k2_pay20 v0 v1 v2) (k2_pay23 (rowsOf A 7 inb_S176x20480_S7x20480_7_0))⟩,
        ⟨Rect.unit ![0, 0] ![7, 7168] inb_S176x7168_S7x7168_0_0,
          k2_pay22 v0 v1 v2 (rowsOf A 0 inb_S176x20480_S7x20480_0_0)⟩,
        ⟨Rect.unit ![0, 0] ![176, 7168] inb_S176x7168_S176x7168_0_0, k2_pay21 (F := Ideal)⟩] (ix2 r q)
      = sampled (k2_pay20 v0 v1 v2) A (ix2 r q) := by
  refine RoiCore.canon_take (Val := Elt Ideal) (e := .f32) (sampled (k2_pay20 v0 v1 v2) A) 25 _ ?_ _ ?_
  · simp only [rowsOf_eq]
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    all_goals
      idx_vars x
      pointwise [k2_pay22, k2_pay23, k2_pay24, k2_pay25, k2_pay26, k2_pay27, k2_pay28, k2_pay29, k2_pay30, k2_pay31, k2_pay32, k2_pay33, k2_pay34, k2_pay35, k2_pay36, k2_pay37, k2_pay38, k2_pay39, k2_pay40, k2_pay41, k2_pay42, k2_pay43, k2_pay44, k2_pay45, k2_pay46, k2_pay47, k2_pay48, k2_pay49, k2_pay50, k2_pay51, k2_pay52]
      rw [RoiCore.row_emb _ _ _ (by omega)]
      refine sampled_block _ _ _ _ _ ?_ _ ?_ _ _ _ _ ?_ ?_ ?_ ?_
      · decide
      · decide
      all_goals
        intro x
        simp
  · refine RoiCore.rowsCov_mem _ ?_ r hr _
    sl_kernel_rfl
/-- A line of the feature block a grid point loads, by position. -/
def line (x1 : Vec Ideal S1x24x20480 .bf16) (k : Fin 1024) : ℕ → ℕ → EReal := fun y x =>
  if h : y < 24 ∧ x < 20 then x1 (ix3 0 ⟨y, h.1⟩ ⟨x * 1024 + k, by omega⟩) else 0

/-- A sampled row at one column is the mean of a cell's four samples of one feature line. -/
theorem sampled_cell (x0 : Vec Ideal S1x32x128 .f32) (x1 : Vec Ideal S1x24x20480 .bf16) (r : Fin 176) (hr : r.val < 175)
    (p : ℕ) (hp : p < 7) (k : Fin 1024) (q : Fin 7168) (hq : q.val = p * 1024 + k) :
    sampled (k2_pay20 k2_pay16 (k2_pay18 (k2_pay4 x0) (k2_pay8 (k2_pay7 x0) (FloatOps.ofBits .f32 1088421888#32)) k2_pay16
      (iota Kind.tc S176x1 32 [0] iota_S176x1_d0_w32) 7#32 0#1) (k2_pay19 (k2_pay4 x0) (k2_pay8 (k2_pay7 x0)
        (FloatOps.ofBits .f32 1088421888#32)) (iota Kind.tc S176x1 32 [0] iota_S176x1_d0_w32) 7#32 0#1))
      (k2_pay15 (k2_pay5 x0) (k2_pay6 x0) k2_pay9 k2_pay10 k2_pay11 (k2_pay13 (k2_pay5 x0) (k2_pay6 x0))
        (FloatOps.ofBits .f32 0#32) (k2_pay14 (k2_pay5 x0) (k2_pay6 x0)) x1) (ix2 r q)
      = cell 20 20 (x0 (ix3 0 ⟨r / 7, by omega⟩ 0)) (x0 (ix3 0 ⟨r / 7, by omega⟩ 1)) (x0 (ix3 0 ⟨r / 7, by omega⟩ 2))
          (x0 (ix3 0 ⟨r / 7, by omega⟩ 3)) p (r % 7) (line x1 k) := by
  refine Eq.trans ?_ (sum_sum_pair (N := 24) (M := 20) (by norm_num) (by norm_num) (by norm_num) (by norm_num) _ _ _ _ _)
  unfold sampled
  refine Finset.sum_congr rfl fun x _ => congrArg₂ (· * ·) (wx x0 r ⟨x, by omega⟩) ?_
  refine (wy x0 x1 _ _).trans ?_
  have e0 : (r.val / 7 * 7 + q.val / 1024) % 176 = r.val / 7 * 7 + p := by
    rw [Nat.mod_eq_of_lt] <;> omega
  have e1 : ((r.val / 7 * 7 + q.val / 1024) % 176) / 7 = r.val / 7 := by omega
  have e2 : ((r.val / 7 * 7 + q.val / 1024) % 176) % 7 = p := by omega
  refine Finset.sum_congr rfl fun y _ => congrArg₂ (· * ·) ?_ ?_
  · show pair 20 (pos (x0 (ix3 0 ⟨((r.val / 7 * 7 + q.val / 1024) % 176) / 7, _⟩ 1)) (x0 (ix3 0 ⟨((r.val / 7 * 7 + q.val / 1024) % 176) / 7, _⟩ 3))
        (((r.val / 7 * 7 + q.val / 1024) % 176) % 7) (1 / 4)) (pos (x0 (ix3 0 ⟨((r.val / 7 * 7 + q.val / 1024) % 176) / 7, _⟩ 1)) (x0 (ix3 0 ⟨((r.val / 7 * 7 + q.val / 1024) % 176) / 7, _⟩ 3))
        (((r.val / 7 * 7 + q.val / 1024) % 176) % 7) (3 / 4)) y = _
    simp only [e1, e2]
  · unfold line
    rw [dif_pos ⟨y.isLt, x.isLt⟩]
    refine congrArg x1 (congrArg (ix3 0 y) (Fin.ext ?_))
    show x.val * 1024 + q.val % 1024 = x.val * 1024 + k.val
    omega

variable (V : (c : Dev nD) → (b : Ref sig .tc) → Vec Ideal b.ty.shape b.ty.elt)

set_option maxHeartbeats 4000000 in
/-- What a grid point stores, at one of the first 175 rows: the cell means of each feature through the convolution. -/
theorem stored (c : Dev nD) (t : Fin cfg2.N) (r : Fin 176) (hr : r.val < 175) (q : Fin 588) :
    outsAt2 V c t (ix3 0 r q)
      = ∑ k : Fin 1024, cell 20 20 ((iblk2 V c 0 t : Vec Ideal S1x32x128 .f32) (ix3 0 ⟨r / 7, by omega⟩ 0))
          ((iblk2 V c 0 t : Vec Ideal S1x32x128 .f32) (ix3 0 ⟨r / 7, by omega⟩ 1))
          ((iblk2 V c 0 t : Vec Ideal S1x32x128 .f32) (ix3 0 ⟨r / 7, by omega⟩ 2))
          ((iblk2 V c 0 t : Vec Ideal S1x32x128 .f32) (ix3 0 ⟨r / 7, by omega⟩ 3)) (q / 84) (r % 7) (line (iblk2 V c 1 t) k)
          * (iblk2 V c 2 t : Vec Ideal S1024x84 .bf16) (ix2 k ⟨q % 84, by omega⟩)
        + (iblk2 V c 3 t : Vec Ideal S1x84 .f32) (ix2 0 ⟨q % 84, by omega⟩) := by
  unfold outsAt2
  frame_out
  generalize iblk2 V c 0 t = x0
  generalize iblk2 V c 1 t = x1
  generalize iblk2 V c 2 t = x2
  generalize iblk2 V c 3 t = x3
  refine Eq.trans (b := ?b) ?h1 ?h2
  case h1 => exact out_cols _ x2 x3 r q
  refine sum_mul_congr _ _ _ _ ?_
  intro k
  refine Eq.trans (b := ?c) ?g1 ?g2
  case g1 => exact row_blocks _ _ _ _ r hr _
  exact sampled_cell x0 x1 r hr (q.val / 84) (by omega) k _ rfl
end Cert.KernelIdeal.Roi2
end
-- ==== Proof.RoiOut2.lean ====
/-
The array the sampling call of level 2 leaves: at the first 175 rows of each slab, the cell means of each feature
through the convolution.
-/
module

public import proofs.«01_k».proof.Proof.Roi2

@[expose] public section
set_option maxRecDepth 16384
noncomputable section
open Idealize.ShloMosaic Idealize.ShloMosaic.TcCoe Idealize.SL.Sem
open Idealize.ShloMosaic.Pipeline (Dat)
namespace Cert.KernelIdeal.Roi2
open Cert.KernelIdeal Cert.KernelIdeal.Gen Interp

variable (V : (c : Dev nD) → (b : Ref sig .tc) → Vec Ideal b.ty.shape b.ty.elt)

/-- Where the blocks lie: grid point `t` reads slab `t` of the boxes and of the features and writes slab `t`. -/
theorem idx : ∀ t : Fin cfg2.N, win2_0.index t = ![t.val, 0, 0] ∧ win2_1.index t = ![t.val, 0, 0]
    ∧ win2_2.index t = ![0, 0] ∧ win2_3.index t = ![0, 0] ∧ win2_4.index t = ![t.val, 0, 0] :=
  (by decide +kernel : ∀ t : Fin grid2.N, _)

theorem blk_box (c : Dev nD) (t : Fin cfg2.N) (r : Fin 32) (q : Fin 128) :
    (iblk2 V c 0 t : Vec Ideal S1x32x128 .f32) (ix3 0 r q) = (V c main_arg5 : FVec Ideal S4x32x128 .f32) (ix3 t r q) := by
  blk_ext [iblk2, idx t]
theorem blk_feat (c : Dev nD) (t : Fin cfg2.N) (r : Fin 24) (q : Fin 20480) :
    (iblk2 V c 1 t : Vec Ideal S1x24x20480 .bf16) (ix3 0 r q) = (V c main_v37 : FVec Ideal S4x24x20480 .bf16) (ix3 t r q) := by
  blk_ext [iblk2, idx t]
theorem blk_cw (c : Dev nD) (t : Fin cfg2.N) (r : Fin 1024) (q : Fin 84) :
    (iblk2 V c 2 t : Vec Ideal S1024x84 .bf16) (ix2 r q) = (V c main_v39 : FVec Ideal S1024x84 .bf16) (ix2 r q) := by
  blk_ext [iblk2, idx t]
theorem blk_cb (c : Dev nD) (t : Fin cfg2.N) (r : Fin 1) (q : Fin 84) :
    (iblk2 V c 3 t : Vec Ideal S1x84 .f32) (ix2 r q) = (V c main_v42 : FVec Ideal S1x84 .f32) (ix2 r q) := by
  blk_ext [iblk2, idx t]

/-- Block `t` of the result array is its slab `t`. -/
theorem emb_out (t : Fin cfg2.N) (r : Fin 176) (q : Fin 588) :
    (((View.whole main_v43).slice (win2_4.rect t)).emb (ix3 0 r q) : S4x176x588.Idx) = ix3 t r q := by
  have h := (idx t).2.2.2.2
  blk_ext [h]

/-- The result array: slab `t` is what grid point `t` stores. -/
def roiArr (c : Dev nD) : FVec Ideal S4x176x588 .f32 := fun j => outsAt2 V c (j 0) (ix3 0 (j 1) (j 2))

theorem roiArr_ix (c : Dev nD) (t : Fin cfg2.N) (r : Fin 176) (q : Fin 588) :
    roiArr V c (ix3 t r q) = outsAt2 V c t (ix3 0 r q) := rfl

theorem final (c : Dev nD) : (dat2 V c).arrAt 4 cfg2.N = roiArr V c := by
  refine (dat2 V c).arrAt_eq_of_covers 4 _ (by decide +kernel) fun t _ y => ?_
  blk_simp
  rw [after2_4]
  idx_vars y
  obtain rfl : y0 = 0 := Subsingleton.elim _ _
  refine Eq.trans (b := roiArr V c (ix3 t y1 y2)) ?_ (congrArg (roiArr V c) (emb_out t y1 y2)).symm
  exact (roiArr_ix V c t y1 y2).symm

/-- Feature `k` of slab `b` of an array of features laid out by rows, by position. -/
def lineOf (f : FVec Ideal S4x24x20480 .bf16) (b : Fin 4) (k : Fin 1024) : ℕ → ℕ → EReal := fun y x =>
  if h : y < 24 ∧ x < 20 then f (ix3 b ⟨y, h.1⟩ ⟨x * 1024 + k, by omega⟩) else 0

theorem line_eq (c : Dev nD) (t : Fin cfg2.N) (k : Fin 1024) :
    line (iblk2 V c 1 t) k = lineOf (V c main_v37) t k := by
  funext y x
  unfold line lineOf
  split
  · exact blk_feat V c t _ _
  · rfl

theorem stored_at (c : Dev nD) (t : Fin cfg2.N) (r : Fin 176) (hr : r.val < 175) (q : Fin 588) :
    outsAt2 V c t (ix3 0 r q)
      = ∑ k : Fin 1024, cell 20 20 ((V c main_arg5 : FVec Ideal S4x32x128 .f32) (ix3 t ⟨r / 7, by omega⟩ 0))
          ((V c main_arg5 : FVec Ideal S4x32x128 .f32) (ix3 t ⟨r / 7, by omega⟩ 1))
          ((V c main_arg5 : FVec Ideal S4x32x128 .f32) (ix3 t ⟨r / 7, by omega⟩ 2))
          ((V c main_arg5 : FVec Ideal S4x32x128 .f32) (ix3 t ⟨r / 7, by omega⟩ 3)) (q / 84) (r % 7) (lineOf (V c main_v37) t k)
          * (V c main_v39 : FVec Ideal S1024x84 .bf16) (ix2 k ⟨q % 84, by omega⟩)
        + (V c main_v42 : FVec Ideal S1x84 .f32) (ix2 0 ⟨q % 84, by omega⟩) := by
  refine (stored V c t r hr q).trans ?_
  simp only [blk_box, blk_cw, blk_cb, line_eq]

theorem roiArr_at (c : Dev nD) (b : Fin 4) (r : Fin 176) (hr : r.val < 175) (q : Fin 588) :
    roiArr V c (ix3 b r q)
      = ∑ k : Fin 1024, cell 20 20 ((V c main_arg5 : FVec Ideal S4x32x128 .f32) (ix3 b ⟨r / 7, by omega⟩ 0))
          ((V c main_arg5 : FVec Ideal S4x32x128 .f32) (ix3 b ⟨r / 7, by omega⟩ 1))
          ((V c main_arg5 : FVec Ideal S4x32x128 .f32) (ix3 b ⟨r / 7, by omega⟩ 2))
          ((V c main_arg5 : FVec Ideal S4x32x128 .f32) (ix3 b ⟨r / 7, by omega⟩ 3)) (q / 84) (r % 7) (lineOf (V c main_v37) b k)
          * (V c main_v39 : FVec Ideal S1024x84 .bf16) (ix2 k ⟨q % 84, by omega⟩)
        + (V c main_v42 : FVec Ideal S1x84 .f32) (ix2 0 ⟨q % 84, by omega⟩) := by
  exact stored_at V c b r hr q

end Cert.KernelIdeal.Roi2
end
-- ==== Proof.FcRegion.lean ====
/-
The fully connected head of the kernel: what one launch of the last call leaves in its result array,
as sums over the arrays it reads.
-/
module

public import proofs.«01_k».proof.Proof.Gen.KernelIdeal.Frame
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.KernelIdeal.Fc
open Cert.KernelIdeal Cert.KernelIdeal.Gen

/-- Three affine maps with a `max · 0` after the first two, applied to row `r` of `h`, and the result
    multiplied by `vm`: the arithmetic of one row of the head, over the padded arrays. -/
def head (h : FVec Ideal S3x104x4120 .f32) (w1 : FVec Ideal S3x4120x104 .f32) (b1 : FVec Ideal S3x1x104 .f32)
    (w2 : FVec Ideal S3x104x104 .f32) (b2 : FVec Ideal S3x1x104 .f32) (w3 : FVec Ideal S3x104x8 .f32)
    (b3 : FVec Ideal S3x1x8 .f32) (vm : FVec Ideal S3x104x8 .f32) (l : Fin 3) (r : Fin 104) (q : Fin 8) : EReal :=
  ((∑ k2 : Fin 104, max ((∑ k1 : Fin 104, max ((∑ k0 : Fin 4120, h (ix3 l r k0) * w1 (ix3 l k0 k1))
      + b1 (ix3 l 0 k1)) 0 * w2 (ix3 l k1 k2)) + b2 (ix3 l 0 k2)) 0 * w3 (ix3 l k2 q)) + b3 (ix3 l 0 q))
    * vm (ix3 l r q)

/-- Where the blocks of the last call lie: grid point `t` reads and writes slab `t` of every array. -/
theorem idx : ∀ t : Fin cfg3.N, win3_0.index t = ![t.val, 0, 0] ∧ win3_1.index t = ![t.val, 0, 0]
    ∧ win3_2.index t = ![t.val, 0, 0] ∧ win3_3.index t = ![t.val, 0, 0] ∧ win3_4.index t = ![t.val, 0, 0]
    ∧ win3_5.index t = ![t.val, 0, 0] ∧ win3_6.index t = ![t.val, 0, 0] ∧ win3_7.index t = ![t.val, 0, 0]
    ∧ win3_8.index t = ![t.val, 0, 0] :=
  (by decide +kernel : ∀ t : Fin grid3.N, _)

/-- The value the call stores at row `r`, column `q` of its block, as sums over the blocks it loads. -/
theorem pay_at (h : FVec Ideal S1x104x4120 .f32) (w1 : FVec Ideal S1x4120x104 .f32) (b1 : FVec Ideal S1x1x104 .f32)
    (w2 : FVec Ideal S1x104x104 .f32) (b2 : FVec Ideal S1x1x104 .f32) (w3 : FVec Ideal S1x104x8 .f32)
    (b3 : FVec Ideal S1x1x8 .f32) (vm : FVec Ideal S1x104x8 .f32) (r : Fin 104) (q : Fin 8) :
    k3_pay1 (k3_pay2 h w1 b1 w2 b2 w3 b3 vm) (ix3 0 r q)
      = ((∑ k2 : Fin 104, max ((∑ k1 : Fin 104, max ((∑ k0 : Fin 4120, h (ix3 0 r k0) * w1 (ix3 0 k0 k1))
      + b1 (ix3 0 0 k1)) 0 * w2 (ix3 0 k1 k2)) + b2 (ix3 0 0 k2)) 0 * w3 (ix3 0 k2 q)) + b3 (ix3 0 0 q))
    * vm (ix3 0 r q) := by
  pointwise [k3_pay1, k3_pay2]

variable (V : (c : Dev nD) → (b : Ref sig .tc) → Vec Ideal b.ty.shape b.ty.elt)

/-! Each window's block at grid point `t` is slab `t` of its array. -/
theorem blk_h (c : Dev nD) (t : Fin cfg3.N) (r : Fin 104) (k : Fin 4120) :
    (iblk3 V c 0 t : FVec Ideal S1x104x4120 .f32) (ix3 0 r k) = (V c main_v55 : FVec Ideal S3x104x4120 .f32) (ix3 t r k) := by
  blk_ext [iblk3, idx t]
theorem blk_w1 (c : Dev nD) (t : Fin cfg3.N) (r : Fin 4120) (k : Fin 104) :
    (iblk3 V c 1 t : FVec Ideal S1x4120x104 .f32) (ix3 0 r k) = (V c main_v60 : FVec Ideal S3x4120x104 .f32) (ix3 t r k) := by
  blk_ext [iblk3, idx t]
theorem blk_b1 (c : Dev nD) (t : Fin cfg3.N) (r : Fin 1) (k : Fin 104) :
    (iblk3 V c 2 t : FVec Ideal S1x1x104 .f32) (ix3 0 r k) = (V c main_v62 : FVec Ideal S3x1x104 .f32) (ix3 t r k) := by
  blk_ext [iblk3, idx t]
theorem blk_w2 (c : Dev nD) (t : Fin cfg3.N) (r : Fin 104) (k : Fin 104) :
    (iblk3 V c 3 t : FVec Ideal S1x104x104 .f32) (ix3 0 r k) = (V c main_v64 : FVec Ideal S3x104x104 .f32) (ix3 t r k) := by
  blk_ext [iblk3, idx t]
theorem blk_b2 (c : Dev nD) (t : Fin cfg3.N) (r : Fin 1) (k : Fin 104) :
    (iblk3 V c 4 t : FVec Ideal S1x1x104 .f32) (ix3 0 r k) = (V c main_v66 : FVec Ideal S3x1x104 .f32) (ix3 t r k) := by
  blk_ext [iblk3, idx t]
theorem blk_w3 (c : Dev nD) (t : Fin cfg3.N) (r : Fin 104) (k : Fin 8) :
    (iblk3 V c 5 t : FVec Ideal S1x104x8 .f32) (ix3 0 r k) = (V c main_v68 : FVec Ideal S3x104x8 .f32) (ix3 t r k) := by
  blk_ext [iblk3, idx t]
theorem blk_b3 (c : Dev nD) (t : Fin cfg3.N) (r : Fin 1) (k : Fin 8) :
    (iblk3 V c 6 t : FVec Ideal S1x1x8 .f32) (ix3 0 r k) = (V c main_v70 : FVec Ideal S3x1x8 .f32) (ix3 t r k) := by
  blk_ext [iblk3, idx t]
theorem blk_vm (c : Dev nD) (t : Fin cfg3.N) (r : Fin 104) (k : Fin 8) :
    (iblk3 V c 7 t : FVec Ideal S1x104x8 .f32) (ix3 0 r k) = (V c main_v77 : FVec Ideal S3x104x8 .f32) (ix3 t r k) := by
  blk_ext [iblk3, idx t]

/-- Block `t` of the result array is its slab `t`. -/
theorem emb_out (t : Fin cfg3.N) (r : Fin 104) (q : Fin 8) :
    (((View.whole main_v78).slice (win3_8.rect t)).emb (ix3 0 r q) : S3x104x8.Idx) = ix3 t r q := by
  have h := (idx t).2.2.2.2.2.2.2.2
  blk_ext [h]

/-- The head's arithmetic as one array. -/
def headArr (c : Dev nD) : FVec Ideal S3x104x8 .f32 := fun j =>
  head (V c main_v55) (V c main_v60) (V c main_v62) (V c main_v64) (V c main_v66)
        (V c main_v68) (V c main_v70) (V c main_v77) (j 0) (j 1) (j 2)

/-- What grid point `t` stores is the head's arithmetic on slab `t`. -/
theorem point (c : Dev nD) (t : Fin cfg3.N) (r : Fin 104) (q : Fin 8) :
    k3_pay1 (k3_pay2 (iblk3 V c 0 t) (iblk3 V c 1 t) (iblk3 V c 2 t) (iblk3 V c 3 t) (iblk3 V c 4 t) (iblk3 V c 5 t)
      (iblk3 V c 6 t) (iblk3 V c 7 t)) (ix3 0 r q)
    = headArr V c (ix3 t r q) := by
  refine (pay_at _ _ _ _ _ _ _ _ r q).trans ?_
  simp only [blk_h, blk_w1, blk_b1, blk_w2, blk_b2, blk_w3, blk_b3, blk_vm]
  rfl

/-- The result array of the last call is the head's arithmetic of the arrays the call reads. -/
theorem final (c : Dev nD) : (dat3 V c).arrAt 8 cfg3.N = headArr V c := by
  refine (dat3 V c).arrAt_eq_of_covers 8 _ (by decide +kernel) fun t _ y => ?_
  blk_simp
  rw [after3_8]; frame_out
  idx_vars y
  obtain rfl : y0 = 0 := Subsingleton.elim _ _
  refine (point V c t y1 y2).trans ?_
  exact congrArg (headArr V c) (emb_out t y1 y2).symm

end Cert.KernelIdeal.Fc
end
-- ==== Proof.HostIn.lean ====
/-
The arrays the calls read, at an index, from the arrays the host program starts with: the features laid out by rows,
the transposed convolution weights, the bias rows, and the rows of the pooled features for the dense layers.
-/
module

public import proofs.«01_k».proof.Proof.Gen.KernelIdeal.Frame
public import proofs.«01_k».proof.Proof.RoiCore
public import Idealize.ShloMosaic.Lib.StableHlo.ReadAt

@[expose] public section
set_option maxRecDepth 16384
noncomputable section
open Idealize.ShloMosaic Idealize.ShloMosaic.TcCoe Idealize.SL.Sem
namespace Cert.KernelIdeal.HostIn
open Cert.KernelIdeal Cert.KernelIdeal.Gen

variable (U : Valuation τ sig (Elt Ideal))

/-! Level 0. -/
theorem feat0 (b : Fin 4) (y x : Fin 80) (k : Fin 256) :
    ((StableHlo.after hostOps0_2 (StableHlo.after hostOps0_1 (StableHlo.after hostOps0 U))) (Proc.devRef .tc main_v3) : FVec Ideal S4x80x20480 .bf16)
      (ix3 b ⟨y, by omega⟩ ⟨x * 256 + k, by omega⟩) = (U (Proc.devRef .tc main_arg0) : FVec Ideal S4x256x80x80 .f32) (ix4 b k y x) := by
  after_reads_at
  rw [dif_pos (by omega)]
  exact congrArg₂ (fun k' x' => (U (Proc.devRef .tc main_arg0) : FVec Ideal S4x256x80x80 .f32) (ix4 b k' y x'))
    (Fin.ext (by show (x.val * 256 + k.val) % 256 = k.val; omega)) (Fin.ext (by show (x.val * 256 + k.val) / 256 = x.val; omega))

theorem cw0 (k : Fin 256) (o : Fin 84) : ((StableHlo.after hostOps0_2 (StableHlo.after hostOps0_1 (StableHlo.after hostOps0 U))) (Proc.devRef .tc main_v5) : FVec Ideal S256x84 .bf16)
      (ix2 k o) = (U (Proc.devRef .tc main_arg6) : FVec Ideal S84x256 .f32) (ix2 o k) := by
  after_reads_at

theorem cb0 (o : Fin 84) : ((StableHlo.after hostOps0_2 (StableHlo.after hostOps0_1 (StableHlo.after hostOps0 U))) (Proc.devRef .tc main_v8) : FVec Ideal S1x84 .f32)
      (ix2 0 o) = (U (Proc.devRef .tc main_arg9) : FVec Ideal S3x84 .f32) (ix2 0 o) := by
  after_reads_at

/-- Row `r` of the pooled features of level 0: kept box `r % 25` of image `r / 25`, cell by cell. -/
theorem rows0 (r : Fin 100) (q : Fin 4116) : (StableHlo.after hostOps1 U (Proc.devRef .tc main_v13) : FVec Ideal S100x4116 .f32) (ix2 r q)
      = (U (Proc.devRef .tc main_v9) : FVec Ideal S4x176x588 .f32)
          (ix3 ⟨r / 25, by omega⟩ ⟨r % 25 * 7 + q / 84 % 7, by omega⟩ ⟨q / 588 * 84 + q % 84, by omega⟩) := by
  after_reads_at

theorem valid0 (r : Fin 100) : (StableHlo.after hostOps1 U (Proc.devRef .tc main_v16) : FVec Ideal S100 .f32) (ix1 r)
      = (U (Proc.devRef .tc main_arg3) : FVec Ideal S4x32x128 .f32) (ix3 ⟨r / 25, by omega⟩ ⟨r % 25, by omega⟩ 4) := by
  after_reads_at

/-! Level 1. -/
theorem feat1 (b : Fin 4) (y x : Fin 40) (k : Fin 512) :
    ((StableHlo.after hostOps1_2 (StableHlo.after hostOps1_1 (StableHlo.after hostOps1 U))) (Proc.devRef .tc main_v20) : FVec Ideal S4x40x20480 .bf16)
      (ix3 b ⟨y, by omega⟩ ⟨x * 512 + k, by omega⟩) = (U (Proc.devRef .tc main_arg1) : FVec Ideal S4x512x40x40 .f32) (ix4 b k y x) := by
  after_reads_at
  rw [dif_pos (by omega)]
  exact congrArg₂ (fun k' x' => (U (Proc.devRef .tc main_arg1) : FVec Ideal S4x512x40x40 .f32) (ix4 b k' y x'))
    (Fin.ext (by show (x.val * 512 + k.val) % 512 = k.val; omega)) (Fin.ext (by show (x.val * 512 + k.val) / 512 = x.val; omega))

theorem cw1 (k : Fin 512) (o : Fin 84) : ((StableHlo.after hostOps1_2 (StableHlo.after hostOps1_1 (StableHlo.after hostOps1 U))) (Proc.devRef .tc main_v22) : FVec Ideal S512x84 .bf16)
      (ix2 k o) = (U (Proc.devRef .tc main_arg7) : FVec Ideal S84x512 .f32) (ix2 o k) := by
  after_reads_at

theorem cb1 (o : Fin 84) : ((StableHlo.after hostOps1_2 (StableHlo.after hostOps1_1 (StableHlo.after hostOps1 U))) (Proc.devRef .tc main_v25) : FVec Ideal S1x84 .f32)
      (ix2 0 o) = (U (Proc.devRef .tc main_arg9) : FVec Ideal S3x84 .f32) (ix2 1 o) := by
  after_reads_at

/-- Row `r` of the pooled features of level 1: kept box `r % 25` of image `r / 25`, cell by cell. -/
theorem rows1 (r : Fin 100) (q : Fin 4116) : (StableHlo.after hostOps2 U (Proc.devRef .tc main_v30) : FVec Ideal S100x4116 .f32) (ix2 r q)
      = (U (Proc.devRef .tc main_v26) : FVec Ideal S4x176x588 .f32)
          (ix3 ⟨r / 25, by omega⟩ ⟨r % 25 * 7 + q / 84 % 7, by omega⟩ ⟨q / 588 * 84 + q % 84, by omega⟩) := by
  after_reads_at

theorem valid1 (r : Fin 100) : (StableHlo.after hostOps2 U (Proc.devRef .tc main_v33) : FVec Ideal S100 .f32) (ix1 r)
      = (U (Proc.devRef .tc main_arg4) : FVec Ideal S4x32x128 .f32) (ix3 ⟨r / 25, by omega⟩ ⟨r % 25, by omega⟩ 4) := by
  after_reads_at

/-! Level 2. -/
theorem feat2 (b : Fin 4) (y x : Fin 20) (k : Fin 1024) :
    ((StableHlo.after hostOps2_2 (StableHlo.after hostOps2_1 (StableHlo.after hostOps2 U))) (Proc.devRef .tc main_v37) : FVec Ideal S4x24x20480 .bf16)
      (ix3 b ⟨y, by omega⟩ ⟨x * 1024 + k, by omega⟩) = (U (Proc.devRef .tc main_arg2) : FVec Ideal S4x1024x20x20 .f32) (ix4 b k y x) := by
  after_reads_at
  rw [dif_pos (by omega)]
  exact congrArg₂ (fun k' x' => (U (Proc.devRef .tc main_arg2) : FVec Ideal S4x1024x20x20 .f32) (ix4 b k' y x'))
    (Fin.ext (by show (x.val * 1024 + k.val) % 1024 = k.val; omega)) (Fin.ext (by show (x.val * 1024 + k.val) / 1024 = x.val; omega))

theorem cw2 (k : Fin 1024) (o : Fin 84) : ((StableHlo.after hostOps2_2 (StableHlo.after hostOps2_1 (StableHlo.after hostOps2 U))) (Proc.devRef .tc main_v39) : FVec Ideal S1024x84 .bf16)
      (ix2 k o) = (U (Proc.devRef .tc main_arg8) : FVec Ideal S84x1024 .f32) (ix2 o k) := by
  after_reads_at

theorem cb2 (o : Fin 84) : ((StableHlo.after hostOps2_2 (StableHlo.after hostOps2_1 (StableHlo.after hostOps2 U))) (Proc.devRef .tc main_v42) : FVec Ideal S1x84 .f32)
      (ix2 0 o) = (U (Proc.devRef .tc main_arg9) : FVec Ideal S3x84 .f32) (ix2 2 o) := by
  after_reads_at

/-- Row `r` of the pooled features of level 2: kept box `r % 25` of image `r / 25`, cell by cell. -/
theorem rows2 (r : Fin 100) (q : Fin 4116) : (StableHlo.after hostOps3 U (Proc.devRef .tc main_v47) : FVec Ideal S100x4116 .f32) (ix2 r q)
      = (U (Proc.devRef .tc main_v43) : FVec Ideal S4x176x588 .f32)
          (ix3 ⟨r / 25, by omega⟩ ⟨r % 25 * 7 + q / 84 % 7, by omega⟩ ⟨q / 588 * 84 + q % 84, by omega⟩) := by
  after_reads_at

theorem valid2 (r : Fin 100) : (StableHlo.after hostOps3 U (Proc.devRef .tc main_v50) : FVec Ideal S100 .f32) (ix1 r)
      = (U (Proc.devRef .tc main_arg5) : FVec Ideal S4x32x128 .f32) (ix3 ⟨r / 25, by omega⟩ ⟨r % 25, by omega⟩ 4) := by
  after_reads_at

end Cert.KernelIdeal.HostIn
end
-- ==== Proof.HostFc.lean ====
/-
The arrays the last call reads, at an index: the pooled features, weights, biases and validities of the three levels,
stacked, and zero outside.
-/
module

public import proofs.«01_k».proof.Proof.HostIn
public import proofs.«01_k».proof.Proof.Weights
public import Idealize.ShloMosaic.Lib.Routing.OpsSet
public import Idealize.ShloMosaic.Lib.Routing.OpsPair

@[expose] public section
set_option maxRecDepth 16384
noncomputable section
open Idealize.ShloMosaic Idealize.ShloMosaic.TcCoe Idealize.SL.Sem Idealize.ShloMosaic.Routing
namespace Cert.KernelIdeal.HostFc
open Cert.KernelIdeal Cert.KernelIdeal.Gen

variable (U : Valuation τ sig (Elt Ideal))

/-- What the arrays are padded with. -/
theorem fill : (FloatOps.sitofp (F := Ideal) .f32 0#32 : EReal) = 0 := (Interp.sitofp_nat 0 (by omega)).trans (by simp)

/-- The arrays when the last call starts, from those when the third sampling call ends. -/
abbrev entry : Valuation τ sig (Elt Ideal) :=
  (StableHlo.after hostOps3_17 (StableHlo.after hostOps3_16 (StableHlo.after hostOps3_15 (StableHlo.after hostOps3_14 (StableHlo.after hostOps3_13 (StableHlo.after hostOps3_12 (StableHlo.after hostOps3_11 (StableHlo.after hostOps3_10 (StableHlo.after hostOps3_9 (StableHlo.after hostOps3_8 (StableHlo.after hostOps3_7 (StableHlo.after hostOps3_6 (StableHlo.after hostOps3_5 (StableHlo.after hostOps3_4 (StableHlo.after hostOps3_3 (StableHlo.after hostOps3_2 (StableHlo.after hostOps3_1 (StableHlo.after hostOps3 U))))))))))))))))))

theorem w1_at (l : Fin 3) (k : Fin 4120) (r : Fin 104) : (entry U (Proc.devRef .tc main_v60) : FVec Ideal S3x4120x104 .f32) (ix3 l k r)
    = if h : k.val < 4116 ∧ r.val < 100 then (U (Proc.devRef .tc main_arg10) : FVec Ideal S3x100x4116 .f32)
        (ix3 l ⟨r, h.2⟩ ⟨k % 84 * 49 + k / 84, by omega⟩) else (0 : EReal) := by
  have e : k.val % 84 * 49 + k.val / 588 * 7 + k.val / 84 % 7 = k.val % 84 * 49 + k.val / 84 := by omega
  unfold entry
  after_reads_at
  split
  · simp only [e]
  · exact fill

theorem b1_at (l : Fin 3) (r : Fin 104) : (entry U (Proc.devRef .tc main_v62) : FVec Ideal S3x1x104 .f32) (ix3 l 0 r)
    = if h : r.val < 100 then (U (Proc.devRef .tc main_arg11) : FVec Ideal S3x100 .f32) (ix2 l ⟨r, h⟩) else (0 : EReal) := by
  unfold entry
  after_reads_at
  rw [fill]

theorem w2_at (l : Fin 3) (k r : Fin 104) : (entry U (Proc.devRef .tc main_v64) : FVec Ideal S3x104x104 .f32) (ix3 l k r)
    = if h : k.val < 100 ∧ r.val < 100 then (U (Proc.devRef .tc main_arg12) : FVec Ideal S3x100x100 .f32) (ix3 l ⟨r, h.2⟩ ⟨k, h.1⟩)
      else (0 : EReal) := by
  unfold entry
  after_reads_at
  rw [fill]

theorem b2_at (l : Fin 3) (r : Fin 104) : (entry U (Proc.devRef .tc main_v66) : FVec Ideal S3x1x104 .f32) (ix3 l 0 r)
    = if h : r.val < 100 then (U (Proc.devRef .tc main_arg13) : FVec Ideal S3x100 .f32) (ix2 l ⟨r, h⟩) else (0 : EReal) := by
  unfold entry
  after_reads_at
  rw [fill]

theorem w3_at (l : Fin 3) (k : Fin 104) : (entry U (Proc.devRef .tc main_v68) : FVec Ideal S3x104x8 .f32) (ix3 l k 0)
    = if h : k.val < 100 then (U (Proc.devRef .tc main_arg14) : FVec Ideal S3x1x100 .f32) (ix3 l 0 ⟨k, h⟩) else (0 : EReal) := by
  unfold entry
  after_reads_at
  rw [fill]

theorem b3_at (l : Fin 3) : (entry U (Proc.devRef .tc main_v70) : FVec Ideal S3x1x8 .f32) (ix3 l 0 0)
    = (U (Proc.devRef .tc main_arg15) : FVec Ideal S3x1 .f32) (ix2 l 0) := by
  unfold entry
  after_reads_at

/-- The pooled features of the three levels. -/
def pooled : Fin 3 → Fin 100 → Fin 4116 → EReal
  | 0 => fun r q => (U (Proc.devRef .tc main_v13) : FVec Ideal S100x4116 .f32) (ix2 r q)
  | 1 => fun r q => (U (Proc.devRef .tc main_v30) : FVec Ideal S100x4116 .f32) (ix2 r q)
  | 2 => fun r q => (StableHlo.after hostOps3 U (Proc.devRef .tc main_v47) : FVec Ideal S100x4116 .f32) (ix2 r q)

theorem h_at (l : Fin 3) (r : Fin 104) (k : Fin 4120) : (entry U (Proc.devRef .tc main_v55) : FVec Ideal S3x104x4120 .f32) (ix3 l r k)
    = if h : r.val < 100 ∧ k.val < 4116 then pooled U l ⟨r, h.1⟩ ⟨k, h.2⟩ else (0 : EReal) := by
  unfold entry
  after_reads_at
  rw [fill]
  split
  · match l with
    | 0 => exact (by unfold pooled; after_reads_at)
    | 1 => exact (by unfold pooled; after_reads_at)
    | 2 => exact (by unfold pooled; after_reads_at)
  · rfl

/-- The validities of the three levels' kept boxes. -/
def kept : Fin 3 → Fin 100 → EReal
  | 0 => fun r => (U (Proc.devRef .tc main_v16) : FVec Ideal S100 .f32) (ix1 r)
  | 1 => fun r => (U (Proc.devRef .tc main_v33) : FVec Ideal S100 .f32) (ix1 r)
  | 2 => fun r => (StableHlo.after hostOps3 U (Proc.devRef .tc main_v50) : FVec Ideal S100 .f32) (ix1 r)

/-- The arrays when the stacking of the validities starts. -/
abbrev mid : Valuation τ sig (Elt Ideal) :=
  (StableHlo.after hostOps3_13 (StableHlo.after hostOps3_12 (StableHlo.after hostOps3_11 (StableHlo.after hostOps3_10 (StableHlo.after hostOps3_9 (StableHlo.after hostOps3_8 (StableHlo.after hostOps3_7 (StableHlo.after hostOps3_6 (StableHlo.after hostOps3_5 (StableHlo.after hostOps3_4 (StableHlo.after hostOps3_3 (StableHlo.after hostOps3_2 (StableHlo.after hostOps3_1 (StableHlo.after hostOps3 U))))))))))))))

theorem mid0 : mid U (Proc.devRef .tc main_v16) = U (Proc.devRef .tc main_v16) := by
  unfold mid
  after_reads_simp
theorem mid1 : mid U (Proc.devRef .tc main_v33) = U (Proc.devRef .tc main_v33) := by
  unfold mid
  after_reads_simp
theorem mid2 : mid U (Proc.devRef .tc main_v50) = StableHlo.after hostOps3 U (Proc.devRef .tc main_v50) := by
  unfold mid
  after_reads_simp

/-- The stacked validities, from the three rows. -/
theorem stack_at (l : Fin 3) (r : Fin 100) : (StableHlo.after hostOps3_14 U (Proc.devRef .tc main_v74) : FVec Ideal S3x100 .f32) (ix2 l r)
    = (match l with
      | 0 => (U (Proc.devRef .tc main_v16) : FVec Ideal S100 .f32) (ix1 r)
      | 1 => (U (Proc.devRef .tc main_v33) : FVec Ideal S100 .f32) (ix1 r)
      | 2 => (U (Proc.devRef .tc main_v50) : FVec Ideal S100 .f32) (ix1 r)) := by
  after_reads_at
  match l with
    | 0 => exact (by after_reads_at)
    | 1 => exact (by after_reads_at)
    | 2 => exact (by after_reads_at)

theorem zero_word : (StableHlo.after hostOps3_14 U (Proc.devRef .tc main_c_9) : IVec S_ 32) = constantI S_ 32 0#32 := by
  after_reads_simp

theorem pad_at (l : Fin 3) (r : Fin 104) : (StableHlo.after hostOps3_17 (StableHlo.after hostOps3_16 (StableHlo.after hostOps3_15 U))
      (Proc.devRef .tc main_v77) : FVec Ideal S3x104x8 .f32) (ix3 l r 0)
    = if h : r.val < 100 then (U (Proc.devRef .tc main_v74) : FVec Ideal S3x100 .f32) (ix2 l ⟨r, h⟩)
      else (FloatOps.sitofp (F := Ideal) .f32 ((U (Proc.devRef .tc main_c_9) : IVec S_ 32) (Shape.Idx.first h_S_)) : EReal) := by
  after_reads_at

theorem vm_at (l : Fin 3) (r : Fin 104) : (entry U (Proc.devRef .tc main_v77) : FVec Ideal S3x104x8 .f32) (ix3 l r 0)
    = if h : r.val < 100 then kept U l ⟨r, h⟩ else (0 : EReal) := by
  refine (pad_at (StableHlo.after hostOps3_14 (mid U)) l r).trans ?_
  split
  · refine (stack_at (mid U) l _).trans ?_
    match l with
    | 0 => exact congrFun (mid0 U) _
    | 1 => exact congrFun (mid1 U) _
    | 2 => exact congrFun (mid2 U) _
  · exact (congrArg (fun f : IVec S_ 32 => FloatOps.sitofp (F := Ideal) .f32 (f (Shape.Idx.first h_S_))) (zero_word (mid U))).trans fill

end Cert.KernelIdeal.HostFc
end
-- ==== Proof.HostOut.lean ====
/-
The result array, at an index, from the array the last call leaves.
-/
module

public import proofs.«01_k».proof.Proof.HostIn
public import proofs.«01_k».proof.Proof.Weights
public import Idealize.ShloMosaic.Lib.Routing.OpsSet
public import Idealize.ShloMosaic.Lib.Routing.OpsPair

@[expose] public section
set_option maxRecDepth 16384
noncomputable section
open Idealize.ShloMosaic Idealize.ShloMosaic.TcCoe Idealize.SL.Sem Idealize.ShloMosaic.Routing
namespace Cert.KernelIdeal.HostOut
open Cert.KernelIdeal Cert.KernelIdeal.Gen

variable (U : Valuation τ sig (Elt Ideal))

/-- The result: column 0 of the last call's array at the 25 kept boxes of each image, and zero after them. -/
theorem out_at (l : Fin 3) (b : Fin 4) (d : Fin 85) : (StableHlo.after hostOps4 U (Proc.devRef .tc main_v83) : FVec Ideal S3x4x85x1 .f32) (ix4 l b d 0)
    = if h : d.val < 25 then (U (Proc.devRef .tc main_v78) : FVec Ideal S3x104x8 .f32) (ix3 l ⟨b * 25 + d, by omega⟩ 0) else (0 : EReal) := by
  after_reads_at
  have hk : ∀ k : S3x4x25x1.Idx, scatter_S3x4x85x1_S1_S3x4x25x1_0123_n_2_0.resultIdx? k
      (broadcastInDim S1 ![] bcast_S_S1 (constantI S_ 32 0#32)) = some (ix4 l b d 0)
        ↔ (k 0).val = l.val ∧ (k 1).val = b.val ∧ (k 2).val = d.val := by
    intro k
    rw [resultIdx?_eq_some]
    constructor
    · intro h
      have h0 := h 0
      have h1 := h 1
      have h2 := h 2
      have e0 : ((k 0).val : Int) = l.val := (Int.zero_add _).symm.trans h0
      have e1 : ((k 1).val : Int) = b.val := (Int.zero_add _).symm.trans h1
      have e2 : ((k 2).val : Int) = d.val := (Int.zero_add _).symm.trans h2
      exact ⟨by omega, by omega, by omega⟩
    · rintro ⟨h0, h1, h2⟩ a
      match a with
      | 0 => exact (Int.zero_add _).trans (congrArg (fun n : ℕ => (n : Int)) h0)
      | 1 => exact (Int.zero_add _).trans (congrArg (fun n : ℕ => (n : Int)) h1)
      | 2 => exact (Int.zero_add _).trans (congrArg (fun n : ℕ => (n : Int)) h2)
      | 3 => exact (Int.zero_add _).trans (congrArg (fun n : ℕ => (n : Int)) (by have := (k 3).isLt; show (k 3).val = 0; exact Nat.lt_one_iff.1 this))
  split
  next h =>
    refine scatter_set_hit _ _ _ _ _ _ (fun k e => ?_) (ix4 l b ⟨d, h⟩ 0) ((hk _).2 ⟨rfl, rfl, rfl⟩)
    obtain ⟨e0, e1, e2⟩ := (hk k).1 e
    exact congrArg₂ (fun l' r' => (U (Proc.devRef .tc main_v78) : FVec Ideal S3x104x8 .f32) (ix3 l' r' 0)) (Fin.ext e0)
      (Fin.ext (by show (k 1).val * 25 + (k 2).val = b.val * 25 + d.val; rw [e1, e2]))
  next h =>
    refine (scatter_set_miss _ _ _ _ _ (fun k e => ?_)).trans ?_
    · have h2 := ((hk k).1 e).2.2
      have h3 : (k 2).val < 25 := (k 2).isLt
      omega
    · pointwise

end Cert.KernelIdeal.HostOut
end
-- ==== Proof.KValue.lean ====
/-
The kernel's result at an index: zero after the 25 kept boxes of an image, and at each kept box the score of its
pooled features.
-/
module

public import proofs.«01_k».proof.Proof.Spec
public import proofs.«01_k».proof.Proof.RoiOut0
public import proofs.«01_k».proof.Proof.RoiOut1
public import proofs.«01_k».proof.Proof.RoiOut2
public import proofs.«01_k».proof.Proof.FcRegion
public import proofs.«01_k».proof.Proof.HostFc
public import proofs.«01_k».proof.Proof.HostOut

@[expose] public section
set_option maxRecDepth 16384
noncomputable section
open Idealize.ShloMosaic Idealize.ShloMosaic.TcCoe Idealize.SL.Sem
namespace Cert.KernelIdeal.KValue
open Cert.KernelIdeal Cert.KernelIdeal.Gen Interp

variable (m : (ℓ : Loc nD τ sig) → Buf (Elt Ideal) ℓ) (ρ : Dev nD → PrngReg) (c : Dev nD)

/-! The arguments, as functions of their indices. -/
def F0 : Fin 4 → Fin 256 → Fin 80 → Fin 80 → EReal := fun b k y x => (m ((c.tc : Thread nD τ).loc main_arg0) : FVec Ideal S4x256x80x80 .f32) (ix4 b k y x)
def F1 : Fin 4 → Fin 512 → Fin 40 → Fin 40 → EReal := fun b k y x => (m ((c.tc : Thread nD τ).loc main_arg1) : FVec Ideal S4x512x40x40 .f32) (ix4 b k y x)
def F2 : Fin 4 → Fin 1024 → Fin 20 → Fin 20 → EReal := fun b k y x => (m ((c.tc : Thread nD τ).loc main_arg2) : FVec Ideal S4x1024x20x20 .f32) (ix4 b k y x)

def tab : Fin 3 → FVec Ideal S4x32x128 .f32
  | 0 => m ((c.tc : Thread nD τ).loc main_arg3)
  | 1 => m ((c.tc : Thread nD τ).loc main_arg4)
  | 2 => m ((c.tc : Thread nD τ).loc main_arg5)
/-- Coordinate `i` of kept box `d` of image `b`. -/
def box (l : Fin 3) : Fin 4 → Fin 25 → Fin 4 → EReal := fun b d i => tab m c l (ix3 b ⟨d, by omega⟩ ⟨i, by omega⟩)
def vld (l : Fin 3) : Fin 4 → Fin 25 → EReal := fun b d => tab m c l (ix3 b ⟨d, by omega⟩ 4)
def cw0 : Fin 84 → Fin 256 → EReal := fun o k => (m ((c.tc : Thread nD τ).loc main_arg6) : FVec Ideal S84x256 .f32) (ix2 o k)
def cw1 : Fin 84 → Fin 512 → EReal := fun o k => (m ((c.tc : Thread nD τ).loc main_arg7) : FVec Ideal S84x512 .f32) (ix2 o k)
def cw2 : Fin 84 → Fin 1024 → EReal := fun o k => (m ((c.tc : Thread nD τ).loc main_arg8) : FVec Ideal S84x1024 .f32) (ix2 o k)
def cb (l : Fin 3) : Fin 84 → EReal := fun o => (m ((c.tc : Thread nD τ).loc main_arg9) : FVec Ideal S3x84 .f32) (ix2 l o)

/-- The convolved features of the kept boxes, level by level. -/
def feats : Fin 3 → Fin 4 → Fin 25 → Fin 84 → ℕ → ℕ → EReal
  | 0 => conv (F0 m c) (box m c 0) (cw0 m c) (cb m c 0)
  | 1 => conv (F1 m c) (box m c 1) (cw1 m c) (cb m c 1)
  | 2 => conv (F2 m c) (box m c 2) (cw2 m c) (cb m c 2)

/-- The score of kept box `d` of image `b` at level `l`. -/
def value (l : Fin 3) (b : Fin 4) (d : Fin 25) : EReal :=
  score (flat (feats m c l b d))
    (fun r q => (m ((c.tc : Thread nD τ).loc main_arg10) : FVec Ideal S3x100x4116 .f32) (ix3 l r q))
    (fun r => (m ((c.tc : Thread nD τ).loc main_arg11) : FVec Ideal S3x100 .f32) (ix2 l r))
    (fun r q => (m ((c.tc : Thread nD τ).loc main_arg12) : FVec Ideal S3x100x100 .f32) (ix3 l r q))
    (fun r => (m ((c.tc : Thread nD τ).loc main_arg13) : FVec Ideal S3x100 .f32) (ix2 l r))
    (fun q => (m ((c.tc : Thread nD τ).loc main_arg14) : FVec Ideal S3x1x100 .f32) (ix3 l 0 q))
    ((m ((c.tc : Thread nD τ).loc main_arg15) : FVec Ideal S3x1 .f32) (ix2 l 0)) (vld m c l b d)

/-! What the sampling calls leave. -/
theorem roi0 (b : Fin 4) (d : Fin 25) (o : Fin 84) (i j : Fin 7) :
    (W4 m ρ c (Proc.devRef .tc main_v9) : FVec Ideal S4x176x588 .f32) (ix3 b ⟨d * 7 + j, by omega⟩ ⟨i * 84 + o, by omega⟩)
      = conv (F0 m c) (box m c 0) (cw0 m c) (cb m c 0) b d o i j := by
  refine (congrFun ((W4_arr m ρ c 4).trans (Roi0.final (V3 m ρ) c)) _).trans ?_
  refine (Roi0.roiArr_at (V3 m ρ) c b _ (by show d.val * 7 + j.val < 175; omega) _).trans ?_
  have ed : (⟨(d.val * 7 + j.val) / 7, by omega⟩ : Fin 32) = ⟨d, by omega⟩ := Fin.ext (by show (d.val * 7 + j.val) / 7 = d.val; omega)
  have eo : (⟨(i.val * 84 + o.val) % 84, by omega⟩ : Fin 84) = o := Fin.ext (by show (i.val * 84 + o.val) % 84 = o.val; omega)
  have hB : (W3 m ρ c (Proc.devRef .tc main_arg3) : FVec Ideal S4x32x128 .f32) = tab m c 0 := W3_args m ρ c main_arg3 (by decide)
  refine conv_of (by omega) (F0 m c) (box m c 0) (cw0 m c) (cb m c 0) b d o i j _ _ ?_ ?_ ?_ ?_ ?_ ?_ ?_ ?_ ?_
  · exact (congrFun hB _).trans (congrArg (fun d' => tab m c 0 (ix3 b d' 0)) ed)
  · exact (congrFun hB _).trans (congrArg (fun d' => tab m c 0 (ix3 b d' 1)) ed)
  · exact (congrFun hB _).trans (congrArg (fun d' => tab m c 0 (ix3 b d' 2)) ed)
  · exact (congrFun hB _).trans (congrArg (fun d' => tab m c 0 (ix3 b d' 3)) ed)
  · show (i.val * 84 + o.val) / 84 = i.val; omega
  · show (d.val * 7 + j.val) % 7 = j.val; omega
  · intro k y x
    unfold Roi0.lineOf
    rw [dif_pos ⟨by omega, x.isLt⟩]
    exact (HostIn.feat0 (W0 m ρ c) b y x k).trans (congrFun (W0_args m ρ c main_arg0 (by decide)) (ix4 b k y x))
  · intro k
    refine (congrArg (fun o' => (W3 m ρ c (Proc.devRef .tc main_v5) : FVec Ideal S256x84 .bf16) (ix2 k o')) eo).trans ?_
    exact (HostIn.cw0 (W0 m ρ c) k o).trans (congrFun (W0_args m ρ c main_arg6 (by decide)) (ix2 o k))
  · refine (congrArg (fun o' => (W3 m ρ c (Proc.devRef .tc main_v8) : FVec Ideal S1x84 .f32) (ix2 0 o')) eo).trans ?_
    exact (HostIn.cb0 (W0 m ρ c) o).trans (congrFun (W0_args m ρ c main_arg9 (by decide)) (ix2 0 o))

theorem roi1 (b : Fin 4) (d : Fin 25) (o : Fin 84) (i j : Fin 7) :
    (W8 m ρ c (Proc.devRef .tc main_v26) : FVec Ideal S4x176x588 .f32) (ix3 b ⟨d * 7 + j, by omega⟩ ⟨i * 84 + o, by omega⟩)
      = conv (F1 m c) (box m c 1) (cw1 m c) (cb m c 1) b d o i j := by
  refine (congrFun ((W8_arr m ρ c 4).trans (Roi1.final (V7 m ρ) c)) _).trans ?_
  refine (Roi1.roiArr_at (V7 m ρ) c b _ (by show d.val * 7 + j.val < 175; omega) _).trans ?_
  have ed : (⟨(d.val * 7 + j.val) / 7, by omega⟩ : Fin 32) = ⟨d, by omega⟩ := Fin.ext (by show (d.val * 7 + j.val) / 7 = d.val; omega)
  have eo : (⟨(i.val * 84 + o.val) % 84, by omega⟩ : Fin 84) = o := Fin.ext (by show (i.val * 84 + o.val) % 84 = o.val; omega)
  have hB : (W7 m ρ c (Proc.devRef .tc main_arg4) : FVec Ideal S4x32x128 .f32) = tab m c 1 := W7_args m ρ c main_arg4 (by decide)
  refine conv_of (by omega) (F1 m c) (box m c 1) (cw1 m c) (cb m c 1) b d o i j _ _ ?_ ?_ ?_ ?_ ?_ ?_ ?_ ?_ ?_
  · exact (congrFun hB _).trans (congrArg (fun d' => tab m c 1 (ix3 b d' 0)) ed)
  · exact (congrFun hB _).trans (congrArg (fun d' => tab m c 1 (ix3 b d' 1)) ed)
  · exact (congrFun hB _).trans (congrArg (fun d' => tab m c 1 (ix3 b d' 2)) ed)
  · exact (congrFun hB _).trans (congrArg (fun d' => tab m c 1 (ix3 b d' 3)) ed)
  · show (i.val * 84 + o.val) / 84 = i.val; omega
  · show (d.val * 7 + j.val) % 7 = j.val; omega
  · intro k y x
    unfold Roi1.lineOf
    rw [dif_pos ⟨by omega, x.isLt⟩]
    exact (HostIn.feat1 (W4 m ρ c) b y x k).trans (congrFun (W4_args m ρ c main_arg1 (by decide)) (ix4 b k y x))
  · intro k
    refine (congrArg (fun o' => (W7 m ρ c (Proc.devRef .tc main_v22) : FVec Ideal S512x84 .bf16) (ix2 k o')) eo).trans ?_
    exact (HostIn.cw1 (W4 m ρ c) k o).trans (congrFun (W4_args m ρ c main_arg7 (by decide)) (ix2 o k))
  · refine (congrArg (fun o' => (W7 m ρ c (Proc.devRef .tc main_v25) : FVec Ideal S1x84 .f32) (ix2 0 o')) eo).trans ?_
    exact (HostIn.cb1 (W4 m ρ c) o).trans (congrFun (W4_args m ρ c main_arg9 (by decide)) (ix2 1 o))

theorem roi2 (b : Fin 4) (d : Fin 25) (o : Fin 84) (i j : Fin 7) :
    (W12 m ρ c (Proc.devRef .tc main_v43) : FVec Ideal S4x176x588 .f32) (ix3 b ⟨d * 7 + j, by omega⟩ ⟨i * 84 + o, by omega⟩)
      = conv (F2 m c) (box m c 2) (cw2 m c) (cb m c 2) b d o i j := by
  refine (congrFun ((W12_arr m ρ c 4).trans (Roi2.final (V11 m ρ) c)) _).trans ?_
  refine (Roi2.roiArr_at (V11 m ρ) c b _ (by show d.val * 7 + j.val < 175; omega) _).trans ?_
  have ed : (⟨(d.val * 7 + j.val) / 7, by omega⟩ : Fin 32) = ⟨d, by omega⟩ := Fin.ext (by show (d.val * 7 + j.val) / 7 = d.val; omega)
  have eo : (⟨(i.val * 84 + o.val) % 84, by omega⟩ : Fin 84) = o := Fin.ext (by show (i.val * 84 + o.val) % 84 = o.val; omega)
  have hB : (W11 m ρ c (Proc.devRef .tc main_arg5) : FVec Ideal S4x32x128 .f32) = tab m c 2 := W11_args m ρ c main_arg5 (by decide)
  refine conv_of (by omega) (F2 m c) (box m c 2) (cw2 m c) (cb m c 2) b d o i j _ _ ?_ ?_ ?_ ?_ ?_ ?_ ?_ ?_ ?_
  · exact (congrFun hB _).trans (congrArg (fun d' => tab m c 2 (ix3 b d' 0)) ed)
  · exact (congrFun hB _).trans (congrArg (fun d' => tab m c 2 (ix3 b d' 1)) ed)
  · exact (congrFun hB _).trans (congrArg (fun d' => tab m c 2 (ix3 b d' 2)) ed)
  · exact (congrFun hB _).trans (congrArg (fun d' => tab m c 2 (ix3 b d' 3)) ed)
  · show (i.val * 84 + o.val) / 84 = i.val; omega
  · show (d.val * 7 + j.val) % 7 = j.val; omega
  · intro k y x
    unfold Roi2.lineOf
    rw [dif_pos ⟨by omega, x.isLt⟩]
    exact (HostIn.feat2 (W8 m ρ c) b y x k).trans (congrFun (W8_args m ρ c main_arg2 (by decide)) (ix4 b k y x))
  · intro k
    refine (congrArg (fun o' => (W11 m ρ c (Proc.devRef .tc main_v39) : FVec Ideal S1024x84 .bf16) (ix2 k o')) eo).trans ?_
    exact (HostIn.cw2 (W8 m ρ c) k o).trans (congrFun (W8_args m ρ c main_arg8 (by decide)) (ix2 o k))
  · refine (congrArg (fun o' => (W11 m ρ c (Proc.devRef .tc main_v42) : FVec Ideal S1x84 .f32) (ix2 0 o')) eo).trans ?_
    exact (HostIn.cb2 (W8 m ρ c) o).trans (congrFun (W8_args m ρ c main_arg9 (by decide)) (ix2 2 o))

/-- Row `r` of the pooled features: kept box `r % 25` of image `r / 25`. -/
theorem pooled_at (l : Fin 3) (r : Fin 100) (k : Fin 4116) : HostFc.pooled (W12 m ρ c) l r k
    = feats m c l ⟨r / 25, by omega⟩ ⟨r % 25, by omega⟩ ⟨k % 84, by omega⟩ (k / 588) (k / 84 % 7) := by
  match l with
  | 0 =>
    refine (congrFun ((W12_of m ρ c main_v13 (by decide)).trans ((W11_of m ρ c main_v13 (by decide)).trans ((W10_of m ρ c main_v13 (by decide)).trans ((W9_of m ρ c main_v13 (by decide)).trans ((W8_of m ρ c main_v13 (by decide)).trans ((W7_of m ρ c main_v13 (by decide)).trans (W6_of m ρ c main_v13 (by decide)))))))) (ix2 r k)).trans ?_
    exact (HostIn.rows0 (W4 m ρ c) r k).trans
      (roi0 m ρ c ⟨r / 25, by omega⟩ ⟨r % 25, by omega⟩ ⟨k % 84, by omega⟩ ⟨k / 588, by omega⟩ ⟨k / 84 % 7, by omega⟩)
  | 1 =>
    refine (congrFun ((W12_of m ρ c main_v30 (by decide)).trans ((W11_of m ρ c main_v30 (by decide)).trans (W10_of m ρ c main_v30 (by decide)))) (ix2 r k)).trans ?_
    exact (HostIn.rows1 (W8 m ρ c) r k).trans
      (roi1 m ρ c ⟨r / 25, by omega⟩ ⟨r % 25, by omega⟩ ⟨k % 84, by omega⟩ ⟨k / 588, by omega⟩ ⟨k / 84 % 7, by omega⟩)
  | 2 =>
    exact (HostIn.rows2 (W12 m ρ c) r k).trans
      (roi2 m ρ c ⟨r / 25, by omega⟩ ⟨r % 25, by omega⟩ ⟨k % 84, by omega⟩ ⟨k / 588, by omega⟩ ⟨k / 84 % 7, by omega⟩)

theorem kept_at (l : Fin 3) (r : Fin 100) : HostFc.kept (W12 m ρ c) l r = vld m c l ⟨r / 25, by omega⟩ ⟨r % 25, by omega⟩ := by
  match l with
  | 0 =>
    refine (congrFun ((W12_of m ρ c main_v16 (by decide)).trans ((W11_of m ρ c main_v16 (by decide)).trans ((W10_of m ρ c main_v16 (by decide)).trans ((W9_of m ρ c main_v16 (by decide)).trans ((W8_of m ρ c main_v16 (by decide)).trans ((W7_of m ρ c main_v16 (by decide)).trans (W6_of m ρ c main_v16 (by decide)))))))) (ix1 r)).trans ?_
    exact (HostIn.valid0 (W4 m ρ c) r).trans (congrFun (W4_args m ρ c main_arg3 (by decide)) _)
  | 1 =>
    refine (congrFun ((W12_of m ρ c main_v33 (by decide)).trans ((W11_of m ρ c main_v33 (by decide)).trans (W10_of m ρ c main_v33 (by decide)))) (ix1 r)).trans ?_
    exact (HostIn.valid1 (W8 m ρ c) r).trans (congrFun (W8_args m ρ c main_arg4 (by decide)) _)
  | 2 => exact (HostIn.valid2 (W12 m ρ c) r).trans (congrFun (W12_args m ρ c main_arg5 (by decide)) _)

/-- The padded arrays of the last call give the same sums as the arrays they hold. -/
theorem head_at (U : Valuation τ sig (Elt Ideal)) (l : Fin 3) (r : Fin 100) :
    Fc.head (HostFc.entry U (Proc.devRef .tc main_v55)) (HostFc.entry U (Proc.devRef .tc main_v60))
      (HostFc.entry U (Proc.devRef .tc main_v62)) (HostFc.entry U (Proc.devRef .tc main_v64))
      (HostFc.entry U (Proc.devRef .tc main_v66)) (HostFc.entry U (Proc.devRef .tc main_v68))
      (HostFc.entry U (Proc.devRef .tc main_v70)) (HostFc.entry U (Proc.devRef .tc main_v77)) l ⟨r, by omega⟩ 0
    = score (fun q => HostFc.pooled U l r (byCell.symm q))
      (fun r q => (U (Proc.devRef .tc main_arg10) : FVec Ideal S3x100x4116 .f32) (ix3 l r q))
      (fun r => (U (Proc.devRef .tc main_arg11) : FVec Ideal S3x100 .f32) (ix2 l r))
      (fun r q => (U (Proc.devRef .tc main_arg12) : FVec Ideal S3x100x100 .f32) (ix3 l r q))
      (fun r => (U (Proc.devRef .tc main_arg13) : FVec Ideal S3x100 .f32) (ix2 l r))
      (fun q => (U (Proc.devRef .tc main_arg14) : FVec Ideal S3x1x100 .f32) (ix3 l 0 q))
      ((U (Proc.devRef .tc main_arg15) : FVec Ideal S3x1 .f32) (ix2 l 0)) (HostFc.kept U l r) := by
  unfold Fc.head score
  rw [HostFc.vm_at U l ⟨r, by omega⟩, HostFc.b3_at, dif_pos r.isLt]
  refine congrArg (fun s : EReal => (s + _) * _) ?_
  rw [sum_pad (n := 100) (by omega)]
  swap
  · intro k hk
    rw [HostFc.w3_at, dif_neg (by omega), mul_zero]
  refine Finset.sum_congr rfl fun c2 _ => ?_
  rw [HostFc.w3_at, dif_pos (show (Fin.castLE (by omega : 100 ≤ 104) c2).val < 100 from c2.isLt), HostFc.b2_at,
    dif_pos (show (Fin.castLE (by omega : 100 ≤ 104) c2).val < 100 from c2.isLt)]
  refine congrArg (fun s : EReal => max (s + _) 0 * _) ?_
  rw [sum_pad (n := 100) (by omega)]
  swap
  · intro k hk
    rw [HostFc.w2_at, dif_neg (by omega), mul_zero]
  refine Finset.sum_congr rfl fun c1 _ => ?_
  rw [HostFc.w2_at, dif_pos (show (Fin.castLE (by omega : 100 ≤ 104) c1).val < 100 ∧ (Fin.castLE (by omega : 100 ≤ 104) c2).val < 100
      from ⟨c1.isLt, c2.isLt⟩), HostFc.b1_at, dif_pos (show (Fin.castLE (by omega : 100 ≤ 104) c1).val < 100 from c1.isLt)]
  refine congrArg (fun s : EReal => max (s + _) 0 * _) ?_
  rw [sum_pad (n := 4116) (by omega)]
  swap
  · intro k hk
    rw [HostFc.w1_at, dif_neg (by omega), mul_zero]
  refine Eq.trans ?_ (sum_byCell fun q => HostFc.pooled U l r (byCell.symm q)
    * (U (Proc.devRef .tc main_arg10) : FVec Ideal S3x100x4116 .f32) (ix3 l c1 q))
  refine Finset.sum_congr rfl fun q _ => ?_
  rw [HostFc.w1_at, dif_pos (show (Fin.castLE (by omega : 4116 ≤ 4120) q).val < 4116 ∧ (Fin.castLE (by omega : 100 ≤ 104) c1).val < 100
      from ⟨q.isLt, c1.isLt⟩), HostFc.h_at, dif_pos (show r.val < 100 ∧ (Fin.castLE (by omega : 4116 ≤ 4120) q).val < 4116 from ⟨r.isLt, q.isLt⟩)]
  simp only [Equiv.symm_apply_apply]
  rfl

/-- The kernel's result. -/
theorem result_at (l : Fin 3) (b : Fin 4) (d : Fin 85) : (W32 m ρ c (Proc.devRef .tc main_v83) : FVec Ideal S3x4x85x1 .f32) (ix4 l b d 0)
    = if h : d.val < 25 then value m c l b ⟨d, h⟩ else (0 : EReal) := by
  refine (HostOut.out_at (W31 m ρ c) l b d).trans ?_
  split
  next h =>
    refine (congrFun ((W31_arr m ρ c 8).trans (Fc.final (V30 m ρ) c)) _).trans ?_
    refine (head_at (W12 m ρ c) l ⟨b * 25 + d, by omega⟩).trans ?_
    have eb : (⟨(b.val * 25 + d.val) / 25, by omega⟩ : Fin 4) = b := Fin.ext (by show (b.val * 25 + d.val) / 25 = b.val; omega)
    have ed : (⟨(b.val * 25 + d.val) % 25, by omega⟩ : Fin 25) = ⟨d, h⟩ := Fin.ext (by show (b.val * 25 + d.val) % 25 = d.val; omega)
    unfold value
    have hf : (fun q => HostFc.pooled (W12 m ρ c) l ⟨b * 25 + d, by omega⟩ (byCell.symm q)) = flat (feats m c l b ⟨d, h⟩) := by
      funext q
      rw [pooled_at]
      simp only [eb, ed]
      refine (flat_byCell (feats m c l b ⟨d, h⟩) (byCell.symm q)).symm.trans ?_
      rw [Equiv.apply_symm_apply]
    rw [hf, kept_at]
    simp only [eb, ed]
    rw [W12_args m ρ c main_arg10 (by decide), W12_args m ρ c main_arg11 (by decide), W12_args m ρ c main_arg12 (by decide),
      W12_args m ρ c main_arg13 (by decide), W12_args m ρ c main_arg14 (by decide), W12_args m ρ c main_arg15 (by decide)]
  next h => rfl

end Cert.KernelIdeal.KValue
end
-- ==== Proof.Ref0.lean ====
/-
The reference at its first level: the sampled and averaged features of a box's cell.
-/
module

public import proofs.«01_k».proof.Proof.RefCore
public import proofs.«01_k».proof.Proof.Gen.ReferenceIdeal.Run

@[expose] public section
set_option maxRecDepth 16384
noncomputable section
open Idealize.ShloMosaic Idealize.ShloMosaic.TcCoe Idealize.SL.Sem
namespace Cert.ReferenceIdeal.Ref0
open Cert.ReferenceIdeal Cert.ReferenceIdeal.Value Interp

variable (V0 : Valuation τ sig (Elt Ideal)) (b : Fin 4) (d : Fin 25) (s t : Fin 14)

/-- The features, by image, feature, row and column. -/
def F : Fin 4 → Fin 256 → Fin 80 → Fin 80 → EReal := fun b k y x =>
  (V0 (Proc.devRef .tc main_arg0) : FVec Ideal S4x256x80x80 .f32) (ix4 b k y x)
/-- Coordinate `i` of kept box `d` of image `b`. -/
def box : Fin 4 → Fin 25 → Fin 4 → EReal := fun b d i =>
  (V0 (Proc.devRef .tc main_arg3) : FVec Ideal S4x32x128 .f32) (ix3 b ⟨d, by omega⟩ ⟨i, by omega⟩)

/-! The sample positions. -/
theorem step_y : (res_main_v40 V0 : FVec Ideal S4x25x1x1 .f32) (ix4 b d 0 0) = step (box V0 b d 1) (box V0 b d 3) := by
  pointwise [res_main_v40, res_main_v0, res_main_v20]
  rw [c_7]; rfl
theorem step_x : (res_main_v60 V0 : FVec Ideal S4x25x1x1 .f32) (ix4 b d 0 0) = step (box V0 b d 0) (box V0 b d 2) := by
  pointwise [res_main_v60, res_main_v0, res_main_v18]
  rw [c_7]; rfl
theorem lo_y : (res_main_v20 V0 : FVec Ideal S4x25 .f32) (ix2 b d) = box V0 b d 1 := by
  pointwise [res_main_v20, res_main_v0]
  rfl
theorem lo_x : (res_main_v18 V0 : FVec Ideal S4x25 .f32) (ix2 b d) = box V0 b d 0 := by
  pointwise [res_main_v18, res_main_v0]
  rfl
theorem number (p : Fin 7) : (res_main_v36 V0 : FVec Ideal S7x1 .f32) (ix2 p 0) = (((p.val : ℕ) : ℝ) : EReal) := by
  pointwise [res_main_v36]
  exact sitofp_nat _ (by omega)
theorem sample (g : Fin 2) : (res_main_v38 V0 : FVec Ideal S1x2 .f32) (ix2 0 g) = (((g.val : ℕ) : ℝ) : EReal) := by
  pointwise [res_main_v38]
  exact sitofp_nat _ (by omega)

/-- The sample positions along one axis of a box: two in each of its seven cells. -/
def at_y : EReal := pos (box V0 b d 1) (box V0 b d 3) (s.val / 2) (((s.val % 2 : ℕ) : ℝ) / 2 + 1 / 4)
def at_x : EReal := pos (box V0 b d 0) (box V0 b d 2) (t.val / 2) (((t.val % 2 : ℕ) : ℝ) / 2 + 1 / 4)

theorem ys_at : (res_main_v58 V0 : FVec Ideal S4x25x14 .f32) (ix3 b d s) = at_y V0 b d s := by
  pointwise [res_main_v58]
  rw [step_y, lo_y, number, sample, c_half, c_2]
  exact pos_corner _ _ _ _
theorem xs_at : (res_main_v78 V0 : FVec Ideal S4x25x14 .f32) (ix3 b d t) = at_x V0 b d t := by
  pointwise [res_main_v78]
  rw [step_x, lo_x, number, sample, c_half, c_2]
  exact pos_corner _ _ _ _

/-! The integer positions beside a sample, and how far it lies between them. -/
theorem clip_y : (res_main_v95 V0 : FVec Ideal S4x25x14 .f32) (ix3 b d s) = clip 80 (at_y V0 b d s) := by
  pointwise [res_main_v95]
  rw [ys_at]
  show min (Ideal.ofBits .f32 1117650944#32) (max (Ideal.ofBits .f32 0#32) _) = _
  rw [c_79, show Ideal.ofBits .f32 0#32 = 0 from Ideal.ofBits_zero_f32]; rfl
theorem clip_x : (res_main_v96 V0 : FVec Ideal S4x25x14 .f32) (ix3 b d t) = clip 80 (at_x V0 b d t) := by
  pointwise [res_main_v96]
  rw [xs_at]
  show min (Ideal.ofBits .f32 1117650944#32) (max (Ideal.ofBits .f32 0#32) _) = _
  rw [c_79, show Ideal.ofBits .f32 0#32 = 0 from Ideal.ofBits_zero_f32]; rfl
theorem low_y : (res_main_v99 V0 : IVec S4x25x14 32) (ix3 b d s) = BitVec.ofNat 32 (low 80 (at_y V0 b d s)) := by
  pointwise [res_main_v99, res_main_v97]
  rw [clip_y, low_word (by omega) (by omega)]
theorem low_x : (res_main_v100 V0 : IVec S4x25x14 32) (ix3 b d t) = BitVec.ofNat 32 (low 80 (at_x V0 b d t)) := by
  pointwise [res_main_v100, res_main_v98]
  rw [clip_x, low_word (by omega) (by omega)]
theorem high_y : (res_main_v104 V0 : IVec S4x25x14 32) (ix3 b d s) = BitVec.ofNat 32 (high 80 (at_y V0 b d s)) := by
  pointwise [res_main_v104]
  rw [low_y]
  exact high_word (B := 80) (by omega) (by omega) _
theorem high_x : (res_main_v108 V0 : IVec S4x25x14 32) (ix3 b d t) = BitVec.ofNat 32 (high 80 (at_x V0 b d t)) := by
  pointwise [res_main_v108]
  rw [low_x]
  exact high_word (B := 80) (by omega) (by omega) _
theorem frac_y : (res_main_v110 V0 : FVec Ideal S4x25x14x1x1 .f32) (ix5 b d s 0 0) = ((frac 80 (at_y V0 b d s) : ℝ) : EReal) := by
  pointwise [res_main_v110, res_main_v97]
  rw [clip_y, frac_real (by omega)]
theorem frac_x : (res_main_v112 V0 : FVec Ideal S4x25x1x14x1 .f32) (ix5 b d 0 t 0) = ((frac 80 (at_x V0 b d t) : ℝ) : EReal) := by
  pointwise [res_main_v112, res_main_v98]
  rw [clip_x, frac_real (by omega)]

/-- The index triples of one gather: image, row and column. -/
def triples (y : IVec S4x25x14x1 32) (x : IVec S4x25x1x14 32) : IVec S4x25x14x14x3 32 :=
  concatenate S4x25x14x14x3 4
    [⟨S4x25x14x14x1, broadcastInDim S4x25x14x14x1 ![0, 1, 2, 3] Gen.bcast_S4x25x14x14_S4x25x14x14x1_0_1_2_3
        (broadcastInDim S4x25x14x14 ![0, 1, 2, 3] Gen.bcast_S4x1x1x1_S4x25x14x14_0_1_2_3
          (select (cmpi CmpIPredicate.slt (res_main_v115 V0) (broadcastInDim S4x1x1x1 ![] Gen.bcast_S_S4x1x1x1 (constantI S_ 32 0#32)))
            (addi (res_main_v115 V0) (broadcastInDim S4x1x1x1 ![] Gen.bcast_S_S4x1x1x1 (constantI S_ 32 4#32))) (res_main_v115 V0)))⟩,
      ⟨S4x25x14x14x1, broadcastInDim S4x25x14x14x1 ![0, 1, 2, 3] Gen.bcast_S4x25x14x14_S4x25x14x14x1_0_1_2_3
        (broadcastInDim S4x25x14x14 ![0, 1, 2, 3] Gen.bcast_S4x25x14x1_S4x25x14x14_0_1_2_3
          (select (cmpi CmpIPredicate.slt y (broadcastInDim S4x25x14x1 ![] Gen.bcast_S_S4x25x14x1 (constantI S_ 32 0#32)))
            (addi y (broadcastInDim S4x25x14x1 ![] Gen.bcast_S_S4x25x14x1 (constantI S_ 32 80#32))) y))⟩,
      ⟨S4x25x14x14x1, broadcastInDim S4x25x14x14x1 ![0, 1, 2, 3] Gen.bcast_S4x25x14x14_S4x25x14x14x1_0_1_2_3
        (broadcastInDim S4x25x14x14 ![0, 1, 2, 3] Gen.bcast_S4x25x1x14_S4x25x14x14_0_1_2_3
          (select (cmpi CmpIPredicate.slt x (broadcastInDim S4x25x1x14 ![] Gen.bcast_S_S4x25x1x14 (constantI S_ 32 0#32)))
            (addi x (broadcastInDim S4x25x1x14 ![] Gen.bcast_S_S4x25x1x14 (constantI S_ 32 80#32))) x))⟩]
    Gen.concatenates_S4x25x14x14x1_S4x25x14x14x1_S4x25x14x14x1_S4x25x14x14x3_d4

theorem image_at : (res_main_v115 V0 : IVec S4x1x1x1 32) (ix4 b 0 0 0) = BitVec.ofNat 32 b.val := by
  pointwise [res_main_v115]

/-- One corner of a sample: the gathered feature at the row and column its index words name. -/
theorem corner (y : IVec S4x25x14x1 32) (x : IVec S4x25x1x14 32) (k : Fin 256) (Y X : ℕ) (hY : Y < 80) (hX : X < 80)
    (hy : y (ix4 b d s 0) = BitVec.ofNat 32 Y) (hx : x (ix4 b d 0 t) = BitVec.ofNat 32 X) :
    Host.gather gather_S4x80x80x256_S4x25x14x14x3_S4x25x14x14x256_4_012_n_n_012_4_111256
      (res_main_v113 V0 : FVec Ideal S4x80x80x256 .f32) (triples V0 y x) (ix5 b d s t k) = plane (F V0) b k Y X := by
  refine Eq.trans (gather_at (H := 80) (C := 256) gather_S4x80x80x256_S4x25x14x14x3_S4x25x14x14x256_4_012_n_n_012_4_111256.wf
    (by omega) _ _ b d s t k ⟨Y, hY⟩ ⟨X, hX⟩ ?_ ?_ ?_) ?_
  · pointwise [triples]
    rw [image_at, no_wrap _ (by omega)]
  · pointwise [triples]
    rw [hy, no_wrap _ (by omega)]
  · pointwise [triples]
    rw [hx, no_wrap _ (by omega)]
  · pointwise [res_main_v113]
    unfold plane
    rw [dif_pos ⟨hY, hX⟩]; rfl

/-- A sample, or zero where it is outside the image. -/
theorem sampled (k : Fin 256) : (res_main_v243 V0 : FVec Ideal S4x25x14x14x256 .f32) (ix5 b d s t k)
    = bilinear 80 80 (at_y V0 b d s) (at_x V0 b d t) (plane (F V0) b k) := by
  have hly := low_lt (B := 80) (by omega) (at_y V0 b d s)
  have hhy := high_lt (B := 80) (by omega) (at_y V0 b d s)
  have hlx := low_lt (B := 80) (by omega) (at_x V0 b d t)
  have hhx := high_lt (B := 80) (by omega) (at_x V0 b d t)
  have ll := corner V0 b d s t (res_main_v116 V0) (res_main_v117 V0) k _ _ hly hlx
    (by pointwise [res_main_v116]; exact low_y V0 b d s) (by pointwise [res_main_v117]; exact low_x V0 b d t)
  have hl := corner V0 b d s t (res_main_v149 V0) (res_main_v150 V0) k _ _ hhy hlx
    (by pointwise [res_main_v149]; exact high_y V0 b d s) (by pointwise [res_main_v150]; exact low_x V0 b d t)
  have lh := corner V0 b d s t (res_main_v181 V0) (res_main_v182 V0) k _ _ hly hhx
    (by pointwise [res_main_v181]; exact low_y V0 b d s) (by pointwise [res_main_v182]; exact high_x V0 b d t)
  have hh := corner V0 b d s t (res_main_v213 V0) (res_main_v214 V0) k _ _ hhy hhx
    (by pointwise [res_main_v213]; exact high_y V0 b d s) (by pointwise [res_main_v214]; exact high_x V0 b d t)
  unfold triples at ll hl lh hh
  have two : (res_main_v180 V0 : FVec Ideal S4x25x14x14x256 .f32) (ix5 b d s t k)
      = plane (F V0) b k (low 80 (at_y V0 b d s)) (low 80 (at_x V0 b d t)) * ((1 - frac 80 (at_y V0 b d s) : ℝ) : EReal)
          * ((1 - frac 80 (at_x V0 b d t) : ℝ) : EReal)
        + plane (F V0) b k (high 80 (at_y V0 b d s)) (low 80 (at_x V0 b d t)) * ((frac 80 (at_y V0 b d s) : ℝ) : EReal)
          * ((1 - frac 80 (at_x V0 b d t) : ℝ) : EReal) := by
    pointwise [res_main_v180]
    rw [ll, hl, frac_y, frac_x]
    rfl
  pointwise [res_main_v243]
  rw [two, lh, hh, frac_y, frac_x, ys_at, xs_at]
  exact select_inside 80 _ _ _ _ _ _ c_neg c_80 Ideal.ofBits_zero_f32

/-- The reference's averaged samples. -/
def rois : FVec Ideal S4x25x7x7x256 .f32 :=
  Host.divf (Host.reduceAdd (shapeCast _ (res_main_v243 V0 : FVec Ideal S4x25x14x14x256 .f32) Gen.shapeCasts_S4x25x14x14x256_S4x25x7x2x7x2x256)
      (constant S_ .f32 0x00000000#32) Gen.reducesTo_S4x25x7x2x7x2x256_S4x25x7x7x256_d3_5 Gen.h_S_)
    (broadcastInDim S4x25x7x7x256 ![] Gen.bcast_S_S4x25x7x7x256 (constant S_ .f32 0x40800000#32))

theorem rois_at (i j : Fin 7) (k : Fin 256) : rois V0 (ix5 b d i j k)
    = cell 80 80 (box V0 b d 0) (box V0 b d 1) (box V0 b d 2) (box V0 b d 3) i j (plane (F V0) b k) := by
  pointwise [rois]
  rw [sum_samples]
  refine mean_cell 80 _ _ _ _ _ _ _ _ _ rfl c_4 _ fun p => ?_
  pointwise []
  rw [sampled]
  unfold at_y at_x
  have h0 := p.1.isLt
  have h1 := p.2.isLt
  have e0 : (i.val * 2 + p.1.val) / 2 = i.val := by omega
  have e1 : (i.val * 2 + p.1.val) % 2 = p.1.val := by omega
  have e2 : (j.val * 2 + p.2.val) / 2 = j.val := by omega
  have e3 : (j.val * 2 + p.2.val) % 2 = p.2.val := by omega
  simp only [e0, e1, e2, e3]

/-- The reference's convolved features. -/
def feats : FVec Ideal S4x25x84x7x7 .f32 :=
  addf (transpose S4x25x84x7x7 [1, 2, 0, 3, 4]
      (Host.dotGeneral (φ₁ := .f32) (φ₂ := .f32) dot_S84x256_S4x25x7x7x256_S84x4x25x7x7_1_4_0_0123_n_n none (V0 (Proc.devRef .tc main_arg6)) (rois V0))
      Gen.transposes_S84x4x25x7x7_S4x25x84x7x7_1_2_0_3_4)
    (broadcastInDim S4x25x84x7x7 ![0, 1, 2, 3, 4] Gen.bcast_S1x1x84x1x1_S4x25x84x7x7_0_1_2_3_4
      (broadcastInDim S1x1x84x1x1 ![2] Gen.bcast_S84_S1x1x84x1x1_2
        (shapeCast _ (extractStridedSlice S1x84 ![0, 0] (V0 (Proc.devRef .tc main_arg9) : FVec Ideal S3x84 .f32) Gen.slices_S3x84_S1x84_0_0) Gen.shapeCasts_S1x84_S84)))

theorem feats_at (o : Fin 84) (i j : Fin 7) : feats V0 (ix5 b d o i j)
    = conv (F V0) (box V0) (fun o k => (V0 (Proc.devRef .tc main_arg6) : FVec Ideal S84x256 .f32) (ix2 o k))
        (fun o => (V0 (Proc.devRef .tc main_arg9) : FVec Ideal S3x84 .f32) (ix2 0 o)) b d o i j := by
  pointwise [feats]
  unfold conv
  refine congrArg₂ (· + ·) (Finset.sum_congr rfl fun k _ => ?_) rfl
  rw [rois_at, mul_comm]

end Cert.ReferenceIdeal.Ref0
end
-- ==== Proof.Ref1.lean ====
/-
The reference at its second level: the sampled and averaged features of a box's cell.
-/
module

public import proofs.«01_k».proof.Proof.RefCore
public import proofs.«01_k».proof.Proof.Gen.ReferenceIdeal.Run

@[expose] public section
set_option maxRecDepth 16384
noncomputable section
open Idealize.ShloMosaic Idealize.ShloMosaic.TcCoe Idealize.SL.Sem
namespace Cert.ReferenceIdeal.Ref1
open Cert.ReferenceIdeal Cert.ReferenceIdeal.Value Interp

variable (V0 : Valuation τ sig (Elt Ideal)) (b : Fin 4) (d : Fin 25) (s t : Fin 14)

/-- The features, by image, feature, row and column. -/
def F : Fin 4 → Fin 512 → Fin 40 → Fin 40 → EReal := fun b k y x =>
  (V0 (Proc.devRef .tc main_arg1) : FVec Ideal S4x512x40x40 .f32) (ix4 b k y x)
/-- Coordinate `i` of kept box `d` of image `b`. -/
def box : Fin 4 → Fin 25 → Fin 4 → EReal := fun b d i =>
  (V0 (Proc.devRef .tc main_arg4) : FVec Ideal S4x32x128 .f32) (ix3 b ⟨d, by omega⟩ ⟨i, by omega⟩)

/-! The sample positions. -/
theorem step_y : (res_main_v314 V0 : FVec Ideal S4x25x1x1 .f32) (ix4 b d 0 0) = step (box V0 b d 1) (box V0 b d 3) := by
  pointwise [res_main_v314, res_main_v274, res_main_v294]
  rw [c_7]; rfl
theorem step_x : (res_main_v334 V0 : FVec Ideal S4x25x1x1 .f32) (ix4 b d 0 0) = step (box V0 b d 0) (box V0 b d 2) := by
  pointwise [res_main_v334, res_main_v274, res_main_v292]
  rw [c_7]; rfl
theorem lo_y : (res_main_v294 V0 : FVec Ideal S4x25 .f32) (ix2 b d) = box V0 b d 1 := by
  pointwise [res_main_v294, res_main_v274]
  rfl
theorem lo_x : (res_main_v292 V0 : FVec Ideal S4x25 .f32) (ix2 b d) = box V0 b d 0 := by
  pointwise [res_main_v292, res_main_v274]
  rfl
theorem number (p : Fin 7) : (res_main_v310 V0 : FVec Ideal S7x1 .f32) (ix2 p 0) = (((p.val : ℕ) : ℝ) : EReal) := by
  pointwise [res_main_v310]
  exact sitofp_nat _ (by omega)
theorem sample (g : Fin 2) : (res_main_v312 V0 : FVec Ideal S1x2 .f32) (ix2 0 g) = (((g.val : ℕ) : ℝ) : EReal) := by
  pointwise [res_main_v312]
  exact sitofp_nat _ (by omega)

/-- The sample positions along one axis of a box: two in each of its seven cells. -/
def at_y : EReal := pos (box V0 b d 1) (box V0 b d 3) (s.val / 2) (((s.val % 2 : ℕ) : ℝ) / 2 + 1 / 4)
def at_x : EReal := pos (box V0 b d 0) (box V0 b d 2) (t.val / 2) (((t.val % 2 : ℕ) : ℝ) / 2 + 1 / 4)

theorem ys_at : (res_main_v332 V0 : FVec Ideal S4x25x14 .f32) (ix3 b d s) = at_y V0 b d s := by
  pointwise [res_main_v332]
  rw [step_y, lo_y, number, sample, c_half, c_2]
  exact pos_corner _ _ _ _
theorem xs_at : (res_main_v352 V0 : FVec Ideal S4x25x14 .f32) (ix3 b d t) = at_x V0 b d t := by
  pointwise [res_main_v352]
  rw [step_x, lo_x, number, sample, c_half, c_2]
  exact pos_corner _ _ _ _

/-! The integer positions beside a sample, and how far it lies between them. -/
theorem clip_y : (res_main_v369 V0 : FVec Ideal S4x25x14 .f32) (ix3 b d s) = clip 40 (at_y V0 b d s) := by
  pointwise [res_main_v369]
  rw [ys_at]
  show min (Ideal.ofBits .f32 1109131264#32) (max (Ideal.ofBits .f32 0#32) _) = _
  rw [c_39, show Ideal.ofBits .f32 0#32 = 0 from Ideal.ofBits_zero_f32]; rfl
theorem clip_x : (res_main_v370 V0 : FVec Ideal S4x25x14 .f32) (ix3 b d t) = clip 40 (at_x V0 b d t) := by
  pointwise [res_main_v370]
  rw [xs_at]
  show min (Ideal.ofBits .f32 1109131264#32) (max (Ideal.ofBits .f32 0#32) _) = _
  rw [c_39, show Ideal.ofBits .f32 0#32 = 0 from Ideal.ofBits_zero_f32]; rfl
theorem low_y : (res_main_v373 V0 : IVec S4x25x14 32) (ix3 b d s) = BitVec.ofNat 32 (low 40 (at_y V0 b d s)) := by
  pointwise [res_main_v373, res_main_v371]
  rw [clip_y, low_word (by omega) (by omega)]
theorem low_x : (res_main_v374 V0 : IVec S4x25x14 32) (ix3 b d t) = BitVec.ofNat 32 (low 40 (at_x V0 b d t)) := by
  pointwise [res_main_v374, res_main_v372]
  rw [clip_x, low_word (by omega) (by omega)]
theorem high_y : (res_main_v378 V0 : IVec S4x25x14 32) (ix3 b d s) = BitVec.ofNat 32 (high 40 (at_y V0 b d s)) := by
  pointwise [res_main_v378]
  rw [low_y]
  exact high_word (B := 40) (by omega) (by omega) _
theorem high_x : (res_main_v382 V0 : IVec S4x25x14 32) (ix3 b d t) = BitVec.ofNat 32 (high 40 (at_x V0 b d t)) := by
  pointwise [res_main_v382]
  rw [low_x]
  exact high_word (B := 40) (by omega) (by omega) _
theorem frac_y : (res_main_v384 V0 : FVec Ideal S4x25x14x1x1 .f32) (ix5 b d s 0 0) = ((frac 40 (at_y V0 b d s) : ℝ) : EReal) := by
  pointwise [res_main_v384, res_main_v371]
  rw [clip_y, frac_real (by omega)]
theorem frac_x : (res_main_v386 V0 : FVec Ideal S4x25x1x14x1 .f32) (ix5 b d 0 t 0) = ((frac 40 (at_x V0 b d t) : ℝ) : EReal) := by
  pointwise [res_main_v386, res_main_v372]
  rw [clip_x, frac_real (by omega)]

/-- The index triples of one gather: image, row and column. -/
def triples (y : IVec S4x25x14x1 32) (x : IVec S4x25x1x14 32) : IVec S4x25x14x14x3 32 :=
  concatenate S4x25x14x14x3 4
    [⟨S4x25x14x14x1, broadcastInDim S4x25x14x14x1 ![0, 1, 2, 3] Gen.bcast_S4x25x14x14_S4x25x14x14x1_0_1_2_3
        (broadcastInDim S4x25x14x14 ![0, 1, 2, 3] Gen.bcast_S4x1x1x1_S4x25x14x14_0_1_2_3
          (select (cmpi CmpIPredicate.slt (res_main_v389 V0) (broadcastInDim S4x1x1x1 ![] Gen.bcast_S_S4x1x1x1 (constantI S_ 32 0#32)))
            (addi (res_main_v389 V0) (broadcastInDim S4x1x1x1 ![] Gen.bcast_S_S4x1x1x1 (constantI S_ 32 4#32))) (res_main_v389 V0)))⟩,
      ⟨S4x25x14x14x1, broadcastInDim S4x25x14x14x1 ![0, 1, 2, 3] Gen.bcast_S4x25x14x14_S4x25x14x14x1_0_1_2_3
        (broadcastInDim S4x25x14x14 ![0, 1, 2, 3] Gen.bcast_S4x25x14x1_S4x25x14x14_0_1_2_3
          (select (cmpi CmpIPredicate.slt y (broadcastInDim S4x25x14x1 ![] Gen.bcast_S_S4x25x14x1 (constantI S_ 32 0#32)))
            (addi y (broadcastInDim S4x25x14x1 ![] Gen.bcast_S_S4x25x14x1 (constantI S_ 32 40#32))) y))⟩,
      ⟨S4x25x14x14x1, broadcastInDim S4x25x14x14x1 ![0, 1, 2, 3] Gen.bcast_S4x25x14x14_S4x25x14x14x1_0_1_2_3
        (broadcastInDim S4x25x14x14 ![0, 1, 2, 3] Gen.bcast_S4x25x1x14_S4x25x14x14_0_1_2_3
          (select (cmpi CmpIPredicate.slt x (broadcastInDim S4x25x1x14 ![] Gen.bcast_S_S4x25x1x14 (constantI S_ 32 0#32)))
            (addi x (broadcastInDim S4x25x1x14 ![] Gen.bcast_S_S4x25x1x14 (constantI S_ 32 40#32))) x))⟩]
    Gen.concatenates_S4x25x14x14x1_S4x25x14x14x1_S4x25x14x14x1_S4x25x14x14x3_d4

theorem image_at : (res_main_v389 V0 : IVec S4x1x1x1 32) (ix4 b 0 0 0) = BitVec.ofNat 32 b.val := by
  pointwise [res_main_v389]

/-- One corner of a sample: the gathered feature at the row and column its index words name. -/
theorem corner (y : IVec S4x25x14x1 32) (x : IVec S4x25x1x14 32) (k : Fin 512) (Y X : ℕ) (hY : Y < 40) (hX : X < 40)
    (hy : y (ix4 b d s 0) = BitVec.ofNat 32 Y) (hx : x (ix4 b d 0 t) = BitVec.ofNat 32 X) :
    Host.gather gather_S4x40x40x512_S4x25x14x14x3_S4x25x14x14x512_4_012_n_n_012_4_111512
      (res_main_v387 V0 : FVec Ideal S4x40x40x512 .f32) (triples V0 y x) (ix5 b d s t k) = plane (F V0) b k Y X := by
  refine Eq.trans (gather_at (H := 40) (C := 512) gather_S4x40x40x512_S4x25x14x14x3_S4x25x14x14x512_4_012_n_n_012_4_111512.wf
    (by omega) _ _ b d s t k ⟨Y, hY⟩ ⟨X, hX⟩ ?_ ?_ ?_) ?_
  · pointwise [triples]
    rw [image_at, no_wrap _ (by omega)]
  · pointwise [triples]
    rw [hy, no_wrap _ (by omega)]
  · pointwise [triples]
    rw [hx, no_wrap _ (by omega)]
  · pointwise [res_main_v387]
    unfold plane
    rw [dif_pos ⟨hY, hX⟩]; rfl

/-- A sample, or zero where it is outside the image. -/
theorem sampled (k : Fin 512) : (res_main_v517 V0 : FVec Ideal S4x25x14x14x512 .f32) (ix5 b d s t k)
    = bilinear 40 40 (at_y V0 b d s) (at_x V0 b d t) (plane (F V0) b k) := by
  have hly := low_lt (B := 40) (by omega) (at_y V0 b d s)
  have hhy := high_lt (B := 40) (by omega) (at_y V0 b d s)
  have hlx := low_lt (B := 40) (by omega) (at_x V0 b d t)
  have hhx := high_lt (B := 40) (by omega) (at_x V0 b d t)
  have ll := corner V0 b d s t (res_main_v390 V0) (res_main_v391 V0) k _ _ hly hlx
    (by pointwise [res_main_v390]; exact low_y V0 b d s) (by pointwise [res_main_v391]; exact low_x V0 b d t)
  have hl := corner V0 b d s t (res_main_v423 V0) (res_main_v424 V0) k _ _ hhy hlx
    (by pointwise [res_main_v423]; exact high_y V0 b d s) (by pointwise [res_main_v424]; exact low_x V0 b d t)
  have lh := corner V0 b d s t (res_main_v455 V0) (res_main_v456 V0) k _ _ hly hhx
    (by pointwise [res_main_v455]; exact low_y V0 b d s) (by pointwise [res_main_v456]; exact high_x V0 b d t)
  have hh := corner V0 b d s t (res_main_v487 V0) (res_main_v488 V0) k _ _ hhy hhx
    (by pointwise [res_main_v487]; exact high_y V0 b d s) (by pointwise [res_main_v488]; exact high_x V0 b d t)
  unfold triples at ll hl lh hh
  have two : (res_main_v454 V0 : FVec Ideal S4x25x14x14x512 .f32) (ix5 b d s t k)
      = plane (F V0) b k (low 40 (at_y V0 b d s)) (low 40 (at_x V0 b d t)) * ((1 - frac 40 (at_y V0 b d s) : ℝ) : EReal)
          * ((1 - frac 40 (at_x V0 b d t) : ℝ) : EReal)
        + plane (F V0) b k (high 40 (at_y V0 b d s)) (low 40 (at_x V0 b d t)) * ((frac 40 (at_y V0 b d s) : ℝ) : EReal)
          * ((1 - frac 40 (at_x V0 b d t) : ℝ) : EReal) := by
    pointwise [res_main_v454]
    rw [ll, hl, frac_y, frac_x]
    rfl
  pointwise [res_main_v517]
  rw [two, lh, hh, frac_y, frac_x, ys_at, xs_at]
  exact select_inside 40 _ _ _ _ _ _ c_neg c_40 Ideal.ofBits_zero_f32

/-- The reference's averaged samples. -/
def rois : FVec Ideal S4x25x7x7x512 .f32 :=
  Host.divf (Host.reduceAdd (shapeCast _ (res_main_v517 V0 : FVec Ideal S4x25x14x14x512 .f32) Gen.shapeCasts_S4x25x14x14x512_S4x25x7x2x7x2x512)
      (constant S_ .f32 0x00000000#32) Gen.reducesTo_S4x25x7x2x7x2x512_S4x25x7x7x512_d3_5 Gen.h_S_)
    (broadcastInDim S4x25x7x7x512 ![] Gen.bcast_S_S4x25x7x7x512 (constant S_ .f32 0x40800000#32))

theorem rois_at (i j : Fin 7) (k : Fin 512) : rois V0 (ix5 b d i j k)
    = cell 40 40 (box V0 b d 0) (box V0 b d 1) (box V0 b d 2) (box V0 b d 3) i j (plane (F V0) b k) := by
  pointwise [rois]
  rw [sum_samples]
  refine mean_cell 40 _ _ _ _ _ _ _ _ _ rfl c_4 _ fun p => ?_
  pointwise []
  rw [sampled]
  unfold at_y at_x
  have h0 := p.1.isLt
  have h1 := p.2.isLt
  have e0 : (i.val * 2 + p.1.val) / 2 = i.val := by omega
  have e1 : (i.val * 2 + p.1.val) % 2 = p.1.val := by omega
  have e2 : (j.val * 2 + p.2.val) / 2 = j.val := by omega
  have e3 : (j.val * 2 + p.2.val) % 2 = p.2.val := by omega
  simp only [e0, e1, e2, e3]

/-- The reference's convolved features. -/
def feats : FVec Ideal S4x25x84x7x7 .f32 :=
  addf (transpose S4x25x84x7x7 [1, 2, 0, 3, 4]
      (Host.dotGeneral (φ₁ := .f32) (φ₂ := .f32) dot_S84x512_S4x25x7x7x512_S84x4x25x7x7_1_4_0_0123_n_n none (V0 (Proc.devRef .tc main_arg7)) (rois V0))
      Gen.transposes_S84x4x25x7x7_S4x25x84x7x7_1_2_0_3_4)
    (broadcastInDim S4x25x84x7x7 ![0, 1, 2, 3, 4] Gen.bcast_S1x1x84x1x1_S4x25x84x7x7_0_1_2_3_4
      (broadcastInDim S1x1x84x1x1 ![2] Gen.bcast_S84_S1x1x84x1x1_2
        (shapeCast _ (extractStridedSlice S1x84 ![1, 0] (V0 (Proc.devRef .tc main_arg9) : FVec Ideal S3x84 .f32) Gen.slices_S3x84_S1x84_1_0) Gen.shapeCasts_S1x84_S84)))

theorem feats_at (o : Fin 84) (i j : Fin 7) : feats V0 (ix5 b d o i j)
    = conv (F V0) (box V0) (fun o k => (V0 (Proc.devRef .tc main_arg7) : FVec Ideal S84x512 .f32) (ix2 o k))
        (fun o => (V0 (Proc.devRef .tc main_arg9) : FVec Ideal S3x84 .f32) (ix2 1 o)) b d o i j := by
  pointwise [feats]
  unfold conv
  refine congrArg₂ (· + ·) (Finset.sum_congr rfl fun k _ => ?_) rfl
  rw [rois_at, mul_comm]

end Cert.ReferenceIdeal.Ref1
end
-- ==== Proof.Ref2.lean ====
/-
The reference at its third level: the sampled and averaged features of a box's cell.
-/
module

public import proofs.«01_k».proof.Proof.RefCore
public import proofs.«01_k».proof.Proof.Gen.ReferenceIdeal.Run

@[expose] public section
set_option maxRecDepth 16384
noncomputable section
open Idealize.ShloMosaic Idealize.ShloMosaic.TcCoe Idealize.SL.Sem
namespace Cert.ReferenceIdeal.Ref2
open Cert.ReferenceIdeal Cert.ReferenceIdeal.Value Interp

variable (V0 : Valuation τ sig (Elt Ideal)) (b : Fin 4) (d : Fin 25) (s t : Fin 14)

/-- The features, by image, feature, row and column. -/
def F : Fin 4 → Fin 1024 → Fin 20 → Fin 20 → EReal := fun b k y x =>
  (V0 (Proc.devRef .tc main_arg2) : FVec Ideal S4x1024x20x20 .f32) (ix4 b k y x)
/-- Coordinate `i` of kept box `d` of image `b`. -/
def box : Fin 4 → Fin 25 → Fin 4 → EReal := fun b d i =>
  (V0 (Proc.devRef .tc main_arg5) : FVec Ideal S4x32x128 .f32) (ix3 b ⟨d, by omega⟩ ⟨i, by omega⟩)

/-! The sample positions. -/
theorem step_y : (res_main_v588 V0 : FVec Ideal S4x25x1x1 .f32) (ix4 b d 0 0) = step (box V0 b d 1) (box V0 b d 3) := by
  pointwise [res_main_v588, res_main_v548, res_main_v568]
  rw [c_7]; rfl
theorem step_x : (res_main_v608 V0 : FVec Ideal S4x25x1x1 .f32) (ix4 b d 0 0) = step (box V0 b d 0) (box V0 b d 2) := by
  pointwise [res_main_v608, res_main_v548, res_main_v566]
  rw [c_7]; rfl
theorem lo_y : (res_main_v568 V0 : FVec Ideal S4x25 .f32) (ix2 b d) = box V0 b d 1 := by
  pointwise [res_main_v568, res_main_v548]
  rfl
theorem lo_x : (res_main_v566 V0 : FVec Ideal S4x25 .f32) (ix2 b d) = box V0 b d 0 := by
  pointwise [res_main_v566, res_main_v548]
  rfl
theorem number (p : Fin 7) : (res_main_v584 V0 : FVec Ideal S7x1 .f32) (ix2 p 0) = (((p.val : ℕ) : ℝ) : EReal) := by
  pointwise [res_main_v584]
  exact sitofp_nat _ (by omega)
theorem sample (g : Fin 2) : (res_main_v586 V0 : FVec Ideal S1x2 .f32) (ix2 0 g) = (((g.val : ℕ) : ℝ) : EReal) := by
  pointwise [res_main_v586]
  exact sitofp_nat _ (by omega)

/-- The sample positions along one axis of a box: two in each of its seven cells. -/
def at_y : EReal := pos (box V0 b d 1) (box V0 b d 3) (s.val / 2) (((s.val % 2 : ℕ) : ℝ) / 2 + 1 / 4)
def at_x : EReal := pos (box V0 b d 0) (box V0 b d 2) (t.val / 2) (((t.val % 2 : ℕ) : ℝ) / 2 + 1 / 4)

theorem ys_at : (res_main_v606 V0 : FVec Ideal S4x25x14 .f32) (ix3 b d s) = at_y V0 b d s := by
  pointwise [res_main_v606]
  rw [step_y, lo_y, number, sample, c_half, c_2]
  exact pos_corner _ _ _ _
theorem xs_at : (res_main_v626 V0 : FVec Ideal S4x25x14 .f32) (ix3 b d t) = at_x V0 b d t := by
  pointwise [res_main_v626]
  rw [step_x, lo_x, number, sample, c_half, c_2]
  exact pos_corner _ _ _ _

/-! The integer positions beside a sample, and how far it lies between them. -/
theorem clip_y : (res_main_v643 V0 : FVec Ideal S4x25x14 .f32) (ix3 b d s) = clip 20 (at_y V0 b d s) := by
  pointwise [res_main_v643]
  rw [ys_at]
  show min (Ideal.ofBits .f32 1100480512#32) (max (Ideal.ofBits .f32 0#32) _) = _
  rw [c_19, show Ideal.ofBits .f32 0#32 = 0 from Ideal.ofBits_zero_f32]; rfl
theorem clip_x : (res_main_v644 V0 : FVec Ideal S4x25x14 .f32) (ix3 b d t) = clip 20 (at_x V0 b d t) := by
  pointwise [res_main_v644]
  rw [xs_at]
  show min (Ideal.ofBits .f32 1100480512#32) (max (Ideal.ofBits .f32 0#32) _) = _
  rw [c_19, show Ideal.ofBits .f32 0#32 = 0 from Ideal.ofBits_zero_f32]; rfl
theorem low_y : (res_main_v647 V0 : IVec S4x25x14 32) (ix3 b d s) = BitVec.ofNat 32 (low 20 (at_y V0 b d s)) := by
  pointwise [res_main_v647, res_main_v645]
  rw [clip_y, low_word (by omega) (by omega)]
theorem low_x : (res_main_v648 V0 : IVec S4x25x14 32) (ix3 b d t) = BitVec.ofNat 32 (low 20 (at_x V0 b d t)) := by
  pointwise [res_main_v648, res_main_v646]
  rw [clip_x, low_word (by omega) (by omega)]
theorem high_y : (res_main_v652 V0 : IVec S4x25x14 32) (ix3 b d s) = BitVec.ofNat 32 (high 20 (at_y V0 b d s)) := by
  pointwise [res_main_v652]
  rw [low_y]
  exact high_word (B := 20) (by omega) (by omega) _
theorem high_x : (res_main_v656 V0 : IVec S4x25x14 32) (ix3 b d t) = BitVec.ofNat 32 (high 20 (at_x V0 b d t)) := by
  pointwise [res_main_v656]
  rw [low_x]
  exact high_word (B := 20) (by omega) (by omega) _
theorem frac_y : (res_main_v658 V0 : FVec Ideal S4x25x14x1x1 .f32) (ix5 b d s 0 0) = ((frac 20 (at_y V0 b d s) : ℝ) : EReal) := by
  pointwise [res_main_v658, res_main_v645]
  rw [clip_y, frac_real (by omega)]
theorem frac_x : (res_main_v660 V0 : FVec Ideal S4x25x1x14x1 .f32) (ix5 b d 0 t 0) = ((frac 20 (at_x V0 b d t) : ℝ) : EReal) := by
  pointwise [res_main_v660, res_main_v646]
  rw [clip_x, frac_real (by omega)]

/-- The index triples of one gather: image, row and column. -/
def triples (y : IVec S4x25x14x1 32) (x : IVec S4x25x1x14 32) : IVec S4x25x14x14x3 32 :=
  concatenate S4x25x14x14x3 4
    [⟨S4x25x14x14x1, broadcastInDim S4x25x14x14x1 ![0, 1, 2, 3] Gen.bcast_S4x25x14x14_S4x25x14x14x1_0_1_2_3
        (broadcastInDim S4x25x14x14 ![0, 1, 2, 3] Gen.bcast_S4x1x1x1_S4x25x14x14_0_1_2_3
          (select (cmpi CmpIPredicate.slt (res_main_v663 V0) (broadcastInDim S4x1x1x1 ![] Gen.bcast_S_S4x1x1x1 (constantI S_ 32 0#32)))
            (addi (res_main_v663 V0) (broadcastInDim S4x1x1x1 ![] Gen.bcast_S_S4x1x1x1 (constantI S_ 32 4#32))) (res_main_v663 V0)))⟩,
      ⟨S4x25x14x14x1, broadcastInDim S4x25x14x14x1 ![0, 1, 2, 3] Gen.bcast_S4x25x14x14_S4x25x14x14x1_0_1_2_3
        (broadcastInDim S4x25x14x14 ![0, 1, 2, 3] Gen.bcast_S4x25x14x1_S4x25x14x14_0_1_2_3
          (select (cmpi CmpIPredicate.slt y (broadcastInDim S4x25x14x1 ![] Gen.bcast_S_S4x25x14x1 (constantI S_ 32 0#32)))
            (addi y (broadcastInDim S4x25x14x1 ![] Gen.bcast_S_S4x25x14x1 (constantI S_ 32 20#32))) y))⟩,
      ⟨S4x25x14x14x1, broadcastInDim S4x25x14x14x1 ![0, 1, 2, 3] Gen.bcast_S4x25x14x14_S4x25x14x14x1_0_1_2_3
        (broadcastInDim S4x25x14x14 ![0, 1, 2, 3] Gen.bcast_S4x25x1x14_S4x25x14x14_0_1_2_3
          (select (cmpi CmpIPredicate.slt x (broadcastInDim S4x25x1x14 ![] Gen.bcast_S_S4x25x1x14 (constantI S_ 32 0#32)))
            (addi x (broadcastInDim S4x25x1x14 ![] Gen.bcast_S_S4x25x1x14 (constantI S_ 32 20#32))) x))⟩]
    Gen.concatenates_S4x25x14x14x1_S4x25x14x14x1_S4x25x14x14x1_S4x25x14x14x3_d4

theorem image_at : (res_main_v663 V0 : IVec S4x1x1x1 32) (ix4 b 0 0 0) = BitVec.ofNat 32 b.val := by
  pointwise [res_main_v663]

/-- One corner of a sample: the gathered feature at the row and column its index words name. -/
theorem corner (y : IVec S4x25x14x1 32) (x : IVec S4x25x1x14 32) (k : Fin 1024) (Y X : ℕ) (hY : Y < 20) (hX : X < 20)
    (hy : y (ix4 b d s 0) = BitVec.ofNat 32 Y) (hx : x (ix4 b d 0 t) = BitVec.ofNat 32 X) :
    Host.gather gather_S4x20x20x1024_S4x25x14x14x3_S4x25x14x14x1024_4_012_n_n_012_4_1111024
      (res_main_v661 V0 : FVec Ideal S4x20x20x1024 .f32) (triples V0 y x) (ix5 b d s t k) = plane (F V0) b k Y X := by
  refine Eq.trans (gather_at (H := 20) (C := 1024) gather_S4x20x20x1024_S4x25x14x14x3_S4x25x14x14x1024_4_012_n_n_012_4_1111024.wf
    (by omega) _ _ b d s t k ⟨Y, hY⟩ ⟨X, hX⟩ ?_ ?_ ?_) ?_
  · pointwise [triples]
    rw [image_at, no_wrap _ (by omega)]
  · pointwise [triples]
    rw [hy, no_wrap _ (by omega)]
  · pointwise [triples]
    rw [hx, no_wrap _ (by omega)]
  · pointwise [res_main_v661]
    unfold plane
    rw [dif_pos ⟨hY, hX⟩]; rfl

/-- A sample, or zero where it is outside the image. -/
theorem sampled (k : Fin 1024) : (res_main_v791 V0 : FVec Ideal S4x25x14x14x1024 .f32) (ix5 b d s t k)
    = bilinear 20 20 (at_y V0 b d s) (at_x V0 b d t) (plane (F V0) b k) := by
  have hly := low_lt (B := 20) (by omega) (at_y V0 b d s)
  have hhy := high_lt (B := 20) (by omega) (at_y V0 b d s)
  have hlx := low_lt (B := 20) (by omega) (at_x V0 b d t)
  have hhx := high_lt (B := 20) (by omega) (at_x V0 b d t)
  have ll := corner V0 b d s t (res_main_v664 V0) (res_main_v665 V0) k _ _ hly hlx
    (by pointwise [res_main_v664]; exact low_y V0 b d s) (by pointwise [res_main_v665]; exact low_x V0 b d t)
  have hl := corner V0 b d s t (res_main_v697 V0) (res_main_v698 V0) k _ _ hhy hlx
    (by pointwise [res_main_v697]; exact high_y V0 b d s) (by pointwise [res_main_v698]; exact low_x V0 b d t)
  have lh := corner V0 b d s t (res_main_v729 V0) (res_main_v730 V0) k _ _ hly hhx
    (by pointwise [res_main_v729]; exact low_y V0 b d s) (by pointwise [res_main_v730]; exact high_x V0 b d t)
  have hh := corner V0 b d s t (res_main_v761 V0) (res_main_v762 V0) k _ _ hhy hhx
    (by pointwise [res_main_v761]; exact high_y V0 b d s) (by pointwise [res_main_v762]; exact high_x V0 b d t)
  unfold triples at ll hl lh hh
  have two : (res_main_v728 V0 : FVec Ideal S4x25x14x14x1024 .f32) (ix5 b d s t k)
      = plane (F V0) b k (low 20 (at_y V0 b d s)) (low 20 (at_x V0 b d t)) * ((1 - frac 20 (at_y V0 b d s) : ℝ) : EReal)
          * ((1 - frac 20 (at_x V0 b d t) : ℝ) : EReal)
        + plane (F V0) b k (high 20 (at_y V0 b d s)) (low 20 (at_x V0 b d t)) * ((frac 20 (at_y V0 b d s) : ℝ) : EReal)
          * ((1 - frac 20 (at_x V0 b d t) : ℝ) : EReal) := by
    pointwise [res_main_v728]
    rw [ll, hl, frac_y, frac_x]
    rfl
  pointwise [res_main_v791]
  rw [two, lh, hh, frac_y, frac_x, ys_at, xs_at]
  exact select_inside 20 _ _ _ _ _ _ c_neg c_20 Ideal.ofBits_zero_f32

/-- The reference's averaged samples. -/
def rois : FVec Ideal S4x25x7x7x1024 .f32 :=
  Host.divf (Host.reduceAdd (shapeCast _ (res_main_v791 V0 : FVec Ideal S4x25x14x14x1024 .f32) Gen.shapeCasts_S4x25x14x14x1024_S4x25x7x2x7x2x1024)
      (constant S_ .f32 0x00000000#32) Gen.reducesTo_S4x25x7x2x7x2x1024_S4x25x7x7x1024_d3_5 Gen.h_S_)
    (broadcastInDim S4x25x7x7x1024 ![] Gen.bcast_S_S4x25x7x7x1024 (constant S_ .f32 0x40800000#32))

theorem rois_at (i j : Fin 7) (k : Fin 1024) : rois V0 (ix5 b d i j k)
    = cell 20 20 (box V0 b d 0) (box V0 b d 1) (box V0 b d 2) (box V0 b d 3) i j (plane (F V0) b k) := by
  pointwise [rois]
  rw [sum_samples]
  refine mean_cell 20 _ _ _ _ _ _ _ _ _ rfl c_4 _ fun p => ?_
  pointwise []
  rw [sampled]
  unfold at_y at_x
  have h0 := p.1.isLt
  have h1 := p.2.isLt
  have e0 : (i.val * 2 + p.1.val) / 2 = i.val := by omega
  have e1 : (i.val * 2 + p.1.val) % 2 = p.1.val := by omega
  have e2 : (j.val * 2 + p.2.val) / 2 = j.val := by omega
  have e3 : (j.val * 2 + p.2.val) % 2 = p.2.val := by omega
  simp only [e0, e1, e2, e3]

/-- The reference's convolved features. -/
def feats : FVec Ideal S4x25x84x7x7 .f32 :=
  addf (transpose S4x25x84x7x7 [1, 2, 0, 3, 4]
      (Host.dotGeneral (φ₁ := .f32) (φ₂ := .f32) dot_S84x1024_S4x25x7x7x1024_S84x4x25x7x7_1_4_0_0123_n_n none (V0 (Proc.devRef .tc main_arg8)) (rois V0))
      Gen.transposes_S84x4x25x7x7_S4x25x84x7x7_1_2_0_3_4)
    (broadcastInDim S4x25x84x7x7 ![0, 1, 2, 3, 4] Gen.bcast_S1x1x84x1x1_S4x25x84x7x7_0_1_2_3_4
      (broadcastInDim S1x1x84x1x1 ![2] Gen.bcast_S84_S1x1x84x1x1_2
        (shapeCast _ (extractStridedSlice S1x84 ![2, 0] (V0 (Proc.devRef .tc main_arg9) : FVec Ideal S3x84 .f32) Gen.slices_S3x84_S1x84_2_0) Gen.shapeCasts_S1x84_S84)))

theorem feats_at (o : Fin 84) (i j : Fin 7) : feats V0 (ix5 b d o i j)
    = conv (F V0) (box V0) (fun o k => (V0 (Proc.devRef .tc main_arg8) : FVec Ideal S84x1024 .f32) (ix2 o k))
        (fun o => (V0 (Proc.devRef .tc main_arg9) : FVec Ideal S3x84 .f32) (ix2 2 o)) b d o i j := by
  pointwise [feats]
  unfold conv
  refine congrArg₂ (· + ·) (Finset.sum_congr rfl fun k _ => ?_) rfl
  rw [rois_at, mul_comm]

end Cert.ReferenceIdeal.Ref2
end
-- ==== Proof.RefHead.lean ====
/-
The reference's three dense layers on one level's pooled features.
-/
module

public import proofs.«01_k».proof.Proof.Spec
public import proofs.«01_k».proof.Proof.RoiCore
public import proofs.«01_k».proof.Proof.Gen.ReferenceIdeal.Run

@[expose] public section
set_option maxRecDepth 16384
noncomputable section
open Idealize.ShloMosaic Idealize.ShloMosaic.TcCoe Idealize.SL.Sem
namespace Cert.ReferenceIdeal.Head
open Cert.ReferenceIdeal Cert.ReferenceIdeal.Value Interp

/-- The number a result holds where there is no box is zero. -/
theorem fill : FloatOps.sitofp (F := Ideal) .f32 0#32 = (0 : EReal) := by
  show (((0#32 : BitVec 32).toInt : ℝ) : EReal) = 0
  simp

variable (V0 : Valuation τ sig (Elt Ideal)) (l : Fin 3)

/-- One level's slice of each stack of weights and biases. -/
structure Slices : Prop where
  w1 : S3x100x4116.Slices ![l.val, 0, 0] S1x100x4116
  b1 : S3x100.Slices ![l.val, 0] S1x100
  w2 : S3x100x100.Slices ![l.val, 0, 0] S1x100x100
  w3 : S3x1x100.Slices ![l.val, 0, 0] S1x1x100
  b3 : S3x1.Slices ![l.val, 0] S1x1

variable (hs : Slices l)

def w1 : FVec Ideal S4116x100 .f32 := transpose S4116x100 [1, 0] (shapeCast _ (extractStridedSlice S1x100x4116 ![l.val, 0, 0]
  (V0 (Proc.devRef .tc main_arg10)) hs.w1) Gen.shapeCasts_S1x100x4116_S100x4116) Gen.transposes_S100x4116_S4116x100_1_0
def w2 : FVec Ideal S100x100 .f32 := transpose S100x100 [1, 0] (shapeCast _ (extractStridedSlice S1x100x100 ![l.val, 0, 0]
  (V0 (Proc.devRef .tc main_arg12)) hs.w2) Gen.shapeCasts_S1x100x100_S100x100) Gen.transposes_S100x100_S100x100_1_0
def w3 : FVec Ideal S100x1 .f32 := transpose S100x1 [1, 0] (shapeCast _ (extractStridedSlice S1x1x100 ![l.val, 0, 0]
  (V0 (Proc.devRef .tc main_arg14)) hs.w3) Gen.shapeCasts_S1x1x100_S1x100) Gen.transposes_S1x100_S100x1_1_0
/-- The bias of a hidden layer, one of two stacks of them. -/
def bias (x : FVec Ideal S3x100 .f32) : FVec Ideal S4x25x100 .f32 :=
  broadcastInDim S4x25x100 ![0, 1, 2] Gen.bcast_S1x1x100_S4x25x100_0_1_2 (broadcastInDim S1x1x100 ![2] Gen.bcast_S100_S1x1x100_2
    (shapeCast _ (extractStridedSlice S1x100 ![l.val, 0] x hs.b1) Gen.shapeCasts_S1x100_S100))
def b3 : FVec Ideal S4x25x1 .f32 :=
  broadcastInDim S4x25x1 ![0, 1, 2] Gen.bcast_S1x1x1_S4x25x1_0_1_2 (broadcastInDim S1x1x1 ![2] Gen.bcast_S1_S1x1x1_2
    (shapeCast _ (extractStridedSlice S1x1 ![l.val, 0] (V0 (Proc.devRef .tc main_arg15)) hs.b3) Gen.shapeCasts_S1x1_S1))
def zeros : FVec Ideal S4x25x100 .f32 := broadcastInDim S4x25x100 ![] Gen.bcast_S_S4x25x100 (constant S_ .f32 0x00000000#32)

/-- The pooled features as one row for each box. -/
def rows (g : FVec Ideal S4x25x84x7x7 .f32) : FVec Ideal S4x25x4116 .f32 := shapeCast _ g Gen.shapeCasts_S4x25x84x7x7_S4x25x4116
/-- The first hidden layer. -/
def h1 (g : FVec Ideal S4x25x84x7x7 .f32) : FVec Ideal S4x25x100 .f32 :=
  maximumf (addf (Host.dotGeneral dot_S4x25x4116_S4116x100_S4x25x100_2_0_01_1_n_n none (rows g) (w1 V0 l hs))
    (bias l hs (V0 (Proc.devRef .tc main_arg11)))) zeros
/-- The second hidden layer. -/
def h2 (g : FVec Ideal S4x25x84x7x7 .f32) : FVec Ideal S4x25x100 .f32 :=
  maximumf (addf (Host.dotGeneral dot_S4x25x100_S100x100_S4x25x100_2_0_01_1_n_n none (h1 V0 l hs g) (w2 V0 l hs))
    (bias l hs (V0 (Proc.devRef .tc main_arg13)))) zeros
/-- Which kept boxes are valid. -/
def valid (T : FVec Ideal S4x32x128 .f32) : FVec Ideal S4x25x1 .f32 :=
  broadcastInDim S4x25x1 ![0, 1] Gen.bcast_S4x25_S4x25x1_0_1
    (shapeCast _ (extractStridedSlice S4x25x1 ![0, 0, 4] T Gen.slices_S4x32x128_S4x25x1_0_0_4) Gen.shapeCasts_S4x25x1_S4x25)
/-- The scores of one level's kept boxes, zeros after them. -/
def scores (g : FVec Ideal S4x25x84x7x7 .f32) (T : FVec Ideal S4x32x128 .f32) : FVec Ideal S1x4x85x1 .f32 :=
  broadcastInDim S1x4x85x1 ![1, 2, 3] Gen.bcast_S4x85x1_S1x4x85x1_1_2_3 (pad S4x85x1 ![0, 0, 0] ![0, 60, 0] ![0, 0, 0]
    (mulf (addf (Host.dotGeneral dot_S4x25x100_S100x1_S4x25x1_2_0_01_1_n_n none (h2 V0 l hs g) (w3 V0 l hs)) (b3 V0 l hs)) (valid T))
    (sitofp .f32 (constantI S_ 32 0#32)) Gen.pads_S4x25x1_S4x85x1_000_0600_000 Gen.h_S_)

variable (b : Fin 4) (d : Fin 25) (g : FVec Ideal S4x25x84x7x7 .f32) (T : FVec Ideal S4x32x128 .f32)

theorem w1_at (q : Fin 4116) (r : Fin 100) : w1 V0 l hs (ix2 q r) = (V0 (Proc.devRef .tc main_arg10) : FVec Ideal S3x100x4116 .f32) (ix3 l r q) := by
  pointwise [w1]
theorem w2_at (q r : Fin 100) : w2 V0 l hs (ix2 q r) = (V0 (Proc.devRef .tc main_arg12) : FVec Ideal S3x100x100 .f32) (ix3 l r q) := by
  pointwise [w2]
theorem w3_at (q : Fin 100) : w3 V0 l hs (ix2 q 0) = (V0 (Proc.devRef .tc main_arg14) : FVec Ideal S3x1x100 .f32) (ix3 l 0 q) := by
  pointwise [w3]
theorem bias_at (x : FVec Ideal S3x100 .f32) (r : Fin 100) : bias l hs x (ix3 b d r) = x (ix2 l r) := by
  pointwise [bias]
theorem b3_at : b3 V0 l hs (ix3 b d 0) = (V0 (Proc.devRef .tc main_arg15) : FVec Ideal S3x1 .f32) (ix2 l 0) := by
  pointwise [b3]
theorem rows_at (q : Fin 4116) : rows g (ix3 b d q) = g (ix5 b d ⟨q.val / 49, by omega⟩ ⟨q.val / 7 % 7, by omega⟩ ⟨q.val % 7, by omega⟩) := by
  pointwise [rows]
theorem valid_at : valid T (ix3 b d 0) = T (ix3 b ⟨d, by omega⟩ 4) := by
  pointwise [valid]

theorem h1_at (G : Fin 84 → ℕ → ℕ → EReal) (hg : ∀ (o : Fin 84) (i j : Fin 7), g (ix5 b d o i j) = G o i j) (r : Fin 100) :
    h1 V0 l hs g (ix3 b d r) = max ((∑ q, flat G q * (V0 (Proc.devRef .tc main_arg10) : FVec Ideal S3x100x4116 .f32) (ix3 l r q))
      + (V0 (Proc.devRef .tc main_arg11) : FVec Ideal S3x100 .f32) (ix2 l r)) 0 := by
  pointwise [h1, zeros]
  rw [bias_at]
  refine congrArg (fun z => max (z + _) 0) (Finset.sum_congr rfl fun q _ => ?_)
  rw [rows_at, w1_at, hg]
  rfl

theorem h2_at (r : Fin 100) : h2 V0 l hs g (ix3 b d r)
    = max ((∑ q, h1 V0 l hs g (ix3 b d q) * (V0 (Proc.devRef .tc main_arg12) : FVec Ideal S3x100x100 .f32) (ix3 l r q))
      + (V0 (Proc.devRef .tc main_arg13) : FVec Ideal S3x100 .f32) (ix2 l r)) 0 := by
  pointwise [h2, zeros]
  rw [bias_at]
  refine congrArg (fun z => max (z + _) 0) (Finset.sum_congr rfl fun q _ => ?_)
  rw [w2_at]

/-- The scores at an index, from the pooled features `G` of the box there. -/
theorem scores_at (d : Fin 85) (G : Fin 25 → Fin 84 → ℕ → ℕ → EReal)
    (hg : ∀ (d : Fin 25) (o : Fin 84) (i j : Fin 7), g (ix5 b d o i j) = G d o i j) : scores V0 l hs g T (ix4 0 b d 0)
    = if h : d.val < 25 then score (flat (G ⟨d, h⟩))
        (fun r q => (V0 (Proc.devRef .tc main_arg10) : FVec Ideal S3x100x4116 .f32) (ix3 l r q))
        (fun r => (V0 (Proc.devRef .tc main_arg11) : FVec Ideal S3x100 .f32) (ix2 l r))
        (fun r q => (V0 (Proc.devRef .tc main_arg12) : FVec Ideal S3x100x100 .f32) (ix3 l r q))
        (fun r => (V0 (Proc.devRef .tc main_arg13) : FVec Ideal S3x100 .f32) (ix2 l r))
        (fun q => (V0 (Proc.devRef .tc main_arg14) : FVec Ideal S3x1x100 .f32) (ix3 l 0 q))
        ((V0 (Proc.devRef .tc main_arg15) : FVec Ideal S3x1 .f32) (ix2 l 0)) (T (ix3 b ⟨d, by omega⟩ 4))
      else (0 : EReal) := by
  pointwise [scores]
  split
  next h =>
    rw [b3_at, valid_at]
    unfold score
    refine congrArg (fun z => (z + _) * _) (Finset.sum_congr rfl fun q _ => ?_)
    rw [w3_at, h2_at]
    simp only [h1_at V0 l hs b ⟨d, h⟩ g (G ⟨d, h⟩) (hg ⟨d, h⟩)]
  next h => exact fill

end Cert.ReferenceIdeal.Head
end
-- ==== Proof.RefValue.lean ====
/-
The reference's result at an index, in the same terms as the kernel's.
-/
module

public import proofs.«01_k».proof.Proof.Ref0
public import proofs.«01_k».proof.Proof.Ref1
public import proofs.«01_k».proof.Proof.Ref2
public import proofs.«01_k».proof.Proof.RefHead

@[expose] public section
set_option maxRecDepth 16384
noncomputable section
open Idealize.ShloMosaic Idealize.ShloMosaic.TcCoe Idealize.SL.Sem
namespace Cert.ReferenceIdeal.RefValue
open Cert.ReferenceIdeal Cert.ReferenceIdeal.Value Interp

variable (V0 : Valuation τ sig (Elt Ideal))

/-! The stacks of weights hold one slice for each level. -/
theorem slices0 : Head.Slices 0 := ⟨by decide, by decide, by decide, by decide, by decide⟩
theorem slices1 : Head.Slices 1 := ⟨by decide, by decide, by decide, by decide, by decide⟩
theorem slices2 : Head.Slices 2 := ⟨by decide, by decide, by decide, by decide, by decide⟩

/-- The validity column's table at each level. -/
def tab : Fin 3 → FVec Ideal S4x32x128 .f32
  | 0 => V0 (Proc.devRef .tc main_arg3)
  | 1 => V0 (Proc.devRef .tc main_arg4)
  | 2 => V0 (Proc.devRef .tc main_arg5)

/-- The convolved features of the kept boxes, level by level. -/
def feats : Fin 3 → Fin 4 → Fin 25 → Fin 84 → ℕ → ℕ → EReal
  | 0 => conv (Ref0.F V0) (Ref0.box V0) (fun o k => (V0 (Proc.devRef .tc main_arg6) : FVec Ideal S84x256 .f32) (ix2 o k))
      (fun o => (V0 (Proc.devRef .tc main_arg9) : FVec Ideal S3x84 .f32) (ix2 0 o))
  | 1 => conv (Ref1.F V0) (Ref1.box V0) (fun o k => (V0 (Proc.devRef .tc main_arg7) : FVec Ideal S84x512 .f32) (ix2 o k))
      (fun o => (V0 (Proc.devRef .tc main_arg9) : FVec Ideal S3x84 .f32) (ix2 1 o))
  | 2 => conv (Ref2.F V0) (Ref2.box V0) (fun o k => (V0 (Proc.devRef .tc main_arg8) : FVec Ideal S84x1024 .f32) (ix2 o k))
      (fun o => (V0 (Proc.devRef .tc main_arg9) : FVec Ideal S3x84 .f32) (ix2 2 o))

/-- The score of kept box `d` of image `b` at level `l`. -/
def value (l : Fin 3) (b : Fin 4) (d : Fin 25) : EReal :=
  score (flat (feats V0 l b d))
    (fun r q => (V0 (Proc.devRef .tc main_arg10) : FVec Ideal S3x100x4116 .f32) (ix3 l r q))
    (fun r => (V0 (Proc.devRef .tc main_arg11) : FVec Ideal S3x100 .f32) (ix2 l r))
    (fun r q => (V0 (Proc.devRef .tc main_arg12) : FVec Ideal S3x100x100 .f32) (ix3 l r q))
    (fun r => (V0 (Proc.devRef .tc main_arg13) : FVec Ideal S3x100 .f32) (ix2 l r))
    (fun q => (V0 (Proc.devRef .tc main_arg14) : FVec Ideal S3x1x100 .f32) (ix3 l 0 q))
    ((V0 (Proc.devRef .tc main_arg15) : FVec Ideal S3x1 .f32) (ix2 l 0)) (tab V0 l (ix3 b ⟨d, by omega⟩ 4))

/-- Three levels' scores, one after the other. -/
def stack (x y z : FVec Ideal S1x4x85x1 .f32) : FVec Ideal S3x4x85x1 .f32 :=
  concatenate S3x4x85x1 0 [⟨S1x4x85x1, x⟩, ⟨S1x4x85x1, y⟩, ⟨S1x4x85x1, z⟩] Gen.concatenates_S1x4x85x1_S1x4x85x1_S1x4x85x1_S3x4x85x1_d0

theorem stack_at0 (x y z : FVec Ideal S1x4x85x1 .f32) (b : Fin 4) (d : Fin 85) : stack x y z (ix4 0 b d 0) = x (ix4 0 b d 0) := by
  pointwise [stack]
theorem stack_at1 (x y z : FVec Ideal S1x4x85x1 .f32) (b : Fin 4) (d : Fin 85) : stack x y z (ix4 1 b d 0) = y (ix4 0 b d 0) := by
  pointwise [stack]
theorem stack_at2 (x y z : FVec Ideal S1x4x85x1 .f32) (b : Fin 4) (d : Fin 85) : stack x y z (ix4 2 b d 0) = z (ix4 0 b d 0) := by
  pointwise [stack]

theorem result : res_main_v825 V0 = stack (Head.scores V0 0 slices0 (Ref0.feats V0) (V0 (Proc.devRef .tc main_arg3)))
    (Head.scores V0 1 slices1 (Ref1.feats V0) (V0 (Proc.devRef .tc main_arg4)))
    (Head.scores V0 2 slices2 (Ref2.feats V0) (V0 (Proc.devRef .tc main_arg5))) := rfl

/-- The reference's result. -/
theorem result_at (l : Fin 3) (b : Fin 4) (d : Fin 85) : (res_main_v825 V0 : FVec Ideal S3x4x85x1 .f32) (ix4 l b d 0)
    = if h : d.val < 25 then value V0 l b ⟨d, h⟩ else (0 : EReal) := by
  rw [result]
  match l with
  | 0 =>
    refine (stack_at0 _ _ _ b d).trans ?_
    exact Head.scores_at V0 0 slices0 b _ _ d (feats V0 0 b) fun d o i j => Ref0.feats_at V0 b d o i j
  | 1 =>
    refine (stack_at1 _ _ _ b d).trans ?_
    exact Head.scores_at V0 1 slices1 b _ _ d (feats V0 1 b) fun d o i j => Ref1.feats_at V0 b d o i j
  | 2 =>
    refine (stack_at2 _ _ _ b d).trans ?_
    exact Head.scores_at V0 2 slices2 b _ _ d (feats V0 2 b) fun d o i j => Ref2.feats_at V0 b d o i j

end Cert.ReferenceIdeal.RefValue
end
-- ==== Proof.Agree.lean ====
/-
From equal arguments the two programs end with equal results.
-/
module

public import proofs.«01_k».proof.Proof.KValue
public import proofs.«01_k».proof.Proof.RefValue

@[expose] public section
set_option maxRecDepth 16384
noncomputable section
open Idealize.ShloMosaic Idealize.ShloMosaic.TcCoe Idealize.SL.Sem
namespace Cert.Agree
open Interp

variable (m : (ℓ : Loc Cert.KernelIdeal.nD Cert.KernelIdeal.τ Cert.KernelIdeal.sig) → Buf (Elt Ideal) ℓ)
  (V0 : Valuation Cert.ReferenceIdeal.τ Cert.ReferenceIdeal.sig (Elt Ideal)) (c : Dev Cert.KernelIdeal.nD)

/-- The reference's argument arrays are the kernel's. -/
structure Same : Prop where
  a0 : V0 (Proc.devRef .tc Cert.ReferenceIdeal.main_arg0) = m ((c.tc : Thread Cert.KernelIdeal.nD Cert.KernelIdeal.τ).loc Cert.KernelIdeal.main_arg0)
  a1 : V0 (Proc.devRef .tc Cert.ReferenceIdeal.main_arg1) = m ((c.tc : Thread Cert.KernelIdeal.nD Cert.KernelIdeal.τ).loc Cert.KernelIdeal.main_arg1)
  a2 : V0 (Proc.devRef .tc Cert.ReferenceIdeal.main_arg2) = m ((c.tc : Thread Cert.KernelIdeal.nD Cert.KernelIdeal.τ).loc Cert.KernelIdeal.main_arg2)
  a3 : V0 (Proc.devRef .tc Cert.ReferenceIdeal.main_arg3) = m ((c.tc : Thread Cert.KernelIdeal.nD Cert.KernelIdeal.τ).loc Cert.KernelIdeal.main_arg3)
  a4 : V0 (Proc.devRef .tc Cert.ReferenceIdeal.main_arg4) = m ((c.tc : Thread Cert.KernelIdeal.nD Cert.KernelIdeal.τ).loc Cert.KernelIdeal.main_arg4)
  a5 : V0 (Proc.devRef .tc Cert.ReferenceIdeal.main_arg5) = m ((c.tc : Thread Cert.KernelIdeal.nD Cert.KernelIdeal.τ).loc Cert.KernelIdeal.main_arg5)
  a6 : V0 (Proc.devRef .tc Cert.ReferenceIdeal.main_arg6) = m ((c.tc : Thread Cert.KernelIdeal.nD Cert.KernelIdeal.τ).loc Cert.KernelIdeal.main_arg6)
  a7 : V0 (Proc.devRef .tc Cert.ReferenceIdeal.main_arg7) = m ((c.tc : Thread Cert.KernelIdeal.nD Cert.KernelIdeal.τ).loc Cert.KernelIdeal.main_arg7)
  a8 : V0 (Proc.devRef .tc Cert.ReferenceIdeal.main_arg8) = m ((c.tc : Thread Cert.KernelIdeal.nD Cert.KernelIdeal.τ).loc Cert.KernelIdeal.main_arg8)
  a9 : V0 (Proc.devRef .tc Cert.ReferenceIdeal.main_arg9) = m ((c.tc : Thread Cert.KernelIdeal.nD Cert.KernelIdeal.τ).loc Cert.KernelIdeal.main_arg9)
  a10 : V0 (Proc.devRef .tc Cert.ReferenceIdeal.main_arg10) = m ((c.tc : Thread Cert.KernelIdeal.nD Cert.KernelIdeal.τ).loc Cert.KernelIdeal.main_arg10)
  a11 : V0 (Proc.devRef .tc Cert.ReferenceIdeal.main_arg11) = m ((c.tc : Thread Cert.KernelIdeal.nD Cert.KernelIdeal.τ).loc Cert.KernelIdeal.main_arg11)
  a12 : V0 (Proc.devRef .tc Cert.ReferenceIdeal.main_arg12) = m ((c.tc : Thread Cert.KernelIdeal.nD Cert.KernelIdeal.τ).loc Cert.KernelIdeal.main_arg12)
  a13 : V0 (Proc.devRef .tc Cert.ReferenceIdeal.main_arg13) = m ((c.tc : Thread Cert.KernelIdeal.nD Cert.KernelIdeal.τ).loc Cert.KernelIdeal.main_arg13)
  a14 : V0 (Proc.devRef .tc Cert.ReferenceIdeal.main_arg14) = m ((c.tc : Thread Cert.KernelIdeal.nD Cert.KernelIdeal.τ).loc Cert.KernelIdeal.main_arg14)
  a15 : V0 (Proc.devRef .tc Cert.ReferenceIdeal.main_arg15) = m ((c.tc : Thread Cert.KernelIdeal.nD Cert.KernelIdeal.τ).loc Cert.KernelIdeal.main_arg15)

variable {m V0 c} (h : Same m V0 c)
include h

theorem tab_eq (l : Fin 3) : Cert.ReferenceIdeal.RefValue.tab V0 l = Cert.KernelIdeal.KValue.tab m c l :=
  match l with
  | 0 => h.a3
  | 1 => h.a4
  | 2 => h.a5

theorem feats_eq (l : Fin 3) (b : Fin 4) (d : Fin 25) :
    Cert.ReferenceIdeal.RefValue.feats V0 l b d = Cert.KernelIdeal.KValue.feats m c l b d := by
  match l with
  | 0 =>
    have e : Cert.ReferenceIdeal.Ref0.F V0 = Cert.KernelIdeal.KValue.F0 m c := by
      funext b k y x; exact congrFun h.a0 _
    have eb : Cert.ReferenceIdeal.Ref0.box V0 = Cert.KernelIdeal.KValue.box m c 0 := by
      funext b d i; exact congrFun h.a3 _
    unfold Cert.ReferenceIdeal.RefValue.feats Cert.KernelIdeal.KValue.feats
    rw [e, eb, h.a6, h.a9]; rfl
  | 1 =>
    have e : Cert.ReferenceIdeal.Ref1.F V0 = Cert.KernelIdeal.KValue.F1 m c := by
      funext b k y x; exact congrFun h.a1 _
    have eb : Cert.ReferenceIdeal.Ref1.box V0 = Cert.KernelIdeal.KValue.box m c 1 := by
      funext b d i; exact congrFun h.a4 _
    unfold Cert.ReferenceIdeal.RefValue.feats Cert.KernelIdeal.KValue.feats
    rw [e, eb, h.a7, h.a9]; rfl
  | 2 =>
    have e : Cert.ReferenceIdeal.Ref2.F V0 = Cert.KernelIdeal.KValue.F2 m c := by
      funext b k y x; exact congrFun h.a2 _
    have eb : Cert.ReferenceIdeal.Ref2.box V0 = Cert.KernelIdeal.KValue.box m c 2 := by
      funext b d i; exact congrFun h.a5 _
    unfold Cert.ReferenceIdeal.RefValue.feats Cert.KernelIdeal.KValue.feats
    rw [e, eb, h.a8, h.a9]; rfl

theorem value_eq (l : Fin 3) (b : Fin 4) (d : Fin 25) :
    Cert.ReferenceIdeal.RefValue.value V0 l b d = Cert.KernelIdeal.KValue.value m c l b d := by
  unfold Cert.ReferenceIdeal.RefValue.value Cert.KernelIdeal.KValue.value Cert.KernelIdeal.KValue.vld
  rw [feats_eq h, tab_eq h, h.a10, h.a11, h.a12, h.a13, h.a14, h.a15]

/-- The reference's result is the kernel's. -/
theorem result_eq (ρ : Dev Cert.KernelIdeal.nD → PrngReg) :
    (Cert.ReferenceIdeal.Value.res_main_v825 V0 : FVec Ideal Cert.KernelIdeal.S3x4x85x1 .f32)
      = (Cert.KernelIdeal.Gen.W32 m ρ c (Proc.devRef .tc Cert.KernelIdeal.main_v83) : FVec Ideal Cert.KernelIdeal.S3x4x85x1 .f32) := by
  funext i
  obtain ⟨l, b, d, z, rfl⟩ : ∃ (l : Fin 3) (b : Fin 4) (d : Fin 85) (z : Fin 1), i = ix4 l b d z := ⟨i 0, i 1, i 2, i 3, eq_ix4 i⟩
  obtain rfl : z = 0 := Subsingleton.elim _ _
  refine (Cert.ReferenceIdeal.RefValue.result_at V0 l b d).trans (Eq.trans ?_ (Cert.KernelIdeal.KValue.result_at m ρ c l b d).symm)
  split
  next hd => exact value_eq h l b ⟨d, hd⟩
  next => rfl

end Cert.Agree
end
-- ==== Proof.lean ====
/-
The claims about the detection head: the three frames, the preservation of the kernel by its idealization, and the
equality of its idealization with the plain reference over exact arithmetic; and the same of the suppression call
of the 20 x 20 level.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.SupOut2
public import proofs.«01_k».proof.Proof.KeptOut2
public import proofs.«01_k».proof.Proof.Gen.Suppress2
public import proofs.«01_k».proof.Proof.Gen.Suppress2.Skeleton
public import proofs.«01_k».proof.Proof.Gen.Suppress2.Launch
public import proofs.«01_k».proof.Proof.Gen.Suppress2.Points
public import proofs.«01_k».proof.Proof.Gen.Suppress2.Frame
public import proofs.«01_k».proof.Proof.Gen.Suppress2.Value
public import proofs.«01_k».proof.Proof.Gen.Suppress2.Loops
public import proofs.«01_k».proof.Proof.Gen.Suppress2Ideal
public import proofs.«01_k».proof.Proof.Gen.Suppress2Ideal.Skeleton
public import proofs.«01_k».proof.Proof.Gen.Suppress2Ideal.Launch
public import proofs.«01_k».proof.Proof.Gen.Suppress2Ideal.Points
public import proofs.«01_k».proof.Proof.Gen.Suppress2Ideal.Frame
public import proofs.«01_k».proof.Proof.Gen.Suppress2Ideal.Value
public import proofs.«01_k».proof.Proof.Gen.Suppress2Ideal.Loops
public import proofs.«01_k».proof.Proof.Gen.Kept2Ideal
public import proofs.«01_k».proof.Proof.Gen.Kept2Ideal.Run
public import proofs.«01_k».proof.Proof.KRun
public import proofs.«01_k».proof.Proof.Agree
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The plain reference ends with its arguments unchanged, and declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From equal arguments the kernel and the reference end with equal results, their arguments unchanged. -/
theorem algebraic : Cert.algebraic_KernelIdeal_ReferenceIdeal := fun m ρ m' ρ' _ hm =>
  ⟨fun c => Cert.KernelIdeal.Gen.W32 m ρ c (Proc.devRef .tc Cert.KernelIdeal.main_v83),
    (θ_run Cert.KernelIdeal.defs _ _).mono (fun _ h c => ⟨h.1 c, h.2.1 c⟩)
      (θ_run_and (Cert.KernelIdeal.Run.run (F := Ideal) m ρ) (Cert.KernelIdeal.Gen.frame (F := Ideal) m ρ)),
    (θ_run Cert.ReferenceIdeal.defs _ _).mono (fun _ h c => by
        obtain ⟨a0, a1, a2, a3, a4, a5, a6, a7, a8, a9, a10, a11, a12, a13, a14, a15⟩ := hm c
        exact ⟨(h c).1.trans (Cert.Agree.result_eq (m := m) (c := c)
          ⟨a0, a1, a2, a3, a4, a5, a6, a7, a8, a9, a10, a11, a12, a13, a14, a15⟩ ρ), (h c).2⟩)
      (Cert.ReferenceIdeal.Value.run (F := Ideal) m' ρ')⟩

/-- The plain reference of the 20 x 20 level's suppression ends with its arguments unchanged. -/
theorem frame_kept : Cert.quiescent_Kept2Ideal := fun m ρ _ =>
  (θ_run Cert.Kept2Ideal.defs _ _).mono (fun r h => ⟨fun c => (h c).2,
      Idealize.ShloMosaic.sem_eq_zero_of_no_sems (by decide) r.2⟩)
    (Cert.Kept2Ideal.Value.run (F := Ideal) m ρ)

/-- From equal arguments the two tables of kept boxes are equal. -/
theorem kept_eq (m : (ℓ : Loc Cert.Suppress2Ideal.nD Cert.Suppress2Ideal.τ Cert.Suppress2Ideal.sig) → Buf (Elt Ideal) ℓ)
    (m' : (ℓ : Loc Cert.Kept2Ideal.nD Cert.Kept2Ideal.τ Cert.Kept2Ideal.sig) → Buf (Elt Ideal) ℓ)
    (c : Dev Cert.Suppress2Ideal.nD)
    (h0 : m ((c.tc : Thread Cert.Suppress2Ideal.nD Cert.Suppress2Ideal.τ).loc Cert.Suppress2Ideal.main_arg0)
      = m' ((c.tc : Thread Cert.Kept2Ideal.nD Cert.Kept2Ideal.τ).loc Cert.Kept2Ideal.main_arg0))
    (h1 : m ((c.tc : Thread Cert.Suppress2Ideal.nD Cert.Suppress2Ideal.τ).loc Cert.Suppress2Ideal.main_arg1)
      = m' ((c.tc : Thread Cert.Kept2Ideal.nD Cert.Kept2Ideal.τ).loc Cert.Kept2Ideal.main_arg1)) :
    (Cert.Kept2Ideal.Value.out_main_v95 (Cert.Kept2Ideal.Value.STEP^[25]
      (StableHlo.entryContents Cert.Kept2Ideal.Value.preI m' c)) : FVec Ideal Cert.Kept2Ideal.S4x32x128 .f32)
      = Cert.Suppress2Ideal.Sup2.outArr m c := by
  funext j
  idx_vars j
  refine (Cert.Kept2Ideal.Steps.result_eq m' c j0 j1 j2).trans (Eq.trans ?_ (Cert.Suppress2Ideal.Sup2.out_at m c j0 j1 j2).symm)
  rw [h0, h1]

/-- From equal arguments the suppression call and its reference end with equal tables, their arguments unchanged. -/
theorem algebraic_kept : Cert.algebraic_Suppress2Ideal_Kept2Ideal := fun m ρ m' ρ' _ hm =>
  ⟨fun c => Cert.Suppress2Ideal.Sup2.outArr m c,
    (θ_run Cert.Suppress2Ideal.defs _ _).mono (fun _ h c => ⟨(h c).1.trans (Cert.Suppress2Ideal.Sup2.final m c), (h c).2⟩)
      (Cert.Suppress2Ideal.Value.run_blocks (F := Ideal) m ρ),
    (θ_run Cert.Kept2Ideal.defs _ _).mono (fun _ h c => by
        obtain ⟨a0, a1⟩ := hm c
        exact ⟨(h c).1.trans (kept_eq m m' c a0.symm a1.symm), (h c).2⟩)
      (Cert.Kept2Ideal.Value.run (F := Ideal) m' ρ')⟩

theorem claim : Cert.Claim := ⟨Cert.Kernel.Gen.facts, Cert.KernelIdeal.Gen.facts, Cert.ReferenceIdeal.Gen.facts,
  Cert.Suppress2.Gen.facts, Cert.Suppress2Ideal.Gen.facts, Cert.Kept2Ideal.Gen.facts,
  fun m ρ _ => Cert.Kernel.Gen.frame m ρ, fun m ρ _ => Cert.KernelIdeal.Gen.frame m ρ, frame_reference,
  fun m ρ _ => Cert.Suppress2.Gen.frame m ρ, fun m ρ _ => Cert.Suppress2Ideal.Gen.frame m ρ, frame_kept,
  trivial, algebraic, trivial, algebraic_kept⟩

end Cert.Proof

end
